-- ==== Defs.lean ====
def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInRefIdeal (m : (ℓ : Loc Cert.BwdInRefIdeal.nD Cert.BwdInRefIdeal.τ Cert.BwdInRefIdeal.sig) → Buf (Elt Ideal) ℓ) : Prop :=
  True

def Pre_GradWIn (m : (ℓ : Loc Cert.GradWIn.nD Cert.GradWIn.τ Cert.GradWIn.sig) → Buf (Elt Bits) ℓ) : Prop :=
  True

def Pre_GradWInIdeal (m : (ℓ : Loc Cert.GradWInIdeal.nD Cert.GradWInIdeal.τ Cert.GradWInIdeal.sig) → Buf (Elt Ideal) ℓ) : Prop :=
  True

def Pre_GradWInRefIdeal (m : (ℓ : Loc Cert.GradWInRefIdeal.nD Cert.GradWInRefIdeal.τ Cert.GradWInRefIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_GradWOutRefIdeal (m : (ℓ : Loc Cert.GradWOutRefIdeal.nD Cert.GradWOutRefIdeal.τ Cert.GradWOutRefIdeal.sig) → Buf (Elt Ideal) ℓ) : Prop :=
  True

def Pre_BwdOut (m : (ℓ : Loc Cert.BwdOut.nD Cert.BwdOut.τ Cert.BwdOut.sig) → Buf (Elt Bits) ℓ) : Prop :=
  True

def Pre_BwdOutIdeal (m : (ℓ : Loc Cert.BwdOutIdeal.nD Cert.BwdOutIdeal.τ Cert.BwdOutIdeal.sig) → Buf (Elt Ideal) ℓ) : Prop :=
  True

def Pre_BwdOutRefIdeal (m : (ℓ : Loc Cert.BwdOutRefIdeal.nD Cert.BwdOutRefIdeal.τ Cert.BwdOutRefIdeal.sig) → Buf (Elt Ideal) ℓ) : Prop :=
  True

def Pre_BwdMix (m : (ℓ : Loc Cert.BwdMix.nD Cert.BwdMix.τ Cert.BwdMix.sig) → Buf (Elt Bits) ℓ) : Prop :=
  True

def Pre_BwdMixIdeal (m : (ℓ : Loc Cert.BwdMixIdeal.nD Cert.BwdMixIdeal.τ Cert.BwdMixIdeal.sig) → Buf (Elt Ideal) ℓ) : Prop :=
  True

def Pre_BwdMixRefIdeal (m : (ℓ : Loc Cert.BwdMixRefIdeal.nD Cert.BwdMixRefIdeal.τ Cert.BwdMixRefIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_FwdOut (m : (ℓ : Loc Cert.FwdOut.nD Cert.FwdOut.τ Cert.FwdOut.sig) → Buf (Elt Bits) ℓ) : Prop :=
  True

def Pre_FwdOutIdeal (m : (ℓ : Loc Cert.FwdOutIdeal.nD Cert.FwdOutIdeal.τ Cert.FwdOutIdeal.sig) → Buf (Elt Ideal) ℓ) : Prop :=
  True

def Pre_FwdOutRefIdeal (m : (ℓ : Loc Cert.FwdOutRefIdeal.nD Cert.FwdOutRefIdeal.τ Cert.FwdOutRefIdeal.sig) → Buf (Elt Ideal) ℓ) : Prop :=
  True

def Pre_FwdOutLoss (m : (ℓ : Loc Cert.FwdOutLoss.nD Cert.FwdOutLoss.τ Cert.FwdOutLoss.sig) → Buf (Elt Bits) ℓ) : Prop :=
  True

def Pre_FwdOutLossIdeal (m : (ℓ : Loc Cert.FwdOutLossIdeal.nD Cert.FwdOutLossIdeal.τ Cert.FwdOutLossIdeal.sig) → Buf (Elt Ideal) ℓ) : Prop :=
  True

def Pre_FwdOutLossRefIdeal (m : (ℓ : Loc Cert.FwdOutLossRefIdeal.nD Cert.FwdOutLossRefIdeal.τ Cert.FwdOutLossRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWS (m : (ℓ : Loc Cert.AdamWS.nD Cert.AdamWS.τ Cert.AdamWS.sig) → Buf (Elt Bits) ℓ) : Prop :=
  True

def Pre_AdamWSIdeal (m : (ℓ : Loc Cert.AdamWSIdeal.nD Cert.AdamWSIdeal.τ Cert.AdamWSIdeal.sig) → Buf (Elt Ideal) ℓ) : Prop :=
  True

def Pre_AdamWSRefIdeal (m : (ℓ : Loc Cert.AdamWSRefIdeal.nD Cert.AdamWSRefIdeal.τ Cert.AdamWSRefIdeal.sig) → Buf (Elt Ideal) ℓ) : Prop :=
  True

def Pre_AdamTiny (m : (ℓ : Loc Cert.AdamTiny.nD Cert.AdamTiny.τ Cert.AdamTiny.sig) → Buf (Elt Bits) ℓ) : Prop :=
  True

def Pre_AdamTinyIdeal (m : (ℓ : Loc Cert.AdamTinyIdeal.nD Cert.AdamTinyIdeal.τ Cert.AdamTinyIdeal.sig) → Buf (Elt Ideal) ℓ) : Prop :=
  True

def Pre_AdamTinyRefIdeal (m : (ℓ : Loc Cert.AdamTinyRefIdeal.nD Cert.AdamTinyRefIdeal.τ Cert.AdamTinyRefIdeal.sig) → Buf (Elt Ideal) ℓ) : Prop :=
  True

def Pre_AdamNormG (m : (ℓ : Loc Cert.AdamNormG.nD Cert.AdamNormG.τ Cert.AdamNormG.sig) → Buf (Elt Bits) ℓ) : Prop :=
  True

def Pre_AdamNormGIdeal (m : (ℓ : Loc Cert.AdamNormGIdeal.nD Cert.AdamNormGIdeal.τ Cert.AdamNormGIdeal.sig) → Buf (Elt Ideal) ℓ) : Prop :=
  True

def Pre_AdamNormGRefIdeal (m : (ℓ : Loc Cert.AdamNormGRefIdeal.nD Cert.AdamNormGRefIdeal.τ Cert.AdamNormGRefIdeal.sig) → Buf (Elt Ideal) ℓ) : Prop :=
  True

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4))
      ∧ r.2.sem = fun _ => 0)

def quiescent_GradWIn [hGradWIn : Cert.GradWIn.Facts] : Prop :=
  ∀ (m : (ℓ : Loc Cert.GradWIn.nD Cert.GradWIn.τ Cert.GradWIn.sig) → Buf (Elt Bits) ℓ) (g : Dev Cert.GradWIn.nD → PrngReg), Pre_GradWIn m →
    θ_run (Cert.GradWIn.defs (F := Bits)) (onTc (τ := Cert.GradWIn.τ) (Cert.GradWIn.main (F := Bits))) ⟨m, fun _ => 0, g⟩ (fun r => (∀ c : Dev Cert.GradWIn.nD,
      r.2.mem ((c.tc : Thread Cert.GradWIn.nD Cert.GradWIn.τ).loc Cert.GradWIn.main_arg0) = m ((c.tc : Thread Cert.GradWIn.nD Cert.GradWIn.τ).loc Cert.GradWIn.main_arg0)
      ∧ r.2.mem ((c.tc : Thread Cert.GradWIn.nD Cert.GradWIn.τ).loc Cert.GradWIn.main_arg1) = m ((c.tc : Thread Cert.GradWIn.nD Cert.GradWIn.τ).loc Cert.GradWIn.main_arg1)
      ∧ r.2.mem ((c.tc : Thread Cert.GradWIn.nD Cert.GradWIn.τ).loc Cert.GradWIn.main_arg2) = m ((c.tc : Thread Cert.GradWIn.nD Cert.GradWIn.τ).loc Cert.GradWIn.main_arg2))
      ∧ r.2.sem = fun _ => 0)

def quiescent_GradWInIdeal [hGradWInIdeal : Cert.GradWInIdeal.Facts] : Prop :=
  ∀ (m : (ℓ : Loc Cert.GradWInIdeal.nD Cert.GradWInIdeal.τ Cert.GradWInIdeal.sig) → Buf (Elt Ideal) ℓ) (g : Dev Cert.GradWInIdeal.nD → PrngReg), Pre_GradWInIdeal m →
    θ_run (Cert.GradWInIdeal.defs (F := Ideal)) (onTc (τ := Cert.GradWInIdeal.τ) (Cert.GradWInIdeal.main (F := Ideal))) ⟨m, fun _ => 0, g⟩ (fun r => (∀ c : Dev Cert.GradWInIdeal.nD,
      r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
      ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
      ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2))
      ∧ r.2.sem = fun _ => 0)

def quiescent_GradWInRefIdeal [hGradWInRefIdeal : Cert.GradWInRefIdeal.Facts] : Prop :=
  ∀ (m : (ℓ : Loc Cert.GradWInRefIdeal.nD Cert.GradWInRefIdeal.τ Cert.GradWInRefIdeal.sig) → Buf (Elt Ideal) ℓ) (g : Dev Cert.GradWInRefIdeal.nD → PrngReg), Pre_GradWInRefIdeal m →
    θ_run (Cert.GradWInRefIdeal.defs (F := Ideal)) (onTc (τ := Cert.GradWInRefIdeal.τ) (Cert.GradWInRefIdeal.main (F := Ideal))) ⟨m, fun _ => 0, g⟩ (fun r => (∀ c : Dev Cert.GradWInRefIdeal.nD,
      r.2.mem ((c.tc : Thread Cert.GradWInRefIdeal.nD Cert.GradWInRefIdeal.τ).loc Cert.GradWInRefIdeal.main_arg0) = m ((c.tc : Thread Cert.GradWInRefIdeal.nD Cert.GradWInRefIdeal.τ).loc Cert.GradWInRefIdeal.main_arg0)
      ∧ r.2.mem ((c.tc : Thread Cert.GradWInRefIdeal.nD Cert.GradWInRefIdeal.τ).loc Cert.GradWInRefIdeal.main_arg1) = m ((c.tc : Thread Cert.GradWInRefIdeal.nD Cert.GradWInRefIdeal.τ).loc Cert.GradWInRefIdeal.main_arg1)
      ∧ r.2.mem ((c.tc : Thread Cert.GradWInRefIdeal.nD Cert.GradWInRefIdeal.τ).loc Cert.GradWInRefIdeal.main_arg2) = m ((c.tc : Thread Cert.GradWInRefIdeal.nD Cert.GradWInRefIdeal.τ).loc Cert.GradWInRefIdeal.main_arg2))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ r.2.sem = fun _ => 0)

def quiescent_GradWOutRefIdeal [hGradWOutRefIdeal : Cert.GradWOutRefIdeal.Facts] : Prop :=
  ∀ (m : (ℓ : Loc Cert.GradWOutRefIdeal.nD Cert.GradWOutRefIdeal.τ Cert.GradWOutRefIdeal.sig) → Buf (Elt Ideal) ℓ) (g : Dev Cert.GradWOutRefIdeal.nD → PrngReg), Pre_GradWOutRefIdeal m →
    θ_run (Cert.GradWOutRefIdeal.defs (F := Ideal)) (onTc (τ := Cert.GradWOutRefIdeal.τ) (Cert.GradWOutRefIdeal.main (F := Ideal))) ⟨m, fun _ => 0, g⟩ (fun r => (∀ c : Dev Cert.GradWOutRefIdeal.nD,
      r.2.mem ((c.tc : Thread Cert.GradWOutRefIdeal.nD Cert.GradWOutRefIdeal.τ).loc Cert.GradWOutRefIdeal.main_arg0) = m ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m ((c.tc : Thread Cert.GradWOutRefIdeal.nD Cert.GradWOutRefIdeal.τ).loc Cert.GradWOutRefIdeal.main_arg1))
      ∧ r.2.sem = fun _ => 0)

def quiescent_BwdOut [hBwdOut : Cert.BwdOut.Facts] : Prop :=
  ∀ (m : (ℓ : Loc Cert.BwdOut.nD Cert.BwdOut.τ Cert.BwdOut.sig) → Buf (Elt Bits) ℓ) (g : Dev Cert.BwdOut.nD → PrngReg), Pre_BwdOut m →
    θ_run (Cert.BwdOut.defs (F := Bits)) (onTc (τ := Cert.BwdOut.τ) (Cert.BwdOut.main (F := Bits))) ⟨m, fun _ => 0, g⟩ (fun r => (∀ c : Dev Cert.BwdOut.nD,
      r.2.mem ((c.tc : Thread Cert.BwdOut.nD Cert.BwdOut.τ).loc Cert.BwdOut.main_arg0) = m ((c.tc : Thread Cert.BwdOut.nD Cert.BwdOut.τ).loc Cert.BwdOut.main_arg0)
      ∧ r.2.mem ((c.tc : Thread Cert.BwdOut.nD Cert.BwdOut.τ).loc Cert.BwdOut.main_arg1) = m ((c.tc : Thread Cert.BwdOut.nD Cert.BwdOut.τ).loc Cert.BwdOut.main_arg1))
      ∧ r.2.sem = fun _ => 0)

def quiescent_BwdOutIdeal [hBwdOutIdeal : Cert.BwdOutIdeal.Facts] : Prop :=
  ∀ (m : (ℓ : Loc Cert.BwdOutIdeal.nD Cert.BwdOutIdeal.τ Cert.BwdOutIdeal.sig) → Buf (Elt Ideal) ℓ) (g : Dev Cert.BwdOutIdeal.nD → PrngReg), Pre_BwdOutIdeal m →
    θ_run (Cert.BwdOutIdeal.defs (F := Ideal)) (onTc (τ := Cert.BwdOutIdeal.τ) (Cert.BwdOutIdeal.main (F := Ideal))) ⟨m, fun _ => 0, g⟩ (fun r => (∀ c : Dev Cert.BwdOutIdeal.nD,
      r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
      ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1))
      ∧ r.2.sem = fun _ => 0)

def quiescent_BwdOutRefIdeal [hBwdOutRefIdeal : Cert.BwdOutRefIdeal.Facts] : Prop :=
  ∀ (m : (ℓ : Loc Cert.BwdOutRefIdeal.nD Cert.BwdOutRefIdeal.τ Cert.BwdOutRefIdeal.sig) → Buf (Elt Ideal) ℓ) (g : Dev Cert.BwdOutRefIdeal.nD → PrngReg), Pre_BwdOutRefIdeal m →
    θ_run (Cert.BwdOutRefIdeal.defs (F := Ideal)) (onTc (τ := Cert.BwdOutRefIdeal.τ) (Cert.BwdOutRefIdeal.main (F := Ideal))) ⟨m, fun _ => 0, g⟩ (fun r => (∀ c : Dev Cert.BwdOutRefIdeal.nD,
      r.2.mem ((c.tc : Thread Cert.BwdOutRefIdeal.nD Cert.BwdOutRefIdeal.τ).loc Cert.BwdOutRefIdeal.main_arg0) = m ((c.tc : Thread Cert.BwdOutRefIdeal.nD Cert.BwdOutRefIdeal.τ).loc Cert.BwdOutRefIdeal.main_arg0)
      ∧ r.2.mem ((c.tc : Thread Cert.BwdOutRefIdeal.nD Cert.BwdOutRefIdeal.τ).loc Cert.BwdOutRefIdeal.main_arg1) = m ((c.tc : Thread Cert.BwdOutRefIdeal.nD Cert.BwdOutRefIdeal.τ).loc Cert.BwdOutRefIdeal.main_arg1))
      ∧ r.2.sem = fun _ => 0)

def quiescent_BwdMix [hBwdMix : Cert.BwdMix.Facts] : Prop :=
  ∀ (m : (ℓ : Loc Cert.BwdMix.nD Cert.BwdMix.τ Cert.BwdMix.sig) → Buf (Elt Bits) ℓ) (g : Dev Cert.BwdMix.nD → PrngReg), Pre_BwdMix m →
    θ_run (Cert.BwdMix.defs (F := Bits)) (onTc (τ := Cert.BwdMix.τ) (Cert.BwdMix.main (F := Bits))) ⟨m, fun _ => 0, g⟩ (fun r => (∀ c : Dev Cert.BwdMix.nD,
      r.2.mem ((c.tc : Thread Cert.BwdMix.nD Cert.BwdMix.τ).loc Cert.BwdMix.main_arg0) = m ((c.tc : Thread Cert.BwdMix.nD Cert.BwdMix.τ).loc Cert.BwdMix.main_arg0)
      ∧ r.2.mem ((c.tc : Thread Cert.BwdMix.nD Cert.BwdMix.τ).loc Cert.BwdMix.main_arg1) = m ((c.tc : Thread Cert.BwdMix.nD Cert.BwdMix.τ).loc Cert.BwdMix.main_arg1)
      ∧ r.2.mem ((c.tc : Thread Cert.BwdMix.nD Cert.BwdMix.τ).loc Cert.BwdMix.main_arg2) = m ((c.tc : Thread Cert.BwdMix.nD Cert.BwdMix.τ).loc Cert.BwdMix.main_arg2)
      ∧ r.2.mem ((c.tc : Thread Cert.BwdMix.nD Cert.BwdMix.τ).loc Cert.BwdMix.main_arg3) = m ((c.tc : Thread Cert.BwdMix.nD Cert.BwdMix.τ).loc Cert.BwdMix.main_arg3)
      ∧ r.2.mem ((c.tc : Thread Cert.BwdMix.nD Cert.BwdMix.τ).loc Cert.BwdMix.main_arg4) = m ((c.tc : Thread Cert.BwdMix.nD Cert.BwdMix.τ).loc Cert.BwdMix.main_arg4)
      ∧ r.2.mem ((c.tc : Thread Cert.BwdMix.nD Cert.BwdMix.τ).loc Cert.BwdMix.main_arg5) = m ((c.tc : Thread Cert.BwdMix.nD Cert.BwdMix.τ).loc Cert.BwdMix.main_arg5)
      ∧ r.2.mem ((c.tc : Thread Cert.BwdMix.nD Cert.BwdMix.τ).loc Cert.BwdMix.main_arg6) = m ((c.tc : Thread Cert.BwdMix.nD Cert.BwdMix.τ).loc Cert.BwdMix.main_arg6))
      ∧ r.2.sem = fun _ => 0)

def quiescent_BwdMixIdeal [hBwdMixIdeal : Cert.BwdMixIdeal.Facts] : Prop :=
  ∀ (m : (ℓ : Loc Cert.BwdMixIdeal.nD Cert.BwdMixIdeal.τ Cert.BwdMixIdeal.sig) → Buf (Elt Ideal) ℓ) (g : Dev Cert.BwdMixIdeal.nD → PrngReg), Pre_BwdMixIdeal m →
    θ_run (Cert.BwdMixIdeal.defs (F := Ideal)) (onTc (τ := Cert.BwdMixIdeal.τ) (Cert.BwdMixIdeal.main (F := Ideal))) ⟨m, fun _ => 0, g⟩ (fun r => (∀ c : Dev Cert.BwdMixIdeal.nD,
      r.2.mem ((c.tc : Thread Cert.BwdMixIdeal.nD Cert.BwdMixIdeal.τ).loc Cert.BwdMixIdeal.main_arg0) = m ((c.tc : Thread Cert.BwdMixIdeal.nD Cert.BwdMixIdeal.τ).loc Cert.BwdMixIdeal.main_arg0)
      ∧ r.2.mem ((c.tc : Thread Cert.BwdMixIdeal.nD Cert.BwdMixIdeal.τ).loc Cert.BwdMixIdeal.main_arg1) = m ((c.tc : Thread Cert.BwdMixIdeal.nD Cert.BwdMixIdeal.τ).loc Cert.BwdMixIdeal.main_arg1)
      ∧ r.2.mem ((c.tc : Thread Cert.BwdMixIdeal.nD Cert.BwdMixIdeal.τ).loc Cert.BwdMixIdeal.main_arg2) = m ((c.tc : Thread Cert.BwdMixIdeal.nD Cert.BwdMixIdeal.τ).loc Cert.BwdMixIdeal.main_arg2)
      ∧ r.2.mem ((c.tc : Thread Cert.BwdMixIdeal.nD Cert.BwdMixIdeal.τ).loc Cert.BwdMixIdeal.main_arg3) = m ((c.tc : Thread Cert.BwdMixIdeal.nD Cert.BwdMixIdeal.τ).loc Cert.BwdMixIdeal.main_arg3)
      ∧ r.2.mem ((c.tc : Thread Cert.BwdMixIdeal.nD Cert.BwdMixIdeal.τ).loc Cert.BwdMixIdeal.main_arg4) = m ((c.tc : Thread Cert.BwdMixIdeal.nD Cert.BwdMixIdeal.τ).loc Cert.BwdMixIdeal.main_arg4)
      ∧ r.2.mem ((c.tc : Thread Cert.BwdMixIdeal.nD Cert.BwdMixIdeal.τ).loc Cert.BwdMixIdeal.main_arg5) = m ((c.tc : Thread Cert.BwdMixIdeal.nD Cert.BwdMixIdeal.τ).loc Cert.BwdMixIdeal.main_arg5)
      ∧ r.2.mem ((c.tc : Thread Cert.BwdMixIdeal.nD Cert.BwdMixIdeal.τ).loc Cert.BwdMixIdeal.main_arg6) = m ((c.tc : Thread Cert.BwdMixIdeal.nD Cert.BwdMixIdeal.τ).loc Cert.BwdMixIdeal.main_arg6))
      ∧ r.2.sem = fun _ => 0)

def quiescent_BwdMixRefIdeal [hBwdMixRefIdeal : Cert.BwdMixRefIdeal.Facts] : Prop :=
  ∀ (m : (ℓ : Loc Cert.BwdMixRefIdeal.nD Cert.BwdMixRefIdeal.τ Cert.BwdMixRefIdeal.sig) → Buf (Elt Ideal) ℓ) (g : Dev Cert.BwdMixRefIdeal.nD → PrngReg), Pre_BwdMixRefIdeal m →
    θ_run (Cert.BwdMixRefIdeal.defs (F := Ideal)) (onTc (τ := Cert.BwdMixRefIdeal.τ) (Cert.BwdMixRefIdeal.main (F := Ideal))) ⟨m, fun _ => 0, g⟩ (fun r => (∀ c : Dev Cert.BwdMixRefIdeal.nD,
      r.2.mem ((c.tc : Thread Cert.BwdMixRefIdeal.nD Cert.BwdMixRefIdeal.τ).loc Cert.BwdMixRefIdeal.main_arg0) = m ((c.tc : Thread Cert.BwdMixRefIdeal.nD Cert.BwdMixRefIdeal.τ).loc Cert.BwdMixRefIdeal.main_arg0)
      ∧ r.2.mem ((c.tc : Thread Cert.BwdMixRefIdeal.nD Cert.BwdMixRefIdeal.τ).loc Cert.BwdMixRefIdeal.main_arg1) = m ((c.tc : Thread Cert.BwdMixRefIdeal.nD Cert.BwdMixRefIdeal.τ).loc Cert.BwdMixRefIdeal.main_arg1)
      ∧ r.2.mem ((c.tc : Thread Cert.BwdMixRefIdeal.nD Cert.BwdMixRefIdeal.τ).loc Cert.BwdMixRefIdeal.main_arg2) = m ((c.tc : Thread Cert.BwdMixRefIdeal.nD Cert.BwdMixRefIdeal.τ).loc Cert.BwdMixRefIdeal.main_arg2)
      ∧ r.2.mem ((c.tc : Thread Cert.BwdMixRefIdeal.nD Cert.BwdMixRefIdeal.τ).loc Cert.BwdMixRefIdeal.main_arg3) = m ((c.tc : Thread Cert.BwdMixRefIdeal.nD Cert.BwdMixRefIdeal.τ).loc Cert.BwdMixRefIdeal.main_arg3)
      ∧ r.2.mem ((c.tc : Thread Cert.BwdMixRefIdeal.nD Cert.BwdMixRefIdeal.τ).loc Cert.BwdMixRefIdeal.main_arg4) = m ((c.tc : Thread Cert.BwdMixRefIdeal.nD Cert.BwdMixRefIdeal.τ).loc Cert.BwdMixRefIdeal.main_arg4)
      ∧ r.2.mem ((c.tc : Thread Cert.BwdMixRefIdeal.nD Cert.BwdMixRefIdeal.τ).loc Cert.BwdMixRefIdeal.main_arg5) = m ((c.tc : Thread Cert.BwdMixRefIdeal.nD Cert.BwdMixRefIdeal.τ).loc Cert.BwdMixRefIdeal.main_arg5)
      ∧ r.2.mem ((c.tc : Thread Cert.BwdMixRefIdeal.nD Cert.BwdMixRefIdeal.τ).loc Cert.BwdMixRefIdeal.main_arg6) = m ((c.tc : Thread Cert.BwdMixRefIdeal.nD Cert.BwdMixRefIdeal.τ).loc Cert.BwdMixRefIdeal.main_arg6))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1)
      ∧ r.2.mem ((c.tc : Thread Cert.FwdInRefIdeal.nD Cert.FwdInRefIdeal.τ).loc Cert.FwdInRefIdeal.main_arg2) = m ((c.tc : Thread Cert.FwdInRefIdeal.nD Cert.FwdInRefIdeal.τ).loc Cert.FwdInRefIdeal.main_arg2))
      ∧ r.2.sem = fun _ => 0)

def quiescent_FwdOut [hFwdOut : Cert.FwdOut.Facts] : Prop :=
  ∀ (m : (ℓ : Loc Cert.FwdOut.nD Cert.FwdOut.τ Cert.FwdOut.sig) → Buf (Elt Bits) ℓ) (g : Dev Cert.FwdOut.nD → PrngReg), Pre_FwdOut m →
    θ_run (Cert.FwdOut.defs (F := Bits)) (onTc (τ := Cert.FwdOut.τ) (Cert.FwdOut.main (F := Bits))) ⟨m, fun _ => 0, g⟩ (fun r => (∀ c : Dev Cert.FwdOut.nD,
      r.2.mem ((c.tc : Thread Cert.FwdOut.nD Cert.FwdOut.τ).loc Cert.FwdOut.main_arg0) = m ((c.tc : Thread Cert.FwdOut.nD Cert.FwdOut.τ).loc Cert.FwdOut.main_arg0)
      ∧ r.2.mem ((c.tc : Thread Cert.FwdOut.nD Cert.FwdOut.τ).loc Cert.FwdOut.main_arg1) = m ((c.tc : Thread Cert.FwdOut.nD Cert.FwdOut.τ).loc Cert.FwdOut.main_arg1)
      ∧ r.2.mem ((c.tc : Thread Cert.FwdOut.nD Cert.FwdOut.τ).loc Cert.FwdOut.main_arg2) = m ((c.tc : Thread Cert.FwdOut.nD Cert.FwdOut.τ).loc Cert.FwdOut.main_arg2))
      ∧ r.2.sem = fun _ => 0)

def quiescent_FwdOutIdeal [hFwdOutIdeal : Cert.FwdOutIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg), Pre_FwdOutIdeal m →
    θ_run (Cert.FwdOutIdeal.defs (F := Ideal)) (onTc (τ := Cert.FwdOutIdeal.τ) (Cert.FwdOutIdeal.main (F := Ideal))) ⟨m, fun _ => 0, g⟩ (fun r => (∀ c : Dev Cert.FwdOutIdeal.nD,
      r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
      ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
      ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2))
      ∧ r.2.sem = fun _ => 0)

def quiescent_FwdOutRefIdeal [hFwdOutRefIdeal : Cert.FwdOutRefIdeal.Facts] : Prop :=
  ∀ (m : (ℓ : Loc Cert.FwdOutRefIdeal.nD Cert.FwdOutRefIdeal.τ Cert.FwdOutRefIdeal.sig) → Buf (Elt Ideal) ℓ) (g : Dev Cert.FwdOutRefIdeal.nD → PrngReg), Pre_FwdOutRefIdeal m →
    θ_run (Cert.FwdOutRefIdeal.defs (F := Ideal)) (onTc (τ := Cert.FwdOutRefIdeal.τ) (Cert.FwdOutRefIdeal.main (F := Ideal))) ⟨m, fun _ => 0, g⟩ (fun r => (∀ c : Dev Cert.FwdOutRefIdeal.nD,
      r.2.mem ((c.tc : Thread Cert.FwdOutRefIdeal.nD Cert.FwdOutRefIdeal.τ).loc Cert.FwdOutRefIdeal.main_arg0) = m ((c.tc : Thread Cert.FwdOutRefIdeal.nD Cert.FwdOutRefIdeal.τ).loc Cert.FwdOutRefIdeal.main_arg0)
      ∧ r.2.mem ((c.tc : Thread Cert.FwdOutRefIdeal.nD Cert.FwdOutRefIdeal.τ).loc Cert.FwdOutRefIdeal.main_arg1) = m ((c.tc : Thread Cert.FwdOutRefIdeal.nD Cert.FwdOutRefIdeal.τ).loc Cert.FwdOutRefIdeal.main_arg1)
      ∧ r.2.mem ((c.tc : Thread Cert.FwdOutRefIdeal.nD Cert.FwdOutRefIdeal.τ).loc Cert.FwdOutRefIdeal.main_arg2) = m ((c.tc : Thread Cert.FwdOutRefIdeal.nD Cert.FwdOutRefIdeal.τ).loc Cert.FwdOutRefIdeal.main_arg2))
      ∧ r.2.sem = fun _ => 0)

def quiescent_FwdOutLoss [hFwdOutLoss : Cert.FwdOutLoss.Facts] : Prop :=
  ∀ (m : (ℓ : Loc Cert.FwdOutLoss.nD Cert.FwdOutLoss.τ Cert.FwdOutLoss.sig) → Buf (Elt Bits) ℓ) (g : Dev Cert.FwdOutLoss.nD → PrngReg), Pre_FwdOutLoss m →
    θ_run (Cert.FwdOutLoss.defs (F := Bits)) (onTc (τ := Cert.FwdOutLoss.τ) (Cert.FwdOutLoss.main (F := Bits))) ⟨m, fun _ => 0, g⟩ (fun r => (∀ c : Dev Cert.FwdOutLoss.nD,
      r.2.mem ((c.tc : Thread Cert.FwdOutLoss.nD Cert.FwdOutLoss.τ).loc Cert.FwdOutLoss.main_arg0) = m ((c.tc : Thread Cert.FwdOutLoss.nD Cert.FwdOutLoss.τ).loc Cert.FwdOutLoss.main_arg0)
      ∧ r.2.mem ((c.tc : Thread Cert.FwdOutLoss.nD Cert.FwdOutLoss.τ).loc Cert.FwdOutLoss.main_arg1) = m ((c.tc : Thread Cert.FwdOutLoss.nD Cert.FwdOutLoss.τ).loc Cert.FwdOutLoss.main_arg1)
      ∧ r.2.mem ((c.tc : Thread Cert.FwdOutLoss.nD Cert.FwdOutLoss.τ).loc Cert.FwdOutLoss.main_arg2) = m ((c.tc : Thread Cert.FwdOutLoss.nD Cert.FwdOutLoss.τ).loc Cert.FwdOutLoss.main_arg2)
      ∧ r.2.mem ((c.tc : Thread Cert.FwdOutLoss.nD Cert.FwdOutLoss.τ).loc Cert.FwdOutLoss.main_arg3) = m ((c.tc : Thread Cert.FwdOutLoss.nD Cert.FwdOutLoss.τ).loc Cert.FwdOutLoss.main_arg3))
      ∧ r.2.sem = fun _ => 0)

def quiescent_FwdOutLossIdeal [hFwdOutLossIdeal : Cert.FwdOutLossIdeal.Facts] : Prop :=
  ∀ (m : (ℓ : Loc Cert.FwdOutLossIdeal.nD Cert.FwdOutLossIdeal.τ Cert.FwdOutLossIdeal.sig) → Buf (Elt Ideal) ℓ) (g : Dev Cert.FwdOutLossIdeal.nD → PrngReg), Pre_FwdOutLossIdeal m →
    θ_run (Cert.FwdOutLossIdeal.defs (F := Ideal)) (onTc (τ := Cert.FwdOutLossIdeal.τ) (Cert.FwdOutLossIdeal.main (F := Ideal))) ⟨m, fun _ => 0, g⟩ (fun r => (∀ c : Dev Cert.FwdOutLossIdeal.nD,
      r.2.mem ((c.tc : Thread Cert.FwdOutLossIdeal.nD Cert.FwdOutLossIdeal.τ).loc Cert.FwdOutLossIdeal.main_arg0) = m ((c.tc : Thread Cert.FwdOutLossIdeal.nD Cert.FwdOutLossIdeal.τ).loc Cert.FwdOutLossIdeal.main_arg0)
      ∧ r.2.mem ((c.tc : Thread Cert.FwdOutLossIdeal.nD Cert.FwdOutLossIdeal.τ).loc Cert.FwdOutLossIdeal.main_arg1) = m ((c.tc : Thread Cert.FwdOutLossIdeal.nD Cert.FwdOutLossIdeal.τ).loc Cert.FwdOutLossIdeal.main_arg1)
      ∧ r.2.mem ((c.tc : Thread Cert.FwdOutLossIdeal.nD Cert.FwdOutLossIdeal.τ).loc Cert.FwdOutLossIdeal.main_arg2) = m ((c.tc : Thread Cert.FwdOutLossIdeal.nD Cert.FwdOutLossIdeal.τ).loc Cert.FwdOutLossIdeal.main_arg2)
      ∧ r.2.mem ((c.tc : Thread Cert.FwdOutLossIdeal.nD Cert.FwdOutLossIdeal.τ).loc Cert.FwdOutLossIdeal.main_arg3) = m ((c.tc : Thread Cert.FwdOutLossIdeal.nD Cert.FwdOutLossIdeal.τ).loc Cert.FwdOutLossIdeal.main_arg3))
      ∧ r.2.sem = fun _ => 0)

def quiescent_FwdOutLossRefIdeal [hFwdOutLossRefIdeal : Cert.FwdOutLossRefIdeal.Facts] : Prop :=
  ∀ (m : (ℓ : Loc Cert.FwdOutLossRefIdeal.nD Cert.FwdOutLossRefIdeal.τ Cert.FwdOutLossRefIdeal.sig) → Buf (Elt Ideal) ℓ) (g : Dev Cert.FwdOutLossRefIdeal.nD → PrngReg), Pre_FwdOutLossRefIdeal m →
    θ_run (Cert.FwdOutLossRefIdeal.defs (F := Ideal)) (onTc (τ := Cert.FwdOutLossRefIdeal.τ) (Cert.FwdOutLossRefIdeal.main (F := Ideal))) ⟨m, fun _ => 0, g⟩ (fun r => (∀ c : Dev Cert.FwdOutLossRefIdeal.nD,
      r.2.mem ((c.tc : Thread Cert.FwdOutLossRefIdeal.nD Cert.FwdOutLossRefIdeal.τ).loc Cert.FwdOutLossRefIdeal.main_arg0) = m ((c.tc : Thread Cert.FwdOutLossRefIdeal.nD Cert.FwdOutLossRefIdeal.τ).loc Cert.FwdOutLossRefIdeal.main_arg0)
      ∧ r.2.mem ((c.tc : Thread Cert.FwdOutLossRefIdeal.nD Cert.FwdOutLossRefIdeal.τ).loc Cert.FwdOutLossRefIdeal.main_arg1) = m ((c.tc : Thread Cert.FwdOutLossRefIdeal.nD Cert.FwdOutLossRefIdeal.τ).loc Cert.FwdOutLossRefIdeal.main_arg1)
      ∧ r.2.mem ((c.tc : Thread Cert.FwdOutLossRefIdeal.nD Cert.FwdOutLossRefIdeal.τ).loc Cert.FwdOutLossRefIdeal.main_arg2) = m ((c.tc : Thread Cert.FwdOutLossRefIdeal.nD Cert.FwdOutLossRefIdeal.τ).loc Cert.FwdOutLossRefIdeal.main_arg2)
      ∧ r.2.mem ((c.tc : Thread Cert.FwdOutLossRefIdeal.nD Cert.FwdOutLossRefIdeal.τ).loc Cert.FwdOutLossRefIdeal.main_arg3) = m ((c.tc : Thread Cert.FwdOutLossRefIdeal.nD Cert.FwdOutLossRefIdeal.τ).loc Cert.FwdOutLossRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3)
      ∧ r.2.mem ((c.tc : Thread Cert.AdamWIn.nD Cert.AdamWIn.τ).loc Cert.AdamWIn.main_arg4) = m ((c.tc : Thread Cert.AdamWIn.nD Cert.AdamWIn.τ).loc Cert.AdamWIn.main_arg4))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
      ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3)
      ∧ r.2.mem ((c.tc : Thread Cert.AdamWInRefIdeal.nD Cert.AdamWInRefIdeal.τ).loc Cert.AdamWInRefIdeal.main_arg4) = m ((c.tc : Thread Cert.AdamWInRefIdeal.nD Cert.AdamWInRefIdeal.τ).loc Cert.AdamWInRefIdeal.main_arg4))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3)
      ∧ r.2.mem ((c.tc : Thread Cert.AdamWOut.nD Cert.AdamWOut.τ).loc Cert.AdamWOut.main_arg4) = m ((c.tc : Thread Cert.AdamWOut.nD Cert.AdamWOut.τ).loc Cert.AdamWOut.main_arg4))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
      ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3)
      ∧ r.2.mem ((c.tc : Thread Cert.AdamWOutRefIdeal.nD Cert.AdamWOutRefIdeal.τ).loc Cert.AdamWOutRefIdeal.main_arg4) = m ((c.tc : Thread Cert.AdamWOutRefIdeal.nD Cert.AdamWOutRefIdeal.τ).loc Cert.AdamWOutRefIdeal.main_arg4))
      ∧ r.2.sem = fun _ => 0)

def quiescent_AdamWS [hAdamWS : Cert.AdamWS.Facts] : Prop :=
  ∀ (m : (ℓ : Loc Cert.AdamWS.nD Cert.AdamWS.τ Cert.AdamWS.sig) → Buf (Elt Bits) ℓ) (g : Dev Cert.AdamWS.nD → PrngReg), Pre_AdamWS m →
    θ_run (Cert.AdamWS.defs (F := Bits)) (onTc (τ := Cert.AdamWS.τ) (Cert.AdamWS.main (F := Bits))) ⟨m, fun _ => 0, g⟩ (fun r => (∀ c : Dev Cert.AdamWS.nD,
      r.2.mem ((c.tc : Thread Cert.AdamWS.nD Cert.AdamWS.τ).loc Cert.AdamWS.main_arg0) = m ((c.tc : Thread Cert.AdamWS.nD Cert.AdamWS.τ).loc Cert.AdamWS.main_arg0)
      ∧ r.2.mem ((c.tc : Thread Cert.AdamWS.nD Cert.AdamWS.τ).loc Cert.AdamWS.main_arg1) = m ((c.tc : Thread Cert.AdamWS.nD Cert.AdamWS.τ).loc Cert.AdamWS.main_arg1)
      ∧ r.2.mem ((c.tc : Thread Cert.AdamWS.nD Cert.AdamWS.τ).loc Cert.AdamWS.main_arg2) = m ((c.tc : Thread Cert.AdamWS.nD Cert.AdamWS.τ).loc Cert.AdamWS.main_arg2)
      ∧ r.2.mem ((c.tc : Thread Cert.AdamWS.nD Cert.AdamWS.τ).loc Cert.AdamWS.main_arg3) = m ((c.tc : Thread Cert.AdamWS.nD Cert.AdamWS.τ).loc Cert.AdamWS.main_arg3))
      ∧ r.2.sem = fun _ => 0)

def quiescent_AdamWSIdeal [hAdamWSIdeal : Cert.AdamWSIdeal.Facts] : Prop :=
  ∀ (m : (ℓ : Loc Cert.AdamWSIdeal.nD Cert.AdamWSIdeal.τ Cert.AdamWSIdeal.sig) → Buf (Elt Ideal) ℓ) (g : Dev Cert.AdamWSIdeal.nD → PrngReg), Pre_AdamWSIdeal m →
    θ_run (Cert.AdamWSIdeal.defs (F := Ideal)) (onTc (τ := Cert.AdamWSIdeal.τ) (Cert.AdamWSIdeal.main (F := Ideal))) ⟨m, fun _ => 0, g⟩ (fun r => (∀ c : Dev Cert.AdamWSIdeal.nD,
      r.2.mem ((c.tc : Thread Cert.AdamWSIdeal.nD Cert.AdamWSIdeal.τ).loc Cert.AdamWSIdeal.main_arg0) = m ((c.tc : Thread Cert.AdamWSIdeal.nD Cert.AdamWSIdeal.τ).loc Cert.AdamWSIdeal.main_arg0)
      ∧ r.2.mem ((c.tc : Thread Cert.AdamWSIdeal.nD Cert.AdamWSIdeal.τ).loc Cert.AdamWSIdeal.main_arg1) = m ((c.tc : Thread Cert.AdamWSIdeal.nD Cert.AdamWSIdeal.τ).loc Cert.AdamWSIdeal.main_arg1)
      ∧ r.2.mem ((c.tc : Thread Cert.AdamWSIdeal.nD Cert.AdamWSIdeal.τ).loc Cert.AdamWSIdeal.main_arg2) = m ((c.tc : Thread Cert.AdamWSIdeal.nD Cert.AdamWSIdeal.τ).loc Cert.AdamWSIdeal.main_arg2)
      ∧ r.2.mem ((c.tc : Thread Cert.AdamWSIdeal.nD Cert.AdamWSIdeal.τ).loc Cert.AdamWSIdeal.main_arg3) = m ((c.tc : Thread Cert.AdamWSIdeal.nD Cert.AdamWSIdeal.τ).loc Cert.AdamWSIdeal.main_arg3))
      ∧ r.2.sem = fun _ => 0)

def quiescent_AdamWSRefIdeal [hAdamWSRefIdeal : Cert.AdamWSRefIdeal.Facts] : Prop :=
  ∀ (m : (ℓ : Loc Cert.AdamWSRefIdeal.nD Cert.AdamWSRefIdeal.τ Cert.AdamWSRefIdeal.sig) → Buf (Elt Ideal) ℓ) (g : Dev Cert.AdamWSRefIdeal.nD → PrngReg), Pre_AdamWSRefIdeal m →
    θ_run (Cert.AdamWSRefIdeal.defs (F := Ideal)) (onTc (τ := Cert.AdamWSRefIdeal.τ) (Cert.AdamWSRefIdeal.main (F := Ideal))) ⟨m, fun _ => 0, g⟩ (fun r => (∀ c : Dev Cert.AdamWSRefIdeal.nD,
      r.2.mem ((c.tc : Thread Cert.AdamWSRefIdeal.nD Cert.AdamWSRefIdeal.τ).loc Cert.AdamWSRefIdeal.main_arg0) = m ((c.tc : Thread Cert.AdamWSRefIdeal.nD Cert.AdamWSRefIdeal.τ).loc Cert.AdamWSRefIdeal.main_arg0)
      ∧ r.2.mem ((c.tc : Thread Cert.AdamWSRefIdeal.nD Cert.AdamWSRefIdeal.τ).loc Cert.AdamWSRefIdeal.main_arg1) = m ((c.tc : Thread Cert.AdamWSRefIdeal.nD Cert.AdamWSRefIdeal.τ).loc Cert.AdamWSRefIdeal.main_arg1)
      ∧ r.2.mem ((c.tc : Thread Cert.AdamWSRefIdeal.nD Cert.AdamWSRefIdeal.τ).loc Cert.AdamWSRefIdeal.main_arg2) = m ((c.tc : Thread Cert.AdamWSRefIdeal.nD Cert.AdamWSRefIdeal.τ).loc Cert.AdamWSRefIdeal.main_arg2)
      ∧ r.2.mem ((c.tc : Thread Cert.AdamWSRefIdeal.nD Cert.AdamWSRefIdeal.τ).loc Cert.AdamWSRefIdeal.main_arg3) = m ((c.tc : Thread Cert.AdamWSRefIdeal.nD Cert.AdamWSRefIdeal.τ).loc Cert.AdamWSRefIdeal.main_arg3))
      ∧ r.2.sem = fun _ => 0)

def quiescent_AdamTiny [hAdamTiny : Cert.AdamTiny.Facts] : Prop :=
  ∀ (m : (ℓ : Loc Cert.AdamTiny.nD Cert.AdamTiny.τ Cert.AdamTiny.sig) → Buf (Elt Bits) ℓ) (g : Dev Cert.AdamTiny.nD → PrngReg), Pre_AdamTiny m →
    θ_run (Cert.AdamTiny.defs (F := Bits)) (onTc (τ := Cert.AdamTiny.τ) (Cert.AdamTiny.main (F := Bits))) ⟨m, fun _ => 0, g⟩ (fun r => (∀ c : Dev Cert.AdamTiny.nD,
      r.2.mem ((c.tc : Thread Cert.AdamTiny.nD Cert.AdamTiny.τ).loc Cert.AdamTiny.main_arg0) = m ((c.tc : Thread Cert.AdamTiny.nD Cert.AdamTiny.τ).loc Cert.AdamTiny.main_arg0)
      ∧ r.2.mem ((c.tc : Thread Cert.AdamTiny.nD Cert.AdamTiny.τ).loc Cert.AdamTiny.main_arg1) = m ((c.tc : Thread Cert.AdamTiny.nD Cert.AdamTiny.τ).loc Cert.AdamTiny.main_arg1)
      ∧ r.2.mem ((c.tc : Thread Cert.AdamTiny.nD Cert.AdamTiny.τ).loc Cert.AdamTiny.main_arg2) = m ((c.tc : Thread Cert.AdamTiny.nD Cert.AdamTiny.τ).loc Cert.AdamTiny.main_arg2)
      ∧ r.2.mem ((c.tc : Thread Cert.AdamTiny.nD Cert.AdamTiny.τ).loc Cert.AdamTiny.main_arg3) = m ((c.tc : Thread Cert.AdamTiny.nD Cert.AdamTiny.τ).loc Cert.AdamTiny.main_arg3))
      ∧ r.2.sem = fun _ => 0)

def quiescent_AdamTinyIdeal [hAdamTinyIdeal : Cert.AdamTinyIdeal.Facts] : Prop :=
  ∀ (m : (ℓ : Loc Cert.AdamTinyIdeal.nD Cert.AdamTinyIdeal.τ Cert.AdamTinyIdeal.sig) → Buf (Elt Ideal) ℓ) (g : Dev Cert.AdamTinyIdeal.nD → PrngReg), Pre_AdamTinyIdeal m →
    θ_run (Cert.AdamTinyIdeal.defs (F := Ideal)) (onTc (τ := Cert.AdamTinyIdeal.τ) (Cert.AdamTinyIdeal.main (F := Ideal))) ⟨m, fun _ => 0, g⟩ (fun r => (∀ c : Dev Cert.AdamTinyIdeal.nD,
      r.2.mem ((c.tc : Thread Cert.AdamTinyIdeal.nD Cert.AdamTinyIdeal.τ).loc Cert.AdamTinyIdeal.main_arg0) = m ((c.tc : Thread Cert.AdamTinyIdeal.nD Cert.AdamTinyIdeal.τ).loc Cert.AdamTinyIdeal.main_arg0)
      ∧ r.2.mem ((c.tc : Thread Cert.AdamTinyIdeal.nD Cert.AdamTinyIdeal.τ).loc Cert.AdamTinyIdeal.main_arg1) = m ((c.tc : Thread Cert.AdamTinyIdeal.nD Cert.AdamTinyIdeal.τ).loc Cert.AdamTinyIdeal.main_arg1)
      ∧ r.2.mem ((c.tc : Thread Cert.AdamTinyIdeal.nD Cert.AdamTinyIdeal.τ).loc Cert.AdamTinyIdeal.main_arg2) = m ((c.tc : Thread Cert.AdamTinyIdeal.nD Cert.AdamTinyIdeal.τ).loc Cert.AdamTinyIdeal.main_arg2)
      ∧ r.2.mem ((c.tc : Thread Cert.AdamTinyIdeal.nD Cert.AdamTinyIdeal.τ).loc Cert.AdamTinyIdeal.main_arg3) = m ((c.tc : Thread Cert.AdamTinyIdeal.nD Cert.AdamTinyIdeal.τ).loc Cert.AdamTinyIdeal.main_arg3))
      ∧ r.2.sem = fun _ => 0)

def quiescent_AdamTinyRefIdeal [hAdamTinyRefIdeal : Cert.AdamTinyRefIdeal.Facts] : Prop :=
  ∀ (m : (ℓ : Loc Cert.AdamTinyRefIdeal.nD Cert.AdamTinyRefIdeal.τ Cert.AdamTinyRefIdeal.sig) → Buf (Elt Ideal) ℓ) (g : Dev Cert.AdamTinyRefIdeal.nD → PrngReg), Pre_AdamTinyRefIdeal m →
    θ_run (Cert.AdamTinyRefIdeal.defs (F := Ideal)) (onTc (τ := Cert.AdamTinyRefIdeal.τ) (Cert.AdamTinyRefIdeal.main (F := Ideal))) ⟨m, fun _ => 0, g⟩ (fun r => (∀ c : Dev Cert.AdamTinyRefIdeal.nD,
      r.2.mem ((c.tc : Thread Cert.AdamTinyRefIdeal.nD Cert.AdamTinyRefIdeal.τ).loc Cert.AdamTinyRefIdeal.main_arg0) = m ((c.tc : Thread Cert.AdamTinyRefIdeal.nD Cert.AdamTinyRefIdeal.τ).loc Cert.AdamTinyRefIdeal.main_arg0)
      ∧ r.2.mem ((c.tc : Thread Cert.AdamTinyRefIdeal.nD Cert.AdamTinyRefIdeal.τ).loc Cert.AdamTinyRefIdeal.main_arg1) = m ((c.tc : Thread Cert.AdamTinyRefIdeal.nD Cert.AdamTinyRefIdeal.τ).loc Cert.AdamTinyRefIdeal.main_arg1)
      ∧ r.2.mem ((c.tc : Thread Cert.AdamTinyRefIdeal.nD Cert.AdamTinyRefIdeal.τ).loc Cert.AdamTinyRefIdeal.main_arg2) = m ((c.tc : Thread Cert.AdamTinyRefIdeal.nD Cert.AdamTinyRefIdeal.τ).loc Cert.AdamTinyRefIdeal.main_arg2)
      ∧ r.2.mem ((c.tc : Thread Cert.AdamTinyRefIdeal.nD Cert.AdamTinyRefIdeal.τ).loc Cert.AdamTinyRefIdeal.main_arg3) = m ((c.tc : Thread Cert.AdamTinyRefIdeal.nD Cert.AdamTinyRefIdeal.τ).loc Cert.AdamTinyRefIdeal.main_arg3))
      ∧ r.2.sem = fun _ => 0)

def quiescent_AdamNormG [hAdamNormG : Cert.AdamNormG.Facts] : Prop :=
  ∀ (m : (ℓ : Loc Cert.AdamNormG.nD Cert.AdamNormG.τ Cert.AdamNormG.sig) → Buf (Elt Bits) ℓ) (g : Dev Cert.AdamNormG.nD → PrngReg), Pre_AdamNormG m →
    θ_run (Cert.AdamNormG.defs (F := Bits)) (onTc (τ := Cert.AdamNormG.τ) (Cert.AdamNormG.main (F := Bits))) ⟨m, fun _ => 0, g⟩ (fun r => (∀ c : Dev Cert.AdamNormG.nD,
      r.2.mem ((c.tc : Thread Cert.AdamNormG.nD Cert.AdamNormG.τ).loc Cert.AdamNormG.main_arg0) = m ((c.tc : Thread Cert.AdamNormG.nD Cert.AdamNormG.τ).loc Cert.AdamNormG.main_arg0)
      ∧ r.2.mem ((c.tc : Thread Cert.AdamNormG.nD Cert.AdamNormG.τ).loc Cert.AdamNormG.main_arg1) = m ((c.tc : Thread Cert.AdamNormG.nD Cert.AdamNormG.τ).loc Cert.AdamNormG.main_arg1)
      ∧ r.2.mem ((c.tc : Thread Cert.AdamNormG.nD Cert.AdamNormG.τ).loc Cert.AdamNormG.main_arg2) = m ((c.tc : Thread Cert.AdamNormG.nD Cert.AdamNormG.τ).loc Cert.AdamNormG.main_arg2)
      ∧ r.2.mem ((c.tc : Thread Cert.AdamNormG.nD Cert.AdamNormG.τ).loc Cert.AdamNormG.main_arg3) = m ((c.tc : Thread Cert.AdamNormG.nD Cert.AdamNormG.τ).loc Cert.AdamNormG.main_arg3))
      ∧ r.2.sem = fun _ => 0)

def quiescent_AdamNormGIdeal [hAdamNormGIdeal : Cert.AdamNormGIdeal.Facts] : Prop :=
  ∀ (m : (ℓ : Loc Cert.AdamNormGIdeal.nD Cert.AdamNormGIdeal.τ Cert.AdamNormGIdeal.sig) → Buf (Elt Ideal) ℓ) (g : Dev Cert.AdamNormGIdeal.nD → PrngReg), Pre_AdamNormGIdeal m →
    θ_run (Cert.AdamNormGIdeal.defs (F := Ideal)) (onTc (τ := Cert.AdamNormGIdeal.τ) (Cert.AdamNormGIdeal.main (F := Ideal))) ⟨m, fun _ => 0, g⟩ (fun r => (∀ c : Dev Cert.AdamNormGIdeal.nD,
      r.2.mem ((c.tc : Thread Cert.AdamNormGIdeal.nD Cert.AdamNormGIdeal.τ).loc Cert.AdamNormGIdeal.main_arg0) = m ((c.tc : Thread Cert.AdamNormGIdeal.nD Cert.AdamNormGIdeal.τ).loc Cert.AdamNormGIdeal.main_arg0)
      ∧ r.2.mem ((c.tc : Thread Cert.AdamNormGIdeal.nD Cert.AdamNormGIdeal.τ).loc Cert.AdamNormGIdeal.main_arg1) = m ((c.tc : Thread Cert.AdamNormGIdeal.nD Cert.AdamNormGIdeal.τ).loc Cert.AdamNormGIdeal.main_arg1)
      ∧ r.2.mem ((c.tc : Thread Cert.AdamNormGIdeal.nD Cert.AdamNormGIdeal.τ).loc Cert.AdamNormGIdeal.main_arg2) = m ((c.tc : Thread Cert.AdamNormGIdeal.nD Cert.AdamNormGIdeal.τ).loc Cert.AdamNormGIdeal.main_arg2)
      ∧ r.2.mem ((c.tc : Thread Cert.AdamNormGIdeal.nD Cert.AdamNormGIdeal.τ).loc Cert.AdamNormGIdeal.main_arg3) = m ((c.tc : Thread Cert.AdamNormGIdeal.nD Cert.AdamNormGIdeal.τ).loc Cert.AdamNormGIdeal.main_arg3))
      ∧ r.2.sem = fun _ => 0)

def quiescent_AdamNormGRefIdeal [hAdamNormGRefIdeal : Cert.AdamNormGRefIdeal.Facts] : Prop :=
  ∀ (m : (ℓ : Loc Cert.AdamNormGRefIdeal.nD Cert.AdamNormGRefIdeal.τ Cert.AdamNormGRefIdeal.sig) → Buf (Elt Ideal) ℓ) (g : Dev Cert.AdamNormGRefIdeal.nD → PrngReg), Pre_AdamNormGRefIdeal m →
    θ_run (Cert.AdamNormGRefIdeal.defs (F := Ideal)) (onTc (τ := Cert.AdamNormGRefIdeal.τ) (Cert.AdamNormGRefIdeal.main (F := Ideal))) ⟨m, fun _ => 0, g⟩ (fun r => (∀ c : Dev Cert.AdamNormGRefIdeal.nD,
      r.2.mem ((c.tc : Thread Cert.AdamNormGRefIdeal.nD Cert.AdamNormGRefIdeal.τ).loc Cert.AdamNormGRefIdeal.main_arg0) = m ((c.tc : Thread Cert.AdamNormGRefIdeal.nD Cert.AdamNormGRefIdeal.τ).loc Cert.AdamNormGRefIdeal.main_arg0)
      ∧ r.2.mem ((c.tc : Thread Cert.AdamNormGRefIdeal.nD Cert.AdamNormGRefIdeal.τ).loc Cert.AdamNormGRefIdeal.main_arg1) = m ((c.tc : Thread Cert.AdamNormGRefIdeal.nD Cert.AdamNormGRefIdeal.τ).loc Cert.AdamNormGRefIdeal.main_arg1)
      ∧ r.2.mem ((c.tc : Thread Cert.AdamNormGRefIdeal.nD Cert.AdamNormGRefIdeal.τ).loc Cert.AdamNormGRefIdeal.main_arg2) = m ((c.tc : Thread Cert.AdamNormGRefIdeal.nD Cert.AdamNormGRefIdeal.τ).loc Cert.AdamNormGRefIdeal.main_arg2)
      ∧ r.2.mem ((c.tc : Thread Cert.AdamNormGRefIdeal.nD Cert.AdamNormGRefIdeal.τ).loc Cert.AdamNormGRefIdeal.main_arg3) = m ((c.tc : Thread Cert.AdamNormGRefIdeal.nD Cert.AdamNormGRefIdeal.τ).loc Cert.AdamNormGRefIdeal.main_arg3))
      ∧ r.2.sem = fun _ => 0)

def preserves_BwdIn_BwdInIdeal : Prop :=
  True

def algebraic_BwdInIdeal_BwdInRefIdeal [hBwdInIdeal : Cert.BwdInIdeal.Facts] [hBwdInRefIdeal : Cert.BwdInRefIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)) →
    ∃ (v0 : (c : Dev Cert.BwdInIdeal.nD) → Buf (Elt Ideal) ((c.tc : Thread Cert.BwdInIdeal.nD Cert.BwdInIdeal.τ).loc Cert.BwdInIdeal.main_v4_0)) (v1 : (c : Dev Cert.BwdInIdeal.nD) → Buf (Elt Ideal) ((c.tc : Thread Cert.BwdInIdeal.nD Cert.BwdInIdeal.τ).loc Cert.BwdInIdeal.main_v4_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v4_0) = v0 c
          ∧ r.2.mem ((c.tc : Thread Cert.BwdInIdeal.nD Cert.BwdInIdeal.τ).loc Cert.BwdInIdeal.main_v4_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v37) = v0 c
          ∧ r.2.mem ((c.tc : Thread Cert.BwdInRefIdeal.nD Cert.BwdInRefIdeal.τ).loc Cert.BwdInRefIdeal.main_v20) = v1 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4))

def preserves_GradWIn_GradWInIdeal : Prop :=
  True

def algebraic_GradWInIdeal_GradWInRefIdeal [hGradWInIdeal : Cert.GradWInIdeal.Facts] [hGradWInRefIdeal : Cert.GradWInRefIdeal.Facts] : Prop :=
  ∀ (m : (ℓ : Loc Cert.GradWInIdeal.nD Cert.GradWInIdeal.τ Cert.GradWInIdeal.sig) → Buf (Elt Ideal) ℓ) (g : Dev Cert.GradWInIdeal.nD → PrngReg)
    (m' : (ℓ : Loc Cert.GradWInRefIdeal.nD Cert.GradWInRefIdeal.τ Cert.GradWInRefIdeal.sig) → Buf (Elt Ideal) ℓ) (g' : Dev Cert.GradWInRefIdeal.nD → PrngReg), Pre_GradWInIdeal m →
    (∀ c : Dev Cert.GradWInIdeal.nD,
      m' ((c.tc : Thread Cert.GradWInRefIdeal.nD Cert.GradWInRefIdeal.τ).loc Cert.GradWInRefIdeal.main_arg0) = m ((c.tc : Thread Cert.GradWInIdeal.nD Cert.GradWInIdeal.τ).loc Cert.GradWInIdeal.main_arg0)
      ∧ m' ((c.tc : Thread Cert.GradWInRefIdeal.nD Cert.GradWInRefIdeal.τ).loc Cert.GradWInRefIdeal.main_arg1) = m ((c.tc : Thread Cert.GradWInIdeal.nD Cert.GradWInIdeal.τ).loc Cert.GradWInIdeal.main_arg1)
      ∧ m' ((c.tc : Thread Cert.GradWInRefIdeal.nD Cert.GradWInRefIdeal.τ).loc Cert.GradWInRefIdeal.main_arg2) = m ((c.tc : Thread Cert.GradWInIdeal.nD Cert.GradWInIdeal.τ).loc Cert.GradWInIdeal.main_arg2)) →
    ∃ (v0 : (c : Dev Cert.GradWInIdeal.nD) → Buf (Elt Ideal) ((c.tc : Thread Cert.GradWInIdeal.nD Cert.GradWInIdeal.τ).loc Cert.GradWInIdeal.main_v14)),
      θ_run (Cert.GradWInIdeal.defs (F := Ideal)) (onTc (τ := Cert.GradWInIdeal.τ) (Cert.GradWInIdeal.main (F := Ideal))) ⟨m, fun _ => 0, g⟩ (fun r => ∀ c : Dev Cert.GradWInIdeal.nD,
          r.2.mem ((c.tc : Thread Cert.GradWInIdeal.nD Cert.GradWInIdeal.τ).loc Cert.GradWInIdeal.main_v14) = v0 c
          ∧ r.2.mem ((c.tc : Thread Cert.GradWInIdeal.nD Cert.GradWInIdeal.τ).loc Cert.GradWInIdeal.main_arg0) = m ((c.tc : Thread Cert.GradWInIdeal.nD Cert.GradWInIdeal.τ).loc Cert.GradWInIdeal.main_arg0)
          ∧ r.2.mem ((c.tc : Thread Cert.GradWInIdeal.nD Cert.GradWInIdeal.τ).loc Cert.GradWInIdeal.main_arg1) = m ((c.tc : Thread Cert.GradWInIdeal.nD Cert.GradWInIdeal.τ).loc Cert.GradWInIdeal.main_arg1)
          ∧ r.2.mem ((c.tc : Thread Cert.GradWInIdeal.nD Cert.GradWInIdeal.τ).loc Cert.GradWInIdeal.main_arg2) = m ((c.tc : Thread Cert.GradWInIdeal.nD Cert.GradWInIdeal.τ).loc Cert.GradWInIdeal.main_arg2))
      ∧ θ_run (Cert.GradWInRefIdeal.defs (F := Ideal)) (onTc (τ := Cert.GradWInRefIdeal.τ) (Cert.GradWInRefIdeal.main (F := Ideal))) ⟨m', fun _ => 0, g'⟩ (fun r => ∀ c : Dev Cert.GradWInRefIdeal.nD,
          r.2.mem ((c.tc : Thread Cert.GradWInRefIdeal.nD Cert.GradWInRefIdeal.τ).loc Cert.GradWInRefIdeal.main_v19) = v0 c
          ∧ r.2.mem ((c.tc : Thread Cert.GradWInRefIdeal.nD Cert.GradWInRefIdeal.τ).loc Cert.GradWInRefIdeal.main_arg0) = m' ((c.tc : Thread Cert.GradWInRefIdeal.nD Cert.GradWInRefIdeal.τ).loc Cert.GradWInRefIdeal.main_arg0)
          ∧ r.2.mem ((c.tc : Thread Cert.GradWInRefIdeal.nD Cert.GradWInRefIdeal.τ).loc Cert.GradWInRefIdeal.main_arg1) = m' ((c.tc : Thread Cert.GradWInRefIdeal.nD Cert.GradWInRefIdeal.τ).loc Cert.GradWInRefIdeal.main_arg1)
          ∧ r.2.mem ((c.tc : Thread Cert.GradWInRefIdeal.nD Cert.GradWInRefIdeal.τ).loc Cert.GradWInRefIdeal.main_arg2) = m' ((c.tc : Thread Cert.GradWInRefIdeal.nD Cert.GradWInRefIdeal.τ).loc Cert.GradWInRefIdeal.main_arg2))

def preserves_GradWOut_GradWOutIdeal : Prop :=
  True

def algebraic_GradWOutIdeal_GradWOutRefIdeal [hGradWOutIdeal : Cert.GradWOutIdeal.Facts] [hGradWOutRefIdeal : Cert.GradWOutRefIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.GradWOutRefIdeal.nD Cert.GradWOutRefIdeal.τ Cert.GradWOutRefIdeal.sig) → Buf (Elt Ideal) ℓ) (g' : Dev Cert.GradWOutRefIdeal.nD → PrngReg), Pre_GradWOutIdeal m →
    (∀ c : Dev Cert.GradWOutIdeal.nD,
      m' ((c.tc : Thread Cert.GradWOutRefIdeal.nD Cert.GradWOutRefIdeal.τ).loc Cert.GradWOutRefIdeal.main_arg0) = m ((c.tc : Thread Cert.GradWOutIdeal.nD Cert.GradWOutIdeal.τ).loc Cert.GradWOutIdeal.main_arg0)
      ∧ m' ((c.tc : Thread Cert.GradWOutRefIdeal.nD Cert.GradWOutRefIdeal.τ).loc Cert.GradWOutRefIdeal.main_arg1) = m ((c.tc : Thread Cert.GradWOutIdeal.nD Cert.GradWOutIdeal.τ).loc Cert.GradWOutIdeal.main_arg1)) →
    ∃ (v0 : (c : Dev Cert.GradWOutIdeal.nD) → Buf (Elt Ideal) ((c.tc : Thread Cert.GradWOutIdeal.nD Cert.GradWOutIdeal.τ).loc Cert.GradWOutIdeal.main_v0)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v0) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ θ_run (Cert.GradWOutRefIdeal.defs (F := Ideal)) (onTc (τ := Cert.GradWOutRefIdeal.τ) (Cert.GradWOutRefIdeal.main (F := Ideal))) ⟨m', fun _ => 0, g'⟩ (fun r => ∀ c : Dev Cert.GradWOutRefIdeal.nD,
          r.2.mem ((c.tc : Thread Cert.GradWOutRefIdeal.nD Cert.GradWOutRefIdeal.τ).loc Cert.GradWOutRefIdeal.main_v5) = v0 c
          ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
          ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1))

def preserves_BwdOut_BwdOutIdeal : Prop :=
  True

def algebraic_BwdOutIdeal_BwdOutRefIdeal [hBwdOutIdeal : Cert.BwdOutIdeal.Facts] [hBwdOutRefIdeal : Cert.BwdOutRefIdeal.Facts] : Prop :=
  ∀ (m : (ℓ : Loc Cert.BwdOutIdeal.nD Cert.BwdOutIdeal.τ Cert.BwdOutIdeal.sig) → Buf (Elt Ideal) ℓ) (g : Dev Cert.BwdOutIdeal.nD → PrngReg)
    (m' : (ℓ : Loc Cert.BwdOutRefIdeal.nD Cert.BwdOutRefIdeal.τ Cert.BwdOutRefIdeal.sig) → Buf (Elt Ideal) ℓ) (g' : Dev Cert.BwdOutRefIdeal.nD → PrngReg), Pre_BwdOutIdeal m →
    (∀ c : Dev Cert.BwdOutIdeal.nD,
      m' ((c.tc : Thread Cert.BwdOutRefIdeal.nD Cert.BwdOutRefIdeal.τ).loc Cert.BwdOutRefIdeal.main_arg0) = m ((c.tc : Thread Cert.BwdOutIdeal.nD Cert.BwdOutIdeal.τ).loc Cert.BwdOutIdeal.main_arg0)
      ∧ m' ((c.tc : Thread Cert.BwdOutRefIdeal.nD Cert.BwdOutRefIdeal.τ).loc Cert.BwdOutRefIdeal.main_arg1) = m ((c.tc : Thread Cert.BwdOutIdeal.nD Cert.BwdOutIdeal.τ).loc Cert.BwdOutIdeal.main_arg1)) →
    ∃ (v0 : (c : Dev Cert.BwdOutIdeal.nD) → Buf (Elt Ideal) ((c.tc : Thread Cert.BwdOutIdeal.nD Cert.BwdOutIdeal.τ).loc Cert.BwdOutIdeal.main_v2)),
      θ_run (Cert.BwdOutIdeal.defs (F := Ideal)) (onTc (τ := Cert.BwdOutIdeal.τ) (Cert.BwdOutIdeal.main (F := Ideal))) ⟨m, fun _ => 0, g⟩ (fun r => ∀ c : Dev Cert.BwdOutIdeal.nD,
          r.2.mem ((c.tc : Thread Cert.BwdOutIdeal.nD Cert.BwdOutIdeal.τ).loc Cert.BwdOutIdeal.main_v2) = v0 c
          ∧ r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
          ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1))
      ∧ θ_run (Cert.BwdOutRefIdeal.defs (F := Ideal)) (onTc (τ := Cert.BwdOutRefIdeal.τ) (Cert.BwdOutRefIdeal.main (F := Ideal))) ⟨m', fun _ => 0, g'⟩ (fun r => ∀ c : Dev Cert.BwdOutRefIdeal.nD,
          r.2.mem ((c.tc : Thread Cert.BwdOutRefIdeal.nD Cert.BwdOutRefIdeal.τ).loc Cert.BwdOutRefIdeal.main_v2) = v0 c
          ∧ r.2.mem ((c.tc : Thread Cert.BwdOutRefIdeal.nD Cert.BwdOutRefIdeal.τ).loc Cert.BwdOutRefIdeal.main_arg0) = m' ((c.tc : Thread Cert.BwdOutRefIdeal.nD Cert.BwdOutRefIdeal.τ).loc Cert.BwdOutRefIdeal.main_arg0)
          ∧ r.2.mem ((c.tc : Thread Cert.BwdOutRefIdeal.nD Cert.BwdOutRefIdeal.τ).loc Cert.BwdOutRefIdeal.main_arg1) = m' ((c.tc : Thread Cert.BwdOutRefIdeal.nD Cert.BwdOutRefIdeal.τ).loc Cert.BwdOutRefIdeal.main_arg1))

def preserves_BwdMix_BwdMixIdeal : Prop :=
  True

def algebraic_BwdMixIdeal_BwdMixRefIdeal [hBwdMixIdeal : Cert.BwdMixIdeal.Facts] [hBwdMixRefIdeal : Cert.BwdMixRefIdeal.Facts] : Prop :=
  ∀ (m : (ℓ : Loc Cert.BwdMixIdeal.nD Cert.BwdMixIdeal.τ Cert.BwdMixIdeal.sig) → Buf (Elt Ideal) ℓ) (g : Dev Cert.BwdMixIdeal.nD → PrngReg)
    (m' : (ℓ : Loc Cert.BwdMixRefIdeal.nD Cert.BwdMixRefIdeal.τ Cert.BwdMixRefIdeal.sig) → Buf (Elt Ideal) ℓ) (g' : Dev Cert.BwdMixRefIdeal.nD → PrngReg), Pre_BwdMixIdeal m →
    (∀ c : Dev Cert.BwdMixIdeal.nD,
      m' ((c.tc : Thread Cert.BwdMixRefIdeal.nD Cert.BwdMixRefIdeal.τ).loc Cert.BwdMixRefIdeal.main_arg0) = m ((c.tc : Thread Cert.BwdMixIdeal.nD Cert.BwdMixIdeal.τ).loc Cert.BwdMixIdeal.main_arg0)
      ∧ m' ((c.tc : Thread Cert.BwdMixRefIdeal.nD Cert.BwdMixRefIdeal.τ).loc Cert.BwdMixRefIdeal.main_arg1) = m ((c.tc : Thread Cert.BwdMixIdeal.nD Cert.BwdMixIdeal.τ).loc Cert.BwdMixIdeal.main_arg1)
      ∧ m' ((c.tc : Thread Cert.BwdMixRefIdeal.nD Cert.BwdMixRefIdeal.τ).loc Cert.BwdMixRefIdeal.main_arg2) = m ((c.tc : Thread Cert.BwdMixIdeal.nD Cert.BwdMixIdeal.τ).loc Cert.BwdMixIdeal.main_arg2)
      ∧ m' ((c.tc : Thread Cert.BwdMixRefIdeal.nD Cert.BwdMixRefIdeal.τ).loc Cert.BwdMixRefIdeal.main_arg3) = m ((c.tc : Thread Cert.BwdMixIdeal.nD Cert.BwdMixIdeal.τ).loc Cert.BwdMixIdeal.main_arg3)
      ∧ m' ((c.tc : Thread Cert.BwdMixRefIdeal.nD Cert.BwdMixRefIdeal.τ).loc Cert.BwdMixRefIdeal.main_arg4) = m ((c.tc : Thread Cert.BwdMixIdeal.nD Cert.BwdMixIdeal.τ).loc Cert.BwdMixIdeal.main_arg4)
      ∧ m' ((c.tc : Thread Cert.BwdMixRefIdeal.nD Cert.BwdMixRefIdeal.τ).loc Cert.BwdMixRefIdeal.main_arg5) = m ((c.tc : Thread Cert.BwdMixIdeal.nD Cert.BwdMixIdeal.τ).loc Cert.BwdMixIdeal.main_arg5)
      ∧ m' ((c.tc : Thread Cert.BwdMixRefIdeal.nD Cert.BwdMixRefIdeal.τ).loc Cert.BwdMixRefIdeal.main_arg6) = m ((c.tc : Thread Cert.BwdMixIdeal.nD Cert.BwdMixIdeal.τ).loc Cert.BwdMixIdeal.main_arg6)) →
    ∃ (v0 : (c : Dev Cert.BwdMixIdeal.nD) → Buf (Elt Ideal) ((c.tc : Thread Cert.BwdMixIdeal.nD Cert.BwdMixIdeal.τ).loc Cert.BwdMixIdeal.main_v41_4)),
      θ_run (Cert.BwdMixIdeal.defs (F := Ideal)) (onTc (τ := Cert.BwdMixIdeal.τ) (Cert.BwdMixIdeal.main (F := Ideal))) ⟨m, fun _ => 0, g⟩ (fun r => ∀ c : Dev Cert.BwdMixIdeal.nD,
          r.2.mem ((c.tc : Thread Cert.BwdMixIdeal.nD Cert.BwdMixIdeal.τ).loc Cert.BwdMixIdeal.main_v41_4) = v0 c
          ∧ r.2.mem ((c.tc : Thread Cert.BwdMixIdeal.nD Cert.BwdMixIdeal.τ).loc Cert.BwdMixIdeal.main_arg0) = m ((c.tc : Thread Cert.BwdMixIdeal.nD Cert.BwdMixIdeal.τ).loc Cert.BwdMixIdeal.main_arg0)
          ∧ r.2.mem ((c.tc : Thread Cert.BwdMixIdeal.nD Cert.BwdMixIdeal.τ).loc Cert.BwdMixIdeal.main_arg1) = m ((c.tc : Thread Cert.BwdMixIdeal.nD Cert.BwdMixIdeal.τ).loc Cert.BwdMixIdeal.main_arg1)
          ∧ r.2.mem ((c.tc : Thread Cert.BwdMixIdeal.nD Cert.BwdMixIdeal.τ).loc Cert.BwdMixIdeal.main_arg2) = m ((c.tc : Thread Cert.BwdMixIdeal.nD Cert.BwdMixIdeal.τ).loc Cert.BwdMixIdeal.main_arg2)
          ∧ r.2.mem ((c.tc : Thread Cert.BwdMixIdeal.nD Cert.BwdMixIdeal.τ).loc Cert.BwdMixIdeal.main_arg3) = m ((c.tc : Thread Cert.BwdMixIdeal.nD Cert.BwdMixIdeal.τ).loc Cert.BwdMixIdeal.main_arg3)
          ∧ r.2.mem ((c.tc : Thread Cert.BwdMixIdeal.nD Cert.BwdMixIdeal.τ).loc Cert.BwdMixIdeal.main_arg4) = m ((c.tc : Thread Cert.BwdMixIdeal.nD Cert.BwdMixIdeal.τ).loc Cert.BwdMixIdeal.main_arg4)
          ∧ r.2.mem ((c.tc : Thread Cert.BwdMixIdeal.nD Cert.BwdMixIdeal.τ).loc Cert.BwdMixIdeal.main_arg5) = m ((c.tc : Thread Cert.BwdMixIdeal.nD Cert.BwdMixIdeal.τ).loc Cert.BwdMixIdeal.main_arg5)
          ∧ r.2.mem ((c.tc : Thread Cert.BwdMixIdeal.nD Cert.BwdMixIdeal.τ).loc Cert.BwdMixIdeal.main_arg6) = m ((c.tc : Thread Cert.BwdMixIdeal.nD Cert.BwdMixIdeal.τ).loc Cert.BwdMixIdeal.main_arg6))
      ∧ θ_run (Cert.BwdMixRefIdeal.defs (F := Ideal)) (onTc (τ := Cert.BwdMixRefIdeal.τ) (Cert.BwdMixRefIdeal.main (F := Ideal))) ⟨m', fun _ => 0, g'⟩ (fun r => ∀ c : Dev Cert.BwdMixRefIdeal.nD,
          r.2.mem ((c.tc : Thread Cert.BwdMixRefIdeal.nD Cert.BwdMixRefIdeal.τ).loc Cert.BwdMixRefIdeal.main_v45) = v0 c
          ∧ r.2.mem ((c.tc : Thread Cert.BwdMixRefIdeal.nD Cert.BwdMixRefIdeal.τ).loc Cert.BwdMixRefIdeal.main_arg0) = m' ((c.tc : Thread Cert.BwdMixRefIdeal.nD Cert.BwdMixRefIdeal.τ).loc Cert.BwdMixRefIdeal.main_arg0)
          ∧ r.2.mem ((c.tc : Thread Cert.BwdMixRefIdeal.nD Cert.BwdMixRefIdeal.τ).loc Cert.BwdMixRefIdeal.main_arg1) = m' ((c.tc : Thread Cert.BwdMixRefIdeal.nD Cert.BwdMixRefIdeal.τ).loc Cert.BwdMixRefIdeal.main_arg1)
          ∧ r.2.mem ((c.tc : Thread Cert.BwdMixRefIdeal.nD Cert.BwdMixRefIdeal.τ).loc Cert.BwdMixRefIdeal.main_arg2) = m' ((c.tc : Thread Cert.BwdMixRefIdeal.nD Cert.BwdMixRefIdeal.τ).loc Cert.BwdMixRefIdeal.main_arg2)
          ∧ r.2.mem ((c.tc : Thread Cert.BwdMixRefIdeal.nD Cert.BwdMixRefIdeal.τ).loc Cert.BwdMixRefIdeal.main_arg3) = m' ((c.tc : Thread Cert.BwdMixRefIdeal.nD Cert.BwdMixRefIdeal.τ).loc Cert.BwdMixRefIdeal.main_arg3)
          ∧ r.2.mem ((c.tc : Thread Cert.BwdMixRefIdeal.nD Cert.BwdMixRefIdeal.τ).loc Cert.BwdMixRefIdeal.main_arg4) = m' ((c.tc : Thread Cert.BwdMixRefIdeal.nD Cert.BwdMixRefIdeal.τ).loc Cert.BwdMixRefIdeal.main_arg4)
          ∧ r.2.mem ((c.tc : Thread Cert.BwdMixRefIdeal.nD Cert.BwdMixRefIdeal.τ).loc Cert.BwdMixRefIdeal.main_arg5) = m' ((c.tc : Thread Cert.BwdMixRefIdeal.nD Cert.BwdMixRefIdeal.τ).loc Cert.BwdMixRefIdeal.main_arg5)
          ∧ r.2.mem ((c.tc : Thread Cert.BwdMixRefIdeal.nD Cert.BwdMixRefIdeal.τ).loc Cert.BwdMixRefIdeal.main_arg6) = m' ((c.tc : Thread Cert.BwdMixRefIdeal.nD Cert.BwdMixRefIdeal.τ).loc Cert.BwdMixRefIdeal.main_arg6))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)
      ∧ m' ((c.tc : Thread Cert.FwdInRefIdeal.nD Cert.FwdInRefIdeal.τ).loc Cert.FwdInRefIdeal.main_arg2) = m ((c.tc : Thread Cert.FwdInIdeal.nD Cert.FwdInIdeal.τ).loc Cert.FwdInIdeal.main_arg2)) →
    ∃ (v0 : (c : Dev Cert.FwdInIdeal.nD) → Buf (Elt Ideal) ((c.tc : Thread Cert.FwdInIdeal.nD Cert.FwdInIdeal.τ).loc Cert.FwdInIdeal.main_v3_0)) (v1 : (c : Dev Cert.FwdInIdeal.nD) → Buf (Elt Ideal) ((c.tc : Thread Cert.FwdInIdeal.nD Cert.FwdInIdeal.τ).loc Cert.FwdInIdeal.main_v3_1)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v3_0) = v0 c
          ∧ r.2.mem ((c.tc : Thread Cert.FwdInIdeal.nD Cert.FwdInIdeal.τ).loc Cert.FwdInIdeal.main_v3_1) = v1 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v12) = v0 c
          ∧ r.2.mem ((c.tc : Thread Cert.FwdInRefIdeal.nD Cert.FwdInRefIdeal.τ).loc Cert.FwdInRefIdeal.main_v13) = v1 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1)
          ∧ r.2.mem ((c.tc : Thread Cert.FwdInRefIdeal.nD Cert.FwdInRefIdeal.τ).loc Cert.FwdInRefIdeal.main_arg2) = m' ((c.tc : Thread Cert.FwdInRefIdeal.nD Cert.FwdInRefIdeal.τ).loc Cert.FwdInRefIdeal.main_arg2))

def preserves_FwdOut_FwdOutIdeal : Prop :=
  True

def algebraic_FwdOutIdeal_FwdOutRefIdeal [hFwdOutIdeal : Cert.FwdOutIdeal.Facts] [hFwdOutRefIdeal : Cert.FwdOutRefIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg)
    (m' : (ℓ : Loc Cert.FwdOutRefIdeal.nD Cert.FwdOutRefIdeal.τ Cert.FwdOutRefIdeal.sig) → Buf (Elt Ideal) ℓ) (g' : Dev Cert.FwdOutRefIdeal.nD → PrngReg), Pre_FwdOutIdeal m →
    (∀ c : Dev Cert.FwdOutIdeal.nD,
      m' ((c.tc : Thread Cert.FwdOutRefIdeal.nD Cert.FwdOutRefIdeal.τ).loc Cert.FwdOutRefIdeal.main_arg0) = m ((c.tc : Thread Cert.FwdOutIdeal.nD Cert.FwdOutIdeal.τ).loc Cert.FwdOutIdeal.main_arg0)
      ∧ m' ((c.tc : Thread Cert.FwdOutRefIdeal.nD Cert.FwdOutRefIdeal.τ).loc Cert.FwdOutRefIdeal.main_arg1) = m ((c.tc : Thread Cert.FwdOutIdeal.nD Cert.FwdOutIdeal.τ).loc Cert.FwdOutIdeal.main_arg1)
      ∧ m' ((c.tc : Thread Cert.FwdOutRefIdeal.nD Cert.FwdOutRefIdeal.τ).loc Cert.FwdOutRefIdeal.main_arg2) = m ((c.tc : Thread Cert.FwdOutIdeal.nD Cert.FwdOutIdeal.τ).loc Cert.FwdOutIdeal.main_arg2)) →
    ∃ (v0 : (c : Dev Cert.FwdOutIdeal.nD) → Buf (Elt Ideal) ((c.tc : Thread Cert.FwdOutIdeal.nD Cert.FwdOutIdeal.τ).loc Cert.FwdOutIdeal.main_v1)),
      θ_run (Cert.FwdOutIdeal.defs (F := Ideal)) (onTc (τ := Cert.FwdOutIdeal.τ) (Cert.FwdOutIdeal.main (F := Ideal))) ⟨m, fun _ => 0, g⟩ (fun r => ∀ c : Dev Cert.FwdOutIdeal.nD,
          r.2.mem ((c.tc : Thread Cert.FwdOutIdeal.nD Cert.FwdOutIdeal.τ).loc Cert.FwdOutIdeal.main_v1) = v0 c
          ∧ r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
          ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
          ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2))
      ∧ θ_run (Cert.FwdOutRefIdeal.defs (F := Ideal)) (onTc (τ := Cert.FwdOutRefIdeal.τ) (Cert.FwdOutRefIdeal.main (F := Ideal))) ⟨m', fun _ => 0, g'⟩ (fun r => ∀ c : Dev Cert.FwdOutRefIdeal.nD,
          r.2.mem ((c.tc : Thread Cert.FwdOutRefIdeal.nD Cert.FwdOutRefIdeal.τ).loc Cert.FwdOutRefIdeal.main_v2) = v0 c
          ∧ r.2.mem ((c.tc : Thread Cert.FwdOutRefIdeal.nD Cert.FwdOutRefIdeal.τ).loc Cert.FwdOutRefIdeal.main_arg0) = m' ((c.tc : Thread Cert.FwdOutRefIdeal.nD Cert.FwdOutRefIdeal.τ).loc Cert.FwdOutRefIdeal.main_arg0)
          ∧ r.2.mem ((c.tc : Thread Cert.FwdOutRefIdeal.nD Cert.FwdOutRefIdeal.τ).loc Cert.FwdOutRefIdeal.main_arg1) = m' ((c.tc : Thread Cert.FwdOutRefIdeal.nD Cert.FwdOutRefIdeal.τ).loc Cert.FwdOutRefIdeal.main_arg1)
          ∧ r.2.mem ((c.tc : Thread Cert.FwdOutRefIdeal.nD Cert.FwdOutRefIdeal.τ).loc Cert.FwdOutRefIdeal.main_arg2) = m' ((c.tc : Thread Cert.FwdOutRefIdeal.nD Cert.FwdOutRefIdeal.τ).loc Cert.FwdOutRefIdeal.main_arg2))

def preserves_FwdOutLoss_FwdOutLossIdeal : Prop :=
  True

def algebraic_FwdOutLossIdeal_FwdOutLossRefIdeal [hFwdOutLossIdeal : Cert.FwdOutLossIdeal.Facts] [hFwdOutLossRefIdeal : Cert.FwdOutLossRefIdeal.Facts] : Prop :=
  ∀ (m : (ℓ : Loc Cert.FwdOutLossIdeal.nD Cert.FwdOutLossIdeal.τ Cert.FwdOutLossIdeal.sig) → Buf (Elt Ideal) ℓ) (g : Dev Cert.FwdOutLossIdeal.nD → PrngReg)
    (m' : (ℓ : Loc Cert.FwdOutLossRefIdeal.nD Cert.FwdOutLossRefIdeal.τ Cert.FwdOutLossRefIdeal.sig) → Buf (Elt Ideal) ℓ) (g' : Dev Cert.FwdOutLossRefIdeal.nD → PrngReg), Pre_FwdOutLossIdeal m →
    (∀ c : Dev Cert.FwdOutLossIdeal.nD,
      m' ((c.tc : Thread Cert.FwdOutLossRefIdeal.nD Cert.FwdOutLossRefIdeal.τ).loc Cert.FwdOutLossRefIdeal.main_arg0) = m ((c.tc : Thread Cert.FwdOutLossIdeal.nD Cert.FwdOutLossIdeal.τ).loc Cert.FwdOutLossIdeal.main_arg0)
      ∧ m' ((c.tc : Thread Cert.FwdOutLossRefIdeal.nD Cert.FwdOutLossRefIdeal.τ).loc Cert.FwdOutLossRefIdeal.main_arg1) = m ((c.tc : Thread Cert.FwdOutLossIdeal.nD Cert.FwdOutLossIdeal.τ).loc Cert.FwdOutLossIdeal.main_arg1)
      ∧ m' ((c.tc : Thread Cert.FwdOutLossRefIdeal.nD Cert.FwdOutLossRefIdeal.τ).loc Cert.FwdOutLossRefIdeal.main_arg2) = m ((c.tc : Thread Cert.FwdOutLossIdeal.nD Cert.FwdOutLossIdeal.τ).loc Cert.FwdOutLossIdeal.main_arg2)
      ∧ m' ((c.tc : Thread Cert.FwdOutLossRefIdeal.nD Cert.FwdOutLossRefIdeal.τ).loc Cert.FwdOutLossRefIdeal.main_arg3) = m ((c.tc : Thread Cert.FwdOutLossIdeal.nD Cert.FwdOutLossIdeal.τ).loc Cert.FwdOutLossIdeal.main_arg3)) →
    ∃ (v0 : (c : Dev Cert.FwdOutLossIdeal.nD) → Buf (Elt Ideal) ((c.tc : Thread Cert.FwdOutLossIdeal.nD Cert.FwdOutLossIdeal.τ).loc Cert.FwdOutLossIdeal.main_v1_0)) (v1 : (c : Dev Cert.FwdOutLossIdeal.nD) → Buf (Elt Ideal) ((c.tc : Thread Cert.FwdOutLossIdeal.nD Cert.FwdOutLossIdeal.τ).loc Cert.FwdOutLossIdeal.main_v1_1)),
      θ_run (Cert.FwdOutLossIdeal.defs (F := Ideal)) (onTc (τ := Cert.FwdOutLossIdeal.τ) (Cert.FwdOutLossIdeal.main (F := Ideal))) ⟨m, fun _ => 0, g⟩ (fun r => ∀ c : Dev Cert.FwdOutLossIdeal.nD,
          r.2.mem ((c.tc : Thread Cert.FwdOutLossIdeal.nD Cert.FwdOutLossIdeal.τ).loc Cert.FwdOutLossIdeal.main_v1_0) = v0 c
          ∧ r.2.mem ((c.tc : Thread Cert.FwdOutLossIdeal.nD Cert.FwdOutLossIdeal.τ).loc Cert.FwdOutLossIdeal.main_v1_1) = v1 c
          ∧ r.2.mem ((c.tc : Thread Cert.FwdOutLossIdeal.nD Cert.FwdOutLossIdeal.τ).loc Cert.FwdOutLossIdeal.main_arg0) = m ((c.tc : Thread Cert.FwdOutLossIdeal.nD Cert.FwdOutLossIdeal.τ).loc Cert.FwdOutLossIdeal.main_arg0)
          ∧ r.2.mem ((c.tc : Thread Cert.FwdOutLossIdeal.nD Cert.FwdOutLossIdeal.τ).loc Cert.FwdOutLossIdeal.main_arg1) = m ((c.tc : Thread Cert.FwdOutLossIdeal.nD Cert.FwdOutLossIdeal.τ).loc Cert.FwdOutLossIdeal.main_arg1)
          ∧ r.2.mem ((c.tc : Thread Cert.FwdOutLossIdeal.nD Cert.FwdOutLossIdeal.τ).loc Cert.FwdOutLossIdeal.main_arg2) = m ((c.tc : Thread Cert.FwdOutLossIdeal.nD Cert.FwdOutLossIdeal.τ).loc Cert.FwdOutLossIdeal.main_arg2)
          ∧ r.2.mem ((c.tc : Thread Cert.FwdOutLossIdeal.nD Cert.FwdOutLossIdeal.τ).loc Cert.FwdOutLossIdeal.main_arg3) = m ((c.tc : Thread Cert.FwdOutLossIdeal.nD Cert.FwdOutLossIdeal.τ).loc Cert.FwdOutLossIdeal.main_arg3))
      ∧ θ_run (Cert.FwdOutLossRefIdeal.defs (F := Ideal)) (onTc (τ := Cert.FwdOutLossRefIdeal.τ) (Cert.FwdOutLossRefIdeal.main (F := Ideal))) ⟨m', fun _ => 0, g'⟩ (fun r => ∀ c : Dev Cert.FwdOutLossRefIdeal.nD,
          r.2.mem ((c.tc : Thread Cert.FwdOutLossRefIdeal.nD Cert.FwdOutLossRefIdeal.τ).loc Cert.FwdOutLossRefIdeal.main_v17) = v0 c
          ∧ r.2.mem ((c.tc : Thread Cert.FwdOutLossRefIdeal.nD Cert.FwdOutLossRefIdeal.τ).loc Cert.FwdOutLossRefIdeal.main_v18) = v1 c
          ∧ r.2.mem ((c.tc : Thread Cert.FwdOutLossRefIdeal.nD Cert.FwdOutLossRefIdeal.τ).loc Cert.FwdOutLossRefIdeal.main_arg0) = m' ((c.tc : Thread Cert.FwdOutLossRefIdeal.nD Cert.FwdOutLossRefIdeal.τ).loc Cert.FwdOutLossRefIdeal.main_arg0)
          ∧ r.2.mem ((c.tc : Thread Cert.FwdOutLossRefIdeal.nD Cert.FwdOutLossRefIdeal.τ).loc Cert.FwdOutLossRefIdeal.main_arg1) = m' ((c.tc : Thread Cert.FwdOutLossRefIdeal.nD Cert.FwdOutLossRefIdeal.τ).loc Cert.FwdOutLossRefIdeal.main_arg1)
          ∧ r.2.mem ((c.tc : Thread Cert.FwdOutLossRefIdeal.nD Cert.FwdOutLossRefIdeal.τ).loc Cert.FwdOutLossRefIdeal.main_arg2) = m' ((c.tc : Thread Cert.FwdOutLossRefIdeal.nD Cert.FwdOutLossRefIdeal.τ).loc Cert.FwdOutLossRefIdeal.main_arg2)
          ∧ r.2.mem ((c.tc : Thread Cert.FwdOutLossRefIdeal.nD Cert.FwdOutLossRefIdeal.τ).loc Cert.FwdOutLossRefIdeal.main_arg3) = m' ((c.tc : Thread Cert.FwdOutLossRefIdeal.nD Cert.FwdOutLossRefIdeal.τ).loc Cert.FwdOutLossRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)
      ∧ m' ((c.tc : Thread Cert.AdamWInRefIdeal.nD Cert.AdamWInRefIdeal.τ).loc Cert.AdamWInRefIdeal.main_arg4) = m ((c.tc : Thread Cert.AdamWInIdeal.nD Cert.AdamWInIdeal.τ).loc Cert.AdamWInIdeal.main_arg4)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3)
          ∧ r.2.mem ((c.tc : Thread Cert.AdamWInIdeal.nD Cert.AdamWInIdeal.τ).loc Cert.AdamWInIdeal.main_arg4) = m ((c.tc : Thread Cert.AdamWInIdeal.nD Cert.AdamWInIdeal.τ).loc Cert.AdamWInIdeal.main_arg4))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v2) = v0 c
          ∧ r.2.mem ((c.tc : Thread Cert.AdamWInRefIdeal.nD Cert.AdamWInRefIdeal.τ).loc Cert.AdamWInRefIdeal.main_v26) = v1 c
          ∧ r.2.mem ((c.tc : Thread Cert.AdamWInRefIdeal.nD Cert.AdamWInRefIdeal.τ).loc Cert.AdamWInRefIdeal.main_v7) = v2 c
          ∧ r.2.mem ((c.tc : Thread Cert.AdamWInRefIdeal.nD Cert.AdamWInRefIdeal.τ).loc Cert.AdamWInRefIdeal.main_v13) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3)
          ∧ r.2.mem ((c.tc : Thread Cert.AdamWInRefIdeal.nD Cert.AdamWInRefIdeal.τ).loc Cert.AdamWInRefIdeal.main_arg4) = m' ((c.tc : Thread Cert.AdamWInRefIdeal.nD Cert.AdamWInRefIdeal.τ).loc Cert.AdamWInRefIdeal.main_arg4))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)
      ∧ m' ((c.tc : Thread Cert.AdamWOutRefIdeal.nD Cert.AdamWOutRefIdeal.τ).loc Cert.AdamWOutRefIdeal.main_arg4) = m ((c.tc : Thread Cert.AdamWOutIdeal.nD Cert.AdamWOutIdeal.τ).loc Cert.AdamWOutIdeal.main_arg4)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3)
          ∧ r.2.mem ((c.tc : Thread Cert.AdamWOutIdeal.nD Cert.AdamWOutIdeal.τ).loc Cert.AdamWOutIdeal.main_arg4) = m ((c.tc : Thread Cert.AdamWOutIdeal.nD Cert.AdamWOutIdeal.τ).loc Cert.AdamWOutIdeal.main_arg4))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v2) = v0 c
          ∧ r.2.mem ((c.tc : Thread Cert.AdamWOutRefIdeal.nD Cert.AdamWOutRefIdeal.τ).loc Cert.AdamWOutRefIdeal.main_v26) = v1 c
          ∧ r.2.mem ((c.tc : Thread Cert.AdamWOutRefIdeal.nD Cert.AdamWOutRefIdeal.τ).loc Cert.AdamWOutRefIdeal.main_v7) = v2 c
          ∧ r.2.mem ((c.tc : Thread Cert.AdamWOutRefIdeal.nD Cert.AdamWOutRefIdeal.τ).loc Cert.AdamWOutRefIdeal.main_v13) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3)
          ∧ r.2.mem ((c.tc : Thread Cert.AdamWOutRefIdeal.nD Cert.AdamWOutRefIdeal.τ).loc Cert.AdamWOutRefIdeal.main_arg4) = m' ((c.tc : Thread Cert.AdamWOutRefIdeal.nD Cert.AdamWOutRefIdeal.τ).loc Cert.AdamWOutRefIdeal.main_arg4))

def preserves_AdamWS_AdamWSIdeal : Prop :=
  True

def algebraic_AdamWSIdeal_AdamWSRefIdeal [hAdamWSIdeal : Cert.AdamWSIdeal.Facts] [hAdamWSRefIdeal : Cert.AdamWSRefIdeal.Facts] : Prop :=
  ∀ (m : (ℓ : Loc Cert.AdamWSIdeal.nD Cert.AdamWSIdeal.τ Cert.AdamWSIdeal.sig) → Buf (Elt Ideal) ℓ) (g : Dev Cert.AdamWSIdeal.nD → PrngReg)
    (m' : (ℓ : Loc Cert.AdamWSRefIdeal.nD Cert.AdamWSRefIdeal.τ Cert.AdamWSRefIdeal.sig) → Buf (Elt Ideal) ℓ) (g' : Dev Cert.AdamWSRefIdeal.nD → PrngReg), Pre_AdamWSIdeal m →
    (∀ c : Dev Cert.AdamWSIdeal.nD,
      m' ((c.tc : Thread Cert.AdamWSRefIdeal.nD Cert.AdamWSRefIdeal.τ).loc Cert.AdamWSRefIdeal.main_arg0) = m ((c.tc : Thread Cert.AdamWSIdeal.nD Cert.AdamWSIdeal.τ).loc Cert.AdamWSIdeal.main_arg0)
      ∧ m' ((c.tc : Thread Cert.AdamWSRefIdeal.nD Cert.AdamWSRefIdeal.τ).loc Cert.AdamWSRefIdeal.main_arg1) = m ((c.tc : Thread Cert.AdamWSIdeal.nD Cert.AdamWSIdeal.τ).loc Cert.AdamWSIdeal.main_arg1)
      ∧ m' ((c.tc : Thread Cert.AdamWSRefIdeal.nD Cert.AdamWSRefIdeal.τ).loc Cert.AdamWSRefIdeal.main_arg2) = m ((c.tc : Thread Cert.AdamWSIdeal.nD Cert.AdamWSIdeal.τ).loc Cert.AdamWSIdeal.main_arg2)
      ∧ m' ((c.tc : Thread Cert.AdamWSRefIdeal.nD Cert.AdamWSRefIdeal.τ).loc Cert.AdamWSRefIdeal.main_arg3) = m ((c.tc : Thread Cert.AdamWSIdeal.nD Cert.AdamWSIdeal.τ).loc Cert.AdamWSIdeal.main_arg3)) →
    ∃ (v0 : (c : Dev Cert.AdamWSIdeal.nD) → Buf (Elt Ideal) ((c.tc : Thread Cert.AdamWSIdeal.nD Cert.AdamWSIdeal.τ).loc Cert.AdamWSIdeal.main_v0_0)) (v1 : (c : Dev Cert.AdamWSIdeal.nD) → Buf (Elt Ideal) ((c.tc : Thread Cert.AdamWSIdeal.nD Cert.AdamWSIdeal.τ).loc Cert.AdamWSIdeal.main_v0_1)) (v2 : (c : Dev Cert.AdamWSIdeal.nD) → Buf (Elt Ideal) ((c.tc : Thread Cert.AdamWSIdeal.nD Cert.AdamWSIdeal.τ).loc Cert.AdamWSIdeal.main_v0_2)) (v3 : (c : Dev Cert.AdamWSIdeal.nD) → Buf (Elt Ideal) ((c.tc : Thread Cert.AdamWSIdeal.nD Cert.AdamWSIdeal.τ).loc Cert.AdamWSIdeal.main_v0_3)),
      θ_run (Cert.AdamWSIdeal.defs (F := Ideal)) (onTc (τ := Cert.AdamWSIdeal.τ) (Cert.AdamWSIdeal.main (F := Ideal))) ⟨m, fun _ => 0, g⟩ (fun r => ∀ c : Dev Cert.AdamWSIdeal.nD,
          r.2.mem ((c.tc : Thread Cert.AdamWSIdeal.nD Cert.AdamWSIdeal.τ).loc Cert.AdamWSIdeal.main_v0_0) = v0 c
          ∧ r.2.mem ((c.tc : Thread Cert.AdamWSIdeal.nD Cert.AdamWSIdeal.τ).loc Cert.AdamWSIdeal.main_v0_1) = v1 c
          ∧ r.2.mem ((c.tc : Thread Cert.AdamWSIdeal.nD Cert.AdamWSIdeal.τ).loc Cert.AdamWSIdeal.main_v0_2) = v2 c
          ∧ r.2.mem ((c.tc : Thread Cert.AdamWSIdeal.nD Cert.AdamWSIdeal.τ).loc Cert.AdamWSIdeal.main_v0_3) = v3 c
          ∧ r.2.mem ((c.tc : Thread Cert.AdamWSIdeal.nD Cert.AdamWSIdeal.τ).loc Cert.AdamWSIdeal.main_arg0) = m ((c.tc : Thread Cert.AdamWSIdeal.nD Cert.AdamWSIdeal.τ).loc Cert.AdamWSIdeal.main_arg0)
          ∧ r.2.mem ((c.tc : Thread Cert.AdamWSIdeal.nD Cert.AdamWSIdeal.τ).loc Cert.AdamWSIdeal.main_arg1) = m ((c.tc : Thread Cert.AdamWSIdeal.nD Cert.AdamWSIdeal.τ).loc Cert.AdamWSIdeal.main_arg1)
          ∧ r.2.mem ((c.tc : Thread Cert.AdamWSIdeal.nD Cert.AdamWSIdeal.τ).loc Cert.AdamWSIdeal.main_arg2) = m ((c.tc : Thread Cert.AdamWSIdeal.nD Cert.AdamWSIdeal.τ).loc Cert.AdamWSIdeal.main_arg2)
          ∧ r.2.mem ((c.tc : Thread Cert.AdamWSIdeal.nD Cert.AdamWSIdeal.τ).loc Cert.AdamWSIdeal.main_arg3) = m ((c.tc : Thread Cert.AdamWSIdeal.nD Cert.AdamWSIdeal.τ).loc Cert.AdamWSIdeal.main_arg3))
      ∧ θ_run (Cert.AdamWSRefIdeal.defs (F := Ideal)) (onTc (τ := Cert.AdamWSRefIdeal.τ) (Cert.AdamWSRefIdeal.main (F := Ideal))) ⟨m', fun _ => 0, g'⟩ (fun r => ∀ c : Dev Cert.AdamWSRefIdeal.nD,
          r.2.mem ((c.tc : Thread Cert.AdamWSRefIdeal.nD Cert.AdamWSRefIdeal.τ).loc Cert.AdamWSRefIdeal.main_arg1) = v0 c
          ∧ r.2.mem ((c.tc : Thread Cert.AdamWSRefIdeal.nD Cert.AdamWSRefIdeal.τ).loc Cert.AdamWSRefIdeal.main_v23) = v1 c
          ∧ r.2.mem ((c.tc : Thread Cert.AdamWSRefIdeal.nD Cert.AdamWSRefIdeal.τ).loc Cert.AdamWSRefIdeal.main_v4) = v2 c
          ∧ r.2.mem ((c.tc : Thread Cert.AdamWSRefIdeal.nD Cert.AdamWSRefIdeal.τ).loc Cert.AdamWSRefIdeal.main_v10) = v3 c
          ∧ r.2.mem ((c.tc : Thread Cert.AdamWSRefIdeal.nD Cert.AdamWSRefIdeal.τ).loc Cert.AdamWSRefIdeal.main_arg0) = m' ((c.tc : Thread Cert.AdamWSRefIdeal.nD Cert.AdamWSRefIdeal.τ).loc Cert.AdamWSRefIdeal.main_arg0)
          ∧ r.2.mem ((c.tc : Thread Cert.AdamWSRefIdeal.nD Cert.AdamWSRefIdeal.τ).loc Cert.AdamWSRefIdeal.main_arg1) = m' ((c.tc : Thread Cert.AdamWSRefIdeal.nD Cert.AdamWSRefIdeal.τ).loc Cert.AdamWSRefIdeal.main_arg1)
          ∧ r.2.mem ((c.tc : Thread Cert.AdamWSRefIdeal.nD Cert.AdamWSRefIdeal.τ).loc Cert.AdamWSRefIdeal.main_arg2) = m' ((c.tc : Thread Cert.AdamWSRefIdeal.nD Cert.AdamWSRefIdeal.τ).loc Cert.AdamWSRefIdeal.main_arg2)
          ∧ r.2.mem ((c.tc : Thread Cert.AdamWSRefIdeal.nD Cert.AdamWSRefIdeal.τ).loc Cert.AdamWSRefIdeal.main_arg3) = m' ((c.tc : Thread Cert.AdamWSRefIdeal.nD Cert.AdamWSRefIdeal.τ).loc Cert.AdamWSRefIdeal.main_arg3))

def preserves_AdamTiny_AdamTinyIdeal : Prop :=
  True

def algebraic_AdamTinyIdeal_AdamTinyRefIdeal [hAdamTinyIdeal : Cert.AdamTinyIdeal.Facts] [hAdamTinyRefIdeal : Cert.AdamTinyRefIdeal.Facts] : Prop :=
  ∀ (m : (ℓ : Loc Cert.AdamTinyIdeal.nD Cert.AdamTinyIdeal.τ Cert.AdamTinyIdeal.sig) → Buf (Elt Ideal) ℓ) (g : Dev Cert.AdamTinyIdeal.nD → PrngReg)
    (m' : (ℓ : Loc Cert.AdamTinyRefIdeal.nD Cert.AdamTinyRefIdeal.τ Cert.AdamTinyRefIdeal.sig) → Buf (Elt Ideal) ℓ) (g' : Dev Cert.AdamTinyRefIdeal.nD → PrngReg), Pre_AdamTinyIdeal m →
    (∀ c : Dev Cert.AdamTinyIdeal.nD,
      m' ((c.tc : Thread Cert.AdamTinyRefIdeal.nD Cert.AdamTinyRefIdeal.τ).loc Cert.AdamTinyRefIdeal.main_arg0) = m ((c.tc : Thread Cert.AdamTinyIdeal.nD Cert.AdamTinyIdeal.τ).loc Cert.AdamTinyIdeal.main_arg0)
      ∧ m' ((c.tc : Thread Cert.AdamTinyRefIdeal.nD Cert.AdamTinyRefIdeal.τ).loc Cert.AdamTinyRefIdeal.main_arg1) = m ((c.tc : Thread Cert.AdamTinyIdeal.nD Cert.AdamTinyIdeal.τ).loc Cert.AdamTinyIdeal.main_arg1)
      ∧ m' ((c.tc : Thread Cert.AdamTinyRefIdeal.nD Cert.AdamTinyRefIdeal.τ).loc Cert.AdamTinyRefIdeal.main_arg2) = m ((c.tc : Thread Cert.AdamTinyIdeal.nD Cert.AdamTinyIdeal.τ).loc Cert.AdamTinyIdeal.main_arg2)
      ∧ m' ((c.tc : Thread Cert.AdamTinyRefIdeal.nD Cert.AdamTinyRefIdeal.τ).loc Cert.AdamTinyRefIdeal.main_arg3) = m ((c.tc : Thread Cert.AdamTinyIdeal.nD Cert.AdamTinyIdeal.τ).loc Cert.AdamTinyIdeal.main_arg3)) →
    ∃ (v0 : (c : Dev Cert.AdamTinyIdeal.nD) → Buf (Elt Ideal) ((c.tc : Thread Cert.AdamTinyIdeal.nD Cert.AdamTinyIdeal.τ).loc Cert.AdamTinyIdeal.main_v0_0)) (v1 : (c : Dev Cert.AdamTinyIdeal.nD) → Buf (Elt Ideal) ((c.tc : Thread Cert.AdamTinyIdeal.nD Cert.AdamTinyIdeal.τ).loc Cert.AdamTinyIdeal.main_v0_1)) (v2 : (c : Dev Cert.AdamTinyIdeal.nD) → Buf (Elt Ideal) ((c.tc : Thread Cert.AdamTinyIdeal.nD Cert.AdamTinyIdeal.τ).loc Cert.AdamTinyIdeal.main_v0_2)) (v3 : (c : Dev Cert.AdamTinyIdeal.nD) → Buf (Elt Ideal) ((c.tc : Thread Cert.AdamTinyIdeal.nD Cert.AdamTinyIdeal.τ).loc Cert.AdamTinyIdeal.main_v0_3)),
      θ_run (Cert.AdamTinyIdeal.defs (F := Ideal)) (onTc (τ := Cert.AdamTinyIdeal.τ) (Cert.AdamTinyIdeal.main (F := Ideal))) ⟨m, fun _ => 0, g⟩ (fun r => ∀ c : Dev Cert.AdamTinyIdeal.nD,
          r.2.mem ((c.tc : Thread Cert.AdamTinyIdeal.nD Cert.AdamTinyIdeal.τ).loc Cert.AdamTinyIdeal.main_v0_0) = v0 c
          ∧ r.2.mem ((c.tc : Thread Cert.AdamTinyIdeal.nD Cert.AdamTinyIdeal.τ).loc Cert.AdamTinyIdeal.main_v0_1) = v1 c
          ∧ r.2.mem ((c.tc : Thread Cert.AdamTinyIdeal.nD Cert.AdamTinyIdeal.τ).loc Cert.AdamTinyIdeal.main_v0_2) = v2 c
          ∧ r.2.mem ((c.tc : Thread Cert.AdamTinyIdeal.nD Cert.AdamTinyIdeal.τ).loc Cert.AdamTinyIdeal.main_v0_3) = v3 c
          ∧ r.2.mem ((c.tc : Thread Cert.AdamTinyIdeal.nD Cert.AdamTinyIdeal.τ).loc Cert.AdamTinyIdeal.main_arg0) = m ((c.tc : Thread Cert.AdamTinyIdeal.nD Cert.AdamTinyIdeal.τ).loc Cert.AdamTinyIdeal.main_arg0)
          ∧ r.2.mem ((c.tc : Thread Cert.AdamTinyIdeal.nD Cert.AdamTinyIdeal.τ).loc Cert.AdamTinyIdeal.main_arg1) = m ((c.tc : Thread Cert.AdamTinyIdeal.nD Cert.AdamTinyIdeal.τ).loc Cert.AdamTinyIdeal.main_arg1)
          ∧ r.2.mem ((c.tc : Thread Cert.AdamTinyIdeal.nD Cert.AdamTinyIdeal.τ).loc Cert.AdamTinyIdeal.main_arg2) = m ((c.tc : Thread Cert.AdamTinyIdeal.nD Cert.AdamTinyIdeal.τ).loc Cert.AdamTinyIdeal.main_arg2)
          ∧ r.2.mem ((c.tc : Thread Cert.AdamTinyIdeal.nD Cert.AdamTinyIdeal.τ).loc Cert.AdamTinyIdeal.main_arg3) = m ((c.tc : Thread Cert.AdamTinyIdeal.nD Cert.AdamTinyIdeal.τ).loc Cert.AdamTinyIdeal.main_arg3))
      ∧ θ_run (Cert.AdamTinyRefIdeal.defs (F := Ideal)) (onTc (τ := Cert.AdamTinyRefIdeal.τ) (Cert.AdamTinyRefIdeal.main (F := Ideal))) ⟨m', fun _ => 0, g'⟩ (fun r => ∀ c : Dev Cert.AdamTinyRefIdeal.nD,
          r.2.mem ((c.tc : Thread Cert.AdamTinyRefIdeal.nD Cert.AdamTinyRefIdeal.τ).loc Cert.AdamTinyRefIdeal.main_arg1) = v0 c
          ∧ r.2.mem ((c.tc : Thread Cert.AdamTinyRefIdeal.nD Cert.AdamTinyRefIdeal.τ).loc Cert.AdamTinyRefIdeal.main_v23) = v1 c
          ∧ r.2.mem ((c.tc : Thread Cert.AdamTinyRefIdeal.nD Cert.AdamTinyRefIdeal.τ).loc Cert.AdamTinyRefIdeal.main_v4) = v2 c
          ∧ r.2.mem ((c.tc : Thread Cert.AdamTinyRefIdeal.nD Cert.AdamTinyRefIdeal.τ).loc Cert.AdamTinyRefIdeal.main_v10) = v3 c
          ∧ r.2.mem ((c.tc : Thread Cert.AdamTinyRefIdeal.nD Cert.AdamTinyRefIdeal.τ).loc Cert.AdamTinyRefIdeal.main_arg0) = m' ((c.tc : Thread Cert.AdamTinyRefIdeal.nD Cert.AdamTinyRefIdeal.τ).loc Cert.AdamTinyRefIdeal.main_arg0)
          ∧ r.2.mem ((c.tc : Thread Cert.AdamTinyRefIdeal.nD Cert.AdamTinyRefIdeal.τ).loc Cert.AdamTinyRefIdeal.main_arg1) = m' ((c.tc : Thread Cert.AdamTinyRefIdeal.nD Cert.AdamTinyRefIdeal.τ).loc Cert.AdamTinyRefIdeal.main_arg1)
          ∧ r.2.mem ((c.tc : Thread Cert.AdamTinyRefIdeal.nD Cert.AdamTinyRefIdeal.τ).loc Cert.AdamTinyRefIdeal.main_arg2) = m' ((c.tc : Thread Cert.AdamTinyRefIdeal.nD Cert.AdamTinyRefIdeal.τ).loc Cert.AdamTinyRefIdeal.main_arg2)
          ∧ r.2.mem ((c.tc : Thread Cert.AdamTinyRefIdeal.nD Cert.AdamTinyRefIdeal.τ).loc Cert.AdamTinyRefIdeal.main_arg3) = m' ((c.tc : Thread Cert.AdamTinyRefIdeal.nD Cert.AdamTinyRefIdeal.τ).loc Cert.AdamTinyRefIdeal.main_arg3))

def preserves_AdamNormG_AdamNormGIdeal : Prop :=
  True

def algebraic_AdamNormGIdeal_AdamNormGRefIdeal [hAdamNormGIdeal : Cert.AdamNormGIdeal.Facts] [hAdamNormGRefIdeal : Cert.AdamNormGRefIdeal.Facts] : Prop :=
  ∀ (m : (ℓ : Loc Cert.AdamNormGIdeal.nD Cert.AdamNormGIdeal.τ Cert.AdamNormGIdeal.sig) → Buf (Elt Ideal) ℓ) (g : Dev Cert.AdamNormGIdeal.nD → PrngReg)
    (m' : (ℓ : Loc Cert.AdamNormGRefIdeal.nD Cert.AdamNormGRefIdeal.τ Cert.AdamNormGRefIdeal.sig) → Buf (Elt Ideal) ℓ) (g' : Dev Cert.AdamNormGRefIdeal.nD → PrngReg), Pre_AdamNormGIdeal m →
    (∀ c : Dev Cert.AdamNormGIdeal.nD,
      m' ((c.tc : Thread Cert.AdamNormGRefIdeal.nD Cert.AdamNormGRefIdeal.τ).loc Cert.AdamNormGRefIdeal.main_arg0) = m ((c.tc : Thread Cert.AdamNormGIdeal.nD Cert.AdamNormGIdeal.τ).loc Cert.AdamNormGIdeal.main_arg0)
      ∧ m' ((c.tc : Thread Cert.AdamNormGRefIdeal.nD Cert.AdamNormGRefIdeal.τ).loc Cert.AdamNormGRefIdeal.main_arg1) = m ((c.tc : Thread Cert.AdamNormGIdeal.nD Cert.AdamNormGIdeal.τ).loc Cert.AdamNormGIdeal.main_arg1)
      ∧ m' ((c.tc : Thread Cert.AdamNormGRefIdeal.nD Cert.AdamNormGRefIdeal.τ).loc Cert.AdamNormGRefIdeal.main_arg2) = m ((c.tc : Thread Cert.AdamNormGIdeal.nD Cert.AdamNormGIdeal.τ).loc Cert.AdamNormGIdeal.main_arg2)
      ∧ m' ((c.tc : Thread Cert.AdamNormGRefIdeal.nD Cert.AdamNormGRefIdeal.τ).loc Cert.AdamNormGRefIdeal.main_arg3) = m ((c.tc : Thread Cert.AdamNormGIdeal.nD Cert.AdamNormGIdeal.τ).loc Cert.AdamNormGIdeal.main_arg3)) →
    ∃ (v0 : (c : Dev Cert.AdamNormGIdeal.nD) → Buf (Elt Ideal) ((c.tc : Thread Cert.AdamNormGIdeal.nD Cert.AdamNormGIdeal.τ).loc Cert.AdamNormGIdeal.main_v0_0)) (v1 : (c : Dev Cert.AdamNormGIdeal.nD) → Buf (Elt Ideal) ((c.tc : Thread Cert.AdamNormGIdeal.nD Cert.AdamNormGIdeal.τ).loc Cert.AdamNormGIdeal.main_v0_1)) (v2 : (c : Dev Cert.AdamNormGIdeal.nD) → Buf (Elt Ideal) ((c.tc : Thread Cert.AdamNormGIdeal.nD Cert.AdamNormGIdeal.τ).loc Cert.AdamNormGIdeal.main_v0_2)) (v3 : (c : Dev Cert.AdamNormGIdeal.nD) → Buf (Elt Ideal) ((c.tc : Thread Cert.AdamNormGIdeal.nD Cert.AdamNormGIdeal.τ).loc Cert.AdamNormGIdeal.main_v0_3)),
      θ_run (Cert.AdamNormGIdeal.defs (F := Ideal)) (onTc (τ := Cert.AdamNormGIdeal.τ) (Cert.AdamNormGIdeal.main (F := Ideal))) ⟨m, fun _ => 0, g⟩ (fun r => ∀ c : Dev Cert.AdamNormGIdeal.nD,
          r.2.mem ((c.tc : Thread Cert.AdamNormGIdeal.nD Cert.AdamNormGIdeal.τ).loc Cert.AdamNormGIdeal.main_v0_0) = v0 c
          ∧ r.2.mem ((c.tc : Thread Cert.AdamNormGIdeal.nD Cert.AdamNormGIdeal.τ).loc Cert.AdamNormGIdeal.main_v0_1) = v1 c
          ∧ r.2.mem ((c.tc : Thread Cert.AdamNormGIdeal.nD Cert.AdamNormGIdeal.τ).loc Cert.AdamNormGIdeal.main_v0_2) = v2 c
          ∧ r.2.mem ((c.tc : Thread Cert.AdamNormGIdeal.nD Cert.AdamNormGIdeal.τ).loc Cert.AdamNormGIdeal.main_v0_3) = v3 c
          ∧ r.2.mem ((c.tc : Thread Cert.AdamNormGIdeal.nD Cert.AdamNormGIdeal.τ).loc Cert.AdamNormGIdeal.main_arg0) = m ((c.tc : Thread Cert.AdamNormGIdeal.nD Cert.AdamNormGIdeal.τ).loc Cert.AdamNormGIdeal.main_arg0)
          ∧ r.2.mem ((c.tc : Thread Cert.AdamNormGIdeal.nD Cert.AdamNormGIdeal.τ).loc Cert.AdamNormGIdeal.main_arg1) = m ((c.tc : Thread Cert.AdamNormGIdeal.nD Cert.AdamNormGIdeal.τ).loc Cert.AdamNormGIdeal.main_arg1)
          ∧ r.2.mem ((c.tc : Thread Cert.AdamNormGIdeal.nD Cert.AdamNormGIdeal.τ).loc Cert.AdamNormGIdeal.main_arg2) = m ((c.tc : Thread Cert.AdamNormGIdeal.nD Cert.AdamNormGIdeal.τ).loc Cert.AdamNormGIdeal.main_arg2)
          ∧ r.2.mem ((c.tc : Thread Cert.AdamNormGIdeal.nD Cert.AdamNormGIdeal.τ).loc Cert.AdamNormGIdeal.main_arg3) = m ((c.tc : Thread Cert.AdamNormGIdeal.nD Cert.AdamNormGIdeal.τ).loc Cert.AdamNormGIdeal.main_arg3))
      ∧ θ_run (Cert.AdamNormGRefIdeal.defs (F := Ideal)) (onTc (τ := Cert.AdamNormGRefIdeal.τ) (Cert.AdamNormGRefIdeal.main (F := Ideal))) ⟨m', fun _ => 0, g'⟩ (fun r => ∀ c : Dev Cert.AdamNormGRefIdeal.nD,
          r.2.mem ((c.tc : Thread Cert.AdamNormGRefIdeal.nD Cert.AdamNormGRefIdeal.τ).loc Cert.AdamNormGRefIdeal.main_arg1) = v0 c
          ∧ r.2.mem ((c.tc : Thread Cert.AdamNormGRefIdeal.nD Cert.AdamNormGRefIdeal.τ).loc Cert.AdamNormGRefIdeal.main_v23) = v1 c
          ∧ r.2.mem ((c.tc : Thread Cert.AdamNormGRefIdeal.nD Cert.AdamNormGRefIdeal.τ).loc Cert.AdamNormGRefIdeal.main_v4) = v2 c
          ∧ r.2.mem ((c.tc : Thread Cert.AdamNormGRefIdeal.nD Cert.AdamNormGRefIdeal.τ).loc Cert.AdamNormGRefIdeal.main_v10) = v3 c
          ∧ r.2.mem ((c.tc : Thread Cert.AdamNormGRefIdeal.nD Cert.AdamNormGRefIdeal.τ).loc Cert.AdamNormGRefIdeal.main_arg0) = m' ((c.tc : Thread Cert.AdamNormGRefIdeal.nD Cert.AdamNormGRefIdeal.τ).loc Cert.AdamNormGRefIdeal.main_arg0)
          ∧ r.2.mem ((c.tc : Thread Cert.AdamNormGRefIdeal.nD Cert.AdamNormGRefIdeal.τ).loc Cert.AdamNormGRefIdeal.main_arg1) = m' ((c.tc : Thread Cert.AdamNormGRefIdeal.nD Cert.AdamNormGRefIdeal.τ).loc Cert.AdamNormGRefIdeal.main_arg1)
          ∧ r.2.mem ((c.tc : Thread Cert.AdamNormGRefIdeal.nD Cert.AdamNormGRefIdeal.τ).loc Cert.AdamNormGRefIdeal.main_arg2) = m' ((c.tc : Thread Cert.AdamNormGRefIdeal.nD Cert.AdamNormGRefIdeal.τ).loc Cert.AdamNormGRefIdeal.main_arg2)
          ∧ r.2.mem ((c.tc : Thread Cert.AdamNormGRefIdeal.nD Cert.AdamNormGRefIdeal.τ).loc Cert.AdamNormGRefIdeal.main_arg3) = m' ((c.tc : Thread Cert.AdamNormGRefIdeal.nD Cert.AdamNormGRefIdeal.τ).loc Cert.AdamNormGRefIdeal.main_arg3))

def Claim : Prop :=
  ∃ (hBwdIn : Cert.BwdIn.Facts) (hBwdInIdeal : Cert.BwdInIdeal.Facts) (hBwdInRefIdeal : Cert.BwdInRefIdeal.Facts) (hGradWIn : Cert.GradWIn.Facts) (hGradWInIdeal : Cert.GradWInIdeal.Facts) (hGradWInRefIdeal : Cert.GradWInRefIdeal.Facts) (hGradWOut : Cert.GradWOut.Facts) (hGradWOutIdeal : Cert.GradWOutIdeal.Facts) (hGradWOutRefIdeal : Cert.GradWOutRefIdeal.Facts) (hBwdOut : Cert.BwdOut.Facts) (hBwdOutIdeal : Cert.BwdOutIdeal.Facts) (hBwdOutRefIdeal : Cert.BwdOutRefIdeal.Facts) (hBwdMix : Cert.BwdMix.Facts) (hBwdMixIdeal : Cert.BwdMixIdeal.Facts) (hBwdMixRefIdeal : Cert.BwdMixRefIdeal.Facts) (hFwdIn : Cert.FwdIn.Facts) (hFwdInIdeal : Cert.FwdInIdeal.Facts) (hFwdInRefIdeal : Cert.FwdInRefIdeal.Facts) (hFwdOut : Cert.FwdOut.Facts) (hFwdOutIdeal : Cert.FwdOutIdeal.Facts) (hFwdOutRefIdeal : Cert.FwdOutRefIdeal.Facts) (hFwdOutLoss : Cert.FwdOutLoss.Facts) (hFwdOutLossIdeal : Cert.FwdOutLossIdeal.Facts) (hFwdOutLossRefIdeal : Cert.FwdOutLossRefIdeal.Facts) (hAdamWIn : Cert.AdamWIn.Facts) (hAdamWInIdeal : Cert.AdamWInIdeal.Facts) (hAdamWInRefIdeal : Cert.AdamWInRefIdeal.Facts) (hAdamWOut : Cert.AdamWOut.Facts) (hAdamWOutIdeal : Cert.AdamWOutIdeal.Facts) (hAdamWOutRefIdeal : Cert.AdamWOutRefIdeal.Facts) (hAdamWS : Cert.AdamWS.Facts) (hAdamWSIdeal : Cert.AdamWSIdeal.Facts) (hAdamWSRefIdeal : Cert.AdamWSRefIdeal.Facts) (hAdamTiny : Cert.AdamTiny.Facts) (hAdamTinyIdeal : Cert.AdamTinyIdeal.Facts) (hAdamTinyRefIdeal : Cert.AdamTinyRefIdeal.Facts) (hAdamNormG : Cert.AdamNormG.Facts) (hAdamNormGIdeal : Cert.AdamNormGIdeal.Facts) (hAdamNormGRefIdeal : Cert.AdamNormGRefIdeal.Facts),
    quiescent_BwdIn (hBwdIn := hBwdIn)
    ∧ quiescent_BwdInIdeal (hBwdInIdeal := hBwdInIdeal)
    ∧ quiescent_BwdInRefIdeal (hBwdInRefIdeal := hBwdInRefIdeal)
    ∧ quiescent_GradWIn (hGradWIn := hGradWIn)
    ∧ quiescent_GradWInIdeal (hGradWInIdeal := hGradWInIdeal)
    ∧ quiescent_GradWInRefIdeal (hGradWInRefIdeal := hGradWInRefIdeal)
    ∧ quiescent_GradWOut (hGradWOut := hGradWOut)
    ∧ quiescent_GradWOutIdeal (hGradWOutIdeal := hGradWOutIdeal)
    ∧ quiescent_GradWOutRefIdeal (hGradWOutRefIdeal := hGradWOutRefIdeal)
    ∧ quiescent_BwdOut (hBwdOut := hBwdOut)
    ∧ quiescent_BwdOutIdeal (hBwdOutIdeal := hBwdOutIdeal)
    ∧ quiescent_BwdOutRefIdeal (hBwdOutRefIdeal := hBwdOutRefIdeal)
    ∧ quiescent_BwdMix (hBwdMix := hBwdMix)
    ∧ quiescent_BwdMixIdeal (hBwdMixIdeal := hBwdMixIdeal)
    ∧ quiescent_BwdMixRefIdeal (hBwdMixRefIdeal := hBwdMixRefIdeal)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_FwdOut (hFwdOut := hFwdOut)
    ∧ quiescent_FwdOutIdeal (hFwdOutIdeal := hFwdOutIdeal)
    ∧ quiescent_FwdOutRefIdeal (hFwdOutRefIdeal := hFwdOutRefIdeal)
    ∧ quiescent_FwdOutLoss (hFwdOutLoss := hFwdOutLoss)
    ∧ quiescent_FwdOutLossIdeal (hFwdOutLossIdeal := hFwdOutLossIdeal)
    ∧ quiescent_FwdOutLossRefIdeal (hFwdOutLossRefIdeal := hFwdOutLossRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWS (hAdamWS := hAdamWS)
    ∧ quiescent_AdamWSIdeal (hAdamWSIdeal := hAdamWSIdeal)
    ∧ quiescent_AdamWSRefIdeal (hAdamWSRefIdeal := hAdamWSRefIdeal)
    ∧ quiescent_AdamTiny (hAdamTiny := hAdamTiny)
    ∧ quiescent_AdamTinyIdeal (hAdamTinyIdeal := hAdamTinyIdeal)
    ∧ quiescent_AdamTinyRefIdeal (hAdamTinyRefIdeal := hAdamTinyRefIdeal)
    ∧ quiescent_AdamNormG (hAdamNormG := hAdamNormG)
    ∧ quiescent_AdamNormGIdeal (hAdamNormGIdeal := hAdamNormGIdeal)
    ∧ quiescent_AdamNormGRefIdeal (hAdamNormGRefIdeal := hAdamNormGRefIdeal)
    ∧ preserves_BwdIn_BwdInIdeal
    ∧ algebraic_BwdInIdeal_BwdInRefIdeal (hBwdInIdeal := hBwdInIdeal) (hBwdInRefIdeal := hBwdInRefIdeal)
    ∧ preserves_GradWIn_GradWInIdeal
    ∧ algebraic_GradWInIdeal_GradWInRefIdeal (hGradWInIdeal := hGradWInIdeal) (hGradWInRefIdeal := hGradWInRefIdeal)
    ∧ preserves_GradWOut_GradWOutIdeal
    ∧ algebraic_GradWOutIdeal_GradWOutRefIdeal (hGradWOutIdeal := hGradWOutIdeal) (hGradWOutRefIdeal := hGradWOutRefIdeal)
    ∧ preserves_BwdOut_BwdOutIdeal
    ∧ algebraic_BwdOutIdeal_BwdOutRefIdeal (hBwdOutIdeal := hBwdOutIdeal) (hBwdOutRefIdeal := hBwdOutRefIdeal)
    ∧ preserves_BwdMix_BwdMixIdeal
    ∧ algebraic_BwdMixIdeal_BwdMixRefIdeal (hBwdMixIdeal := hBwdMixIdeal) (hBwdMixRefIdeal := hBwdMixRefIdeal)
    ∧ preserves_FwdIn_FwdInIdeal
    ∧ algebraic_FwdInIdeal_FwdInRefIdeal (hFwdInIdeal := hFwdInIdeal) (hFwdInRefIdeal := hFwdInRefIdeal)
    ∧ preserves_FwdOut_FwdOutIdeal
    ∧ algebraic_FwdOutIdeal_FwdOutRefIdeal (hFwdOutIdeal := hFwdOutIdeal) (hFwdOutRefIdeal := hFwdOutRefIdeal)
    ∧ preserves_FwdOutLoss_FwdOutLossIdeal
    ∧ algebraic_FwdOutLossIdeal_FwdOutLossRefIdeal (hFwdOutLossIdeal := hFwdOutLossIdeal) (hFwdOutLossRefIdeal := hFwdOutLossRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWS_AdamWSIdeal
    ∧ algebraic_AdamWSIdeal_AdamWSRefIdeal (hAdamWSIdeal := hAdamWSIdeal) (hAdamWSRefIdeal := hAdamWSRefIdeal)
    ∧ preserves_AdamTiny_AdamTinyIdeal
    ∧ algebraic_AdamTinyIdeal_AdamTinyRefIdeal (hAdamTinyIdeal := hAdamTinyIdeal) (hAdamTinyRefIdeal := hAdamTinyRefIdeal)
    ∧ preserves_AdamNormG_AdamNormGIdeal
    ∧ algebraic_AdamNormGIdeal_AdamNormGRefIdeal (hAdamNormGIdeal := hAdamNormGIdeal) (hAdamNormGRefIdeal := hAdamNormGRefIdeal)
-- ==== BwdIn.lean ====
abbrev S8192x5632 : Shape := ⟨2, ![8192, 5632]⟩
abbrev S2048x5632 : Shape := ⟨2, ![2048, 5632]⟩
abbrev S8192x2048 : Shape := ⟨2, ![8192, 2048]⟩
abbrev S1x2048 : Shape := ⟨2, ![1, 2048]⟩
abbrev S2048x4x1408 : Shape := ⟨3, ![2048, 4, 1408]⟩
abbrev S4x2048x1408 : Shape := ⟨3, ![4, 2048, 1408]⟩
abbrev S_ : Shape := ⟨0, ![]⟩
abbrev S8x128 : Shape := ⟨2, ![8, 128]⟩
abbrev S256x5632 : Shape := ⟨2, ![256, 5632]⟩
abbrev S256x2048 : Shape := ⟨2, ![256, 2048]⟩
abbrev S4 : Shape := ⟨1, ![4]⟩
abbrev S1 : Shape := ⟨1, ![1]⟩
abbrev S2048x1408 : Shape := ⟨2, ![2048, 1408]⟩
abbrev S1x2048x1408 : Shape := ⟨3, ![1, 2048, 1408]⟩
abbrev S256 : Shape := ⟨1, ![256]⟩
abbrev S256x1 : Shape := ⟨2, ![256, 1]⟩
abbrev S2048 : Shape := ⟨1, ![2048]⟩

abbrev nBuf : Space → Nat
  | .hbm => 12
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S2048x4x1408, .f32⟩
  | .hbm, ⟨6, _⟩ => ⟨S4x2048x1408, .f32⟩
  | .hbm, ⟨7, _⟩ => ⟨S4x2048x1408, .bf16⟩
  | .hbm, ⟨8, _⟩ => ⟨S_, .f32⟩
  | .hbm, ⟨9, _⟩ => ⟨S8x128, .f32⟩
  | .hbm, ⟨10, _⟩ => ⟨S8192x2048, .f32⟩
  | .hbm, ⟨11, _⟩ => ⟨S1x2048, .f32⟩
  | .local _ .vmem, ⟨0, _⟩ => ⟨S256x5632, .bf16⟩
  | .local _ .vmem, ⟨1, _⟩ => ⟨S256x5632, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S2048x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== BwdInRefIdeal.lean ====
abbrev S8192x5632 : Shape := ⟨2, ![8192, 5632]⟩
abbrev S2048x5632 : Shape := ⟨2, ![2048, 5632]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x5632, .f32⟩
  | .hbm, ⟨25, _⟩ => ⟨S8192x5632, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== GradWIn.lean ====
abbrev S8192x2048 : Shape := ⟨2, ![8192, 2048]⟩
abbrev S1x2048 : Shape := ⟨2, ![1, 2048]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S8x128 : Shape := ⟨2, ![8, 128]⟩
abbrev S4x2048x1408 : Shape := ⟨3, ![4, 2048, 1408]⟩
abbrev S1024x1024 : Shape := ⟨2, ![1024, 1024]⟩
abbrev S1024x2816 : Shape := ⟨2, ![1024, 2816]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 22
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x5632, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S_, .f32⟩
  | .hbm, ⟨20, _⟩ => ⟨S8x128, .f32⟩
  | .hbm, ⟨21, _⟩ => ⟨S4x2048x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S1024x2816, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWInRefIdeal.lean ====
abbrev S8192x2048 : Shape := ⟨2, ![8192, 2048]⟩
abbrev S1x2048 : Shape := ⟨2, ![1, 2048]⟩
abbrev S8192x5632 : Shape := ⟨2, ![8192, 5632]⟩
abbrev S_ : Shape := ⟨0, ![]⟩
abbrev S2048x5632 : Shape := ⟨2, ![2048, 5632]⟩
abbrev S8192 : Shape := ⟨1, ![8192]⟩
abbrev S8192x1 : Shape := ⟨2, ![8192, 1]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x5632, .bf16⟩
  | .hbm, ⟨3, _⟩ => ⟨S_, .f32⟩
  | .hbm, ⟨4, _⟩ => ⟨S2048x5632, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x5632, .f32⟩
  | .hbm, ⟨21, _⟩ => ⟨S8192x5632, .f32⟩
  | .hbm, ⟨22, _⟩ => ⟨S5632x2048, .f32⟩
  | .hbm, ⟨23, _⟩ => ⟨S2048x5632, .f32⟩
  | .hbm, ⟨24, _⟩ => ⟨S2048x4x1408, .f32⟩
  | .hbm, ⟨25, _⟩ => ⟨S4x2048x1408, .f32⟩
  | .hbm, ⟨26, _⟩ => ⟨S4x2048x1408, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== GradWOut.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWOutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BwdOut.lean ====
abbrev S8192x2048 : Shape := ⟨2, ![8192, 2048]⟩
abbrev S2048x2048 : Shape := ⟨2, ![2048, 2048]⟩
abbrev S_ : Shape := ⟨0, ![]⟩
abbrev S8x128 : Shape := ⟨2, ![8, 128]⟩
abbrev S512x2048 : Shape := ⟨2, ![512, 2048]⟩

abbrev nBuf : Space → Nat
  | .hbm => 6
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S_, .f32⟩
  | .hbm, ⟨4, _⟩ => ⟨S8x128, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BwdOutRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BwdMix.lean ====
abbrev S8192x5632 : Shape := ⟨2, ![8192, 5632]⟩
abbrev S8192x2048 : Shape := ⟨2, ![8192, 2048]⟩
abbrev S1x64 : Shape := ⟨2, ![1, 64]⟩
abbrev S16 : Shape := ⟨1, ![16]⟩
abbrev S16x128x128 : Shape := ⟨3, ![16, 128, 128]⟩
abbrev S16x128 : Shape := ⟨2, ![16, 128]⟩
abbrev S128x128 : Shape := ⟨2, ![128, 128]⟩
abbrev S16x128x256 : Shape := ⟨3, ![16, 128, 256]⟩
abbrev S_ : Shape := ⟨0, ![]⟩
abbrev S16x1x1 : Shape := ⟨3, ![16, 1, 1]⟩
abbrev S1x16x128x256 : Shape := ⟨4, ![1, 16, 128, 256]⟩
abbrev S2x16x128x256 : Shape := ⟨4, ![2, 16, 128, 256]⟩
abbrev S1x128x128 : Shape := ⟨3, ![1, 128, 128]⟩
abbrev S128x16 : Shape := ⟨2, ![128, 16]⟩
abbrev S128x16x64 : Shape := ⟨3, ![128, 16, 64]⟩
abbrev S128x1024 : Shape := ⟨2, ![128, 1024]⟩
abbrev S1x1x1x64 : Shape := ⟨4, ![1, 1, 1, 64]⟩
abbrev S1x1x2x64 : Shape := ⟨4, ![1, 1, 2, 64]⟩
abbrev S1x128 : Shape := ⟨2, ![1, 128]⟩
abbrev S256x5632 : Shape := ⟨2, ![256, 5632]⟩
abbrev S128x512 : Shape := ⟨2, ![128, 512]⟩
abbrev S256x2048 : Shape := ⟨2, ![256, 2048]⟩
abbrev S128x5632 : Shape := ⟨2, ![128, 5632]⟩
abbrev S128x4096 : Shape := ⟨2, ![128, 4096]⟩
abbrev S128x2048 : Shape := ⟨2, ![128, 2048]⟩
abbrev S1024x128 : Shape := ⟨2, ![1024, 128]⟩
abbrev S512x128 : Shape := ⟨2, ![512, 128]⟩
abbrev S256x128 : Shape := ⟨2, ![256, 128]⟩
abbrev S128x256 : Shape := ⟨2, ![128, 256]⟩
abbrev S1x1x128x256 : Shape := ⟨4, ![1, 1, 128, 256]⟩
abbrev S128 : Shape := ⟨1, ![128]⟩
abbrev S128x1 : Shape := ⟨2, ![128, 1]⟩
abbrev S1 : Shape := ⟨1, ![1]⟩
abbrev S256x256 : Shape := ⟨2, ![256, 256]⟩
abbrev S64x256 : Shape := ⟨2, ![64, 256]⟩
abbrev S8x128 : Shape := ⟨2, ![8, 128]⟩

abbrev nBuf : Space → Nat
  | .hbm => 76
  | .vmem => 22
  | .smem => 1
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S1x64, .f32⟩
  | .hbm, ⟨3, _⟩ => ⟨S1x64, .f32⟩
  | .hbm, ⟨4, _⟩ => ⟨S16, .f32⟩
  | .hbm, ⟨5, _⟩ => ⟨S16x128x128, .f32⟩
  | .hbm, ⟨6, _⟩ => ⟨S16x128, .f32⟩
  | .hbm, ⟨7, _⟩ => ⟨S16, .f32⟩
  | .hbm, ⟨8, _⟩ => ⟨S128x128, .bf16⟩
  | .hbm, ⟨9, _⟩ => ⟨S16x128x256, .i32⟩
  | .hbm, ⟨10, _⟩ => ⟨S16x128x256, .i32⟩
  | .hbm, ⟨11, _⟩ => ⟨S_, .i32⟩
  | .hbm, ⟨12, _⟩ => ⟨S16x128x256, .i32⟩
  | .hbm, ⟨13, _⟩ => ⟨S16x128x256, .i32⟩
  | .hbm, ⟨14, _⟩ => ⟨S16x128x256, .i32⟩
  | .hbm, ⟨15, _⟩ => ⟨S_, .i32⟩
  | .hbm, ⟨16, _⟩ => ⟨S16x128x256, .i32⟩
  | .hbm, ⟨17, _⟩ => ⟨S16x128x256, .i1⟩
  | .hbm, ⟨18, _⟩ => ⟨S_, .i32⟩
  | .hbm, ⟨19, _⟩ => ⟨S16x128x256, .i32⟩
  | .hbm, ⟨20, _⟩ => ⟨S16x128x256, .i1⟩
  | .hbm, ⟨21, _⟩ => ⟨S16x128x256, .i1⟩
  | .hbm, ⟨22, _⟩ => ⟨S_, .i32⟩
  | .hbm, ⟨23, _⟩ => ⟨S16x128x256, .i32⟩
  | .hbm, ⟨24, _⟩ => ⟨S16x128x256, .i1⟩
  | .hbm, ⟨25, _⟩ => ⟨S16x128x256, .i1⟩
  | .hbm, ⟨26, _⟩ => ⟨S16x1x1, .f32⟩
  | .hbm, ⟨27, _⟩ => ⟨S16x1x1, .f32⟩
  | .hbm, ⟨28, _⟩ => ⟨S16x128x256, .f32⟩
  | .hbm, ⟨29, _⟩ => ⟨S16x128x256, .f32⟩
  | .hbm, ⟨30, _⟩ => ⟨S16x128x256, .f32⟩
  | .hbm, ⟨31, _⟩ => ⟨S_, .f32⟩
  | .hbm, ⟨32, _⟩ => ⟨S_, .f32⟩
  | .hbm, ⟨33, _⟩ => ⟨S16x128x256, .f32⟩
  | .hbm, ⟨34, _⟩ => ⟨S16x128x256, .f32⟩
  | .hbm, ⟨35, _⟩ => ⟨S_, .f32⟩
  | .hbm, ⟨36, _⟩ => ⟨S_, .f32⟩
  | .hbm, ⟨37, _⟩ => ⟨S16x128x256, .f32⟩
  | .hbm, ⟨38, _⟩ => ⟨S16x128x256, .f32⟩
  | .hbm, ⟨39, _⟩ => ⟨S1x16x128x256, .f32⟩
  | .hbm, ⟨40, _⟩ => ⟨S1x16x128x256, .f32⟩
  | .hbm, ⟨41, _⟩ => ⟨S2x16x128x256, .f32⟩
  | .hbm, ⟨42, _⟩ => ⟨S_, .f32⟩
  | .hbm, ⟨43, _⟩ => ⟨S128x128, .f32⟩
  | .hbm, ⟨44, _⟩ => ⟨S128x128, .i32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .f32⟩
  | .hbm, ⟨51, _⟩ => ⟨S128x128, .f32⟩
  | .hbm, ⟨52, _⟩ => ⟨S128x128, .f32⟩
  | .hbm, ⟨53, _⟩ => ⟨S1x128x128, .f32⟩
  | .hbm, ⟨54, _⟩ => ⟨S16x128x128, .f32⟩
  | .hbm, ⟨55, _⟩ => ⟨S16x128x128, .f32⟩
  | .hbm, ⟨56, _⟩ => ⟨S16x128x128, .bf16⟩
  | .hbm, ⟨57, _⟩ => ⟨S128x16, .f32⟩
  | .hbm, ⟨58, _⟩ => ⟨S128x16x64, .f32⟩
  | .hbm, ⟨59, _⟩ => ⟨S128x1024, .f32⟩
  | .hbm, ⟨60, _⟩ => ⟨S1x1x1x64, .f32⟩
  | .hbm, ⟨61, _⟩ => ⟨S1x1x2x64, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S1x1x1x64, .f32⟩
  | .hbm, ⟨67, _⟩ => ⟨S1x1x2x64, .f32⟩
  | .hbm, ⟨68, _⟩ => ⟨S1x128, .f32⟩
  | .hbm, ⟨69, _⟩ => ⟨S16x128x128, .bf16⟩
  | .hbm, ⟨70, _⟩ => ⟨S8192x5632, .bf16⟩
  | .hbm, ⟨71, _⟩ => ⟨S1x128, .f32⟩
  | .hbm, ⟨72, _⟩ => ⟨S1x128, .f32⟩
  | .hbm, ⟨73, _⟩ => ⟨S16x128, .f32⟩
  | .hbm, ⟨74, _⟩ => ⟨S16x128x128, .f32⟩
  | .hbm, ⟨75, _⟩ => ⟨S16x128, .f32⟩
  | .local _ .vmem, ⟨0, _⟩ => ⟨S256x5632, .f32⟩
  | .local _ .vmem, ⟨1, _⟩ => ⟨S256x5632, .f32⟩
  | .local _ .vmem, ⟨2, _⟩ => ⟨S128x512, .f32⟩
  | .local _ .vmem, ⟨3, _⟩ => ⟨S128x512, .f32⟩
  | .local _ .vmem, ⟨4, _⟩ => ⟨S256x2048, .f32⟩
  | .local _ .vmem, ⟨5, _⟩ => ⟨S256x2048, .f32⟩
  | .local _ .vmem, ⟨6, _⟩ => ⟨S2x16x128x256, .f32⟩
  | .local _ .vmem, ⟨7, _⟩ => ⟨S1x128, .f32⟩
  | .local _ .vmem, ⟨8, _⟩ => ⟨S1x128, .f32⟩
  | .local _ .vmem, ⟨9, _⟩ => ⟨S128x128, .bf16⟩
  | .local _ .vmem, ⟨10, _⟩ => ⟨S16x128x128, .bf16⟩
  | .local _ .vmem, ⟨11, _⟩ => ⟨S16x128x128, .bf16⟩
  | .local _ .vmem, ⟨12, _⟩ => ⟨S128x1024, .f32⟩
  | .local _ .vmem, ⟨13, _⟩ => ⟨S256x5632, .bf16⟩
  | .local _ .vmem, ⟨14, _⟩ => ⟨S256x5632, .bf16⟩
  | .local _ .vmem, ⟨15, _⟩ => ⟨S1x128, .f32⟩
  | .local _ .vmem, ⟨16, _⟩ => ⟨S1x128, .f32⟩
  | .local _ .vmem, ⟨17, _⟩ => ⟨S16x128, .f32⟩
  | .local _ .vmem, ⟨18, _⟩ => ⟨S16x128x128, .f32⟩
  | .local _ .vmem, ⟨19, _⟩ => ⟨S16x128, .f32⟩
  | .local _ .vmem, ⟨20, _⟩ => ⟨S256x5632, .f32⟩
  | .local _ .vmem, ⟨21, _⟩ => ⟨S128x1024, .f32⟩
  | .local _ .smem, ⟨0, _⟩ => ⟨S16, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_v23 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_cst : Ref sig .tc := ⟨.hbm, 50, rfl⟩
abbrev main_call2_v5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41_0 : Ref sig .tc := ⟨.hbm, 70, rfl⟩
abbrev main_v41_1 : Ref sig .tc := ⟨.hbm, 71, rfl⟩
abbrev main_v41_2 : Ref sig .tc := ⟨.hbm, 72, rfl⟩
abbrev main_v41_3 : Ref sig .tc := ⟨.hbm, 73, rfl⟩
abbrev main_v41_4 : Ref sig .tc := ⟨.hbm, 74, rfl⟩
abbrev main_v41_5 : Ref sig .tc := ⟨.hbm, 75, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_off1 (i : grid0.Coords) : Fin 4 → Nat :=
  let arg0 : BitVec 32 := BitVec.ofNat 32 (i 0).val
  let c1_i32 : BitVec 32 := 1#32
  let v19 : BitVec 32 := Scalar.minsi arg0 c1_i32
  let c0_i32_390 : BitVec 32 := 0#32
  let c0_i32_391 : BitVec 32 := 0#32
  let c0_i32_392 : BitVec 32 := 0#32
  ![v19.toNat, 0, 0, 0]
def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.muli c2_i32 v0
  let c1_i32 : BitVec 32 := 1#32
  let v2 : BitVec 32 := Scalar.subi v1 c1_i32
  let c0_i32 : BitVec 32 := 0#32
  let v3 : BitVec 32 := Scalar.maxsi v2 c0_i32
  let c2_i32_0 : BitVec 32 := 2#32
  let c0_i32_1 : BitVec 32 := 0#32
  ![v3.toNat, c2_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x16x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== BwdMixRefIdeal.lean ====
abbrev S8192x5632 : Shape := ⟨2, ![8192, 5632]⟩
abbrev S8192x2048 : Shape := ⟨2, ![8192, 2048]⟩
abbrev S1x64 : Shape := ⟨2, ![1, 64]⟩
abbrev S16 : Shape := ⟨1, ![16]⟩
abbrev S16x128x128 : Shape := ⟨3, ![16, 128, 128]⟩
abbrev S16x128 : Shape := ⟨2, ![16, 128]⟩
abbrev S1x8192x5632 : Shape := ⟨3, ![1, 8192, 5632]⟩
abbrev S1x8192x1024 : Shape := ⟨3, ![1, 8192, 1024]⟩
abbrev S1x8192x256 : Shape := ⟨3, ![1, 8192, 256]⟩
abbrev S_ : Shape := ⟨0, ![]⟩
abbrev S1x8192x16x64 : Shape := ⟨4, ![1, 8192, 16, 64]⟩
abbrev S1x64x128x16x64 : Shape := ⟨5, ![1, 64, 128, 16, 64]⟩
abbrev S128x128 : Shape := ⟨2, ![128, 128]⟩
abbrev S16x1x64x64x128 : Shape := ⟨5, ![16, 1, 64, 64, 128]⟩
abbrev S128x16 : Shape := ⟨2, ![128, 16]⟩
abbrev S1x1x128x16x1 : Shape := ⟨5, ![1, 1, 128, 16, 1]⟩
abbrev S8192x1024 : Shape := ⟨2, ![8192, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S1x64, .f32⟩
  | .hbm, ⟨3, _⟩ => ⟨S1x64, .f32⟩
  | .hbm, ⟨4, _⟩ => ⟨S16, .f32⟩
  | .hbm, ⟨5, _⟩ => ⟨S16x128x128, .f32⟩
  | .hbm, ⟨6, _⟩ => ⟨S16x128, .f32⟩
  | .hbm, ⟨7, _⟩ => ⟨S1x8192x5632, .f32⟩
  | .hbm, ⟨8, _⟩ => ⟨S1x8192x1024, .f32⟩
  | .hbm, ⟨9, _⟩ => ⟨S1x8192x256, .f32⟩
  | .hbm, ⟨10, _⟩ => ⟨S1x8192x256, .f32⟩
  | .hbm, ⟨11, _⟩ => ⟨S1x8192x1024, .f32⟩
  | .hbm, ⟨12, _⟩ => ⟨S1x8192x1024, .f32⟩
  | .hbm, ⟨13, _⟩ => ⟨S1x8192x1024, .f32⟩
  | .hbm, ⟨14, _⟩ => ⟨S1x8192x1024, .f32⟩
  | .hbm, ⟨15, _⟩ => ⟨S_, .f32⟩
  | .hbm, ⟨16, _⟩ => ⟨S1x8192x1024, .f32⟩
  | .hbm, ⟨17, _⟩ => ⟨S1x8192x1024, .f32⟩
  | .hbm, ⟨18, _⟩ => ⟨S1x8192x1024, .f32⟩
  | .hbm, ⟨19, _⟩ => ⟨S_, .f32⟩
  | .hbm, ⟨20, _⟩ => ⟨S1x8192x1024, .f32⟩
  | .hbm, ⟨21, _⟩ => ⟨S1x8192x1024, .f32⟩
  | .hbm, ⟨22, _⟩ => ⟨S1x8192x1024, .f32⟩
  | .hbm, ⟨23, _⟩ => ⟨S1x8192x1024, .f32⟩
  | .hbm, ⟨24, _⟩ => ⟨S1x8192x16x64, .f32⟩
  | .hbm, ⟨25, _⟩ => ⟨S_, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S_, .f32⟩
  | .hbm, ⟨30, _⟩ => ⟨S1x8192x1024, .f32⟩
  | .hbm, ⟨31, _⟩ => ⟨S1x8192x1024, .f32⟩
  | .hbm, ⟨32, _⟩ => ⟨S1x8192x1024, .f32⟩
  | .hbm, ⟨33, _⟩ => ⟨S1x8192x1024, .f32⟩
  | .hbm, ⟨34, _⟩ => ⟨S1x8192x16x64, .f32⟩
  | .hbm, ⟨35, _⟩ => ⟨S1x64x128x16x64, .f32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i32⟩
  | .hbm, ⟨40, _⟩ => ⟨S128x128, .i32⟩
  | .hbm, ⟨41, _⟩ => ⟨S128x128, .i1⟩
  | .hbm, ⟨42, _⟩ => ⟨S16x128x128, .i1⟩
  | .hbm, ⟨43, _⟩ => ⟨S_, .f32⟩
  | .hbm, ⟨44, _⟩ => ⟨S16x128x128, .f32⟩
  | .hbm, ⟨45, _⟩ => ⟨S16x128x128, .f32⟩
  | .hbm, ⟨46, _⟩ => ⟨S_, .f32⟩
  | .hbm, ⟨47, _⟩ => ⟨S16x128x128, .f32⟩
  | .hbm, ⟨48, _⟩ => ⟨S16x1x64x64x128, .f32⟩
  | .hbm, ⟨49, _⟩ => ⟨S1x64x128x16x64, .f32⟩
  | .hbm, ⟨50, _⟩ => ⟨S128x16, .f32⟩
  | .hbm, ⟨51, _⟩ => ⟨S1x1x128x16x1, .f32⟩
  | .hbm, ⟨52, _⟩ => ⟨S1x64x128x16x64, .f32⟩
  | .hbm, ⟨53, _⟩ => ⟨S1x64x128x16x64, .f32⟩
  | .hbm, ⟨54, _⟩ => ⟨S1x8192x16x64, .f32⟩
  | .hbm, ⟨55, _⟩ => ⟨S1x8192x16x64, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S_, .f32⟩
  | .hbm, ⟨60, _⟩ => ⟨S1x8192x1024, .f32⟩
  | .hbm, ⟨61, _⟩ => ⟨S1x8192x1024, .f32⟩
  | .hbm, ⟨62, _⟩ => ⟨S_, .f32⟩
  | .hbm, ⟨63, _⟩ => ⟨S1x8192x1024, .f32⟩
  | .hbm, ⟨64, _⟩ => ⟨S1x8192x1024, .f32⟩
  | .hbm, ⟨65, _⟩ => ⟨S1x8192x1024, .f32⟩
  | .hbm, ⟨66, _⟩ => ⟨S1x8192x1024, .f32⟩
  | .hbm, ⟨67, _⟩ => ⟨S8192x1024, .f32⟩
  | .hbm, ⟨68, _⟩ => ⟨S1x8192x1024, .f32⟩
  | .hbm, ⟨69, _⟩ => ⟨S1x8192x1024, .f32⟩
  | .hbm, ⟨70, _⟩ => ⟨S1x8192x16x64, .f32⟩
  | .hbm, ⟨71, _⟩ => ⟨S1x8192x16x64, .f32⟩
  | .hbm, ⟨72, _⟩ => ⟨S1x64x128x16x64, .f32⟩
  | .hbm, ⟨73, _⟩ => ⟨S16x1x64x64x128, .f32⟩
  | .hbm, ⟨74, _⟩ => ⟨S16x128x128, .f32⟩
  | .hbm, ⟨75, _⟩ => ⟨S_, .f32⟩
  | .hbm, ⟨76, _⟩ => ⟨S16x128x128, .f32⟩
  | .hbm, ⟨77, _⟩ => ⟨S16x128x128, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v25_1 : Ref sig .tc := ⟨.hbm, 42, rfl⟩
abbrev main_call0_cst : Ref sig .tc := ⟨.hbm, 43, rfl⟩
abbrev main_call0_v6 : Ref sig .tc := ⟨.hbm, 44, rfl⟩
abbrev main_v25_0 : Ref sig .tc := ⟨.hbm, 45, rfl⟩
abbrev main_call0_cst_0 : Ref sig .tc := ⟨.hbm, 46, rfl⟩
abbrev main_v25_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call2_cst : Ref sig .tc := ⟨.hbm, 75, rfl⟩
abbrev main_call2_v0 : Ref sig .tc := ⟨.hbm, 76, rfl⟩
abbrev main_v45 : Ref sig .tc := ⟨.hbm, 77, rfl⟩

abbrev nD : Nat := 1
abbrev τ : Topo := Topo.v7x

variable {F : FTy → Type} [FloatOps F]
-- ==== FwdIn.lean ====
abbrev S8192x2048 : Shape := ⟨2, ![8192, 2048]⟩
abbrev S1x2048 : Shape := ⟨2, ![1, 2048]⟩
abbrev S2048x5632 : Shape := ⟨2, ![2048, 5632]⟩
abbrev S2048x4x1408 : Shape := ⟨3, ![2048, 4, 1408]⟩
abbrev S4x2048x1408 : Shape := ⟨3, ![4, 2048, 1408]⟩
abbrev S8192x5632 : Shape := ⟨2, ![8192, 5632]⟩
abbrev S256x2048 : Shape := ⟨2, ![256, 2048]⟩
abbrev S256x5632 : Shape := ⟨2, ![256, 5632]⟩
abbrev S4 : Shape := ⟨1, ![4]⟩
abbrev S1 : Shape := ⟨1, ![1]⟩
abbrev S_ : Shape := ⟨0, ![]⟩
abbrev S2048x1408 : Shape := ⟨2, ![2048, 1408]⟩
abbrev S1x2048x1408 : Shape := ⟨3, ![1, 2048, 1408]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x4x1408, .f32⟩
  | .hbm, ⟨4, _⟩ => ⟨S4x2048x1408, .f32⟩
  | .hbm, ⟨5, _⟩ => ⟨S4x2048x1408, .bf16⟩
  | .hbm, ⟨6, _⟩ => ⟨S8192x5632, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x5632, .f32⟩
  | .local _ .vmem, ⟨4, _⟩ => ⟨S256x5632, .f32⟩
  | .local _ .vmem, ⟨5, _⟩ => ⟨S256x2048, .bf16⟩
  | .local _ .vmem, ⟨6, _⟩ => ⟨S256x2048, .bf16⟩
  | .local _ .vmem, ⟨7, _⟩ => ⟨S2048x5632, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FwdInRefIdeal.lean ====
abbrev S8192x2048 : Shape := ⟨2, ![8192, 2048]⟩
abbrev S1x2048 : Shape := ⟨2, ![1, 2048]⟩
abbrev S2048x5632 : Shape := ⟨2, ![2048, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x5632, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== FwdOut.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048x2048, .bf16⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FwdOutRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FwdOutLoss.lean ====
abbrev S8192x2048 : Shape := ⟨2, ![8192, 2048]⟩
abbrev S2048x2048 : Shape := ⟨2, ![2048, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S8192x2048, .f32⟩
  | .hbm, ⟨4, _⟩ => ⟨S2048x2048, .bf16⟩
  | .hbm, ⟨5, _⟩ => ⟨S8192x2048, .f32⟩
  | .hbm, ⟨6, _⟩ => ⟨S1x1, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FwdOutLossRefIdeal.lean ====
abbrev S8192x2048 : Shape := ⟨2, ![8192, 2048]⟩
abbrev S2048x2048 : Shape := ⟨2, ![2048, 2048]⟩
abbrev S_ : Shape := ⟨0, ![]⟩
abbrev S8192 : Shape := ⟨1, ![8192]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x2048, .f32⟩
  | .hbm, ⟨29, _⟩ => ⟨S8192x2048, .f32⟩
  | .hbm, ⟨30, _⟩ => ⟨S1x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== AdamWIn.lean ====
abbrev S8192x1408 : Shape := ⟨2, ![8192, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S8192x1408, .f32⟩
  | .hbm, ⟨1, _⟩ => ⟨S8192x1408, .bf16⟩
  | .hbm, ⟨2, _⟩ => ⟨S8192x1408, .bf16⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S8192x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .bf16⟩
  | .local _ .vmem, ⟨3, _⟩ => ⟨S128x1408, .bf16⟩
  | .local _ .vmem, ⟨4, _⟩ => ⟨S128x1408, .bf16⟩
  | .local _ .vmem, ⟨5, _⟩ => ⟨S128x1408, .bf16⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWInRefIdeal.lean ====
abbrev S8192x1408 : Shape := ⟨2, ![8192, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x1408, .f32⟩
  | .hbm, ⟨1, _⟩ => ⟨S8192x1408, .bf16⟩
  | .hbm, ⟨2, _⟩ => ⟨S8192x1408, .bf16⟩
  | .hbm, ⟨3, _⟩ => ⟨S8192x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S_, .f32⟩
  | .hbm, ⟨9, _⟩ => ⟨S8192x1408, .f32⟩
  | .hbm, ⟨10, _⟩ => ⟨S8192x1408, .f32⟩
  | .hbm, ⟨11, _⟩ => ⟨S_, .f32⟩
  | .hbm, ⟨12, _⟩ => ⟨S8192x1408, .f32⟩
  | .hbm, ⟨13, _⟩ => ⟨S8192x1408, .f32⟩
  | .hbm, ⟨14, _⟩ => ⟨S8192x1408, .f32⟩
  | .hbm, ⟨15, _⟩ => ⟨S_, .f32⟩
  | .hbm, ⟨16, _⟩ => ⟨S8192x1408, .f32⟩
  | .hbm, ⟨17, _⟩ => ⟨S8192x1408, .f32⟩
  | .hbm, ⟨18, _⟩ => ⟨S8192x1408, .f32⟩
  | .hbm, ⟨19, _⟩ => ⟨S_, .f32⟩
  | .hbm, ⟨20, _⟩ => ⟨S8192x1408, .f32⟩
  | .hbm, ⟨21, _⟩ => ⟨S8192x1408, .f32⟩
  | .hbm, ⟨22, _⟩ => ⟨S8192x1408, .f32⟩
  | .hbm, ⟨23, _⟩ => ⟨S_, .f32⟩
  | .hbm, ⟨24, _⟩ => ⟨S8192x1408, .f32⟩
  | .hbm, ⟨25, _⟩ => ⟨S8192x1408, .f32⟩
  | .hbm, ⟨26, _⟩ => ⟨S_, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S_, .f32⟩
  | .hbm, ⟨31, _⟩ => ⟨S8192x1408, .f32⟩
  | .hbm, ⟨32, _⟩ => ⟨S8192x1408, .f32⟩
  | .hbm, ⟨33, _⟩ => ⟨S8192x1408, .f32⟩
  | .hbm, ⟨34, _⟩ => ⟨S_, .f32⟩
  | .hbm, ⟨35, _⟩ => ⟨S8192x1408, .f32⟩
  | .hbm, ⟨36, _⟩ => ⟨S8192x1408, .f32⟩
  | .hbm, ⟨37, _⟩ => ⟨S8192x1408, .f32⟩
  | .hbm, ⟨38, _⟩ => ⟨S_, .f32⟩
  | .hbm, ⟨39, _⟩ => ⟨S8192x1408, .f32⟩
  | .hbm, ⟨40, _⟩ => ⟨S8192x1408, .f32⟩
  | _, _ => ⟨S8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamWOut.lean ====
abbrev S2048x2048 : Shape := ⟨2, ![2048, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWOutRefIdeal.lean ====
abbrev S2048x2048 : Shape := ⟨2, ![2048, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamWS.lean ====
abbrev S8192x128 : Shape := ⟨2, ![8192, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWSRefIdeal.lean ====
abbrev S8192x128 : Shape := ⟨2, ![8192, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S_, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S_, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTiny.lean ====
abbrev S512x128 : Shape := ⟨2, ![512, 128]⟩

abbrev nBuf : Space → Nat
  | .hbm => 8
  | .vmem => 8
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamTinyRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNormG.lean ====
abbrev S4x2048 : Shape := ⟨2, ![4, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | .local _ .vmem, ⟨7, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormGRefIdeal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Common.lean ====
module

public import Idealize.ShloMosaic.Lib.Pointwise
public import Idealize.ShloMosaic.PureOps.Ideal.Laws

/-! What the value modules share: products of matrices and tables of extended reals as plain functions of the index. -/

@[expose] public section

noncomputable section

namespace Cert.Common

open Idealize.ShloMosaic

/-- An `M` by `N` table of extended reals. -/
abbrev Tab (M N : Nat) := (⟨2, ![M, N]⟩ : Shape).Idx → EReal

theorem hz2 : (![0, 0] : Fin 2 → Nat) = fun _ => 0 := funext fun a => by fin_cases a <;> rfl

/-- Every index of a table is its two coordinates. -/
theorem ix2_surj {M N : Nat} (y : (⟨2, ![M, N]⟩ : Shape).Idx) : ∃ (r : Fin M) (l : Fin N), y = ix2 r l :=
  ⟨y 0, y 1, by funext a; match a with | ⟨0, _⟩ => rfl | ⟨1, _⟩ => rfl⟩

/-- The product of two tables. -/
def mm {M K N : Nat} (a : Tab M K) (b : Tab K N) : Tab M N := fun i => ∑ k : Fin K, a (ix2 (i 0) k) * b (ix2 k (i 1))

/-- The product with the right factor transposed: rows of `a` times rows of `b`. -/
def mmT {M K N : Nat} (a : Tab M K) (b : Tab N K) : Tab M N := fun i => ∑ k : Fin K, a (ix2 (i 0) k) * b (ix2 (i 1) k)

/-- The product with the left factor transposed: columns of `a` times columns of `b`. -/
def Tmm {M K N : Nat} (a : Tab K M) (b : Tab K N) : Tab M N := fun i => ∑ k : Fin K, a (ix2 k (i 0)) * b (ix2 k (i 1))

/-- Every index of a block of tables is an `ix3`. -/
theorem ix3_surj {P M N : Nat} (y : (⟨3, ![P, M, N]⟩ : Shape).Idx) : ∃ (p : Fin P) (r : Fin M) (l : Fin N), y = ix3 p r l :=
  ⟨y 0, y 1, y 2, funext fun a => match a with | ⟨0, _⟩ => rfl | ⟨1, _⟩ => rfl | ⟨2, _⟩ => rfl⟩

/-- One summand of a product's contraction, as a function of a natural number (zero past the end). -/
def term {K : Nat} (f : Fin K → EReal) (k : ℕ) : EReal := if h : k < K then f ⟨k, h⟩ else 0

/-- A sum over a finite type of positions is the sum of its terms over an initial segment. -/
theorem sum_term {K : Nat} (f : Fin K → EReal) : ∑ k : Fin K, f k = ∑ k ∈ Finset.range K, term f k := by
  rw [← Fin.sum_univ_eq_sum_range]
  refine Finset.sum_congr rfl fun k _ => ?_
  unfold term
  rw [dif_pos k.isLt]

/-- An initial segment lengthened by one tile of `B` positions: the tile's sum is added. -/
theorem sum_tile {K : Nat} (f : Fin K → EReal) (B j : ℕ) (g : Fin B → EReal)
    (hg : ∀ s : Fin B, g s = term f (B * j + s.val)) :
    ∑ k ∈ Finset.range (B * (j + 1)), term f k = ∑ k ∈ Finset.range (B * j), term f k + ∑ s : Fin B, g s := by
  rw [Nat.mul_succ, Finset.sum_range_add]
  congr 1
  rw [← Fin.sum_univ_eq_sum_range (fun x => term f (B * j + x)) B]
  exact Finset.sum_congr rfl fun s _ => (hg s).symm

end Cert.Common
end
-- ==== Proof.BwdInRun.lean ====
module

public import proofs.«01_k».proof.Proof.Gen.BwdInIdeal.Frame.Runs
public import proofs.«01_k».proof.Proof.Common
public import Idealize.ShloMosaic.Lib.ValueLayout
public import Idealize.ShloMosaic.Lib.WritesUnit
public import Idealize.ShloMosaic.Lib.Claim

/-! The run of the backward input projection, over any float values. At its first grid point the body starts four
copies of the weight's column slabs out of the large memory, all in flight together, waits for the four, and from then
on keeps the packed weight in scratch. What each point leaves is stated in closed form. -/

@[expose] public section

set_option maxRecDepth 16384
set_option sl_exec.dmaWindow true
set_option sl_exec.dmaWindowSet true

noncomputable section

namespace Cert.BwdInIdeal.Own

open Cert.BwdInIdeal Cert.BwdInIdeal.Gen
open Cert.Common Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The slabs side by side: column `q` of the packed weight is column `q % 1408` of slab `q / 1408`. -/
def pack (w : Vec F S4x2048x1408 .bf16) : Vec F S2048x5632 .bf16 := fun y =>
  w (ix3 ⟨(y 1).val / 1408, by have := (y 1).isLt; exact Nat.div_lt_of_lt_mul this⟩ (y 0) ⟨(y 1).val % 1408, Nat.mod_lt _ (by decide)⟩)

/-- What a point leaves in the block of the input's gradient. -/
abbrev dx (a : Vec F S256x5632 .bf16) (w : Vec F S2048x5632 .bf16) (x dy : Vec F S256x2048 .f32) (g : Vec F S1x2048 .f32) : Vec F S256x2048 .f32 :=
  k0_pay5 a w x g dy

/-- What a point leaves in the row of the gain's gradient, over what it held. -/
abbrev dg (a : Vec F S256x5632 .bf16) (w : Vec F S2048x5632 .bf16) (x : Vec F S256x2048 .f32) (acc : Vec F S1x2048 .f32) : Vec F S1x2048 .f32 :=
  k0_pay1 (k0_pay3 a w) x (k0_pay4 x) acc

/-- The weight's array in the large memory, as shares that the four copies read at once and a rest. -/
theorem toks (c : Dev nD) (f : HbBuf0 (F := F) c hbM0_0) :
    (hbPt0 c hbM0_0 f : sProp 𝕄) ⊣⊢ iprop(((hbM0_0.view.loc (c : Thread nD τ)) ↦{Transfers.shareDrop fullShare 4} f)
      ∗ ((hbM0_0.view.loc (c : Thread nD τ)) ↦{Transfers.shareTokN fullShare 0} f)
      ∗ ((hbM0_0.view.loc (c : Thread nD τ)) ↦{Transfers.shareTokN fullShare 1} f)
      ∗ ((hbM0_0.view.loc (c : Thread nD τ)) ↦{Transfers.shareTokN fullShare 2} f)
      ∗ ((hbM0_0.view.loc (c : Thread nD τ)) ↦{Transfers.shareTokN fullShare 3} f)) := by
  have e : (BI.bigSep Finset.univ (fun i : Fin 4 => ((hbM0_0.view.loc (c : Thread nD τ)) ↦{Transfers.shareTok fullShare 4 i} f : sProp 𝕄)))
      = iprop(((hbM0_0.view.loc (c : Thread nD τ)) ↦{Transfers.shareTokN fullShare 0} f)
      ∗ ((hbM0_0.view.loc (c : Thread nD τ)) ↦{Transfers.shareTokN fullShare 1} f)
      ∗ ((hbM0_0.view.loc (c : Thread nD τ)) ↦{Transfers.shareTokN fullShare 2} f)
      ∗ ((hbM0_0.view.loc (c : Thread nD τ)) ↦{Transfers.shareTokN fullShare 3} f)) := by
    rw [BI.bigSep_eq_bigSepL_of_eq [0, 1, 2, 3] (by decide) (by decide)]; rfl
  rw [← e]
  exact Transfers.pointsTo_toks (Ix := Unit) (Name := ℕ) (U := Pipeline.UD sig nD τ) (Lvl := ℕ) fullShare 4

theorem hz3 : (![0, 0, 0] : Fin 3 → Nat) = fun _ => 0 := funext fun a => by fin_cases a <;> rfl

/-- A slab's copy delivers the slab's rows. -/
theorem slab_read (c : Dev nD) (f : HbBuf0 (F := F) c hbM0_0) (j : Fin 4) (off : Fin 3 → ℕ) (h : ∀ a, off a + S1x2048x1408.size a ≤ S4x2048x1408.size a)
    (ho : off = ![j.val, 0, 0]) (y : S2048x1408.Idx) :
    ((hbM0_0.slice (Rect.unit (s := S4x2048x1408) off S1x2048x1408.size h) (fun _ => rfl)).squeeze S2048x1408 squeezes_S1x2048x1408_S2048x1408).view.read (Elt F) f y
      = (hbM0_0.view.read (Elt F) f : Vec F S4x2048x1408 .bf16) (ix3 j (y 0) (y 1)) := by
  subst ho
  obtain ⟨r, l, rfl⟩ := ix2_surj y
  show (hbM0_0.view.read (Elt F) f : Vec F S4x2048x1408 .bf16) ((Rect.unit (s := S4x2048x1408) ![j.val, 0, 0] S1x2048x1408.size h).emb (Shape.reshapeEquiv _ (ix2 r l))) = _
  rw [show Shape.reshapeEquiv squeezes_S1x2048x1408_S2048x1408.numel_eq (ix2 r l) = ix3 (⟨0, Nat.one_pos⟩ : Fin 1) r l from ValueIdx.reshapeEquiv_ix2_1ab _ r l]
  refine congrArg _ (funext fun a => Fin.ext ?_)
  match a with
  | ⟨0, _⟩ => show j.val + 1 * 0 = j.val; omega
  | ⟨1, _⟩ => show 0 + 1 * r.val = r.val; omega
  | ⟨2, _⟩ => show 0 + 1 * l.val = l.val; omega

/-- The four slabs landed side by side are the packed weight. -/
theorem pack_read (c : Dev nD) (f : HbBuf0 (F := F) c hbM0_0) (M : Memref sig .tc .vmem S2048x5632 .bf16) (g) (p0 p1 p2 p3 : Vec F S2048x1408 .bf16)
    (h0 : ∀ y, p0 y = (hbM0_0.view.read (Elt F) f : Vec F S4x2048x1408 .bf16) (ix3 0 (y 0) (y 1)))
    (h1 : ∀ y, p1 y = (hbM0_0.view.read (Elt F) f : Vec F S4x2048x1408 .bf16) (ix3 1 (y 0) (y 1)))
    (h2 : ∀ y, p2 y = (hbM0_0.view.read (Elt F) f : Vec F S4x2048x1408 .bf16) (ix3 2 (y 0) (y 1)))
    (h3 : ∀ y, p3 y = (hbM0_0.view.read (Elt F) f : Vec F S4x2048x1408 .bf16) (ix3 3 (y 0) (y 1))) :
    M.view.read (Elt F) (M.view.writes (Elt F) g
      [⟨Rect.unit ![0, 4224] S2048x1408.size inb_S2048x5632_S2048x1408_0_4224, p3⟩,
        ⟨Rect.unit ![0, 2816] S2048x1408.size inb_S2048x5632_S2048x1408_0_2816, p2⟩,
        ⟨Rect.unit ![0, 1408] S2048x1408.size inb_S2048x5632_S2048x1408_0_1408, p1⟩,
        ⟨Rect.unit ![0, 0] S2048x1408.size inb_S2048x5632_S2048x1408_0_0, p0⟩]) = pack (hbM0_0.view.read (Elt F) f) := by
  funext y
  obtain ⟨r, q, rfl⟩ := ix2_surj y
  have key : ∀ (j : Fin 4) (l : Fin 1408), q.val = 1408 * j.val + l.val →
      pack (hbM0_0.view.read (Elt F) f) (ix2 r q) = (hbM0_0.view.read (Elt F) f : Vec F S4x2048x1408 .bf16) (ix3 j r l) := fun j l e => by
    refine congrArg (hbM0_0.view.read (Elt F) f : Vec F S4x2048x1408 .bf16) (funext fun a => Fin.ext ?_)
    match a with
    | ⟨0, _⟩ => show q.val / 1408 = j.val; omega
    | ⟨1, _⟩ => rfl
    | ⟨2, _⟩ => show q.val % 1408 = l.val; omega
  have hq := q.isLt
  have out : ∀ (o : ℕ) (inb : ∀ a, (![0, o] : Fin 2 → ℕ) a + S2048x1408.size a ≤ S2048x5632.size a) (w : Vec F S2048x1408 .bf16) (L : List (View.Piece (Elt F) S2048x5632 .bf16)),
      q.val < o ∨ o + 1408 ≤ q.val → M.view.read (Elt F) (M.view.writes (Elt F) g (⟨Rect.unit ![0, o] S2048x1408.size inb, w⟩ :: L)) (ix2 r q)
        = M.view.read (Elt F) (M.view.writes (Elt F) g L) (ix2 r q) := fun o inb w L h =>
    View.read_writes_cons_unit_of_not_mem M.view g inb w L (ix2 r q) rfl (1 : Fin 2) h
  have inn : ∀ (o : ℕ) (inb : ∀ a, (![0, o] : Fin 2 → ℕ) a + S2048x1408.size a ≤ S2048x5632.size a) (w : Vec F S2048x1408 .bf16) (L : List (View.Piece (Elt F) S2048x5632 .bf16))
      (l : Fin 1408), q.val = o + l.val → M.view.read (Elt F) (M.view.writes (Elt F) g (⟨Rect.unit ![0, o] S2048x1408.size inb, w⟩ :: L)) (ix2 r q)
        = w (ix2 r l) := fun o inb w L l h =>
    View.read_writes_cons_unit_of_mem M.view g inb w L (ix2 r q) (ix2 r l) rfl (fun a => match a with
      | ⟨0, _⟩ => (Nat.zero_add r.val).symm
      | ⟨1, _⟩ => h)
  by_cases c3 : 4224 ≤ q.val
  · rw [inn 4224 _ _ _ ⟨q.val - 4224, by omega⟩ (by dsimp only; omega), h3]
    exact (key 3 _ (by show q.val = 1408 * 3 + (q.val - 4224); omega)).symm
  rw [out 4224 _ _ _ (by omega)]
  by_cases c2 : 2816 ≤ q.val
  · rw [inn 2816 _ _ _ ⟨q.val - 2816, by omega⟩ (by dsimp only; omega), h2]
    exact (key 2 _ (by show q.val = 1408 * 2 + (q.val - 2816); omega)).symm
  rw [out 2816 _ _ _ (by omega)]
  by_cases c1 : 1408 ≤ q.val
  · rw [inn 1408 _ _ _ ⟨q.val - 1408, by omega⟩ (by dsimp only; omega), h1]
    exact (key 1 _ (by show q.val = 1408 * 1 + (q.val - 1408); omega)).symm
  rw [out 1408 _ _ _ (by omega), inn 0 _ _ _ ⟨q.val, by omega⟩ (by dsimp only; omega), h0]
  exact (key 0 _ (by show q.val = 1408 * 0 + q.val; omega)).symm

/-- A load of the whole scratch after the four landings reads the packed weight. -/
theorem pack_cov (c : Dev nD) (f : HbBuf0 (F := F) c hbM0_0) (M : Memref sig .tc .vmem S2048x5632 .bf16) (p0 p1 p2 p3 : Vec F S2048x1408 .bf16)
    (h0 : ∀ y, p0 y = (hbM0_0.view.read (Elt F) f : Vec F S4x2048x1408 .bf16) (ix3 0 (y 0) (y 1)))
    (h1 : ∀ y, p1 y = (hbM0_0.view.read (Elt F) f : Vec F S4x2048x1408 .bf16) (ix3 1 (y 0) (y 1)))
    (h2 : ∀ y, p2 y = (hbM0_0.view.read (Elt F) f : Vec F S4x2048x1408 .bf16) (ix3 2 (y 0) (y 1)))
    (h3 : ∀ y, p3 y = (hbM0_0.view.read (Elt F) f : Vec F S4x2048x1408 .bf16) (ix3 3 (y 0) (y 1))) :
    M.view.readCov
      [⟨Rect.unit ![0, 4224] S2048x1408.size inb_S2048x5632_S2048x1408_0_4224, p3⟩,
        ⟨Rect.unit ![0, 2816] S2048x1408.size inb_S2048x5632_S2048x1408_0_2816, p2⟩,
        ⟨Rect.unit ![0, 1408] S2048x1408.size inb_S2048x5632_S2048x1408_0_1408, p1⟩,
        ⟨Rect.unit ![0, 0] S2048x1408.size inb_S2048x5632_S2048x1408_0_0, p0⟩]
      (Rect.unit ![0, 0] S2048x5632.size inb_S2048x5632_S2048x5632_0_0).toLoadRect = pack (hbM0_0.view.read (Elt F) f) := by
  unfold View.readCov
  rw [View.readAt_eq_ld, pack_read c f M _ p0 p1 p2 p3 h0 h1 h2 h3]
  exact View.ld_unit_zero (S := S2048x5632) hz2 _ _

set_option maxHeartbeats 1000000 in
/-- The first point: the copies, the reset of the gain's row, then the point's own work over the packed weight. -/
theorem runA (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg7 : Memref sig .tc .vmem S256x2048 .f32) (harg7 : arg7.IsWhole) (arg8 : Memref sig .tc .vmem S1x2048 .f32) (harg8 : arg8.IsWhole) (arg9 : Memref sig .tc .vmem S2048x5632 .bf16) (harg9 : arg9.IsWhole) (hc0 : cond0_0 i)
    (x0 : Vec F S256x5632 .bf16) (x1 : Vec F S256x2048 .f32) (x2 : Vec F S256x2048 .f32) (x3 : Vec F S1x2048 .f32) (fh0 : HbBuf0 (F := F) c hbM0_0) (fh1 : HbBuf0 (F := F) c hbM0_1)
    (W : Waits sig Unit) (K : PUnit → sProp 𝕄) :
    iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ owes (c : Thread nD τ) 0 W
        ∗ (iprop(owns (c : Thread nD τ) arg1 fullShare x0 ∗ owns (c : Thread nD τ) arg3 fullShare x1 ∗ owns (c : Thread nD τ) arg4 fullShare x2 ∗ owns (c : Thread nD τ) arg5 fullShare x3
              ∗ owns (c : Thread nD τ) arg7 fullShare (dx x0 (pack (hbM0_0.view.read (Elt F) fh0)) x1 x2 x3)
              ∗ owns (c : Thread nD τ) arg8 fullShare (dg x0 (pack (hbM0_0.view.read (Elt F) fh0)) x1 k0_pay2)
              ∗ owns (c : Thread nD τ) arg9 fullShare (pack (hbM0_0.view.read (Elt F) fh0))
              ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ (∃ W', owes (c : Thread nD τ) 0 W')) -∗ K ⟨⟩))
      ⊢ wp frame (wpE (defs₀ (F := F)) Variants.none c none) Set.univ (cc0_bwd_in i arg1 harg1 (Memref.whole main_v2) (Memref.isWhole_whole _) arg3 harg3 arg4 harg4 arg5 harg5 (Memref.whole main_v3) (Memref.isWhole_whole _) arg7 harg7 arg8 harg8 arg9 harg9 cc0_scratch1) K := by
  simp only [cc0_bwd_in_eq_skeleton]; unfold cc0_bwd_in_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hq0, Hq1, Hq2, Hq3, Hh0, Hh1, HW, Hk⟩
  obtain rfl := harg1.eq_unread hf0; obtain rfl := harg3.eq_unread hf1; obtain rfl := harg4.eq_unread hf2; obtain rfl := harg5.eq_unread hf3
  ihave Ht := (toks c fh0).1 $$ Hh0
  icases Ht with ⟨Htr, Ht0, Ht1, Ht2, Ht3⟩
  sl_exec (disch := first | sl_exact hc0)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (View.cover_of_tiledL _ S256x2048.size (by sl_kernel_rfl)), View.canon_unit_zero hz2,
      pack_cov c fh0 arg9]
    · simp only [View.readAt_eq_ld, harg1.read_unread, harg3.read_unread, harg4.read_unread, harg5.read_unread, View.ld_unit_zero (S := S256x5632) hz2, View.ld_unit_zero (S := S256x2048) hz2, View.ld_unit_zero (S := S1x2048) hz2, View.ld_unit_zero (S := S2048x5632) hz2]
    · exact fun y => slab_read c fh0 0 _ _ rfl y
    · exact fun y => slab_read c fh0 1 _ _ rfl y
    · exact fun y => slab_read c fh0 2 _ _ rfl y
    · exact fun y => slab_read c fh0 3 _ _ rfl y
  isplitl [H5]
  · iexists _; isplitr
    swap; · iexact H5
    ipureintro
    sl_unfold_words
    rw [View.read_writes_eq_canon _ _ _ (View.cover_of_tiledL _ S1x2048.size (by sl_kernel_rfl)), View.canon_cons_unit_zero (S := S1x2048) hz2,
      View.readCov_unit_zero (S := S1x2048) _ hz2, pack_cov c fh0 arg9]
    · simp only [View.readAt_eq_ld, harg1.read_unread, harg3.read_unread, harg4.read_unread, harg5.read_unread, View.ld_unit_zero (S := S256x5632) hz2, View.ld_unit_zero (S := S256x2048) hz2, View.ld_unit_zero (S := S1x2048) hz2, View.ld_unit_zero (S := S2048x5632) hz2]
    · exact fun y => slab_read c fh0 0 _ _ rfl y
    · exact fun y => slab_read c fh0 1 _ _ rfl y
    · exact fun y => slab_read c fh0 2 _ _ rfl y
    · exact fun y => slab_read c fh0 3 _ _ rfl y
  isplitl [HS0]
  · iexists _; isplitr
    swap; · iexact HS0
    ipureintro
    sl_unfold_words
    exact pack_read c fh0 arg9 _ _ _ _ _ (fun y => slab_read c fh0 0 _ _ rfl y) (fun y => slab_read c fh0 1 _ _ rfl y) (fun y => slab_read c fh0 2 _ _ rfl y) (fun y => slab_read c fh0 3 _ _ rfl y)
  isplitl [Hq0]; · iexact Hq0
  isplitl [Hq1]; · iexact Hq1
  isplitl [Hq2]; · iexact Hq2
  isplitl [Hq3]; · iexact Hq3
  isplitl [Htr Ht0 Ht1 Ht2 Ht3]
  · iapply (toks c fh0).2
    isplitl [Htr]; · iexact Htr
    isplitl [Ht0]; · iexact Ht0
    isplitl [Ht1]; · iexact Ht1
    isplitl [Ht2]; · iexact Ht2
    iexact Ht3
  isplitl [Hh1]; · iexact Hh1
  iexists _; iexact HW

set_option maxHeartbeats 1000000 in
/-- A later point: its own work over what the scratch and the gain's row hold. -/
theorem runB (c : Dev nD) (i : grid0.Coords) (arg1 : Memref sig .tc .vmem S256x5632 .bf16) (harg1 : arg1.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg7 : Memref sig .tc .vmem S256x2048 .f32) (harg7 : arg7.IsWhole) (arg8 : Memref sig .tc .vmem S1x2048 .f32) (harg8 : arg8.IsWhole) (arg9 : Memref sig .tc .vmem S2048x5632 .bf16) (harg9 : arg9.IsWhole) (hc0 : ¬cond0_0 i)
    (x0 : Vec F S256x5632 .bf16) (x1 : Vec F S256x2048 .f32) (x2 : Vec F S256x2048 .f32) (x3 : Vec F S1x2048 .f32) (xo : Vec F S1x2048 .f32) (xs : Vec F S2048x5632 .bf16) (fh0 : HbBuf0 (F := F) c hbM0_0) (fh1 : HbBuf0 (F := F) c hbM0_1)
    (W : Waits sig Unit) (K : PUnit → sProp 𝕄) :
    iprop(owns (c : Thread nD τ) arg1 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ owns (c : Thread nD τ) arg8 fullShare xo ∗ owns (c : Thread nD τ) arg9 fullShare xs ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ owes (c : Thread nD τ) 0 W
        ∗ (iprop(owns (c : Thread nD τ) arg1 fullShare x0 ∗ owns (c : Thread nD τ) arg3 fullShare x1 ∗ owns (c : Thread nD τ) arg4 fullShare x2 ∗ owns (c : Thread nD τ) arg5 fullShare x3
              ∗ owns (c : Thread nD τ) arg7 fullShare (dx x0 xs x1 x2 x3)
              ∗ owns (c : Thread nD τ) arg8 fullShare (dg x0 xs x1 xo)
              ∗ owns (c : Thread nD τ) arg9 fullShare xs
              ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ (∃ W', owes (c : Thread nD τ) 0 W')) -∗ K ⟨⟩))
      ⊢ wp frame (wpE (defs₀ (F := F)) Variants.none c none) Set.univ (cc0_bwd_in i arg1 harg1 (Memref.whole main_v2) (Memref.isWhole_whole _) arg3 harg3 arg4 harg4 arg5 harg5 (Memref.whole main_v3) (Memref.isWhole_whole _) arg7 harg7 arg8 harg8 arg9 harg9 cc0_scratch1) K := by
  simp only [cc0_bwd_in_eq_skeleton]; unfold cc0_bwd_in_skel
  simp only [k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hq0, Hq1, Hq2, Hq3, Hh0, Hh1, HW, Hk⟩
  obtain rfl := harg1.eq_unread hf0; obtain rfl := harg3.eq_unread hf1; obtain rfl := harg4.eq_unread hf2; obtain rfl := harg5.eq_unread hf3; obtain rfl := harg8.eq_unread hf5; obtain rfl := harg9.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (View.cover_of_tiledL _ S256x2048.size (by sl_kernel_rfl)), View.canon_unit_zero hz2]
    simp only [View.readAt_eq_ld, harg1.read_unread, harg3.read_unread, harg4.read_unread, harg5.read_unread, harg8.read_unread, harg9.read_unread, View.ld_unit_zero (S := S256x5632) hz2, View.ld_unit_zero (S := S256x2048) hz2, View.ld_unit_zero (S := S1x2048) hz2, View.ld_unit_zero (S := S2048x5632) hz2]
  isplitl [H5]
  · iexists _; isplitr
    swap; · iexact H5
    ipureintro
    sl_unfold_words
    rw [View.read_writes_eq_canon _ _ _ (View.cover_of_tiledL _ S1x2048.size (by sl_kernel_rfl)), View.canon_unit_zero hz2]
    simp only [View.readAt_eq_ld, harg1.read_unread, harg3.read_unread, harg4.read_unread, harg5.read_unread, harg8.read_unread, harg9.read_unread, View.ld_unit_zero (S := S256x5632) hz2, View.ld_unit_zero (S := S256x2048) hz2, View.ld_unit_zero (S := S1x2048) hz2, View.ld_unit_zero (S := S2048x5632) hz2]
  isplitl [HS0]
  · iexists _; isplitr; · ipureintro; exact harg9.read_unread _
    iexact HS0
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  iexists _; iexact HW

/-! ## The contents point by point -/

variable (m : (ℓ : Loc nD τ sig) → Buf (Elt F) ℓ) (ρ : Dev nD → PrngReg)

/-- The packed weight on core `c`. -/
def wt (c : Dev nD) : Vec F S2048x5632 .bf16 := pack (hbM0_0.view.read (Elt F) (V m c main_v2))

/-- What point `t` leaves in the block of the input's gradient. -/
def outX (c : Dev nD) (t : Fin cfg0.N) : Vec F S256x2048 .f32 := dx (iblk m c 0 t) (wt m c) (iblk m c 1 t) (iblk m c 2 t) (iblk m c 3 t)

/-- What the row of the gain's gradient holds after point `n`. -/
def outG (c : Dev nD) : (n : ℕ) → n < cfg0.N → Vec F S1x2048 .f32
  | 0, hn => dg (iblk m c 0 ⟨0, hn⟩) (wt m c) (iblk m c 1 ⟨0, hn⟩) k0_pay2
  | n + 1, hn => dg (iblk m c 0 ⟨n + 1, hn⟩) (wt m c) (iblk m c 1 ⟨n + 1, hn⟩) (outG c n (Nat.lt_of_succ_lt hn))

theorem outG_zero (c : Dev nD) (t : Fin cfg0.N) (h : t.val = 0) :
    outG m c t.val t.isLt = dg (iblk m c 0 t) (wt m c) (iblk m c 1 t) k0_pay2 := by
  obtain ⟨n, hn⟩ := t
  cases n with
  | zero => rfl
  | succ n => exact absurd h (Nat.succ_ne_zero n)

theorem outG_pos (c : Dev nD) (t : Fin cfg0.N) (h : t.val ≠ 0) :
    outG m c t.val t.isLt = dg (iblk m c 0 t) (wt m c) (iblk m c 1 t) (outG m c (t.val - 1) (Nat.lt_of_le_of_lt (Nat.sub_le _ _) t.isLt)) := by
  obtain ⟨n, hn⟩ := t
  cases n with
  | zero => exact absurd rfl h
  | succ n => rfl

/-- What is held between points beside the staged blocks, the scratch at `S`. -/
def rest (c : Dev nD) (S : sProp 𝕄) : sProp 𝕄 :=
  iprop(S ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_v2) ∗ hbPt0 c hbM0_1 (V m c main_v3)))

/-- Before the first point the scratch holds anything, afterwards the packed weight. -/
def inv (c : Dev nD) : ℕ → sProp 𝕄
  | 0 => Pipeline.ΦD osem0 spec0 H0 (V m) c
  | _ + 1 => rest m c (owns (c : Thread nD τ) scM0_0 fullShare (wt m c))

theorem inv_zero (c : Dev nD) (n : ℕ) (h : n = 0) : inv m c n = rest m c iprop(∃ d, owns (c : Thread nD τ) scM0_0 fullShare d) := by
  subst h; exact PhiD0_eq m c

theorem inv_pos (c : Dev nD) (n : ℕ) (h : n ≠ 0) : inv m c n = rest m c (owns (c : Thread nD τ) scM0_0 fullShare (wt m c)) := by
  cases n with
  | zero => exact absurd rfl h
  | succ n => rfl

/-- The pipeline's proof data: each input's buffer at its block, the two outputs' as above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outX m c t
    | ⟨5, _⟩ => outG m c t.val t.isLt
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outX m c t := by dsimp only [dats]
theorem after5 (c : Dev nD) (t : Fin cfg0.N) : (dats m 0 c).after 5 t = outG m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
/-- At a later point the gain's row still holds what the point before left: it is written back only at the end. -/
theorem before5 (c : Dev nD) (t : Fin cfg0.N) (h : t.val ≠ 0) (d) :
    (dats m 0 c).before 5 t d = outG m c (t.val - 1) (Nat.lt_of_le_of_lt (Nat.sub_le _ _) t.isLt) := by
  have hN : t.val < 32 := lt_of_lt_of_eq t.isLt (show cfg0.N = 32 from N_0)
  rw [Dat.before_out_kept _ 5 rfl t h (Bool.eq_false_iff.mpr fun e => by have := (flush0_5 _).mp e; dsimp only at this; omega)
    (fun _ => rfl) (fun _ _ => rfl)]
  dsimp only [dats]

/-! ## The body at every point -/

/-- What the body is called with at point `t`, window by window … -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- … and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = inv m c (t.val + 1) from rfl, show (dats m 0 c).Φ t.castSucc = inv m c t.val from rfl,
    inv_pos m c (t.val + 1) (Nat.succ_ne_zero _), after0, after1, after2, after3, after4, after5]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases hz : t.val = 0
  · rw [inv_zero m c _ hz, outG_zero m c t hz]
    unfold rest
    iintro ⟨⟨HS0, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ ((hcond0_0 t).mpr (by omega)) (iblk m c 0 t) (iblk m c 1 t) (iblk m c 2 t) (iblk m c 3 t) (V m c main_v2) (V m c main_v3) W _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, H3, H4, H5, HS0, Hq0, Hq1, Hq2, Hq3, Hh0, Hh1, ⟨%W', HW'⟩⟩
    isplitl [HS0 Hg Hq0 Hq1 Hq2 Hq3 Hh0 Hh1]
    · isplitl [HS0]; · iexact HS0
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · rw [inv_pos m c _ hz, outG_pos m c t hz]
    simp only [before5 m c t hz]
    unfold rest
    iintro ⟨⟨HS0, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ (fun h => hz (by have := (hcond0_0 t).mp h; omega)) (iblk m c 0 t) (iblk m c 1 t) (iblk m c 2 t) (iblk m c 3 t) _ _ (V m c main_v2) (V m c main_v3) W _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, H3, H4, H5, HS0, Hq0, Hq1, Hq2, Hq3, Hh0, Hh1, ⟨%W', HW'⟩⟩
    isplitl [HS0 Hg Hq0 Hq1 Hq2 Hq3 Hh0 Hh1]
    · isplitl [HS0]; · iexact HS0
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the scratch's contents are forgotten. -/
theorem hout (c : Dev nD) : (dats m 0 c).Φ (Fin.last cfg0.N) ⊢ Pipeline.ΦD osem0 spec0 H0 (V m) c := by
  have e : cfg0.N ≠ 0 := by rw [show cfg0.N = 32 from N_0]; decide
  rw [show (dats m 0 c).Φ (Fin.last cfg0.N) = inv m c cfg0.N from rfl, inv_pos m c _ e, PhiD0_eq]
  unfold rest
  iintro ⟨HS0, Hr⟩
  isplitl [HS0]
  · iexists _; iexact HS0
  iexact Hr

-- the launch theorem's implicit arguments are found through plain definitions in types
set_option backward.isDefEq.respectTransparency.types false in
/-- The launch: every array ends at what the proof data say, and every semaphore counter at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := hout m)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.BwdInIdeal.Own

end
-- ==== Proof.BwdMixBlocks.lean ====
module

public import proofs.«01_k».proof.Proof.Gen.BwdMixIdeal.Frame
public import proofs.«01_k».proof.Proof.Gen.BwdMixIdeal.Skeleton
public import proofs.«01_k».proof.Proof.Common
public import Idealize.ShloMosaic.Lib.ValueLayout
public import Idealize.ShloMosaic.Lib.WritesUnit
public import Idealize.ShloMosaic.Lib.Claim

/-! What a point of the backward token mixer does to the gradient of the spatial weights, over any float values: sixteen
heads' products of two tables, added head by head, and at the last point the lower triangle kept. Of the other arrays the
body writes nothing is said. -/

@[expose] public section

set_option maxRecDepth 16384

noncomputable section

namespace Cert.BwdMixIdeal.Own

open Cert.BwdMixIdeal Cert.BwdMixIdeal.Gen
open Cert.Common Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The body's three conditions at a point: the first point, a point with a block of rows, the last point. -/
abbrev first (i : grid0.Coords) : Prop := k0_cond1 i = 1#1
abbrev inner (i : grid0.Coords) : Prop := k0_cond2 i = 1#1
abbrev last (i : grid0.Coords) : Prop := k0_cond3 i = 1#1

theorem hz3 : (![0, 0, 0] : Fin 3 → Nat) = fun _ => 0 := funext fun a => by fin_cases a <;> rfl

/-- The block of rows `b` of a table, its columns from `o` on. -/
def cut {W : ℕ} (b : Fin 2) (o : ℕ) (ho : o + 1024 ≤ W) (x : (⟨2, ![256, W]⟩ : Shape).Idx → F .f32) : Vec F S128x1024 .f32 := fun y =>
  x (ix2 ⟨128 * b.val + (y 0).val, by have h : (y 0).val < 128 := (y 0).isLt; have := b.isLt; omega⟩
    ⟨o + (y 1).val, by have h : (y 1).val < 1024 := (y 1).isLt; omega⟩)

/-- The load of those rows and columns out of a buffer. -/
def load {W : ℕ} (b : Fin 2) (o : ℕ) (ho : o + 1024 ≤ W) (M : Memref sig .tc .vmem ⟨2, ![256, W]⟩ .f32) (hM : M.IsWhole) (x : Vec F ⟨2, ![256, W]⟩ .f32) : Vec F S128x1024 .f32 :=
  M.view.readAt (Elt F) ((Rect.unit (s := ⟨2, ![256, W]⟩) ![128 * b.val, 0] (⟨2, ![128, W]⟩ : Shape).size (fun a => match a with
      | ⟨0, _⟩ => (by have := b.isLt; omega : 128 * b.val + 128 ≤ 256)
      | ⟨1, _⟩ => (by omega : 0 + W ≤ W))).withinL
    (Rect.unit (s := ⟨2, ![128, W]⟩) ![0, o] S128x1024.size (fun a => match a with
      | ⟨0, _⟩ => (by omega : 0 + 128 ≤ 128)
      | ⟨1, _⟩ => ho)).toLoadRect (fun _ => rfl)) (hM.unread x)

theorem load_cut {W : ℕ} (b : Fin 2) (o : ℕ) (ho : o + 1024 ≤ W) (M : Memref sig .tc .vmem ⟨2, ![256, W]⟩ .f32) (hM : M.IsWhole) (x : Vec F ⟨2, ![256, W]⟩ .f32) :
    load b o ho M hM x = cut b o ho x := by
  funext y
  refine (congrFun (hM.read_unread x) _).trans (congrArg x (funext fun a => Fin.ext ?_))
  match a with
  | ⟨0, _⟩ => show 128 * b.val + 0 + 1 * (y 0).val = 128 * b.val + (y 0).val; omega
  | ⟨1, _⟩ => show 0 + o + 1 * (y 1).val = o + (y 1).val; omega

/-- The gated gradient's rows and the gelu's rows out of the columns they depend on. -/
def dOf (gb u m : Vec F S128x1024 .f32) : FVec F S128x1024 .bf16 :=
  k0_pay40 gb (k0_pay17 u (k0_pay14 u) k0_pay15) (k0_pay34 gb) (Scalar.ofBits .f32 0x3F800000#32) m

/-- The two tables of a block of rows: the gradient that reaches the mixed values, and the values mixed. -/
def dRows (b : Fin 2) (x1 : Vec F S256x5632 .f32) (x3 : Vec F S256x2048 .f32) : FVec F S128x1024 .bf16 :=
  dOf (cut b 4608 (by decide) x1) (cut b 2560 (by decide) x1) (cut b 1024 (by decide) x3)
def zRows (b : Fin 2) (x1 : Vec F S256x5632 .f32) : FVec F S128x1024 .bf16 := k0_pay21 (cut b 3584 (by decide) x1)

/-- The same two tables out of the loads. -/
def dLoad (b : Fin 2) (M : Memref sig .tc .vmem S256x5632 .f32) (hM : M.IsWhole) (M' : Memref sig .tc .vmem S256x2048 .f32) (hM' : M'.IsWhole)
    (x1 : Vec F S256x5632 .f32) (x3 : Vec F S256x2048 .f32) : FVec F S128x1024 .bf16 :=
  dOf (load b 4608 (by decide) M hM x1) (load b 2560 (by decide) M hM x1) (load b 1024 (by decide) M' hM' x3)
def zLoad (b : Fin 2) (M : Memref sig .tc .vmem S256x5632 .f32) (hM : M.IsWhole) (x1 : Vec F S256x5632 .f32) : FVec F S128x1024 .bf16 :=
  k0_pay21 (load b 3584 (by decide) M hM x1)

theorem dLoad_eq (b : Fin 2) (M : Memref sig .tc .vmem S256x5632 .f32) (hM : M.IsWhole) (M' : Memref sig .tc .vmem S256x2048 .f32) (hM' : M'.IsWhole)
    (x1 : Vec F S256x5632 .f32) (x3 : Vec F S256x2048 .f32) : dLoad b M hM M' hM' x1 x3 = dRows b x1 x3 := by
  unfold dLoad dRows
  rw [load_cut, load_cut, load_cut]
theorem zLoad_eq (b : Fin 2) (M : Memref sig .tc .vmem S256x5632 .f32) (hM : M.IsWhole) (x1 : Vec F S256x5632 .f32) : zLoad b M hM x1 = zRows b x1 := by
  unfold zLoad zRows
  rw [load_cut]

/-- One head's product added to what its block holds. -/
def addProd (d z : FVec F S128x128 .bf16) (a : Vec F S1x128x128 .f32) : Vec F S1x128x128 .f32 :=
  shapeCast S1x128x128 (addf (shapeCast S128x128 a shapeCasts_S1x128x128_S128x128)
    (matmul dot_S128x128_S128x128_S128x128_1_1_0_0_n_n none d z (constant S128x128 .f32 0x00000000#32))) shapeCasts_S128x128_S1x128x128

/-- Of a pair of heads' lanes, the ones of the head itself; the others zero. -/
def half (even : Bool) (d : FVec F S128x128 .bf16) : FVec F S128x128 .bf16 :=
  let lo : IVec S128x128 1 := broadcastTo S128x128 (shapeCast S1x128 k0_pay13 shapeCasts_S1x128_S1x128) broadcasts_S1x128_S128x128
  let z : FVec F S128x128 .bf16 := broadcast S128x128 (Scalar.ofBits .bf16 0x0000#16)
  match even with
  | true => select lo d z
  | false => select lo z d

theorem tile_in : ∀ h : Fin 16, S128x1024.Slices ![0, 128 * (h.val / 2)] S128x128 := by decide

/-- Head `h`'s block after a block of rows. -/
def head (d z : FVec F S128x1024 .bf16) (h : Fin 16) (a : Vec F S1x128x128 .f32) : Vec F S1x128x128 .f32 :=
  addProd (half (h.val % 2 == 0) (extractStridedSlice S128x128 ![0, 128 * (h.val / 2)] d (tile_in h)))
    (extractStridedSlice S128x128 ![0, 128 * (h.val / 2)] z (tile_in h)) a

/-- Head `h`'s block masked to its lower triangle. -/
def low (h : Fin 16) (a : Vec F S1x128x128 .f32) : Vec F S1x128x128 .f32 :=
  k0_pay1003 (iota .tc S128x128 32 [0] iota_S128x128_d0_w32) (iota .tc S128x128 32 [1] iota_S128x128_d1_w32) a

/-- Head `h`'s block of the sixteen. -/
def blk (X : Vec F S16x128x128 .f32) (h : Fin 16) : Vec F S1x128x128 .f32 := fun j => X (ix3 h (j 1) (j 2))

/-- The sixteen blocks, each replaced. -/
def each (P : Fin 16 → Vec F S1x128x128 .f32 → Vec F S1x128x128 .f32) (X : Vec F S16x128x128 .f32) : Vec F S16x128x128 .f32 := fun y =>
  P (y 0) (blk X (y 0)) (ix3 0 (y 1) (y 2))

/-- The first `n` blocks have been replaced; the others hold `X` if the buffer did (`H`). -/
def Done (M : Memref sig .tc .vmem S16x128x128 .f32) (P : Fin 16 → Vec F S1x128x128 .f32 → Vec F S1x128x128 .f32) (X : Vec F S16x128x128 .f32)
    (H : M.view.ty.Contents (Elt F) → Prop) (n : ℕ) (L : List (View.Piece (Elt F) S16x128x128 .f32)) : Prop :=
  ∀ f y, ((y 0).val < n → M.view.read (Elt F) (M.view.writes (Elt F) f L) y = each P X y)
    ∧ (n ≤ (y 0).val → H f → M.view.read (Elt F) (M.view.writes (Elt F) f L) y = X y)

section Steps

variable {M : Memref sig .tc .vmem S16x128x128 .f32} {P : Fin 16 → Vec F S1x128x128 .f32 → Vec F S1x128x128 .f32} {X : Vec F S16x128x128 .f32}
  {H : M.view.ty.Contents (Elt F) → Prop} {n : ℕ} {L : List (View.Piece (Elt F) S16x128x128 .f32)}

/-- One more block replaced. -/
theorem Done.put (g : Done M P X H n L) (inb : ∀ a, (![n, 0, 0] : Fin 3 → ℕ) a + S1x128x128.size a ≤ S16x128x128.size a) (W : Vec F S1x128x128 .f32)
    (hn : n < 16) (hW : W = P ⟨n, hn⟩ (blk X ⟨n, hn⟩)) : Done M P X H (n + 1) (⟨Rect.unit ![n, 0, 0] S1x128x128.size inb, W⟩ :: L) := by
  intro f y
  by_cases e : (y 0).val = n
  · have hy : M.view.read (Elt F) (M.view.writes (Elt F) f (⟨Rect.unit ![n, 0, 0] S1x128x128.size inb, W⟩ :: L)) y = W (ix3 0 (y 1) (y 2)) :=
      View.read_writes_cons_unit_of_mem M.view f inb W L y (ix3 0 (y 1) (y 2)) rfl (fun a => match a with
        | ⟨0, _⟩ => e
        | ⟨1, _⟩ => (Nat.zero_add _).symm
        | ⟨2, _⟩ => (Nat.zero_add _).symm)
    refine ⟨fun _ => ?_, fun h => absurd h (by omega)⟩
    rw [hy, hW]
    show _ = P (y 0) (blk X (y 0)) _
    rw [show (⟨n, hn⟩ : Fin 16) = y 0 from Fin.ext e.symm]
  · have hy : M.view.read (Elt F) (M.view.writes (Elt F) f (⟨Rect.unit ![n, 0, 0] S1x128x128.size inb, W⟩ :: L)) y
        = M.view.read (Elt F) (M.view.writes (Elt F) f L) y :=
      View.read_writes_cons_unit_of_not_mem M.view f inb W L y rfl (0 : Fin 3) (by
        show (y 0).val < n ∨ n + 1 ≤ (y 0).val; omega)
    rw [hy]
    exact ⟨fun h => (g f y).1 (by omega), fun h => (g f y).2 (by omega)⟩

/-- A block read back out of the stores so far, then replaced. -/
theorem Done.cov (g : Done M P X (fun _ => True) n L) {inb : ∀ a, (![n, 0, 0] : Fin 3 → ℕ) a + S1x128x128.size a ≤ S16x128x128.size a} {W : Vec F S1x128x128 .f32}
    (hn : n < 16) (hW : W = P ⟨n, hn⟩ (M.view.readCov L (Rect.unit (s := S16x128x128) ![n, 0, 0] S1x128x128.size inb).toLoadRect)) :
    Done M P X (fun _ => True) (n + 1) (⟨Rect.unit ![n, 0, 0] S1x128x128.size inb, W⟩ :: L) := by
  refine g.put inb W hn (hW.trans (congrArg _ ?_))
  funext j
  refine Eq.trans (congrArg (M.view.read (Elt F) (M.view.writes (Elt F) M.view.junk L)) ?_) ((g _ (ix3 ⟨n, hn⟩ (j 1) (j 2))).2 (le_refl n) trivial)
  have h0 : (j 0).val < 1 := (j 0).isLt
  funext a
  refine Fin.ext ?_
  match a with
  | ⟨0, _⟩ => show n + 1 * (j 0).val = n; omega
  | ⟨1, _⟩ => show 0 + 1 * (j 1).val = (j 1).val; omega
  | ⟨2, _⟩ => show 0 + 1 * (j 2).val = (j 2).val; omega

/-- A block as the buffer held it before, replaced. -/
theorem Done.old (hM : M.IsWhole) (g : Done M P X H n L) {inb : ∀ a, (![n, 0, 0] : Fin 3 → ℕ) a + S1x128x128.size a ≤ S16x128x128.size a} {W : Vec F S1x128x128 .f32}
    (hn : n < 16) (hW : W = P ⟨n, hn⟩ (M.view.readAt (Elt F) (Rect.unit (s := S16x128x128) ![n, 0, 0] S1x128x128.size inb).toLoadRect (hM.unread X))) :
    Done M P X H (n + 1) (⟨Rect.unit ![n, 0, 0] S1x128x128.size inb, W⟩ :: L) := by
  refine g.put inb W hn (hW.trans (congrArg _ ?_))
  funext j
  refine (congrFun (hM.read_unread X) _).trans (congrArg X ?_)
  have h0 : (j 0).val < 1 := (j 0).isLt
  funext a
  refine Fin.ext ?_
  match a with
  | ⟨0, _⟩ => show n + 1 * (j 0).val = n; omega
  | ⟨1, _⟩ => show 0 + 1 * (j 1).val = (j 1).val; omega
  | ⟨2, _⟩ => show 0 + 1 * (j 2).val = (j 2).val; omega

theorem Done.zero (h : ∀ f, M.view.read (Elt F) (M.view.writes (Elt F) f L) = X) : Done M P X (fun _ => True) 0 L :=
  fun f y => ⟨fun h => absurd h (Nat.not_lt_zero _), fun _ _ => congrFun (h f) y⟩

theorem Done.none : Done M P X (fun f => M.view.read (Elt F) f = X) 0 [] :=
  fun f y => ⟨fun h => absurd h (Nat.not_lt_zero _), fun _ h => congrFun h y⟩

theorem Done.all (g : Done M P X H 16 L) (f) : M.view.read (Elt F) (M.view.writes (Elt F) f L) = each P X :=
  funext fun y => (g f y).1 (y 0).isLt

/-- What two blocks of rows leave, from how each block was stored. -/
theorem of_rows {x1 : Vec F S256x5632 .f32} {x3 : Vec F S256x2048 .f32} {f : M.view.ty.Contents (Elt F)}
    (M1 : Memref sig .tc .vmem S256x5632 .f32) (h1 : M1.IsWhole) (M3 : Memref sig .tc .vmem S256x2048 .f32) (h3 : M3.IsWhole)
    (h : Done M (head (dLoad 1 M1 h1 M3 h3 x1 x3) (zLoad 1 M1 h1 x1)) (each (head (dLoad 0 M1 h1 M3 h3 x1 x3) (zLoad 0 M1 h1 x1)) X) (fun _ => True) 16 L) :
    M.view.read (Elt F) (M.view.writes (Elt F) f L) = each (head (dRows 1 x1 x3) (zRows 1 x1)) (each (head (dRows 0 x1 x3) (zRows 0 x1)) X) := by
  rw [dLoad_eq, dLoad_eq, zLoad_eq, zLoad_eq] at h
  exact h.all f

end Steps

section Body

variable (c : Dev nD) (i : grid0.Coords)
  (arg1 : Memref sig .tc .smem S16 .f32) (harg1 : arg1.IsWhole)
  (arg2 : Memref sig .tc .vmem S256x5632 .f32) (harg2 : arg2.IsWhole)
  (arg3 : Memref sig .tc .vmem S128x512 .f32) (harg3 : arg3.IsWhole)
  (arg4 : Memref sig .tc .vmem S256x2048 .f32) (harg4 : arg4.IsWhole)
  (arg5 : Memref sig .tc .vmem S2x16x128x256 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S128x128 .bf16) (harg8 : arg8.IsWhole)
  (arg9 : Memref sig .tc .vmem S16x128x128 .bf16) (harg9 : arg9.IsWhole)
  (arg10 : Memref sig .tc .vmem S16x128x128 .bf16) (harg10 : arg10.IsWhole)
  (arg11 : Memref sig .tc .vmem S128x1024 .f32) (harg11 : arg11.IsWhole)
  (arg12 : Memref sig .tc .vmem S256x5632 .bf16) (harg12 : arg12.IsWhole)
  (arg13 : Memref sig .tc .vmem S1x128 .f32) (harg13 : arg13.IsWhole)
  (arg14 : Memref sig .tc .vmem S1x128 .f32) (harg14 : arg14.IsWhole)
  (arg15 : Memref sig .tc .vmem S16x128 .f32) (harg15 : arg15.IsWhole)
  (arg16 : Memref sig .tc .vmem S16x128x128 .f32) (harg16 : arg16.IsWhole)
  (arg17 : Memref sig .tc .vmem S16x128 .f32) (harg17 : arg17.IsWhole)
  (arg18 : Memref sig .tc .vmem S256x5632 .f32) (harg18 : arg18.IsWhole)
  (arg19 : Memref sig .tc .vmem S128x1024 .f32) (harg19 : arg19.IsWhole)
variable (x0 : Vec F S16 .f32) (x1 : Vec F S256x5632 .f32) (x2 : Vec F S128x512 .f32) (x3 : Vec F S256x2048 .f32) (x4 : Vec F S2x16x128x256 .f32) (x5 : Vec F S1x128 .f32) (x6 : Vec F S1x128 .f32) (x7 : Vec F S128x128 .bf16) (x8 : Vec F S16x128x128 .bf16) (x9 : Vec F S16x128x128 .bf16) (x10 : Vec F S128x1024 .f32)

/-- The inputs' blocks held. -/
def ins (c : Dev nD) (arg1 : Memref sig .tc .smem S16 .f32) (arg2 : Memref sig .tc .vmem S256x5632 .f32) (arg3 : Memref sig .tc .vmem S128x512 .f32) (arg4 : Memref sig .tc .vmem S256x2048 .f32) (arg5 : Memref sig .tc .vmem S2x16x128x256 .f32) (arg6 : Memref sig .tc .vmem S1x128 .f32) (arg7 : Memref sig .tc .vmem S1x128 .f32) (arg8 : Memref sig .tc .vmem S128x128 .bf16) (arg9 : Memref sig .tc .vmem S16x128x128 .bf16) (arg10 : Memref sig .tc .vmem S16x128x128 .bf16) (arg11 : Memref sig .tc .vmem S128x1024 .f32)
    (x0 : Vec F S16 .f32) (x1 : Vec F S256x5632 .f32) (x2 : Vec F S128x512 .f32) (x3 : Vec F S256x2048 .f32) (x4 : Vec F S2x16x128x256 .f32) (x5 : Vec F S1x128 .f32) (x6 : Vec F S1x128 .f32) (x7 : Vec F S128x128 .bf16) (x8 : Vec F S16x128x128 .bf16) (x9 : Vec F S16x128x128 .bf16) (x10 : Vec F S128x1024 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10)

/-- The buffers of which nothing is said. -/
def outs (c : Dev nD) (arg12 : Memref sig .tc .vmem S256x5632 .bf16) (arg13 : Memref sig .tc .vmem S1x128 .f32) (arg14 : Memref sig .tc .vmem S1x128 .f32) (arg15 : Memref sig .tc .vmem S16x128 .f32) (arg17 : Memref sig .tc .vmem S16x128 .f32) (arg18 : Memref sig .tc .vmem S256x5632 .f32) (arg19 : Memref sig .tc .vmem S128x1024 .f32) : sProp 𝕄 :=
  iprop((∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg17 fullShare d) ∗ (∃ d, owns (c : Thread nD τ) arg18 fullShare d) ∗ (∃ d, owns (c : Thread nD τ) arg19 fullShare d))

theorem back (g12 : arg12.view.ty.Contents (Elt F)) (g13 : arg13.view.ty.Contents (Elt F)) (g14 : arg14.view.ty.Contents (Elt F)) (g15 : arg15.view.ty.Contents (Elt F)) (g17 : arg17.view.ty.Contents (Elt F)) (g18 : arg18.view.ty.Contents (Elt F)) (g19 : arg19.view.ty.Contents (Elt F)) :
    (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg6.view.loc (c : Thread nD τ) ↦[arg6.view.set]{fullShare} harg6.unread x5) ∗ (arg7.view.loc (c : Thread nD τ) ↦[arg7.view.set]{fullShare} harg7.unread x6) ∗ (arg8.view.loc (c : Thread nD τ) ↦[arg8.view.set]{fullShare} harg8.unread x7) ∗ (arg9.view.loc (c : Thread nD τ) ↦[arg9.view.set]{fullShare} harg9.unread x8) ∗ (arg10.view.loc (c : Thread nD τ) ↦[arg10.view.set]{fullShare} harg10.unread x9) ∗ (arg11.view.loc (c : Thread nD τ) ↦[arg11.view.set]{fullShare} harg11.unread x10)
      ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19)) : sProp 𝕄)
    ⊢ iprop(ins c arg1 arg2 arg3 arg4 arg5 arg6 arg7 arg8 arg9 arg10 arg11 x0 x1 x2 x3 x4 x5 x6 x7 x8 x9 x10 ∗ outs (F := F) c arg12 arg13 arg14 arg15 arg17 arg18 arg19) := by
  unfold ins outs owns
  iintro ⟨H1, H2, H3, H4, H5, H6, H7, H8, H9, H10, H11, H12, H13, H14, H15, H17, H18, H19⟩
  isplitl [H1 H2 H3 H4 H5 H6 H7 H8 H9 H10 H11]
  · isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexists _; isplitr; · ipureintro; exact harg11.read_unread _
    iexact H11
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Body

end Cert.BwdMixIdeal.Own

end
-- ==== Proof.BwdMixFirst.lean ====
module

public import proofs.«01_k».proof.Proof.BwdMixBlocks

/-! The backward token mixer's body at the first point: the sixteen blocks set to zero, then two blocks of rows. -/

@[expose] public section

set_option maxRecDepth 16384

noncomputable section

namespace Cert.BwdMixIdeal.Own

open Cert.BwdMixIdeal Cert.BwdMixIdeal.Gen
open Cert.Common Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg1 : Memref sig .tc .smem S16 .f32) (harg1 : arg1.IsWhole)
  (arg2 : Memref sig .tc .vmem S256x5632 .f32) (harg2 : arg2.IsWhole)
  (arg3 : Memref sig .tc .vmem S128x512 .f32) (harg3 : arg3.IsWhole)
  (arg4 : Memref sig .tc .vmem S256x2048 .f32) (harg4 : arg4.IsWhole)
  (arg5 : Memref sig .tc .vmem S2x16x128x256 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S128x128 .bf16) (harg8 : arg8.IsWhole)
  (arg9 : Memref sig .tc .vmem S16x128x128 .bf16) (harg9 : arg9.IsWhole)
  (arg10 : Memref sig .tc .vmem S16x128x128 .bf16) (harg10 : arg10.IsWhole)
  (arg11 : Memref sig .tc .vmem S128x1024 .f32) (harg11 : arg11.IsWhole)
  (arg12 : Memref sig .tc .vmem S256x5632 .bf16) (harg12 : arg12.IsWhole)
  (arg13 : Memref sig .tc .vmem S1x128 .f32) (harg13 : arg13.IsWhole)
  (arg14 : Memref sig .tc .vmem S1x128 .f32) (harg14 : arg14.IsWhole)
  (arg15 : Memref sig .tc .vmem S16x128 .f32) (harg15 : arg15.IsWhole)
  (arg16 : Memref sig .tc .vmem S16x128x128 .f32) (harg16 : arg16.IsWhole)
  (arg17 : Memref sig .tc .vmem S16x128 .f32) (harg17 : arg17.IsWhole)
  (arg18 : Memref sig .tc .vmem S256x5632 .f32) (harg18 : arg18.IsWhole)
  (arg19 : Memref sig .tc .vmem S128x1024 .f32) (harg19 : arg19.IsWhole)
variable (x0 : Vec F S16 .f32) (x1 : Vec F S256x5632 .f32) (x2 : Vec F S128x512 .f32) (x3 : Vec F S256x2048 .f32) (x4 : Vec F S2x16x128x256 .f32) (x5 : Vec F S1x128 .f32) (x6 : Vec F S1x128 .f32) (x7 : Vec F S128x128 .bf16) (x8 : Vec F S16x128x128 .bf16) (x9 : Vec F S16x128x128 .bf16) (x10 : Vec F S128x1024 .f32)

set_option maxHeartbeats 4000000 in
/-- The first point: the sixteen blocks set to zero, then two blocks of rows on top. -/
theorem run_first (hc0 : first i) (hc1 : inner i) (hc2 : ¬last i) (K : PUnit → sProp 𝕄) :
    iprop(ins c arg1 arg2 arg3 arg4 arg5 arg6 arg7 arg8 arg9 arg10 arg11 x0 x1 x2 x3 x4 x5 x6 x7 x8 x9 x10 ∗ outs (F := F) c arg12 arg13 arg14 arg15 arg17 arg18 arg19 ∗ (∃ d, owns (c : Thread nD τ) arg16 fullShare d)
        ∗ (iprop(ins c arg1 arg2 arg3 arg4 arg5 arg6 arg7 arg8 arg9 arg10 arg11 x0 x1 x2 x3 x4 x5 x6 x7 x8 x9 x10 ∗ outs (F := F) c arg12 arg13 arg14 arg15 arg17 arg18 arg19 ∗ owns (c : Thread nD τ) arg16 fullShare (each (head (dRows 1 x1 x3) (zRows 1 x1)) (each (head (dRows 0 x1 x3) (zRows 0 x1)) k0_pay6))) -∗ K ⟨⟩))
      ⊢ wp frame (wpE (defs₀ (F := F)) Variants.none c none) Set.univ (cc0_bwd_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_bwd_mix_eq_skeleton]; unfold cc0_bwd_mix_skel
  simp only [k0_part103_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part104_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton]
  unfold ins outs owns
  iintro ⟨⟨⟨%f0, %hf0, H1⟩, ⟨%f1, %hf1, H2⟩, ⟨%f2, %hf2, H3⟩, ⟨%f3, %hf3, H4⟩, ⟨%f4, %hf4, H5⟩, ⟨%f5, %hf5, H6⟩, ⟨%f6, %hf6, H7⟩, ⟨%f7, %hf7, H8⟩, ⟨%f8, %hf8, H9⟩, ⟨%f9, %hf9, H10⟩, ⟨%f10, %hf10, H11⟩⟩, ⟨⟨%d12, %g12, -, H12⟩, ⟨%d13, %g13, -, H13⟩, ⟨%d14, %g14, -, H14⟩, ⟨%d15, %g15, -, H15⟩, ⟨%d17, %g17, -, H17⟩, ⟨%d18, %g18, -, H18⟩, ⟨%d19, %g19, -, H19⟩⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact hc0 | sl_exact hc1 | sl_exact hc2)
  sl_step
  iapply Hk
  ihave Hb := (back (F := F) c arg1 harg1 arg2 harg2 arg3 harg3 arg4 harg4 arg5 harg5 arg6 harg6 arg7 harg7 arg8 harg8 arg9 harg9 arg10 harg10 arg11 harg11 arg12 arg13 arg14 arg15 arg17 arg18 arg19 x0 x1 x2 x3 x4 x5 x6 x7 x8 x9 x10 _ _ _ _ _ _ _) $$ [H1 H2 H3 H4 H5 H6 H7 H8 H9 H10 H11 H12 H13 H14 H15 H17 H18 H19]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H17]; · iexact H17
    isplitl [H18]; · iexact H18
    iexact H19
  icases Hb with ⟨Hi, Ho⟩
  isplitl [Hi]; · unfold ins owns; iexact Hi
  isplitl [Ho]; · unfold outs owns; iexact Ho
  iexists _; isplitr
  swap; · iexact H16
  ipureintro
  refine of_rows (X := k0_pay6) arg2 harg2 arg4 harg4 ?_
  iterate 16
    refine Done.cov ?_ (by decide) ?_
    on_goal 2 => rfl
  refine Done.zero (Done.all (H := fun _ => True) ?_)
  iterate 16
    refine Done.cov ?_ (by decide) ?_
    on_goal 2 => rfl
  refine Done.zero fun f => ?_
  sl_unfold_words
  rw [View.read_writes_eq_canon _ _ _ (View.cover_of_tiledL _ S16x128x128.size (by sl_kernel_rfl)), View.canon_unit_zero hz3]

end Body

end Cert.BwdMixIdeal.Own

end
-- ==== Proof.BwdMixInner.lean ====
module

public import proofs.«01_k».proof.Proof.BwdMixBlocks

/-! The backward token mixer's body at a point between: two blocks of rows on top of what is held. -/

@[expose] public section

set_option maxRecDepth 16384

noncomputable section

namespace Cert.BwdMixIdeal.Own

open Cert.BwdMixIdeal Cert.BwdMixIdeal.Gen
open Cert.Common Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg1 : Memref sig .tc .smem S16 .f32) (harg1 : arg1.IsWhole)
  (arg2 : Memref sig .tc .vmem S256x5632 .f32) (harg2 : arg2.IsWhole)
  (arg3 : Memref sig .tc .vmem S128x512 .f32) (harg3 : arg3.IsWhole)
  (arg4 : Memref sig .tc .vmem S256x2048 .f32) (harg4 : arg4.IsWhole)
  (arg5 : Memref sig .tc .vmem S2x16x128x256 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S128x128 .bf16) (harg8 : arg8.IsWhole)
  (arg9 : Memref sig .tc .vmem S16x128x128 .bf16) (harg9 : arg9.IsWhole)
  (arg10 : Memref sig .tc .vmem S16x128x128 .bf16) (harg10 : arg10.IsWhole)
  (arg11 : Memref sig .tc .vmem S128x1024 .f32) (harg11 : arg11.IsWhole)
  (arg12 : Memref sig .tc .vmem S256x5632 .bf16) (harg12 : arg12.IsWhole)
  (arg13 : Memref sig .tc .vmem S1x128 .f32) (harg13 : arg13.IsWhole)
  (arg14 : Memref sig .tc .vmem S1x128 .f32) (harg14 : arg14.IsWhole)
  (arg15 : Memref sig .tc .vmem S16x128 .f32) (harg15 : arg15.IsWhole)
  (arg16 : Memref sig .tc .vmem S16x128x128 .f32) (harg16 : arg16.IsWhole)
  (arg17 : Memref sig .tc .vmem S16x128 .f32) (harg17 : arg17.IsWhole)
  (arg18 : Memref sig .tc .vmem S256x5632 .f32) (harg18 : arg18.IsWhole)
  (arg19 : Memref sig .tc .vmem S128x1024 .f32) (harg19 : arg19.IsWhole)
variable (x0 : Vec F S16 .f32) (x1 : Vec F S256x5632 .f32) (x2 : Vec F S128x512 .f32) (x3 : Vec F S256x2048 .f32) (x4 : Vec F S2x16x128x256 .f32) (x5 : Vec F S1x128 .f32) (x6 : Vec F S1x128 .f32) (x7 : Vec F S128x128 .bf16) (x8 : Vec F S16x128x128 .bf16) (x9 : Vec F S16x128x128 .bf16) (x10 : Vec F S128x1024 .f32)

set_option maxHeartbeats 4000000 in
/-- A point between: two blocks of rows on top of what the sixteen blocks hold. -/
theorem run_inner (hc0 : ¬first i) (hc1 : inner i) (hc2 : ¬last i) (xo : Vec F S16x128x128 .f32) (K : PUnit → sProp 𝕄) :
    iprop(ins c arg1 arg2 arg3 arg4 arg5 arg6 arg7 arg8 arg9 arg10 arg11 x0 x1 x2 x3 x4 x5 x6 x7 x8 x9 x10 ∗ outs (F := F) c arg12 arg13 arg14 arg15 arg17 arg18 arg19 ∗ owns (c : Thread nD τ) arg16 fullShare xo
        ∗ (iprop(ins c arg1 arg2 arg3 arg4 arg5 arg6 arg7 arg8 arg9 arg10 arg11 x0 x1 x2 x3 x4 x5 x6 x7 x8 x9 x10 ∗ outs (F := F) c arg12 arg13 arg14 arg15 arg17 arg18 arg19 ∗ owns (c : Thread nD τ) arg16 fullShare (each (head (dRows 1 x1 x3) (zRows 1 x1)) (each (head (dRows 0 x1 x3) (zRows 0 x1)) xo))) -∗ K ⟨⟩))
      ⊢ wp frame (wpE (defs₀ (F := F)) Variants.none c none) Set.univ (cc0_bwd_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_bwd_mix_eq_skeleton]; unfold cc0_bwd_mix_skel
  simp only [k0_part103_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part104_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton]
  unfold ins outs owns
  iintro ⟨⟨⟨%f0, %hf0, H1⟩, ⟨%f1, %hf1, H2⟩, ⟨%f2, %hf2, H3⟩, ⟨%f3, %hf3, H4⟩, ⟨%f4, %hf4, H5⟩, ⟨%f5, %hf5, H6⟩, ⟨%f6, %hf6, H7⟩, ⟨%f7, %hf7, H8⟩, ⟨%f8, %hf8, H9⟩, ⟨%f9, %hf9, H10⟩, ⟨%f10, %hf10, H11⟩⟩, ⟨⟨%d12, %g12, -, H12⟩, ⟨%d13, %g13, -, H13⟩, ⟨%d14, %g14, -, H14⟩, ⟨%d15, %g15, -, H15⟩, ⟨%d17, %g17, -, H17⟩, ⟨%d18, %g18, -, H18⟩, ⟨%d19, %g19, -, H19⟩⟩, ⟨%f16, %hf16, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg16.eq_unread hf16
  sl_exec (disch := first | sl_exact hc0 | sl_exact hc1 | sl_exact hc2)
  sl_step
  iapply Hk
  ihave Hb := (back (F := F) c arg1 harg1 arg2 harg2 arg3 harg3 arg4 harg4 arg5 harg5 arg6 harg6 arg7 harg7 arg8 harg8 arg9 harg9 arg10 harg10 arg11 harg11 arg12 arg13 arg14 arg15 arg17 arg18 arg19 x0 x1 x2 x3 x4 x5 x6 x7 x8 x9 x10 _ _ _ _ _ _ _) $$ [H1 H2 H3 H4 H5 H6 H7 H8 H9 H10 H11 H12 H13 H14 H15 H17 H18 H19]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H17]; · iexact H17
    isplitl [H18]; · iexact H18
    iexact H19
  icases Hb with ⟨Hi, Ho⟩
  isplitl [Hi]; · unfold ins owns; iexact Hi
  isplitl [Ho]; · unfold outs owns; iexact Ho
  iexists _; isplitr
  swap; · iexact H16
  ipureintro
  refine of_rows (X := xo) arg2 harg2 arg4 harg4 ?_
  iterate 16
    refine Done.cov ?_ (by decide) ?_
    on_goal 2 => rfl
  refine Done.zero (Done.all (H := fun f => arg16.view.read (Elt F) f = xo) ?_)
  iterate 16
    refine Done.old harg16 ?_ (by decide) ?_
    on_goal 2 => rfl
  exact Done.none

end Body

end Cert.BwdMixIdeal.Own

end
-- ==== Proof.BwdMixLast.lean ====
module

public import proofs.«01_k».proof.Proof.BwdMixBlocks

/-! The backward token mixer's body at the last point: the sixteen blocks masked. -/

@[expose] public section

set_option maxRecDepth 16384

noncomputable section

namespace Cert.BwdMixIdeal.Own

open Cert.BwdMixIdeal Cert.BwdMixIdeal.Gen
open Cert.Common Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg1 : Memref sig .tc .smem S16 .f32) (harg1 : arg1.IsWhole)
  (arg2 : Memref sig .tc .vmem S256x5632 .f32) (harg2 : arg2.IsWhole)
  (arg3 : Memref sig .tc .vmem S128x512 .f32) (harg3 : arg3.IsWhole)
  (arg4 : Memref sig .tc .vmem S256x2048 .f32) (harg4 : arg4.IsWhole)
  (arg5 : Memref sig .tc .vmem S2x16x128x256 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S128x128 .bf16) (harg8 : arg8.IsWhole)
  (arg9 : Memref sig .tc .vmem S16x128x128 .bf16) (harg9 : arg9.IsWhole)
  (arg10 : Memref sig .tc .vmem S16x128x128 .bf16) (harg10 : arg10.IsWhole)
  (arg11 : Memref sig .tc .vmem S128x1024 .f32) (harg11 : arg11.IsWhole)
  (arg12 : Memref sig .tc .vmem S256x5632 .bf16) (harg12 : arg12.IsWhole)
  (arg13 : Memref sig .tc .vmem S1x128 .f32) (harg13 : arg13.IsWhole)
  (arg14 : Memref sig .tc .vmem S1x128 .f32) (harg14 : arg14.IsWhole)
  (arg15 : Memref sig .tc .vmem S16x128 .f32) (harg15 : arg15.IsWhole)
  (arg16 : Memref sig .tc .vmem S16x128x128 .f32) (harg16 : arg16.IsWhole)
  (arg17 : Memref sig .tc .vmem S16x128 .f32) (harg17 : arg17.IsWhole)
  (arg18 : Memref sig .tc .vmem S256x5632 .f32) (harg18 : arg18.IsWhole)
  (arg19 : Memref sig .tc .vmem S128x1024 .f32) (harg19 : arg19.IsWhole)
variable (x0 : Vec F S16 .f32) (x1 : Vec F S256x5632 .f32) (x2 : Vec F S128x512 .f32) (x3 : Vec F S256x2048 .f32) (x4 : Vec F S2x16x128x256 .f32) (x5 : Vec F S1x128 .f32) (x6 : Vec F S1x128 .f32) (x7 : Vec F S128x128 .bf16) (x8 : Vec F S16x128x128 .bf16) (x9 : Vec F S16x128x128 .bf16) (x10 : Vec F S128x1024 .f32)

set_option maxHeartbeats 4000000 in
/-- The last point: the sixteen blocks masked. -/
theorem run_last (hc0 : ¬first i) (hc1 : ¬inner i) (hc2 : last i) (xo : Vec F S16x128x128 .f32) (K : PUnit → sProp 𝕄) :
    iprop(ins c arg1 arg2 arg3 arg4 arg5 arg6 arg7 arg8 arg9 arg10 arg11 x0 x1 x2 x3 x4 x5 x6 x7 x8 x9 x10 ∗ outs (F := F) c arg12 arg13 arg14 arg15 arg17 arg18 arg19 ∗ owns (c : Thread nD τ) arg16 fullShare xo
        ∗ (iprop(ins c arg1 arg2 arg3 arg4 arg5 arg6 arg7 arg8 arg9 arg10 arg11 x0 x1 x2 x3 x4 x5 x6 x7 x8 x9 x10 ∗ outs (F := F) c arg12 arg13 arg14 arg15 arg17 arg18 arg19 ∗ owns (c : Thread nD τ) arg16 fullShare (each low xo)) -∗ K ⟨⟩))
      ⊢ wp frame (wpE (defs₀ (F := F)) Variants.none c none) Set.univ (cc0_bwd_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_bwd_mix_eq_skeleton]; unfold cc0_bwd_mix_skel
  simp only [k0_part105_eq_skeleton, k0_part106_eq_skeleton, k0_part107_eq_skeleton, k0_part108_eq_skeleton, k0_part109_eq_skeleton, k0_part110_eq_skeleton, k0_part111_eq_skeleton, k0_part112_eq_skeleton]
  unfold ins outs owns
  iintro ⟨⟨⟨%f0, %hf0, H1⟩, ⟨%f1, %hf1, H2⟩, ⟨%f2, %hf2, H3⟩, ⟨%f3, %hf3, H4⟩, ⟨%f4, %hf4, H5⟩, ⟨%f5, %hf5, H6⟩, ⟨%f6, %hf6, H7⟩, ⟨%f7, %hf7, H8⟩, ⟨%f8, %hf8, H9⟩, ⟨%f9, %hf9, H10⟩, ⟨%f10, %hf10, H11⟩⟩, ⟨⟨%d12, %g12, -, H12⟩, ⟨%d13, %g13, -, H13⟩, ⟨%d14, %g14, -, H14⟩, ⟨%d15, %g15, -, H15⟩, ⟨%d17, %g17, -, H17⟩, ⟨%d18, %g18, -, H18⟩, ⟨%d19, %g19, -, H19⟩⟩, ⟨%f16, %hf16, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg16.eq_unread hf16
  sl_exec (disch := first | sl_exact hc0 | sl_exact hc1 | sl_exact hc2)
  sl_step
  iapply Hk
  ihave Hb := (back (F := F) c arg1 harg1 arg2 harg2 arg3 harg3 arg4 harg4 arg5 harg5 arg6 harg6 arg7 harg7 arg8 harg8 arg9 harg9 arg10 harg10 arg11 harg11 arg12 arg13 arg14 arg15 arg17 arg18 arg19 x0 x1 x2 x3 x4 x5 x6 x7 x8 x9 x10 _ _ _ _ _ _ _) $$ [H1 H2 H3 H4 H5 H6 H7 H8 H9 H10 H11 H12 H13 H14 H15 H17 H18 H19]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H17]; · iexact H17
    isplitl [H18]; · iexact H18
    iexact H19
  icases Hb with ⟨Hi, Ho⟩
  isplitl [Hi]; · unfold ins owns; iexact Hi
  isplitl [Ho]; · unfold outs owns; iexact Ho
  iexists _; isplitr
  swap; · iexact H16
  ipureintro
  refine Done.all (H := fun f => arg16.view.read (Elt F) f = xo) ?_ _
  iterate 16
    refine Done.old harg16 ?_ (by decide) ?_
    on_goal 2 => rfl
  exact Done.none

end Body

end Cert.BwdMixIdeal.Own

end
-- ==== Proof.BwdMixRun.lean ====
module

public import proofs.«01_k».proof.Proof.BwdMixFirst
public import proofs.«01_k».proof.Proof.BwdMixInner
public import proofs.«01_k».proof.Proof.BwdMixLast
public import Idealize.ShloMosaic.Lib.Pipeline.TableIdle
public import Idealize.ShloMosaic.Lib.Pipeline.FrameBody

/-! The run of the backward token mixer, over any float values: the gradient of the spatial weights point by point, the
other arrays it writes left unsaid, and the frame. -/

@[expose] public section

set_option maxRecDepth 16384

noncomputable section

namespace Cert.BwdMixIdeal.Own

open Cert.BwdMixIdeal Cert.BwdMixIdeal.Gen
open Cert.Common Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the body's conditions hold -/

theorem first_iff : ∀ t : Fin cfg0.N, first (grid0.coords t) ↔ t.val = 0 :=
  (by decide +kernel : ∀ t : Fin grid0.N, first (grid0.coords t) ↔ t.val = 0)
theorem inner_iff : ∀ t : Fin cfg0.N, inner (grid0.coords t) ↔ t.val < 32 :=
  (by decide +kernel : ∀ t : Fin grid0.N, inner (grid0.coords t) ↔ t.val < 32)
theorem last_iff : ∀ t : Fin cfg0.N, last (grid0.coords t) ↔ t.val = 32 :=
  (by decide +kernel : ∀ t : Fin grid0.N, last (grid0.coords t) ↔ t.val = 32)
/-- The gradient's window is stored into at every point. -/
theorem live15 : ∀ i : grid0.Coords, cfg0.idle 15 i = false := by decide +kernel

/-! ## What the points leave -/

/-- Two blocks of rows on top of `X`. -/
def two (c : Dev nD) (t : Fin cfg0.N) (X : Vec F S16x128x128 .f32) : Vec F S16x128x128 .f32 :=
  each (head (dRows 1 (iblk m c 1 t) (iblk m c 3 t)) (zRows 1 (iblk m c 1 t)))
    (each (head (dRows 0 (iblk m c 1 t) (iblk m c 3 t)) (zRows 0 (iblk m c 1 t))) X)

/-- The gradient of the spatial weights after point `n`. -/
def outW (c : Dev nD) : (n : ℕ) → n < cfg0.N → Vec F S16x128x128 .f32
  | 0, h => two m c ⟨0, h⟩ k0_pay6
  | n + 1, h => if n + 1 < 32 then two m c ⟨n + 1, h⟩ (outW c n (Nat.lt_of_succ_lt h)) else each low (outW c n (Nat.lt_of_succ_lt h))

theorem outW_first (c : Dev nD) (t : Fin cfg0.N) (h : t.val = 0) : outW m c t.val t.isLt = two m c t k0_pay6 := by
  obtain ⟨n, hn⟩ := t
  obtain rfl : n = 0 := h
  rfl
theorem outW_inner (c : Dev nD) (t : Fin cfg0.N) (h : t.val ≠ 0) (h' : t.val < 32) :
    outW m c t.val t.isLt = two m c t (outW m c (t.val - 1) (Nat.lt_of_le_of_lt (Nat.sub_le _ _) t.isLt)) := by
  obtain ⟨n, hn⟩ := t
  cases n with
  | zero => exact absurd rfl h
  | succ n => exact if_pos h'
theorem outW_last (c : Dev nD) (t : Fin cfg0.N) (h : t.val ≠ 0) (h' : ¬t.val < 32) :
    outW m c t.val t.isLt = each low (outW m c (t.val - 1) (Nat.lt_of_le_of_lt (Nat.sub_le _ _) t.isLt)) := by
  obtain ⟨n, hn⟩ := t
  cases n with
  | zero => exact absurd rfl h
  | succ n => exact if_neg h'

/-- The windows of which nothing is said. -/
def forgets0 : Fin 17 → Bool := fun w => w.val == 11 || w.val == 12 || w.val == 13 || w.val == 14 || w.val == 16

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, _⟩ => outW m c t.val t.isLt
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after15 (c : Dev nD) (t : Fin cfg0.N) : (dats m 0 c).after 15 t = outW m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
/-- At a later point the gradient's buffer still holds what the point before left: it is written back only at the end. -/
theorem before15 (c : Dev nD) (t : Fin cfg0.N) (h : t.val ≠ 0) (d) :
    (dats m 0 c).before 15 t d = outW m c (t.val - 1) (Nat.lt_of_le_of_lt (Nat.sub_le _ _) t.isLt) := by
  have hN : t.val < 33 := lt_of_lt_of_eq t.isLt (show cfg0.N = 33 from N_0)
  rw [Dat.before_out_kept _ 15 rfl t h (Bool.eq_false_iff.mpr fun e => by have := (flush0_15 _).mp e; dsimp only at this; omega)
    live15 (fun _ _ => rfl)]
  dsimp only [dats]

/-! ## The body at every point -/

/-- What the body is called with at point `t`, window by window … -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare ((dats m 0 c).before 15 t d))
    ∗ (∃ d, owns (c : Thread nD τ) (st0_16 t) fullShare d))

/-- … and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (dats m 0 c).leavesExact 15 t
    ∗ (∃ d, owns (c : Thread nD τ) (st0_16 t) fullShare d))

/-- The scratch buffers and the generator's register, held at any point. -/
theorem PhiA_eq (c : Dev nD) : (Pipeline.ΦA spec0 c : sProp 𝕄)
    = iprop(iprop((∃ d, owns (c : Thread nD τ) (Memref.whole cc0_scratch0 : Memref sig .tc .vmem S256x5632 .f32) fullShare d)
      ∗ (∃ d, owns (c : Thread nD τ) (Memref.whole cc0_scratch1 : Memref sig .tc .vmem S128x1024 .f32) fullShare d)) ∗ (∃ r, prngReg c r)) := by
  unfold Pipeline.ΦA; rw [scopedRest0_eq]; simp only [owns_whole]; try rfl

set_option maxHeartbeats 3200000 in
/-- A point's run, from a run of its body that takes the gradient's buffer from `P` to `X`. -/
theorem body_of (c : Dev nD) (t : Fin cfg0.N) (P : sProp 𝕄) (X : Vec F S16x128x128 .f32) (hX : outW m c t.val t.isLt = X)
    (hP : iprop(∃ d, owns (c : Thread nD τ) (st0_15 t) fullShare ((dats m 0 c).before 15 t d)) ⊢ P)
    (hrun : ∀ K : PUnit → sProp 𝕄, iprop(ins c (st0_0 t) (st0_1 t) (st0_2 t) (st0_3 t) (st0_4 t) (st0_5 t) (st0_6 t) (st0_7 t) (st0_8 t) (st0_9 t) (st0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
        ∗ outs (F := F) c (st0_11 t) (st0_12 t) (st0_13 t) (st0_14 t) (st0_16 t) (Memref.whole cc0_scratch0) (Memref.whole cc0_scratch1) ∗ P
        ∗ (iprop(ins c (st0_0 t) (st0_1 t) (st0_2 t) (st0_3 t) (st0_4 t) (st0_5 t) (st0_6 t) (st0_7 t) (st0_8 t) (st0_9 t) (st0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
          ∗ outs (F := F) c (st0_11 t) (st0_12 t) (st0_13 t) (st0_14 t) (st0_16 t) (Memref.whole cc0_scratch0) (Memref.whole cc0_scratch1) ∗ owns (c : Thread nD τ) (st0_15 t) fullShare X) -∗ K ⟨⟩))
      ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0, before1, before2, before3, before4, before5, before6, before7, before8, before9, before10, after0, after1, after2, after3, after4, after5, after6, after7, after8, after9, after10]
  rw [show (dats m 0 c).leavesExact 15 t = owns (c : Thread nD τ) (st0_15 t) fullShare ((dats m 0 c).after 15 t) from by
      unfold Dat.leavesExact; rw [live15 _], after15, hX,
    show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  iintro ⟨⟨⟨HS0, HS1⟩, Hg⟩, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15, ⟨%d16, H16⟩⟩
  ihave H15 := hP $$ [H15]
  · iexact H15
  iapply (hrun _)
  unfold ins outs
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14 H16 HS0 HS1]
  · isplitl [H11]; · iexists _; iexact H11
    isplitl [H12]; · iexists _; iexact H12
    isplitl [H13]; · iexists _; iexact H13
    isplitl [H14]; · iexists _; iexact H14
    isplitl [H16]; · iexists _; iexact H16
    isplitl [HS0]; · iexact HS0
    iexact HS1
  isplitl [H15]; · iexact H15
  iintro ⟨⟨H0, H1, H2, H3, H4, H5, H6, H7, H8, H9, H10⟩, ⟨H11, H12, H13, H14, H16, HS0, HS1⟩, H15⟩
  isplitl [HS0 HS1 Hg]
  · isplitl [HS0 HS1]
    · isplitl [HS0]; · iexact HS0
      iexact HS1
    iexact Hg
  isplitl [Hw]; · iexact Hw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem sound_body (c : Dev nD) (t : Fin cfg0.N) :
    bodyPre m c t ⊢ wp frame (wpE (defs₀ (F := F)) Variants.none c none) Set.univ (bodyAt0 t) (fun _ => bodyPost m c t) := by
  have hN : t.val < 33 := lt_of_lt_of_eq t.isLt (show cfg0.N = 33 from N_0)
  by_cases hz : t.val = 0
  · exact body_of m c t (iprop(∃ d, owns (c : Thread nD τ) (st0_15 t) fullShare d) : sProp 𝕄) _ (outW_first m c t hz) (by iintro ⟨%d, H⟩; iexists _; iexact H)
      (run_first c (grid0.coords t) _ _ _ _ _ _ _ _ _ _ _ _ _ _ _ _ _ _ _ _ _ _ _ _ _ _ _ _ _ _ _ _ _ _ _ _ _ _
        (iblk m c 0 t) (iblk m c 1 t) (iblk m c 2 t) (iblk m c 3 t) (iblk m c 4 t) (iblk m c 5 t) (iblk m c 6 t) (iblk m c 7 t) (iblk m c 8 t) (iblk m c 9 t) (iblk m c 10 t) ((first_iff t).mpr hz) ((inner_iff t).mpr (by omega)) (fun h => absurd ((last_iff t).mp h) (by omega)))
  have hP : (iprop(∃ d, owns (c : Thread nD τ) (st0_15 t) fullShare ((dats m 0 c).before 15 t d)) : sProp 𝕄)
      ⊢ owns (c : Thread nD τ) (st0_15 t) fullShare (outW m c (t.val - 1) (Nat.lt_of_le_of_lt (Nat.sub_le _ _) t.isLt)) := by
    simp only [before15 m c t hz]
    iintro ⟨%d, H⟩; iexact H
  by_cases hl : t.val < 32
  · exact body_of m c t _ _ (outW_inner m c t hz hl) hP
      (run_inner c (grid0.coords t) _ _ _ _ _ _ _ _ _ _ _ _ _ _ _ _ _ _ _ _ _ _ _ _ _ _ _ _ _ _ _ _ _ _ _ _ _ _
        (iblk m c 0 t) (iblk m c 1 t) (iblk m c 2 t) (iblk m c 3 t) (iblk m c 4 t) (iblk m c 5 t) (iblk m c 6 t) (iblk m c 7 t) (iblk m c 8 t) (iblk m c 9 t) (iblk m c 10 t) (fun h => hz ((first_iff t).mp h)) ((inner_iff t).mpr hl) (fun h => absurd ((last_iff t).mp h) (by omega)) _)
  · exact body_of m c t _ _ (outW_last m c t hz hl) hP
      (run_last c (grid0.coords t) _ _ _ _ _ _ _ _ _ _ _ _ _ _ _ _ _ _ _ _ _ _ _ _ _ _ _ _ _ _ _ _ _ _ _ _ _ _
        (iblk m c 0 t) (iblk m c 1 t) (iblk m c 2 t) (iblk m c 3 t) (iblk m c 4 t) (iblk m c 5 t) (iblk m c 6 t) (iblk m c 7 t) (iblk m c 8 t) (iblk m c 9 t) (iblk m c 10 t) (fun h => hz ((first_iff t).mp h)) (fun h => hl ((inner_iff t).mp h)) ((last_iff t).mpr (by omega)) _)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found through plain definitions in types
set_option backward.isDefEq.respectTransparency.types false in
/-- The launch: every named array ends at what the proof data say, and every semaphore counter at zero. -/
theorem run_all : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl) (howed := fun _ _ => rfl) (V := V m)
    (hmain := hmain m Variants.none) (hA := A_eq m) (hin := fun c => Idealize.SL.BI.Entails.refl _) (hout := fun c => Idealize.SL.BI.Entails.refl _)

set_option maxHeartbeats 1600000 in
/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(Pipeline.RDat.FramePost.arr_in h.1 c 2 rfl).trans ((A_eq m c 2).trans (V_main_arg0 m c)),
      (Pipeline.RDat.FramePost.arr_in h.1 c 3 rfl).trans ((A_eq m c 3).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 0 rfl).trans ((A_eq m c 0).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_all m ρ)

end Cert.BwdMixIdeal.Own

end
-- ==== Proof.BwdMixText.lean ====
module

public import proofs.«01_k».proof.Defs
public import proofs.«01_k».proof.Proof.Gen.BwdMix
public import proofs.«01_k».proof.Proof.Gen.BwdMixIdeal

/-! The mixing gradient as printed and its ideal reading have one text: the body and the table of bodies agree. -/

@[expose] public section

set_option maxHeartbeats 4000000

noncomputable section

namespace Cert.Frames

open Idealize.ShloMosaic Idealize.ShloMosaic.TcCoe Idealize.SL.Sem

/-- The two bodies are the same text. -/
theorem textBwdMix : Cert.BwdMix.cc0_bwd_mix (F := Bits) = Cert.BwdMixIdeal.cc0_bwd_mix (F := Bits) := by
  rfl

/-- The two programs' body tables agree: the one label has the same text at the same arguments. -/
theorem bodiesBwdMix : Cert.BwdMix.defs₀ (F := Bits) = Cert.BwdMixIdeal.defs₀ (F := Bits) := by
  unfold Cert.BwdMix.defs₀ Cert.BwdMixIdeal.defs₀
  refine congrArg Defs.onTc (funext fun l => funext fun p => ?_)
  match l, p with
  | ⟨0, _⟩, (t, s) =>
    dsimp only
    rw [textBwdMix]
    rfl

theorem tableBwdMix : Cert.BwdMix.defs (F := Bits) = Cert.BwdMixIdeal.defs (F := Bits) :=
  congrArg (Pipeline.defs Cert.BwdMix.pcfgs) bodiesBwdMix

end Cert.Frames

end
-- ==== Proof.BwdMixHost.lean ====
module

public import proofs.«01_k».proof.Defs
public import proofs.«01_k».proof.Proof.Gen.BwdMix
public import proofs.«01_k».proof.Proof.Gen.BwdMixIdeal

/-! The mixing gradient as printed and its ideal reading have one text: the host lines agree. -/

@[expose] public section

set_option maxHeartbeats 4000000

noncomputable section

namespace Cert.Frames

open Idealize.ShloMosaic Idealize.ShloMosaic.TcCoe Idealize.SL.Sem

/-- The constant 128 by 128 matrix that sums each half of a row. -/
theorem halfSumBwdMix : Cert.BwdMix.lit1 = Cert.BwdMixIdeal.lit1 := by
  rfl

/-- The host lines around the call are the same text. -/
theorem mainBwdMix : Cert.BwdMix.main (F := Bits) = Cert.BwdMixIdeal.main (F := Bits) := by
  unfold Cert.BwdMix.main Cert.BwdMixIdeal.main
  rw [halfSumBwdMix]
  rfl

end Cert.Frames

end
-- ==== Proof.FwdInRun.lean ====
module

public import proofs.«01_k».proof.Proof.Gen.FwdInIdeal.Frame.Runs
public import proofs.«01_k».proof.Proof.Common
public import Idealize.ShloMosaic.Lib.ValueLayout
public import Idealize.ShloMosaic.Lib.WritesUnit
public import Idealize.ShloMosaic.Lib.Claim

/-! The run of the forward input projection, over any float values. At its first grid point the body starts four
copies of the weight's column slabs out of the large memory, all in flight together, waits for the four, and from then
on keeps the packed weight in scratch. What each point leaves is stated in closed form. -/

@[expose] public section

set_option maxRecDepth 16384
set_option sl_exec.dmaWindow true
set_option sl_exec.dmaWindowSet true

noncomputable section

namespace Cert.FwdInIdeal.Own

open Cert.FwdInIdeal Cert.FwdInIdeal.Gen
open Cert.Common Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The slabs side by side: column `q` of the packed weight is column `q % 1408` of slab `q / 1408`. -/
def pack (w : Vec F S4x2048x1408 .bf16) : Vec F S2048x5632 .bf16 := fun y =>
  w (ix3 ⟨(y 1).val / 1408, by have := (y 1).isLt; exact Nat.div_lt_of_lt_mul this⟩ (y 0) ⟨(y 1).val % 1408, Nat.mod_lt _ (by decide)⟩)

/-- What a point leaves in the block of the projections. -/
abbrev proj (x : Vec F S256x2048 .f32) (g : Vec F S1x2048 .f32) (w : Vec F S2048x5632 .bf16) : Vec F S256x5632 .f32 :=
  k0_pay2 x g w

/-- The weight's array in the large memory, as shares that the four copies read at once and a rest. -/
theorem toks (c : Dev nD) (f : HbBuf0 (F := F) c hbM0_0) :
    (hbPt0 c hbM0_0 f : sProp 𝕄) ⊣⊢ iprop(((hbM0_0.view.loc (c : Thread nD τ)) ↦{Transfers.shareDrop fullShare 4} f)
      ∗ ((hbM0_0.view.loc (c : Thread nD τ)) ↦{Transfers.shareTokN fullShare 0} f)
      ∗ ((hbM0_0.view.loc (c : Thread nD τ)) ↦{Transfers.shareTokN fullShare 1} f)
      ∗ ((hbM0_0.view.loc (c : Thread nD τ)) ↦{Transfers.shareTokN fullShare 2} f)
      ∗ ((hbM0_0.view.loc (c : Thread nD τ)) ↦{Transfers.shareTokN fullShare 3} f)) := by
  have e : (BI.bigSep Finset.univ (fun i : Fin 4 => ((hbM0_0.view.loc (c : Thread nD τ)) ↦{Transfers.shareTok fullShare 4 i} f : sProp 𝕄)))
      = iprop(((hbM0_0.view.loc (c : Thread nD τ)) ↦{Transfers.shareTokN fullShare 0} f)
      ∗ ((hbM0_0.view.loc (c : Thread nD τ)) ↦{Transfers.shareTokN fullShare 1} f)
      ∗ ((hbM0_0.view.loc (c : Thread nD τ)) ↦{Transfers.shareTokN fullShare 2} f)
      ∗ ((hbM0_0.view.loc (c : Thread nD τ)) ↦{Transfers.shareTokN fullShare 3} f)) := by
    rw [BI.bigSep_eq_bigSepL_of_eq [0, 1, 2, 3] (by decide) (by decide)]; rfl
  rw [← e]
  exact Transfers.pointsTo_toks (Ix := Unit) (Name := ℕ) (U := Pipeline.UD sig nD τ) (Lvl := ℕ) fullShare 4

theorem hz3 : (![0, 0, 0] : Fin 3 → Nat) = fun _ => 0 := funext fun a => by fin_cases a <;> rfl

/-- A slab's copy delivers the slab's rows. -/
theorem slab_read (c : Dev nD) (f : HbBuf0 (F := F) c hbM0_0) (j : Fin 4) (off : Fin 3 → ℕ) (h : ∀ a, off a + S1x2048x1408.size a ≤ S4x2048x1408.size a)
    (ho : off = ![j.val, 0, 0]) (y : S2048x1408.Idx) :
    ((hbM0_0.slice (Rect.unit (s := S4x2048x1408) off S1x2048x1408.size h) (fun _ => rfl)).squeeze S2048x1408 squeezes_S1x2048x1408_S2048x1408).view.read (Elt F) f y
      = (hbM0_0.view.read (Elt F) f : Vec F S4x2048x1408 .bf16) (ix3 j (y 0) (y 1)) := by
  subst ho
  obtain ⟨r, l, rfl⟩ := ix2_surj y
  show (hbM0_0.view.read (Elt F) f : Vec F S4x2048x1408 .bf16) ((Rect.unit (s := S4x2048x1408) ![j.val, 0, 0] S1x2048x1408.size h).emb (Shape.reshapeEquiv _ (ix2 r l))) = _
  rw [show Shape.reshapeEquiv squeezes_S1x2048x1408_S2048x1408.numel_eq (ix2 r l) = ix3 (⟨0, Nat.one_pos⟩ : Fin 1) r l from ValueIdx.reshapeEquiv_ix2_1ab _ r l]
  refine congrArg _ (funext fun a => Fin.ext ?_)
  match a with
  | ⟨0, _⟩ => show j.val + 1 * 0 = j.val; omega
  | ⟨1, _⟩ => show 0 + 1 * r.val = r.val; omega
  | ⟨2, _⟩ => show 0 + 1 * l.val = l.val; omega

/-- The four slabs landed side by side are the packed weight. -/
theorem pack_read (c : Dev nD) (f : HbBuf0 (F := F) c hbM0_0) (M : Memref sig .tc .vmem S2048x5632 .bf16) (g) (p0 p1 p2 p3 : Vec F S2048x1408 .bf16)
    (h0 : ∀ y, p0 y = (hbM0_0.view.read (Elt F) f : Vec F S4x2048x1408 .bf16) (ix3 0 (y 0) (y 1)))
    (h1 : ∀ y, p1 y = (hbM0_0.view.read (Elt F) f : Vec F S4x2048x1408 .bf16) (ix3 1 (y 0) (y 1)))
    (h2 : ∀ y, p2 y = (hbM0_0.view.read (Elt F) f : Vec F S4x2048x1408 .bf16) (ix3 2 (y 0) (y 1)))
    (h3 : ∀ y, p3 y = (hbM0_0.view.read (Elt F) f : Vec F S4x2048x1408 .bf16) (ix3 3 (y 0) (y 1))) :
    M.view.read (Elt F) (M.view.writes (Elt F) g
      [⟨Rect.unit ![0, 4224] S2048x1408.size inb_S2048x5632_S2048x1408_0_4224, p3⟩,
        ⟨Rect.unit ![0, 2816] S2048x1408.size inb_S2048x5632_S2048x1408_0_2816, p2⟩,
        ⟨Rect.unit ![0, 1408] S2048x1408.size inb_S2048x5632_S2048x1408_0_1408, p1⟩,
        ⟨Rect.unit ![0, 0] S2048x1408.size inb_S2048x5632_S2048x1408_0_0, p0⟩]) = pack (hbM0_0.view.read (Elt F) f) := by
  funext y
  obtain ⟨r, q, rfl⟩ := ix2_surj y
  have key : ∀ (j : Fin 4) (l : Fin 1408), q.val = 1408 * j.val + l.val →
      pack (hbM0_0.view.read (Elt F) f) (ix2 r q) = (hbM0_0.view.read (Elt F) f : Vec F S4x2048x1408 .bf16) (ix3 j r l) := fun j l e => by
    refine congrArg (hbM0_0.view.read (Elt F) f : Vec F S4x2048x1408 .bf16) (funext fun a => Fin.ext ?_)
    match a with
    | ⟨0, _⟩ => show q.val / 1408 = j.val; omega
    | ⟨1, _⟩ => rfl
    | ⟨2, _⟩ => show q.val % 1408 = l.val; omega
  have hq := q.isLt
  have out : ∀ (o : ℕ) (inb : ∀ a, (![0, o] : Fin 2 → ℕ) a + S2048x1408.size a ≤ S2048x5632.size a) (w : Vec F S2048x1408 .bf16) (L : List (View.Piece (Elt F) S2048x5632 .bf16)),
      q.val < o ∨ o + 1408 ≤ q.val → M.view.read (Elt F) (M.view.writes (Elt F) g (⟨Rect.unit ![0, o] S2048x1408.size inb, w⟩ :: L)) (ix2 r q)
        = M.view.read (Elt F) (M.view.writes (Elt F) g L) (ix2 r q) := fun o inb w L h =>
    View.read_writes_cons_unit_of_not_mem M.view g inb w L (ix2 r q) rfl (1 : Fin 2) h
  have inn : ∀ (o : ℕ) (inb : ∀ a, (![0, o] : Fin 2 → ℕ) a + S2048x1408.size a ≤ S2048x5632.size a) (w : Vec F S2048x1408 .bf16) (L : List (View.Piece (Elt F) S2048x5632 .bf16))
      (l : Fin 1408), q.val = o + l.val → M.view.read (Elt F) (M.view.writes (Elt F) g (⟨Rect.unit ![0, o] S2048x1408.size inb, w⟩ :: L)) (ix2 r q)
        = w (ix2 r l) := fun o inb w L l h =>
    View.read_writes_cons_unit_of_mem M.view g inb w L (ix2 r q) (ix2 r l) rfl (fun a => match a with
      | ⟨0, _⟩ => (Nat.zero_add r.val).symm
      | ⟨1, _⟩ => h)
  by_cases c3 : 4224 ≤ q.val
  · rw [inn 4224 _ _ _ ⟨q.val - 4224, by omega⟩ (by dsimp only; omega), h3]
    exact (key 3 _ (by show q.val = 1408 * 3 + (q.val - 4224); omega)).symm
  rw [out 4224 _ _ _ (by omega)]
  by_cases c2 : 2816 ≤ q.val
  · rw [inn 2816 _ _ _ ⟨q.val - 2816, by omega⟩ (by dsimp only; omega), h2]
    exact (key 2 _ (by show q.val = 1408 * 2 + (q.val - 2816); omega)).symm
  rw [out 2816 _ _ _ (by omega)]
  by_cases c1 : 1408 ≤ q.val
  · rw [inn 1408 _ _ _ ⟨q.val - 1408, by omega⟩ (by dsimp only; omega), h1]
    exact (key 1 _ (by show q.val = 1408 * 1 + (q.val - 1408); omega)).symm
  rw [out 1408 _ _ _ (by omega), inn 0 _ _ _ ⟨q.val, by omega⟩ (by dsimp only; omega), h0]
  exact (key 0 _ (by show q.val = 1408 * 0 + q.val; omega)).symm

/-- A load of the whole scratch after the four landings reads the packed weight. -/
theorem pack_cov (c : Dev nD) (f : HbBuf0 (F := F) c hbM0_0) (M : Memref sig .tc .vmem S2048x5632 .bf16) (p0 p1 p2 p3 : Vec F S2048x1408 .bf16)
    (h0 : ∀ y, p0 y = (hbM0_0.view.read (Elt F) f : Vec F S4x2048x1408 .bf16) (ix3 0 (y 0) (y 1)))
    (h1 : ∀ y, p1 y = (hbM0_0.view.read (Elt F) f : Vec F S4x2048x1408 .bf16) (ix3 1 (y 0) (y 1)))
    (h2 : ∀ y, p2 y = (hbM0_0.view.read (Elt F) f : Vec F S4x2048x1408 .bf16) (ix3 2 (y 0) (y 1)))
    (h3 : ∀ y, p3 y = (hbM0_0.view.read (Elt F) f : Vec F S4x2048x1408 .bf16) (ix3 3 (y 0) (y 1))) :
    M.view.readCov
      [⟨Rect.unit ![0, 4224] S2048x1408.size inb_S2048x5632_S2048x1408_0_4224, p3⟩,
        ⟨Rect.unit ![0, 2816] S2048x1408.size inb_S2048x5632_S2048x1408_0_2816, p2⟩,
        ⟨Rect.unit ![0, 1408] S2048x1408.size inb_S2048x5632_S2048x1408_0_1408, p1⟩,
        ⟨Rect.unit ![0, 0] S2048x1408.size inb_S2048x5632_S2048x1408_0_0, p0⟩]
      (Rect.unit ![0, 0] S2048x5632.size inb_S2048x5632_S2048x5632_0_0).toLoadRect = pack (hbM0_0.view.read (Elt F) f) := by
  unfold View.readCov
  rw [View.readAt_eq_ld, pack_read c f M _ p0 p1 p2 p3 h0 h1 h2 h3]
  exact View.ld_unit_zero (S := S2048x5632) hz2 _ _

set_option maxHeartbeats 1000000 in
/-- The first point: the copies, then the point's own work over the packed weight. -/
theorem runA (c : Dev nD) (i : grid0.Coords) (arg1 : Memref sig .tc .vmem S256x2048 .f32) (harg1 : arg1.IsWhole) (arg2 : Memref sig .tc .vmem S1x2048 .f32) (harg2 : arg2.IsWhole) (arg4 : Memref sig .tc .vmem S256x5632 .f32) (harg4 : arg4.IsWhole) (arg5 : Memref sig .tc .vmem S256x2048 .bf16) (harg5 : arg5.IsWhole) (arg6 : Memref sig .tc .vmem S2048x5632 .bf16) (harg6 : arg6.IsWhole) (hc0 : cond0_0 i)
    (x0 : Vec F S256x2048 .f32) (x1 : Vec F S1x2048 .f32) (fh0 : HbBuf0 (F := F) c hbM0_0)
    (W : Waits sig Unit) (K : PUnit → sProp 𝕄) :
    iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ owes (c : Thread nD τ) 0 W
        ∗ (iprop(owns (c : Thread nD τ) arg1 fullShare x0 ∗ owns (c : Thread nD τ) arg2 fullShare x1
              ∗ owns (c : Thread nD τ) arg4 fullShare (proj x0 x1 (pack (hbM0_0.view.read (Elt F) fh0)))
              ∗ owns (c : Thread nD τ) arg5 fullShare (k0_pay1 x0 x1)
              ∗ owns (c : Thread nD τ) arg6 fullShare (pack (hbM0_0.view.read (Elt F) fh0))
              ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ (∃ W', owes (c : Thread nD τ) 0 W')) -∗ K ⟨⟩))
      ⊢ wp frame (wpE (defs₀ (F := F)) Variants.none c none) Set.univ (cc0_fwd_in i arg1 harg1 arg2 harg2 (Memref.whole main_v2) (Memref.isWhole_whole _) arg4 harg4 arg5 harg5 arg6 harg6 cc0_scratch1) K := by
  simp only [cc0_fwd_in_eq_skeleton]; unfold cc0_fwd_in_skel
  simp only [k0_part1_eq_skeleton]
  unfold owns
  iintro ⟨⟨%f0, %hf0, H0⟩, ⟨%f1, %hf1, H1⟩, ⟨%d2, %f2, -, H2⟩, ⟨%d3, %f3, -, H3⟩, ⟨%ds0, %fs0, -, HS0⟩, Hq0, Hq1, Hq2, Hq3, Hh0, HW, Hk⟩
  obtain rfl := harg1.eq_unread hf0; obtain rfl := harg2.eq_unread hf1
  ihave Ht := (toks c fh0).1 $$ Hh0
  icases Ht with ⟨Htr, Ht0, Ht1, Ht2, Ht3⟩
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.read_writes_eq_canon _ _ _ (View.cover_of_tiledL _ S256x5632.size (by sl_kernel_rfl)), View.canon_unit_zero hz2,
      pack_cov c fh0 arg6]
    · simp only [View.readAt_eq_ld, harg1.read_unread, harg2.read_unread, View.ld_unit_zero (S := S256x2048) hz2, View.ld_unit_zero (S := S1x2048) hz2, View.ld_unit_zero (S := S2048x5632) hz2]
    · exact fun y => slab_read c fh0 0 _ _ rfl y
    · exact fun y => slab_read c fh0 1 _ _ rfl y
    · exact fun y => slab_read c fh0 2 _ _ rfl y
    · exact fun y => slab_read c fh0 3 _ _ rfl y
  isplitl [H3]
  · iexists _; isplitr
    swap; · iexact H3
    ipureintro
    sl_unfold_words
    rw [View.read_writes_eq_canon _ _ _ (View.cover_of_tiledL _ S256x2048.size (by sl_kernel_rfl)), View.canon_unit_zero hz2]
    simp only [View.readAt_eq_ld, harg1.read_unread, harg2.read_unread, View.ld_unit_zero (S := S256x2048) hz2, View.ld_unit_zero (S := S1x2048) hz2, View.ld_unit_zero (S := S2048x5632) hz2]
  isplitl [HS0]
  · iexists _; isplitr
    swap; · iexact HS0
    ipureintro
    sl_unfold_words
    exact pack_read c fh0 arg6 _ _ _ _ _ (fun y => slab_read c fh0 0 _ _ rfl y) (fun y => slab_read c fh0 1 _ _ rfl y) (fun y => slab_read c fh0 2 _ _ rfl y) (fun y => slab_read c fh0 3 _ _ rfl y)
  isplitl [Hq0]; · iexact Hq0
  isplitl [Hq1]; · iexact Hq1
  isplitl [Hq2]; · iexact Hq2
  isplitl [Hq3]; · iexact Hq3
  isplitl [Htr Ht0 Ht1 Ht2 Ht3]
  · iapply (toks c fh0).2
    isplitl [Htr]; · iexact Htr
    isplitl [Ht0]; · iexact Ht0
    isplitl [Ht1]; · iexact Ht1
    isplitl [Ht2]; · iexact Ht2
    iexact Ht3
  iexists _; iexact HW

set_option maxHeartbeats 1000000 in
/-- A later point: its own work over what the scratch holds. -/
theorem runB (c : Dev nD) (i : grid0.Coords) (arg1 : Memref sig .tc .vmem S256x2048 .f32) (harg1 : arg1.IsWhole) (arg2 : Memref sig .tc .vmem S1x2048 .f32) (harg2 : arg2.IsWhole) (arg4 : Memref sig .tc .vmem S256x5632 .f32) (harg4 : arg4.IsWhole) (arg5 : Memref sig .tc .vmem S256x2048 .bf16) (harg5 : arg5.IsWhole) (arg6 : Memref sig .tc .vmem S2048x5632 .bf16) (harg6 : arg6.IsWhole) (hc0 : ¬cond0_0 i)
    (x0 : Vec F S256x2048 .f32) (x1 : Vec F S1x2048 .f32) (xs : Vec F S2048x5632 .bf16) (fh0 : HbBuf0 (F := F) c hbM0_0)
    (W : Waits sig Unit) (K : PUnit → sProp 𝕄) :
    iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ owns (c : Thread nD τ) arg6 fullShare xs ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ owes (c : Thread nD τ) 0 W
        ∗ (iprop(owns (c : Thread nD τ) arg1 fullShare x0 ∗ owns (c : Thread nD τ) arg2 fullShare x1
              ∗ owns (c : Thread nD τ) arg4 fullShare (proj x0 x1 xs)
              ∗ owns (c : Thread nD τ) arg5 fullShare (k0_pay1 x0 x1)
              ∗ owns (c : Thread nD τ) arg6 fullShare xs
              ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt0 c hbM0_0 fh0 ∗ (∃ W', owes (c : Thread nD τ) 0 W')) -∗ K ⟨⟩))
      ⊢ wp frame (wpE (defs₀ (F := F)) Variants.none c none) Set.univ (cc0_fwd_in i arg1 harg1 arg2 harg2 (Memref.whole main_v2) (Memref.isWhole_whole _) arg4 harg4 arg5 harg5 arg6 harg6 cc0_scratch1) K := by
  simp only [cc0_fwd_in_eq_skeleton]; unfold cc0_fwd_in_skel
  unfold owns
  iintro ⟨⟨%f0, %hf0, H0⟩, ⟨%f1, %hf1, H1⟩, ⟨%d2, %f2, -, H2⟩, ⟨%d3, %f3, -, H3⟩, ⟨%fs0, %hfs0, HS0⟩, Hq0, Hq1, Hq2, Hq3, Hh0, HW, Hk⟩
  obtain rfl := harg1.eq_unread hf0; obtain rfl := harg2.eq_unread hf1; obtain rfl := harg6.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.read_writes_eq_canon _ _ _ (View.cover_of_tiledL _ S256x5632.size (by sl_kernel_rfl)), View.canon_unit_zero hz2]
    simp only [View.readAt_eq_ld, harg1.read_unread, harg2.read_unread, harg6.read_unread, View.ld_unit_zero (S := S256x2048) hz2, View.ld_unit_zero (S := S1x2048) hz2, View.ld_unit_zero (S := S2048x5632) hz2]
  isplitl [H3]
  · iexists _; isplitr
    swap; · iexact H3
    ipureintro
    sl_unfold_words
    rw [View.read_writes_eq_canon _ _ _ (View.cover_of_tiledL _ S256x2048.size (by sl_kernel_rfl)), View.canon_unit_zero hz2]
    simp only [View.readAt_eq_ld, harg1.read_unread, harg2.read_unread, View.ld_unit_zero (S := S256x2048) hz2, View.ld_unit_zero (S := S1x2048) hz2, View.ld_unit_zero (S := S2048x5632) hz2]
  isplitl [HS0]
  · iexists _; isplitr; · ipureintro; exact harg6.read_unread _
    iexact HS0
  isplitl [Hq0]; · iexact Hq0
  isplitl [Hq1]; · iexact Hq1
  isplitl [Hq2]; · iexact Hq2
  isplitl [Hq3]; · iexact Hq3
  isplitl [Hh0]; · iexact Hh0
  iexists _; iexact HW

/-! ## The contents point by point -/

variable (m : (ℓ : Loc nD τ sig) → Buf (Elt F) ℓ) (ρ : Dev nD → PrngReg)

/-- The packed weight on core `c`. -/
def wt (c : Dev nD) : Vec F S2048x5632 .bf16 := pack (hbM0_0.view.read (Elt F) (V m c main_v2))

/-- What point `t` leaves in the block of the projections. -/
def outP (c : Dev nD) (t : Fin cfg0.N) : Vec F S256x5632 .f32 := proj (iblk m c 0 t) (iblk m c 1 t) (wt m c)

/-- What point `t` leaves in the block of the normed rows. -/
def outH (c : Dev nD) (t : Fin cfg0.N) : Vec F S256x2048 .bf16 := k0_pay1 (iblk m c 0 t) (iblk m c 1 t)

/-- What is held between points beside the staged blocks, the scratch at `S`. -/
def rest (c : Dev nD) (S : sProp 𝕄) : sProp 𝕄 :=
  iprop(S ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt0 c hbM0_0 (V m c main_v2)))

/-- Before the first point the scratch holds anything, afterwards the packed weight. -/
def inv (c : Dev nD) : ℕ → sProp 𝕄
  | 0 => Pipeline.ΦD osem0 spec0 H0 (V m) c
  | _ + 1 => rest m c (owns (c : Thread nD τ) scM0_0 fullShare (wt m c))

theorem inv_zero (c : Dev nD) (n : ℕ) (h : n = 0) : inv m c n = rest m c iprop(∃ d, owns (c : Thread nD τ) scM0_0 fullShare d) := by
  subst h; exact PhiD0_eq m c

theorem inv_pos (c : Dev nD) (n : ℕ) (h : n ≠ 0) : inv m c n = rest m c (owns (c : Thread nD τ) scM0_0 fullShare (wt m c)) := by
  cases n with
  | zero => exact absurd rfl h
  | succ n => rfl

/-- The pipeline's proof data: each input's buffer at its block, the two outputs' as above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outP m c t
    | ⟨3, _⟩ => outH m c t
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outP m c t := by dsimp only [dats]
theorem after3 (c : Dev nD) (t : Fin cfg0.N) : (dats m 0 c).after 3 t = outH m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body at every point -/

/-- What the body is called with at point `t`, window by window … -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- … and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = inv m c (t.val + 1) from rfl, show (dats m 0 c).Φ t.castSucc = inv m c t.val from rfl,
    inv_pos m c (t.val + 1) (Nat.succ_ne_zero _), after0, after1, after2, after3]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases hz : t.val = 0
  · rw [inv_zero m c _ hz]
    unfold rest
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩⟩
    iapply (runA c (grid0.coords t) _ _ _ _ _ _ _ _ _ _ ((hcond0_0 t).mpr (by omega)) (iblk m c 0 t) (iblk m c 1 t) (V m c main_v2) W _)
    isplitl [H0]; · iexact H0
    isplitl [H1]; · iexact H1
    isplitl [H2]; · iexists _; iexact H2
    isplitl [H3]; · iexists _; iexact H3
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [HW]; · iexact HW
    iintro ⟨H0, H1, H2, H3, HS0, Hq0, Hq1, Hq2, Hq3, Hh0, ⟨%W', HW'⟩⟩
    isplitl [HS0 Hg Hq0 Hq1 Hq2 Hq3 Hh0]
    · isplitl [HS0]; · iexact HS0
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    iexact H3
  · rw [inv_pos m c _ hz]
    unfold rest
    iintro ⟨⟨HS0, Hg, ⟨Hq0, Hq1, Hq2, Hq3⟩, Hh0⟩, ⟨%W, -, HW⟩, ⟨%d0, H0⟩, ⟨%d1, H1⟩, ⟨%d2, H2⟩, ⟨%d3, H3⟩⟩
    iapply (runB c (grid0.coords t) _ _ _ _ _ _ _ _ _ _ (fun h => hz (by have := (hcond0_0 t).mp h; omega)) (iblk m c 0 t) (iblk m c 1 t) _ (V m c main_v2) W _)
    isplitl [H0]; · iexact H0
    isplitl [H1]; · iexact H1
    isplitl [H2]; · iexists _; iexact H2
    isplitl [H3]; · iexists _; iexact H3
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [HW]; · iexact HW
    iintro ⟨H0, H1, H2, H3, HS0, Hq0, Hq1, Hq2, Hq3, Hh0, ⟨%W', HW'⟩⟩
    isplitl [HS0 Hg Hq0 Hq1 Hq2 Hq3 Hh0]
    · isplitl [HS0]; · iexact HS0
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the scratch's contents are forgotten. -/
theorem hout (c : Dev nD) : (dats m 0 c).Φ (Fin.last cfg0.N) ⊢ Pipeline.ΦD osem0 spec0 H0 (V m) c := by
  have e : cfg0.N ≠ 0 := by rw [show cfg0.N = 32 from N_0]; decide
  rw [show (dats m 0 c).Φ (Fin.last cfg0.N) = inv m c cfg0.N from rfl, inv_pos m c _ e, PhiD0_eq]
  unfold rest
  iintro ⟨HS0, Hr⟩
  isplitl [HS0]
  · iexists _; iexact HS0
  iexact Hr

-- the launch theorem's implicit arguments are found through plain definitions in types
set_option backward.isDefEq.respectTransparency.types false in
/-- The launch: every array ends at what the proof data say, and every semaphore counter at zero. -/
theorem run_all : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := hout m)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.FwdInIdeal.Own

end
-- ==== Proof.Frames.lean ====
module

public import proofs.«01_k».proof.Defs
public import proofs.«01_k».proof.Proof.Gen.BwdIn
public import proofs.«01_k».proof.Proof.BwdInRun
public import proofs.«01_k».proof.Proof.Gen.BwdMix
public import proofs.«01_k».proof.Proof.BwdMixRun
public import proofs.«01_k».proof.Proof.BwdMixText
public import proofs.«01_k».proof.Proof.BwdMixHost
public import proofs.«01_k».proof.Proof.Gen.FwdIn
public import proofs.«01_k».proof.Proof.FwdInRun

/-! The printed programs' frames out of the runs: each printed program and its ideal reading have one text, so one run serves both. -/

@[expose] public section

noncomputable section

namespace Cert.Frames

open Idealize.ShloMosaic Idealize.ShloMosaic.TcCoe Idealize.SL.Sem

/-- The two programs' body tables agree: label by label the same text. -/
theorem bodiesBwdIn : Cert.BwdIn.defs₀ (F := Bits) = Cert.BwdInIdeal.defs₀ (F := Bits) := by
  unfold Cert.BwdIn.defs₀ Cert.BwdInIdeal.defs₀
  refine congrArg Defs.onTc (funext fun l => funext fun p => ?_)
  match l, p with
  | ⟨0, _⟩, (t, s) => rfl

theorem tableBwdIn : Cert.BwdIn.defs (F := Bits) = Cert.BwdInIdeal.defs (F := Bits) :=
  congrArg (Pipeline.defs Cert.BwdIn.pcfgs) bodiesBwdIn

/-- The printed program's frame. -/
theorem bwdIn : Cert.quiescent_BwdIn (hBwdIn := Cert.BwdIn.Gen.facts) := fun m ρ _ => by
  rw [tableBwdIn]
  exact Cert.BwdInIdeal.Own.frame (F := Bits) m ρ

set_option maxHeartbeats 4000000 in
/-- The printed program's frame. -/
theorem bwdMix : Cert.quiescent_BwdMix (hBwdMix := Cert.BwdMix.Gen.facts) := fun m ρ _ => by
  rw [tableBwdMix, mainBwdMix]
  exact Cert.BwdMixIdeal.Own.frame (F := Bits) m ρ

/-- The two programs' body tables agree: label by label the same text. -/
theorem bodiesFwdIn : Cert.FwdIn.defs₀ (F := Bits) = Cert.FwdInIdeal.defs₀ (F := Bits) := by
  unfold Cert.FwdIn.defs₀ Cert.FwdInIdeal.defs₀
  refine congrArg Defs.onTc (funext fun l => funext fun p => ?_)
  match l, p with
  | ⟨0, _⟩, (t, s) => rfl

theorem tableFwdIn : Cert.FwdIn.defs (F := Bits) = Cert.FwdInIdeal.defs (F := Bits) :=
  congrArg (Pipeline.defs Cert.FwdIn.pcfgs) bodiesFwdIn

/-- The printed program's frame. -/
theorem fwdIn : Cert.quiescent_FwdIn (hFwdIn := Cert.FwdIn.Gen.facts) := fun m ρ _ => by
  rw [tableFwdIn]
  exact Cert.FwdInIdeal.Own.frame (F := Bits) m ρ

end Cert.Frames

end
-- ==== Proof.BwdIn.lean ====
module

public import proofs.«01_k».proof.Proof.BwdInRun
public import proofs.«01_k».proof.Proof.Gen.BwdInRefIdeal.Read
public import proofs.«01_k».proof.Defs
public import Idealize.ShloMosaic.Lib.Pipeline.Value
public import Idealize.ShloMosaic.Lib.Pipeline.ValueKit.Tiles

/-! The backward input projection's two results: the input's gradient row by row, and the norm gain's gradient summed over all rows. -/

@[expose] public section

set_option maxRecDepth 4096

noncomputable section

namespace Cert.BwdInIdeal.Own

open Cert.BwdInIdeal Cert.BwdInIdeal.Gen
open Cert.Common Idealize.ShloMosaic Idealize.ShloMosaic.TcCoe Idealize.SL.Sem
open Idealize.ShloMosaic.Pipeline (Dat)

/-- The width of a row, and the norm's small addend, as the program writes them. -/
abbrev width : EReal := Ideal.ofBits .f32 0x45000000#32
abbrev small : EReal := Ideal.ofBits .f32 0x358637BD#32

/-- A row's scale from its entries: one over the root of the mean square. -/
def scale (x : Fin 2048 → EReal) : EReal := Ideal.rsqrt (Ideal.div (∑ k : Fin 2048, x k * x k) width + small)

/-- The input's gradient in one row: `y` the gradient passed by, `d` the gradient of the normalised row, `x` the row, `g` the gain. -/
def rowX (y d x g : Fin 2048 → EReal) (l : Fin 2048) : EReal :=
  (y l + scale x * (d l * g l)) - x l * (scale x * scale x * scale x * Ideal.div (∑ k : Fin 2048, d k * g k * x k) width)

theorem pay2_apply (z : Fin 1) (l : Fin 2048) : (k0_pay2 (F := Ideal)) (ix2 z l) = 0 := by
  pointwise [k0_pay2]

theorem pay3_apply (a : Vec Ideal S256x5632 .bf16) (w : Vec Ideal S2048x5632 .bf16) (r : Fin 256) (l : Fin 2048) :
    k0_pay3 a w (ix2 r l) = ∑ q : Fin 5632, a (ix2 r q) * w (ix2 l q) := by
  pointwise [k0_pay3]

theorem pay4_apply (x : Vec Ideal S256x2048 .f32) (r : Fin 256) (z : Fin 1) :
    k0_pay4 x (ix2 r z) = scale fun k => x (ix2 r k) := by
  unfold scale
  pointwise [k0_pay4]

theorem dx_apply (a : Vec Ideal S256x5632 .bf16) (w : Vec Ideal S2048x5632 .bf16) (x dy : Vec Ideal S256x2048 .f32) (g : Vec Ideal S1x2048 .f32) (r : Fin 256) (l : Fin 2048) :
    dx a w x dy g (ix2 r l) = rowX (fun k => dy (ix2 r k)) (fun k => k0_pay3 a w (ix2 r k)) (fun k => x (ix2 r k)) (fun k => g (ix2 0 k)) l := by
  have e := pay4_apply x r 0
  unfold rowX
  rw [← e]
  unfold dx k0_pay5
  generalize k0_pay4 x = s
  generalize k0_pay3 a w = d
  pointwise []

theorem dg_apply (a : Vec Ideal S256x5632 .bf16) (w : Vec Ideal S2048x5632 .bf16) (x : Vec Ideal S256x2048 .f32) (acc : Vec Ideal S1x2048 .f32) (z : Fin 1) (l : Fin 2048) :
    dg a w x acc (ix2 z l) = acc (ix2 z l) + ∑ s : Fin 256, k0_pay3 a w (ix2 s l) * x (ix2 s l) * k0_pay4 x (ix2 s 0) := by
  unfold dg
  generalize k0_pay4 x = s
  generalize k0_pay3 a w = d
  pointwise [k0_pay1]

/-! ## The blocks -/

variable (m : (ℓ : Loc nD τ sig) → Buf (Elt Ideal) ℓ) (ρ : Dev nD → PrngReg)

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- The arguments as tables. -/
abbrev ta (c : Dev nD) : Tab 8192 5632 := m ((c : Thread nD τ).loc main_arg0)
@[inherit_doc ta] abbrev tw (c : Dev nD) : Tab 2048 5632 := m ((c : Thread nD τ).loc main_arg1)
@[inherit_doc ta] abbrev tx (c : Dev nD) : Tab 8192 2048 := m ((c : Thread nD τ).loc main_arg2)
@[inherit_doc ta] abbrev ty (c : Dev nD) : Tab 8192 2048 := m ((c : Thread nD τ).loc main_arg3)
@[inherit_doc ta] abbrev tg (c : Dev nD) : Tab 1 2048 := m ((c : Thread nD τ).loc main_arg4)

theorem iblk0 (c : Dev nD) (t : Fin cfg0.N) (r : Fin 256) (l : Fin 5632) (h : 256 * t.val + r.val < 8192) :
    (iblk m c 0 t : S256x5632.Idx → EReal) (ix2 r l) = ta m c (ix2 ⟨256 * t.val + r.val, h⟩ l) := by
  unfold iblk
  rw [View.read_apply]
  refine (congrFun (V_main_arg0 m c) _).trans (congrArg _ (funext fun a => Fin.ext ?_))
  obtain ⟨e0, e1, -⟩ := idx_facts t
  match a with
  | ⟨0, _⟩ => show win0_0.index t (0 : Fin 2) * 256 + 1 * r.val = 256 * t.val + r.val; rw [e0]; omega
  | ⟨1, _⟩ => show win0_0.index t (1 : Fin 2) * 5632 + 1 * l.val = l.val; rw [e1]; omega

theorem iblk1 (c : Dev nD) (t : Fin cfg0.N) (r : Fin 256) (l : Fin 2048) (h : 256 * t.val + r.val < 8192) :
    (iblk m c 1 t : S256x2048.Idx → EReal) (ix2 r l) = tx m c (ix2 ⟨256 * t.val + r.val, h⟩ l) := by
  unfold iblk
  rw [View.read_apply]
  refine (congrFun (V_main_arg2 m c) _).trans (congrArg _ (funext fun a => Fin.ext ?_))
  obtain ⟨-, -, e0, e1, -⟩ := idx_facts t
  match a with
  | ⟨0, _⟩ => show win0_1.index t (0 : Fin 2) * 256 + 1 * r.val = 256 * t.val + r.val; rw [e0]; omega
  | ⟨1, _⟩ => show win0_1.index t (1 : Fin 2) * 2048 + 1 * l.val = l.val; rw [e1]; omega

theorem iblk2 (c : Dev nD) (t : Fin cfg0.N) (r : Fin 256) (l : Fin 2048) (h : 256 * t.val + r.val < 8192) :
    (iblk m c 2 t : S256x2048.Idx → EReal) (ix2 r l) = ty m c (ix2 ⟨256 * t.val + r.val, h⟩ l) := by
  unfold iblk
  rw [View.read_apply]
  refine (congrFun (V_main_arg3 m c) _).trans (congrArg _ (funext fun a => Fin.ext ?_))
  obtain ⟨-, -, -, -, e0, e1, -⟩ := idx_facts t
  match a with
  | ⟨0, _⟩ => show win0_2.index t (0 : Fin 2) * 256 + 1 * r.val = 256 * t.val + r.val; rw [e0]; omega
  | ⟨1, _⟩ => show win0_2.index t (1 : Fin 2) * 2048 + 1 * l.val = l.val; rw [e1]; omega

theorem iblk3 (c : Dev nD) (t : Fin cfg0.N) (z : Fin 1) (l : Fin 2048) :
    (iblk m c 3 t : S1x2048.Idx → EReal) (ix2 z l) = tg m c (ix2 z l) := by
  unfold iblk
  rw [View.read_apply]
  refine (congrFun (V_main_arg4 m c) _).trans (congrArg _ (funext fun a => Fin.ext ?_))
  obtain ⟨-, -, -, -, -, -, e0, e1, -⟩ := idx_facts t
  match a with
  | ⟨0, _⟩ => show win0_3.index t (0 : Fin 2) * 1 + 1 * z.val = z.val; rw [e0]; omega
  | ⟨1, _⟩ => show win0_3.index t (1 : Fin 2) * 2048 + 1 * l.val = l.val; rw [e1]; omega

/-- The host's slabs hold the weight's columns. -/
theorem V_slab (c : Dev nD) (p : Fin 4) (r : Fin 2048) (l : Fin 1408) (h : 1408 * p.val + l.val < 5632) :
    (V m c main_v2 : S4x2048x1408.Idx → EReal) (ix3 p r l) = tw m c (ix2 r ⟨1408 * p.val + l.val, h⟩) := by
  have e : (V m c main_v2 : S4x2048x1408.Idx → EReal)
      = (truncf (F := Ideal) .bf16 (transpose S4x2048x1408 [1, 0, 2] (shapeCast S2048x4x1408 (tw m c : Vec Ideal S2048x5632 .f32) shapeCasts_S2048x5632_S2048x4x1408) transposes_S2048x4x1408_S4x2048x1408_1_0_2) bitsLt_bf16_f32 : S4x2048x1408.Idx → EReal) := by
    unfold V
    after_results
    rfl
  rw [e]
  pointwise []
  have e' : p.val * 1408 + l.val = 1408 * p.val + l.val := by omega
  simp only [e']

/-- So the packed weight is the weight. -/
theorem wt_apply (c : Dev nD) (r : Fin 2048) (q : Fin 5632) : (wt m c : S2048x5632.Idx → EReal) (ix2 r q) = tw m c (ix2 r q) := by
  unfold wt pack
  have hq := q.isLt
  refine (V_slab m c _ _ _ (by show 1408 * (q.val / 1408) + q.val % 1408 < 5632; omega)).trans (congrArg _ (funext fun a => Fin.ext ?_))
  match a with
  | ⟨0, _⟩ => rfl
  | ⟨1, _⟩ => show 1408 * (q.val / 1408) + q.val % 1408 = q.val; omega

/-- The gradient of the normalised row: rows of the projection's gradient times rows of the weight. -/
theorem dh_apply (c : Dev nD) (t : Fin cfg0.N) (r : Fin 256) (l : Fin 2048) (h : 256 * t.val + r.val < 8192) :
    k0_pay3 (F := Ideal) (iblk m c 0 t) (wt m c) (ix2 r l) = mmT (ta m c) (tw m c) (ix2 ⟨256 * t.val + r.val, h⟩ l) :=
  (pay3_apply _ _ r l).trans (Finset.sum_congr rfl fun q _ => congrArg₂ _ (iblk0 m c t r q h) (wt_apply m c l q))

/-! ## The two results -/

/-- The input's gradient as a table. -/
def tabX (a : Tab 8192 5632) (w : Tab 2048 5632) (x y : Tab 8192 2048) (g : Tab 1 2048) : Tab 8192 2048 := fun i =>
  rowX (fun k => y (ix2 (i 0) k)) (fun k => mmT a w (ix2 (i 0) k)) (fun k => x (ix2 (i 0) k)) (fun k => g (ix2 0 k)) (i 1)

/-- The summands of the gain's gradient at column `l`, row by row. -/
def line (a : Tab 8192 5632) (w : Tab 2048 5632) (x : Tab 8192 2048) (l : Fin 2048) : Fin 8192 → EReal := fun k =>
  mmT a w (ix2 k l) * x (ix2 k l) * scale fun q => x (ix2 k q)

/-- The gain's gradient as a row. -/
def tabG (a : Tab 8192 5632) (w : Tab 2048 5632) (x : Tab 8192 2048) : Tab 1 2048 := fun i => ∑ k : Fin 8192, line a w x (i 1) k

/-- The results the claim names. -/
def GX (c : Dev nD) : Buf (Elt Ideal) ((c : Thread nD τ).loc main_v4_0) := tabX (ta m c) (tw m c) (tx m c) (ty m c) (tg m c)
@[inherit_doc GX] def GG (c : Dev nD) : Buf (Elt Ideal) ((c : Thread nD τ).loc main_v4_1) := tabG (ta m c) (tw m c) (tx m c)

theorem outX_apply (c : Dev nD) (t : Fin cfg0.N) (r : Fin 256) (l : Fin 2048) (h : 256 * t.val + r.val < 8192) :
    (outX m c t : S256x2048.Idx → EReal) (ix2 r l) = tabX (ta m c) (tw m c) (tx m c) (ty m c) (tg m c) (ix2 ⟨256 * t.val + r.val, h⟩ l) := by
  unfold outX tabX
  refine (dx_apply _ _ _ _ _ r l).trans ?_
  simp only [dh_apply m c t r _ h, iblk1 m c t r _ h, iblk2 m c t r _ h, iblk3 m c t]
  rfl

theorem step (c : Dev nD) (t : Fin cfg0.N) (acc : Vec Ideal S1x2048 .f32) (z : Fin 1) (l : Fin 2048) :
    (dg (iblk m c 0 t) (wt m c) (iblk m c 1 t) acc : S1x2048.Idx → EReal) (ix2 z l)
      = acc (ix2 z l) + ∑ s : Fin 256, term (line (ta m c) (tw m c) (tx m c) l) (256 * t.val + s.val) := by
  refine (dg_apply _ _ _ _ z l).trans (congrArg _ (Finset.sum_congr rfl fun s _ => ?_))
  have ht : t.val < 32 := lt_of_lt_of_eq t.isLt N_0
  have h : 256 * t.val + s.val < 8192 := by omega
  unfold term line
  rw [dif_pos h, dh_apply m c t s l h, iblk1 m c t s l h]
  refine congrArg _ ((pay4_apply _ s 0).trans ?_)
  simp only [iblk1 m c t s _ h]

/-- After point `n` the row holds the sum over the rows so far. -/
theorem outG_apply (c : Dev nD) (z : Fin 1) (l : Fin 2048) : ∀ (n : ℕ) (hn : n < cfg0.N),
    (outG m c n hn : S1x2048.Idx → EReal) (ix2 z l) = ∑ k ∈ Finset.range (256 * (n + 1)), term (line (ta m c) (tw m c) (tx m c) l) k := by
  intro n
  induction n with
  | zero =>
    intro hn
    unfold outG
    rw [step m c ⟨0, hn⟩ _ z l, pay2_apply, sum_tile _ 256 0 _ (fun s => rfl)]
    simp
  | succ n ih =>
    intro hn
    unfold outG
    rw [step m c ⟨n + 1, hn⟩ _ z l, ih, sum_tile _ 256 (n + 1) _ (fun s => rfl)]

theorem flushed4 (c : Dev nD) (t : Fin cfg0.N) :
    (dats m 0 c).flushed 4 t = ((cfg0.win 4).blk t).view.read (Elt Ideal) (GX m c) := by
  have e : (dats m 0 c).flushed 4 t = outX m c t := by
    show (cfg0.win 4).cut (grid0.coords t) ((dats m 0 c).after 4 t) = _
    rw [after4]
    rfl
  rw [e]
  have ht : t.val < 32 := lt_of_lt_of_eq t.isLt N_0
  obtain ⟨-, -, -, -, -, -, -, -, e0, e1, -⟩ := idx_facts t
  funext y
  obtain ⟨r, l, rfl⟩ : ∃ (r : Fin 256) (l : Fin 2048), y = ix2 r l := ix2_surj y
  have h : 256 * t.val + r.val < 8192 := by omega
  have hb : ((cfg0.win 4).blk t).view.emb (ix2 r l) = (ix2 ⟨256 * t.val + r.val, h⟩ l : S8192x2048.Idx) := funext fun a => Fin.ext (by
    match a with
    | ⟨0, _⟩ => show win0_4.index t (0 : Fin 2) * 256 + 1 * r.val = 256 * t.val + r.val; rw [e0]; omega
    | ⟨1, _⟩ => show win0_4.index t (1 : Fin 2) * 2048 + 1 * l.val = l.val; rw [e1]; omega)
  rw [View.read_apply, hb, cast_eq]
  exact outX_apply m c t r l h

theorem flushed5 (c : Dev nD) (t : Fin cfg0.N) (hf : (cfg0.win 5).flush t = true) :
    (dats m 0 c).flushed 5 t = ((cfg0.win 5).blk t).view.read (Elt Ideal) (GG m c) := by
  have e : (dats m 0 c).flushed 5 t = outG m c t.val t.isLt := by
    show (cfg0.win 5).cut (grid0.coords t) ((dats m 0 c).after 5 t) = _
    rw [after5]
    rfl
  rw [e]
  have ht : t.val < 32 := lt_of_lt_of_eq t.isLt N_0
  have hm : t.val % 32 = 31 := (flush0_5 t).mp hf
  obtain ⟨-, -, -, -, -, -, -, -, -, -, e0, e1⟩ := idx_facts t
  funext y
  obtain ⟨z, l, rfl⟩ : ∃ (z : Fin 1) (l : Fin 2048), y = ix2 z l := ix2_surj y
  have hb : ((cfg0.win 5).blk t).view.emb (ix2 z l) = (ix2 z l : S1x2048.Idx) := funext fun a => Fin.ext (by
    match a with
    | ⟨0, _⟩ => show win0_5.index t (0 : Fin 2) * 1 + 1 * z.val = z.val; rw [e0]; omega
    | ⟨1, _⟩ => show win0_5.index t (1 : Fin 2) * 2048 + 1 * l.val = l.val; rw [e1]; omega)
  rw [View.read_apply, hb, cast_eq]
  refine (outG_apply m c z l t.val t.isLt).trans ?_
  rw [show 256 * (t.val + 1) = 8192 by omega]
  exact (sum_term _).symm

theorem mem_blk4 (t : Fin cfg0.N) (i : S8192x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v4_0).slice (win0_4.rect t)).set ↔ _
  rw [View.set_slice_whole, Rect.mem_set_unit]
  exact Iff.rfl

theorem mem_blk5 (t : Fin cfg0.N) (i : S1x2048.Idx) :
    i ∈ ((cfg0.win 5).blk t).view.set ↔ ∀ a : Fin 2, win0_5.index t a * S1x2048.size a ≤ (i a).val ∧ (i a).val < win0_5.index t a * S1x2048.size a + S1x2048.size a := by
  show i ∈ ((View.whole main_v4_1).slice (win0_5.rect t)).set ↔ _
  rw [View.set_slice_whole, Rect.mem_set_unit]
  exact Iff.rfl

/-- The input's gradient's array ends holding it: the points' blocks tile the rows. -/
theorem final4 (c : Dev nD) : (dats m 0 c).arrAt 4 cfg0.N = GX m c :=
  (dats m 0 c).arrAt_eq_of_cover 4 _ (fun t _ => flushed4 m c t) fun i => by
    have h0 : (i 0).val < 8192 := (i 0).isLt
    have h1 : (i 1).val < 2048 := (i 1).isLt
    have hn : (i 0).val / 256 < cfg0.N := lt_of_lt_of_eq (by omega) N_0.symm
    refine ⟨⟨_, hn⟩, flush0_4 _, ?_⟩
    obtain ⟨-, -, -, -, -, -, -, -, e0, e1, -⟩ := idx_facts ⟨_, hn⟩
    dsimp only at e0 e1
    refine (mem_blk4 _ i).mpr fun a => ?_
    match a with
    | ⟨0, _⟩ => show win0_4.index ⟨_, hn⟩ (0 : Fin 2) * 256 ≤ (i 0).val ∧ (i 0).val < win0_4.index ⟨_, hn⟩ (0 : Fin 2) * 256 + 256; rw [e0]; omega
    | ⟨1, _⟩ => show win0_4.index ⟨_, hn⟩ (1 : Fin 2) * 2048 ≤ (i 1).val ∧ (i 1).val < win0_4.index ⟨_, hn⟩ (1 : Fin 2) * 2048 + 2048; rw [e1]; omega

/-- The gain's gradient's array ends holding it: the last point writes the whole row. -/
theorem final5 (c : Dev nD) : (dats m 0 c).arrAt 5 cfg0.N = GG m c :=
  (dats m 0 c).arrAt_eq_of_cover 5 _ (fun t hf => flushed5 m c t hf) fun i => by
    have h0 : (i 0).val < 1 := (i 0).isLt
    have h1 : (i 1).val < 2048 := (i 1).isLt
    have hn : 31 < cfg0.N := lt_of_lt_of_eq (by omega) N_0.symm
    refine ⟨⟨31, hn⟩, (flush0_5 _).mpr rfl, ?_⟩
    obtain ⟨-, -, -, -, -, -, -, -, -, -, e0, e1⟩ := idx_facts ⟨31, hn⟩
    refine (mem_blk5 _ i).mpr fun a => ?_
    match a with
    | ⟨0, _⟩ => show win0_5.index ⟨31, hn⟩ (0 : Fin 2) * 1 ≤ (i 0).val ∧ (i 0).val < win0_5.index ⟨31, hn⟩ (0 : Fin 2) * 1 + 1; rw [e0]; omega
    | ⟨1, _⟩ => show win0_5.index ⟨31, hn⟩ (1 : Fin 2) * 2048 ≤ (i 1).val ∧ (i 1).val < win0_5.index ⟨31, hn⟩ (1 : Fin 2) * 2048 + 2048; rw [e1]; omega

/-! ## The same row as the pulled-back gradient writes it -/

theorem width_eq : width = ((2048 : ℝ) : EReal) := by
  simp [width, Ideal.ofBits, Ideal.ieee, -EReal.coe_mul]; norm_num

theorem small_pos : ∃ e : ℝ, 0 < e ∧ small = (e : EReal) := by
  refine ⟨_, ?_, by simp [small, Ideal.ofBits, Ideal.ieee, -EReal.coe_mul]; rfl⟩
  norm_num

theorem sq_nonneg' (a : EReal) : 0 ≤ a * a := by
  induction a with
  | bot => simp
  | top => simp
  | coe a => exact_mod_cast mul_self_nonneg a

/-- Twice an extended real times a number. -/
theorem twice (s : EReal) (z : ℝ) : s * (z : EReal) + s * (z : EReal) = s * ((2 * z : ℝ) : EReal) := by
  have h : ((1 : EReal) + 1) * (s * (z : EReal)) = 1 * (s * (z : EReal)) + 1 * (s * (z : EReal)) :=
    EReal.right_distrib_of_nonneg zero_le_one zero_le_one
  rw [one_mul] at h
  rw [← h, show ((1 : EReal) + 1) = ((2 : ℝ) : EReal) by rw [← EReal.coe_one, ← EReal.coe_add]; norm_num, EReal.coe_mul, mul_left_comm]

/-- A row is either all numbers, and then its scale is a positive number whose cube is the scale over the shifted mean square, or its scale vanishes. -/
theorem scale_cases (x : Fin 2048 → EReal) (v : EReal) (hv : v = Ideal.div (∑ k : Fin 2048, x k * x k) width + small) :
    (scale x = 0 ∧ Ideal.div (scale x) v = 0)
      ∨ ((∀ k, ∃ a : ℝ, x k = (a : EReal)) ∧ ∃ p : ℝ, scale x * scale x * scale x = (p : EReal) ∧ Ideal.div (scale x) v = (p : EReal)) := by
  have hs : scale x = Ideal.rsqrt v := by rw [hv]; rfl
  obtain ⟨e, he, hse⟩ := small_pos
  rw [width_eq, Ideal.div_coe (by norm_num), hse] at hv
  have hn : 0 ≤ ∑ k : Fin 2048, x k * x k := Finset.sum_nonneg fun k _ => sq_nonneg' _
  by_cases ht : ∑ k : Fin 2048, x k * x k = ⊤
  · left
    rw [ht, EReal.top_mul_coe_of_pos (by norm_num), EReal.top_add_coe] at hv
    rw [hs, hv, Ideal.rsqrt_top]
    exact ⟨rfl, by simp [Ideal.div]⟩
  · right
    obtain ⟨b, hb⟩ : ∃ b : ℝ, ∑ k : Fin 2048, x k * x k = (b : EReal) :=
      ⟨_, (EReal.coe_toReal ht (fun h => absurd hn (by rw [h]; simp))).symm⟩
    refine ⟨fun k => ?_, ?_⟩
    · have hk : x k * x k ≤ (b : EReal) := hb ▸ Finset.single_le_sum (f := fun k => x k * x k) (fun k _ => sq_nonneg' _) (Finset.mem_univ k)
      induction hx : x k with
      | bot => rw [hx] at hk; simp at hk
      | top => rw [hx] at hk; simp at hk
      | coe a => exact ⟨a, rfl⟩
    · rw [hb] at hv hn
      have hb0 : 0 ≤ b := by exact_mod_cast hn
      have hq : 0 < b * (1 / 2048) + e := by positivity
      have hvq : v = ((b * (1 / 2048) + e : ℝ) : EReal) := by rw [hv]; push_cast; rfl
      generalize b * (1 / 2048) + e = q at hq hvq
      have hr : scale x = (((Real.sqrt q)⁻¹ : ℝ) : EReal) := by
        rw [hs, hvq, Ideal.rsqrt_coe, if_neg (not_lt.mpr hq.le), if_neg hq.ne']
      have hsq : Real.sqrt q * Real.sqrt q = q := Real.mul_self_sqrt hq.le
      refine ⟨(Real.sqrt q)⁻¹ * (1 / q), ?_, ?_⟩
      · rw [hr, ← EReal.coe_mul, ← EReal.coe_mul]
        refine congrArg _ ?_
        rw [mul_comm, ← mul_inv, hsq, one_div]
      · rw [hr, hvq, Ideal.div_coe hq.ne', ← EReal.coe_mul]

/-- The two ways to write a row of the input's gradient agree. -/
theorem rowX_eq (y d x g : Fin 2048 → EReal) (l : Fin 2048) (v u : EReal) (hv : v = Ideal.div (∑ k : Fin 2048, x k * x k) width + small)
    (hu : u = Ideal.div ((∑ k : Fin 2048, x k * (d k * g k)) * (Ideal.ofBits .f32 0xBF000000#32 * Ideal.div (scale x) v)) width) :
    y l + d l * g l * scale x + x l * u + u * x l = rowX y d x g l := by
  unfold rowX
  have hS : ∑ k : Fin 2048, x k * (d k * g k) = ∑ k : Fin 2048, d k * g k * x k := Finset.sum_congr rfl fun k _ => mul_comm _ _
  rw [hS] at hu
  generalize ∑ k : Fin 2048, d k * g k * x k = S at hu ⊢
  rw [mul_comm (d l * g l) (scale x)]
  generalize y l + scale x * (d l * g l) = A
  have hh : Ideal.ofBits .f32 0xBF000000#32 = ((-(1 / 2) : ℝ) : EReal) := by
    simp [Ideal.ofBits, Ideal.ieee, -EReal.coe_mul]; norm_num
  rw [width_eq, Ideal.div_coe (by norm_num)] at hu ⊢
  rcases scale_cases x v hv with ⟨h0, h1⟩ | ⟨hx, p, h0, h1⟩
  · rw [h1] at hu
    have hu0 : u = 0 := by rw [hu]; simp
    rw [hu0, h0]
    simp
  · obtain ⟨a, ha⟩ := hx l
    rw [h1, hh] at hu
    rw [h0, ha]
    have hu' : u = S * ((-(1 / 2) * p * (1 / 2048) : ℝ) : EReal) := by
      rw [hu, EReal.coe_mul (-(1 / 2) * p), EReal.coe_mul (-(1 / 2))]
      simp only [mul_assoc]
    have e1 : (a : EReal) * u = S * ((a * (-(1 / 2) * p * (1 / 2048)) : ℝ) : EReal) := by
      rw [hu', EReal.coe_mul a, mul_left_comm]
    have e2 : u * (a : EReal) = S * ((a * (-(1 / 2) * p * (1 / 2048)) : ℝ) : EReal) := by rw [mul_comm, e1]
    rw [e1, e2, add_assoc, twice, sub_eq_add_neg]
    refine congrArg _ ?_
    have e3 : (a : EReal) * ((p : EReal) * (S * ((1 / 2048 : ℝ) : EReal))) = S * ((a * (p * (1 / 2048)) : ℝ) : EReal) := by
      rw [EReal.coe_mul, EReal.coe_mul, mul_left_comm S, mul_left_comm S]
    rw [e3, ← mul_neg, ← EReal.coe_neg]
    refine congrArg _ (congrArg _ ?_)
    ring

end Cert.BwdInIdeal.Own

namespace Cert.BwdInRefIdeal.Own

open Cert.BwdInRefIdeal Cert.BwdInRefIdeal.Gen Cert.BwdInRefIdeal.Read
open Cert.Common Idealize.ShloMosaic Idealize.ShloMosaic.TcCoe

/-- The reference's gradient of the gain. -/
theorem refG (a : Vec Ideal S8192x5632 .bf16) (w : Vec Ideal S2048x5632 .f32) (x : Vec Ideal S8192x2048 .f32) (i : S1x2048.Idx) :
    val_main_v20 a w x i = Cert.BwdInIdeal.Own.tabG a w x i := by
  obtain ⟨z, l, rfl⟩ : ∃ (z : Fin 1) (l : Fin 2048), i = ix2 z l := ix2_surj i
  unfold Cert.BwdInIdeal.Own.tabG Cert.BwdInIdeal.Own.line Cert.BwdInIdeal.Own.scale mmT
  pointwise [val_main_v20, val_main_v19, val_main_v18, val_main_v17, val_main_v16, val_main_v12, val_main_v11, val_main_v7, val_main_v6, val_main_v5, val_main_v4, val_main_v3, val_main_v2, val_main_v1, val_main_v0, val_main_cst, val_main_cst_0, val_main_cst_1, val_main_cst_3]
  refine Finset.sum_congr rfl fun k _ => ?_
  rw [mul_comm, mul_assoc]

/-- The reference's gradient of the input. -/
theorem refX (a : Vec Ideal S8192x5632 .bf16) (w : Vec Ideal S2048x5632 .f32) (x y : Vec Ideal S8192x2048 .f32) (g : Vec Ideal S1x2048 .f32) (i : S8192x2048.Idx) :
    val_main_v37 a w x y g i = Cert.BwdInIdeal.Own.tabX a w x y g i := by
  obtain ⟨r, l, rfl⟩ : ∃ (r : Fin 8192) (l : Fin 2048), i = ix2 r l := ix2_surj i
  unfold Cert.BwdInIdeal.Own.tabX
  refine Eq.trans ?_ (Cert.BwdInIdeal.Own.rowX_eq _ _ _ _ l _ _ rfl rfl)
  unfold Cert.BwdInIdeal.Own.scale mmT
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v17, val_main_v16, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6]
  simp only [Finset.sum_const, Finset.card_univ, Fintype.card_fin, one_smul]

end Cert.BwdInRefIdeal.Own

namespace Cert.Values

open Idealize.ShloMosaic Idealize.ShloMosaic.TcCoe Idealize.SL.Sem

/-- The value claim: the call's two results are the reference's, element by element. -/
theorem bwdIn : Cert.algebraic_BwdInIdeal_BwdInRefIdeal (hBwdInIdeal := Cert.BwdInIdeal.Gen.facts) (hBwdInRefIdeal := Cert.BwdInRefIdeal.Gen.facts) := by
  intro m g m' g' _ hm
  refine ⟨fun c => Cert.BwdInIdeal.Own.GX m c, fun c => Cert.BwdInIdeal.Own.GG m c, ?_, ?_⟩
  · refine (θ_run _ _ _).mono (fun r h c => ?_) (θ_run_and (Cert.BwdInIdeal.Own.frame m g) (Cert.BwdInIdeal.Own.run_all m g))
    exact ⟨((h.2.1 c).1 4).trans (Cert.BwdInIdeal.Own.final4 m c), ((h.2.1 c).1 5).trans (Cert.BwdInIdeal.Own.final5 m c), h.1.1 c⟩
  · refine (θ_run _ _ _).mono (fun r h c => ?_) (Cert.BwdInRefIdeal.Value.run m' g')
    obtain ⟨h0, h1, h2⟩ := h c
    obtain ⟨e0, e1, e2, e3, e4⟩ := hm c
    refine ⟨h0.trans ?_, h1.trans ?_, h2⟩
    · rw [Cert.BwdInRefIdeal.Read.val_main_v37_eq, e0, e1, e2, e3, e4]
      funext i
      exact Cert.BwdInRefIdeal.Own.refX _ _ _ _ _ i
    · rw [Cert.BwdInRefIdeal.Read.val_main_v20_eq, e0, e1, e2]
      funext i
      exact Cert.BwdInRefIdeal.Own.refG _ _ _ i

end Cert.Values
-- ==== Proof.FwdOut.lean ====
module

public import proofs.«01_k».proof.Proof.Gen.FwdOutIdeal.Value
public import proofs.«01_k».proof.Proof.Gen.FwdOutRefIdeal.Read
public import proofs.«01_k».proof.Proof.Common
public import proofs.«01_k».proof.Defs

@[expose] public section

noncomputable section

namespace Cert.FwdOutIdeal.Own

/-- The residual plus a product: what the output projection computes of `x`, the mixed columns and the weights. -/
def projected (x : Cert.Common.Tab 8192 2048) (a : Cert.Common.Tab 8192 2048) (w : Cert.Common.Tab 2048 2048) : Cert.Common.Tab 8192 2048 :=
  fun i => x i + Cert.Common.mm a w i

open Cert.FwdOutIdeal Cert.FwdOutIdeal.Gen Cert.FwdOutIdeal.Value
open Cert.Common Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One block of the output projection at an index: the residual plus the row of `mix` times the column of `w`. -/
theorem pay_apply (x : Vec Ideal S512x2048 .f32) (a : Vec Ideal S512x2048 .bf16) (w : Vec Ideal S2048x2048 .bf16) (r : Fin 512) (l : Fin 2048) :
    k0_pay1 x a w (ix2 r l) = x (ix2 r l) + ∑ k : Fin 2048, a (ix2 r k) * w (ix2 k l) := by
  pointwise [k0_pay1]

/-- The weight array the region finds holds the argument's numbers. -/
theorem V_w (c : Dev nD) : (V m c main_v0 : S2048x2048.Idx → EReal) = m ((c : Thread nD τ).loc main_arg2) := by
  unfold V
  after_results
  rfl

/-- The projected rows: `x + mix · w`, as contents of the result array. -/
def G (c : Dev nD) : Buf (Elt Ideal) ((c : Thread nD τ).loc main_v1) :=
  projected (m ((c : Thread nD τ).loc main_arg0)) (m ((c : Thread nD τ).loc main_arg1)) (m ((c : Thread nD τ).loc main_arg2))

/-- Where the windows stand at point `t`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem iblk0 (c : Dev nD) (t : Fin cfg0.N) (r : Fin 512) (k : Fin 2048) (h : 512 * t.val + r.val < 8192) :
    (iblk m c 0 t : S512x2048.Idx → EReal) (ix2 r k) = (m ((c : Thread nD τ).loc main_arg0) : S8192x2048.Idx → EReal) (ix2 ⟨512 * t.val + r.val, h⟩ k) := by
  unfold iblk
  rw [View.read_apply]
  refine (congrFun (V_main_arg0 m c) _).trans (congrArg _ (funext fun a => Fin.ext ?_))
  obtain ⟨e0, e1, -⟩ := idx_facts t
  match a with
  | ⟨0, _⟩ => show win0_0.index t (0 : Fin 2) * 512 + 1 * r.val = 512 * t.val + r.val; rw [e0]; omega
  | ⟨1, _⟩ => show win0_0.index t (1 : Fin 2) * 2048 + 1 * k.val = k.val; rw [e1]; omega

theorem iblk1 (c : Dev nD) (t : Fin cfg0.N) (r : Fin 512) (k : Fin 2048) (h : 512 * t.val + r.val < 8192) :
    (iblk m c 1 t : S512x2048.Idx → EReal) (ix2 r k) = (m ((c : Thread nD τ).loc main_arg1) : S8192x2048.Idx → EReal) (ix2 ⟨512 * t.val + r.val, h⟩ k) := by
  unfold iblk
  rw [View.read_apply]
  refine (congrFun (V_main_arg1 m c) _).trans (congrArg _ (funext fun a => Fin.ext ?_))
  obtain ⟨-, -, e0, e1, -⟩ := idx_facts t
  match a with
  | ⟨0, _⟩ => show win0_1.index t (0 : Fin 2) * 512 + 1 * r.val = 512 * t.val + r.val; rw [e0]; omega
  | ⟨1, _⟩ => show win0_1.index t (1 : Fin 2) * 2048 + 1 * k.val = k.val; rw [e1]; omega

theorem iblk2 (c : Dev nD) (t : Fin cfg0.N) (k l : Fin 2048) :
    (iblk m c 2 t : S2048x2048.Idx → EReal) (ix2 k l) = (m ((c : Thread nD τ).loc main_arg2) : S2048x2048.Idx → EReal) (ix2 k l) := by
  unfold iblk
  rw [View.read_apply]
  refine (congrFun (V_w m c) _).trans (congrArg _ (funext fun a => Fin.ext ?_))
  obtain ⟨-, -, -, -, e0, e1, -⟩ := idx_facts t
  match a with
  | ⟨0, _⟩ => show win0_2.index t (0 : Fin 2) * 2048 + 1 * k.val = k.val; rw [e0]; omega
  | ⟨1, _⟩ => show win0_2.index t (1 : Fin 2) * 2048 + 1 * l.val = l.val; rw [e1]; omega

/-- What the body leaves in the output's buffer is its one payload over the whole input blocks. -/
theorem out_eq (x : Vec Ideal S512x2048 .f32) (a : Vec Ideal S512x2048 .bf16) (w : Vec Ideal S2048x2048 .bf16) : out0_3 x a w = k0_pay1 x a w := by
  unfold out0_3
  rw [View.canon_unit_zero hz2]
  simp only [View.ld_unit_zero (S := S512x2048) hz2, View.ld_unit_zero (S := S2048x2048) hz2]

/-- What point `t` writes back is block `t` of the projected rows. -/
theorem flushed_eq (c : Dev nD) (t : Fin cfg0.N) : (dats m 0 c).flushed 3 t = ((cfg0.win 3).blk t).view.read (Elt Ideal) (G m c) := by
  rw [flushed3, out_eq]
  obtain ⟨-, -, -, -, -, -, e0, e1⟩ := idx_facts t
  have ht : t.val < 16 := lt_of_lt_of_eq t.isLt N_0
  funext y
  obtain ⟨r, l, rfl⟩ : ∃ (r : Fin 512) (l : Fin 2048), y = ix2 r l := ix2_surj y
  have h : 512 * t.val + r.val < 8192 := by omega
  have hb : ((cfg0.win 3).blk t).view.emb (ix2 r l) = (ix2 ⟨512 * t.val + r.val, h⟩ l : S8192x2048.Idx) := funext fun a => Fin.ext (by
    match a with
    | ⟨0, _⟩ => show win0_3.index t (0 : Fin 2) * 512 + 1 * r.val = 512 * t.val + r.val; rw [e0]; omega
    | ⟨1, _⟩ => show win0_3.index t (1 : Fin 2) * 2048 + 1 * l.val = l.val; rw [e1]; omega)
  rw [View.read_apply, hb]
  show k0_pay1 (iblk m c 0 t) (iblk m c 1 t) (iblk m c 2 t) (ix2 r l) = _
  rw [pay_apply, iblk0 m c t r l h]
  show _ = _ + mm _ _ _
  unfold mm
  refine congrArg₂ (· + ·) rfl (Finset.sum_congr rfl fun k _ => ?_)
  rw [iblk1 m c t r k h, iblk2]
  rfl

/-- So the result array ends holding the projected rows: the blocks tile it. -/
theorem final (c : Dev nD) : (dats m 0 c).arrAt 3 cfg0.N = G m c :=
  (dats m 0 c).arrAt_eq_of_cover 3 _ (fun t _ => flushed_eq m c t) fun i => by
    have hi0 : (i 0 : Nat) < 8192 := (i 0).isLt
    have hi1 : (i 1 : Nat) < 2048 := (i 1).isLt
    let t : Fin cfg0.N := ⟨(i 0 : Nat) / 512, lt_of_lt_of_eq (by omega) N_0.symm⟩
    obtain ⟨-, -, -, -, -, -, e0, e1⟩ := idx_facts t
    refine ⟨t, flush0_3 t, ?_⟩
    show i ∈ ((View.whole main_v1).slice (win0_3.rect t)).set
    rw [View.set_slice_whole, Rect.mem_set_unit]
    intro a
    match a with
    | ⟨0, _⟩ => show win0_3.index t (0 : Fin 2) * 512 ≤ (i 0 : Nat) ∧ (i 0 : Nat) < win0_3.index t (0 : Fin 2) * 512 + 512
                rw [e0]; show (i 0 : Nat) / 512 * 512 ≤ _ ∧ _ < (i 0 : Nat) / 512 * 512 + 512; omega
    | ⟨1, _⟩ => show win0_3.index t (1 : Fin 2) * 2048 ≤ (i 1 : Nat) ∧ (i 1 : Nat) < win0_3.index t (1 : Fin 2) * 2048 + 2048
                rw [e1]; omega

end Cert.FwdOutIdeal.Own

namespace Cert.FwdOutRefIdeal.Own

open Cert.FwdOutRefIdeal Cert.FwdOutRefIdeal.Gen Cert.FwdOutRefIdeal.Read
open Cert.Common Idealize.ShloMosaic Idealize.ShloMosaic.TcCoe

/-- The reference at an index: the residual plus the row of `mix` times the column of `w`. -/
theorem ref_apply (x : Vec Ideal S8192x2048 .f32) (a : Vec Ideal S8192x2048 .bf16) (w : Vec Ideal S2048x2048 .f32) (i : S8192x2048.Idx) :
    val_main_v2 x a w i = Cert.FwdOutIdeal.Own.projected x a w i := by
  unfold Cert.FwdOutIdeal.Own.projected mm
  pointwise [val_main_v2, val_main_v1, val_main_v0]

end Cert.FwdOutRefIdeal.Own

namespace Cert.Values

open Idealize.ShloMosaic Idealize.ShloMosaic.TcCoe Idealize.SL.Sem

/-- The value claim: the call's result is the reference's, element by element. -/
theorem fwdOut : Cert.algebraic_FwdOutIdeal_FwdOutRefIdeal (hFwdOutIdeal := Cert.FwdOutIdeal.Gen.facts) (hFwdOutRefIdeal := Cert.FwdOutRefIdeal.Gen.facts) := by
  intro m g m' g' _ hm
  refine ⟨fun c => Cert.FwdOutIdeal.Own.G m c, ?_, ?_⟩
  · refine (θ_run _ _ _).mono (fun r h c => ?_) (Cert.FwdOutIdeal.Value.run_blocks m g)
    obtain ⟨h0, h1⟩ := h c
    exact ⟨h0.trans (Cert.FwdOutIdeal.Own.final m c), h1⟩
  · refine (θ_run _ _ _).mono (fun r h c => ?_) (Cert.FwdOutRefIdeal.Value.run m' g')
    obtain ⟨h0, h1⟩ := h c
    obtain ⟨e0, e1, e2⟩ := hm c
    refine ⟨h0.trans ?_, h1⟩
    rw [Cert.FwdOutRefIdeal.Read.val_main_v2_eq, e0, e1, e2]
    funext i
    exact Cert.FwdOutRefIdeal.Own.ref_apply _ _ _ i

end Cert.Values
end
-- ==== Proof.GradWOut.lean ====
module

public import proofs.«01_k».proof.Proof.Gen.GradWOutIdeal.Value
public import proofs.«01_k».proof.Proof.Gen.GradWOutRefIdeal.Read
public import proofs.«01_k».proof.Proof.FwdOut

/-! The weight gradient of the output projection: eight tiles of rows are accumulated into one block of columns. -/

@[expose] public section

noncomputable section

namespace Cert.GradWOutIdeal.Own

open Cert.GradWOutIdeal Cert.GradWOutIdeal.Gen Cert.GradWOutIdeal.Value
open Cert.Common Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reset: zeros. -/
theorem pay1_apply (r : Fin 2048) (l : Fin 1024) : (k0_pay1 (F := Ideal)) (ix2 r l) = 0 := by
  pointwise [k0_pay1]

/-- One step of the accumulation at an index. -/
theorem pay2_apply (v : Vec Ideal S2048x1024 .f32) (a : Vec Ideal S1024x2048 .bf16) (b : Vec Ideal S1024x1024 .f32) (r : Fin 2048) (l : Fin 1024) :
    k0_pay2 v a b (ix2 r l) = v (ix2 r l) + ∑ k : Fin 1024, a (ix2 k r) * b (ix2 k l) := by
  pointwise [k0_pay2]

/-- The narrowing at the end changes no number. -/
theorem pay3_apply (v : Vec Ideal S2048x1024 .f32) (r : Fin 2048) (l : Fin 1024) : k0_pay3 v (ix2 r l) = v (ix2 r l) := by
  pointwise [k0_pay3]

/-- Case A leaves in the accumulator the first tile's product over zeros. -/
theorem sout_A (c i a2 h2 a3 h3 a4 h4 a5 h5 hc0 hc1) (x0 : Vec Ideal S1024x2048 .bf16) (x1 : Vec Ideal S1024x1024 .f32) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x1024) hz2, View.readCov_unit_zero (S := S2048x1024) _ hz2]
  simp only [View.readAt_eq_ld, h2.read_unread, h3.read_unread, View.ld_unit_zero (S := S1024x2048) hz2, View.ld_unit_zero (S := S1024x1024) hz2]

/-- Case B leaves in the accumulator what it held plus the tile's product. -/
theorem sout_B (c i a2 h2 a3 h3 a4 h4 a5 h5 hc0 hc1) (x0 : Vec Ideal S1024x2048 .bf16) (x1 : Vec Ideal S1024x1024 .f32) (xs : Vec Ideal S2048x1024 .f32) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz2]
  simp only [View.readAt_eq_ld, h2.read_unread, h3.read_unread, h5.read_unread, View.ld_unit_zero (S := S1024x2048) hz2, View.ld_unit_zero (S := S1024x1024) hz2, View.ld_unit_zero (S := S2048x1024) hz2]

/-- Case C leaves in the accumulator what it held plus the tile's product … -/
theorem sout_C (c i a2 h2 a3 h3 a4 h4 a5 h5 hc0 hc1) (x0 : Vec Ideal S1024x2048 .bf16) (x1 : Vec Ideal S1024x1024 .f32) (xs : Vec Ideal S2048x1024 .f32) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz2]
  simp only [View.readAt_eq_ld, h2.read_unread, h3.read_unread, h5.read_unread, View.ld_unit_zero (S := S1024x2048) hz2, View.ld_unit_zero (S := S1024x1024) hz2, View.ld_unit_zero (S := S2048x1024) hz2]

/-- … and writes that sum, narrowed, to the output. -/
theorem out_C (c i a2 h2 a3 h3 a4 h4 a5 h5 hc0 hc1) (x0 : Vec Ideal S1024x2048 .bf16) (x1 : Vec Ideal S1024x1024 .f32) (xs : Vec Ideal S2048x1024 .f32) :
    out0_C_2 c i a2 h2 a3 h3 a4 h4 a5 h5 hc0 hc1 x0 x1 xs = k0_pay3 (k0_pay2 xs x0 x1) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz2, View.readCov_unit_zero (S := S2048x1024) _ hz2]
  simp only [View.readAt_eq_ld, h2.read_unread, h3.read_unread, h5.read_unread, View.ld_unit_zero (S := S1024x2048) hz2, View.ld_unit_zero (S := S1024x1024) hz2, View.ld_unit_zero (S := S2048x1024) hz2]

/-- Where the windows stand at point `t`: tile `t % 8`, column block `t / 8`. -/
theorem idx_facts : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

theorem iblk0 (c : Dev nD) (t : Fin cfg0.N) (k : Fin 1024) (r : Fin 2048) (h : 1024 * (t.val % 8) + k.val < 8192) :
    (iblk m c 0 t : S1024x2048.Idx → EReal) (ix2 k r) = (m ((c : Thread nD τ).loc main_arg0) : S8192x2048.Idx → EReal) (ix2 ⟨1024 * (t.val % 8) + k.val, h⟩ r) := by
  unfold iblk
  rw [View.read_apply]
  refine (congrFun (V_main_arg0 m c) _).trans (congrArg _ (funext fun a => Fin.ext ?_))
  obtain ⟨e0, e1, -⟩ := idx_facts t
  match a with
  | ⟨0, _⟩ => show win0_0.index t (0 : Fin 2) * 1024 + 1 * k.val = 1024 * (t.val % 8) + k.val; rw [e0]; omega
  | ⟨1, _⟩ => show win0_0.index t (1 : Fin 2) * 2048 + 1 * r.val = r.val; rw [e1]; omega

theorem iblk1 (c : Dev nD) (t : Fin cfg0.N) (k l : Fin 1024) (h : 1024 * (t.val % 8) + k.val < 8192) (h' : 1024 * (t.val / 8) + l.val < 2048) :
    (iblk m c 1 t : S1024x1024.Idx → EReal) (ix2 k l) = (m ((c : Thread nD τ).loc main_arg1) : S8192x2048.Idx → EReal) (ix2 ⟨1024 * (t.val % 8) + k.val, h⟩ ⟨1024 * (t.val / 8) + l.val, h'⟩) := by
  unfold iblk
  rw [View.read_apply]
  refine (congrFun (V_main_arg1 m c) _).trans (congrArg _ (funext fun a => Fin.ext ?_))
  obtain ⟨-, -, e0, e1, -⟩ := idx_facts t
  match a with
  | ⟨0, _⟩ => show win0_1.index t (0 : Fin 2) * 1024 + 1 * k.val = 1024 * (t.val % 8) + k.val; rw [e0]; omega
  | ⟨1, _⟩ => show win0_1.index t (1 : Fin 2) * 1024 + 1 * l.val = 1024 * (t.val / 8) + l.val; rw [e1]; omega

/-- The contraction of one result element: row by row, the two arguments' products. -/
def line (a b : Tab 8192 2048) (r q : Fin 2048) : Fin 8192 → EReal := fun k => a (ix2 k r) * b (ix2 k q)

/-- `line` of this device's two arguments. -/
def dline (c : Dev nD) (r q : Fin 2048) : Fin 8192 → EReal :=
  line (m ((c : Thread nD τ).loc main_arg0)) (m ((c : Thread nD τ).loc main_arg1)) r q

/-- A step at point `t` adds the summands of the rows of its tile. -/
theorem step (c : Dev nD) (t : Fin cfg0.N) (v : Vec Ideal S2048x1024 .f32) (r : Fin 2048) (l : Fin 1024) (h' : 1024 * (t.val / 8) + l.val < 2048) :
    k0_pay2 v (iblk m c 0 t) (iblk m c 1 t) (ix2 r l)
      = v (ix2 r l) + ∑ s : Fin 1024, term (dline m c r ⟨1024 * (t.val / 8) + l.val, h'⟩) (1024 * (t.val % 8) + s.val) := by
  refine (pay2_apply _ _ _ r l).trans (congrArg _ (Finset.sum_congr rfl fun s _ => ?_))
  have h : 1024 * (t.val % 8) + s.val < 8192 := by have := Nat.mod_lt t.val (show 0 < 8 by decide); omega
  unfold term
  rw [dif_pos h]
  exact congrArg₂ _ (iblk0 m c t s r h) (iblk1 m c t s l h h')

/-- The accumulator after the first point of a column block … -/
theorem acc_A (c : Dev nD) (t : Fin cfg0.N) (h0 : t.val % 8 = 0) :
    (outsAt0 m c t.val t.isLt).2 = k0_pay2 k0_pay1 (iblk m c 0 t) (iblk m c 1 t) := by
  rw [outsAt0_A m c t h0 (by omega), sout_A]

/-- … and after the others. -/
theorem acc_BC (c : Dev nD) (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1, sout_C]
  · rw [outsAt0_B m c t h0 h1, sout_B]

/-- The accumulator after point `t` holds the sum over the rows of the tiles so far. -/
theorem acc_eq (c : Dev nD) (r : Fin 2048) (l : Fin 1024) : ∀ (n : ℕ) (hn : n < cfg0.N) (h' : 1024 * (n / 8) + l.val < 2048),
    (outsAt0 m c n hn).2 (ix2 r l) = ∑ k ∈ Finset.range (1024 * (n % 8 + 1)), term (dline m c r ⟨1024 * (n / 8) + l.val, h'⟩) k := by
  intro n
  induction n with
  | zero =>
    intro hn h'
    rw [acc_A m c ⟨0, hn⟩ rfl, step m c ⟨0, hn⟩ _ r l h', pay1_apply]
    rw [sum_tile _ 1024 (0 % 8) _ (fun s => rfl)]
    simp
  | succ n ih =>
    intro hn h'
    by_cases h0 : (n + 1) % 8 = 0
    · rw [acc_A m c ⟨n + 1, hn⟩ h0, step m c ⟨n + 1, hn⟩ _ r l h', pay1_apply]
      rw [sum_tile _ 1024 ((n + 1) % 8) _ (fun s => rfl), h0]
      simp
    · have e1 : (n + 1) % 8 = n % 8 + 1 := by omega
      have e2 : (n + 1) / 8 = n / 8 := by omega
      rw [acc_BC m c ⟨n + 1, hn⟩ h0, step m c ⟨n + 1, hn⟩ _ r l h']
      rw [sum_tile _ 1024 ((n + 1) % 8) _ (fun s => rfl)]
      refine congrArg₂ _ ((ih (Nat.lt_of_succ_lt hn) (by omega)).trans ?_) rfl
      simp only [e1, e2]

/-- The gradient: columns of the mixed activations times columns of the incoming gradient. -/
def G (c : Dev nD) : Buf (Elt Ideal) ((c : Thread nD τ).loc main_v0) :=
  Tmm (m ((c : Thread nD τ).loc main_arg0) : Tab 8192 2048) (m ((c : Thread nD τ).loc main_arg1) : Tab 8192 2048)

/-- The gradient at an index. -/
theorem G_apply (c : Dev nD) (r q : Fin 2048) : G m c (ix2 r q) = ∑ k : Fin 8192, dline m c r q k := by
  unfold G Tmm dline line
  rfl

/-- What a flushing point writes back is its block of the gradient. -/
theorem flushed_eq (c : Dev nD) (t : Fin cfg0.N) (hf : (cfg0.win 2).flush t = true) :
    (dats m 0 c).flushed 2 t = ((cfg0.win 2).blk t).view.read (Elt Ideal) (G m c) := by
  have hm : t.val % 8 = 7 := (flush0_2 t).mp hf
  have h0 : ¬t.val % 8 = 0 := by omega
  have ht : t.val < 16 := lt_of_lt_of_eq t.isLt N_0
  rw [flushed2_C m c t h0 hm, out_C, ← acc_BC m c t h0]
  obtain ⟨-, -, -, -, e0, e1⟩ := idx_facts t
  funext y
  obtain ⟨r, l, rfl⟩ : ∃ (r : Fin 2048) (l : Fin 1024), y = ix2 r l := ix2_surj y
  have h' : 1024 * (t.val / 8) + l.val < 2048 := by omega
  have hb : ((cfg0.win 2).blk t).view.emb (ix2 r l) = (ix2 r ⟨1024 * (t.val / 8) + l.val, h'⟩ : S2048x2048.Idx) := funext fun a => Fin.ext (by
    match a with
    | ⟨0, _⟩ => show win0_2.index t (0 : Fin 2) * 2048 + 1 * r.val = r.val; rw [e0]; omega
    | ⟨1, _⟩ => show win0_2.index t (1 : Fin 2) * 1024 + 1 * l.val = 1024 * (t.val / 8) + l.val; rw [e1]; omega)
  rw [View.read_apply, hb, cast_eq]
  refine (pay3_apply _ r l).trans ((acc_eq m c r l t.val t.isLt h').trans ?_)
  rw [show 1024 * (t.val % 8 + 1) = 8192 by omega]
  have e := (G_apply m c r ⟨1024 * (t.val / 8) + l.val, h'⟩).trans (sum_term _)
  rw [e]

/-- So the result array ends holding the gradient: the flushing points' blocks tile it. -/
theorem final (c : Dev nD) : (dats m 0 c).arrAt 2 cfg0.N = G m c :=
  (dats m 0 c).arrAt_eq_of_cover 2 _ (fun t hf => flushed_eq m c t hf) fun i => (covered_iff2 i).2 (by
    have h0 : (i 0).val < 2048 := (i 0).isLt; have h1 : (i 1).val < 2048 := (i 1).isLt; omega)

end Cert.GradWOutIdeal.Own

namespace Cert.GradWOutRefIdeal.Own

open Cert.GradWOutRefIdeal Cert.GradWOutRefIdeal.Gen Cert.GradWOutRefIdeal.Read
open Cert.Common Idealize.ShloMosaic Idealize.ShloMosaic.TcCoe

/-- The reference at an index: the same columns, the factors in the other order. -/
theorem ref_apply (a : Vec Ideal S8192x2048 .bf16) (b : Vec Ideal S8192x2048 .f32) (i : S2048x2048.Idx) :
    val_main_v5 a b i = (Tmm (a : Tab 8192 2048) (b : Tab 8192 2048) : Tab 2048 2048) i := by
  unfold Tmm
  pointwise [val_main_v5, val_main_v4, val_main_v3, val_main_v1]
  exact Finset.sum_congr rfl fun k _ => mul_comm _ _

end Cert.GradWOutRefIdeal.Own

namespace Cert.Values

open Idealize.ShloMosaic Idealize.ShloMosaic.TcCoe Idealize.SL.Sem

/-- The value claim: the call's result is the reference's, element by element. -/
theorem gradWOut : Cert.algebraic_GradWOutIdeal_GradWOutRefIdeal (hGradWOutIdeal := Cert.GradWOutIdeal.Gen.facts) (hGradWOutRefIdeal := Cert.GradWOutRefIdeal.Gen.facts) := by
  intro m g m' g' _ hm
  refine ⟨fun c => Cert.GradWOutIdeal.Own.G m c, ?_, ?_⟩
  · refine (θ_run _ _ _).mono (fun r h c => ?_) (Cert.GradWOutIdeal.Value.run_blocks m g)
    obtain ⟨h0, h1⟩ := h c
    exact ⟨h0.trans (Cert.GradWOutIdeal.Own.final m c), h1⟩
  · refine (θ_run _ _ _).mono (fun r h c => ?_) (Cert.GradWOutRefIdeal.Value.run m' g')
    obtain ⟨h0, h1⟩ := h c
    obtain ⟨e0, e1⟩ := hm c
    refine ⟨h0.trans ?_, h1⟩
    rw [Cert.GradWOutRefIdeal.Read.val_main_v5_eq, e0, e1]
    funext i
    exact Cert.GradWOutRefIdeal.Own.ref_apply _ _ i

end Cert.Values
-- ==== Proof.GradWIn.lean ====
module

public import proofs.«01_k».proof.Proof.Gen.GradWInIdeal.Value
public import proofs.«01_k».proof.Proof.Gen.GradWInRefIdeal.Read
public import proofs.«01_k».proof.Proof.GradWOut
public import Idealize.ShloMosaic.Lib.Pipeline.ValueKit.Tiles

/-! The weight gradient of the input projection: eight tiles of rows are accumulated into one block, which leaves as two slabs. -/

@[expose] public section

noncomputable section

namespace Cert.GradWInIdeal.Own

open Cert.GradWInIdeal Cert.GradWInIdeal.Gen Cert.GradWInIdeal.Value
open Cert.Common Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reset: zeros. -/
theorem pay1_apply (r : Fin 1024) (l : Fin 2816) : (k0_pay1 (F := Ideal)) (ix2 r l) = 0 := by
  pointwise [k0_pay1]

/-- One step of the accumulation at an index. -/
theorem pay2_apply (v : Vec Ideal S1024x2816 .f32) (a : Vec Ideal S1024x1024 .bf16) (b : Vec Ideal S1024x2816 .bf16) (r : Fin 1024) (l : Fin 2816) :
    k0_pay2 v a b (ix2 r l) = v (ix2 r l) + ∑ k : Fin 1024, a (ix2 k r) * b (ix2 k l) := by
  pointwise [k0_pay2]

/-- The narrowing of the first slab at the end changes no number … -/
theorem pay3_apply (v : Vec Ideal S1024x1408 .f32) (z : Fin 1) (r : Fin 1024) (l : Fin 1408) : k0_pay3 v (ix3 z r l) = v (ix2 r l) := by
  pointwise [k0_pay3]

/-- … nor does the second's. -/
theorem pay4_apply (v : Vec Ideal S1024x1408 .f32) (z : Fin 1) (r : Fin 1024) (l : Fin 1408) : k0_pay4 v (ix3 z r l) = v (ix2 r l) := by
  pointwise [k0_pay4]

/-- Case A leaves in the accumulator the first tile's product over zeros. -/
theorem sout_A (c i a3 h3 a4 h4 a6 h6 a7 h7 hc0 hc1) (x0 : Vec Ideal S1024x1024 .bf16) (x1 : Vec Ideal S1024x2816 .bf16) :
    sout0_A_0 c i a3 h3 a4 h4 a6 h6 a7 h7 hc0 hc1 x0 x1 = k0_pay2 k0_pay1 x0 x1 := by
  unfold sout0_A_0
  rw [View.read_writes_eq_canon _ _ _ (scover0_A_0 c i a3 h3 a4 h4 a6 h6 a7 h7 hc0 hc1 x0 x1)]
  unfold kernelRun0_A
  dsimp only
  sl_unfold_words
  rw [View.canon_cons_unit_zero (S := S1024x2816) hz2, View.readCov_unit_zero (S := S1024x2816) _ hz2]
  simp only [View.readAt_eq_ld, h3.read_unread, h4.read_unread, View.ld_unit_zero (S := S1024x2816) hz2, View.ld_unit_zero (S := S1024x1024) hz2]

/-- Case B leaves in the accumulator what it held plus the tile's product. -/
theorem sout_B (c i a3 h3 a4 h4 a6 h6 a7 h7 hc0 hc1) (x0 : Vec Ideal S1024x1024 .bf16) (x1 : Vec Ideal S1024x2816 .bf16) (xs : Vec Ideal S1024x2816 .f32) :
    sout0_B_0 c i a3 h3 a4 h4 a6 h6 a7 h7 hc0 hc1 x0 x1 xs = k0_pay2 xs x0 x1 := by
  unfold sout0_B_0
  rw [View.read_writes_eq_canon _ _ _ (scover0_B_0 c i a3 h3 a4 h4 a6 h6 a7 h7 hc0 hc1 x0 x1 xs)]
  unfold kernelRun0_B
  dsimp only
  rw [View.canon_unit_zero hz2]
  simp only [View.readAt_eq_ld, h3.read_unread, h4.read_unread, h7.read_unread, View.ld_unit_zero (S := S1024x2816) hz2, View.ld_unit_zero (S := S1024x1024) hz2]

/-- Case C leaves in the accumulator what it held plus the tile's product … -/
theorem sout_C (c i a3 h3 a4 h4 a6 h6 a7 h7 hc0 hc1) (x0 : Vec Ideal S1024x1024 .bf16) (x1 : Vec Ideal S1024x2816 .bf16) (xs : Vec Ideal S1024x2816 .f32) :
    sout0_C_0 c i a3 h3 a4 h4 a6 h6 a7 h7 hc0 hc1 x0 x1 xs = k0_pay2 xs x0 x1 := by
  unfold sout0_C_0
  rw [View.read_writes_eq_canon _ _ _ (scover0_C_0 c i a3 h3 a4 h4 a6 h6 a7 h7 hc0 hc1 x0 x1 xs)]
  unfold kernelRun0_C
  dsimp only
  sl_unfold_words
  rw [View.canon_unit_zero hz2]
  simp only [View.readAt_eq_ld, h3.read_unread, h4.read_unread, h7.read_unread, View.ld_unit_zero (S := S1024x2816) hz2, View.ld_unit_zero (S := S1024x1024) hz2]

/-- … and writes that sum, narrowed, to the output: its left half to the first slab, its right half to the second. -/
theorem out_C (c i a3 h3 a4 h4 a6 h6 a7 h7 hc0 hc1) (x0 : Vec Ideal S1024x1024 .bf16) (x1 : Vec Ideal S1024x2816 .bf16) (xs : Vec Ideal S1024x2816 .f32)
    (s : Fin 2) (r : Fin 1024) (l : Fin 1408) (h : 1408 * s.val + l.val < 2816) :
    out0_C_2 c i a3 h3 a4 h4 a6 h6 a7 h7 hc0 hc1 x0 x1 xs (ix3 s r l) = k0_pay2 xs x0 x1 (ix2 r ⟨1408 * s.val + l.val, h⟩) := by
  have hcov := cover0_C_2 c i a3 h3 a4 h4 a6 h6 a7 h7 hc0 hc1 x0 x1 xs
  unfold out0_C_2
  rw [View.read_writes_eq_canon _ _ _ hcov]
  refine View.canon_eq_of_allAt _ _ _ (hcov _) ?_
  unfold kernelRun0_C
  dsimp only
  sl_unfold_words
  simp only [View.readCov_eq_canon', View.canon_unit_zero (S := S1024x2816) hz2]
  simp only [View.readAt_eq_ld, h3.read_unread, h4.read_unread, h7.read_unread, View.ld_unit_zero (S := S1024x2816) hz2, View.ld_unit_zero (S := S1024x1024) hz2]
  refine View.allAt_cons_unit _ _ _ _ _ ?_ (View.allAt_cons_unit _ _ _ _ _ ?_ (View.allAt_nil _ _))
  · intro x hx
    obtain ⟨z, r', l', rfl⟩ : ∃ (z : Fin 1) (r' : Fin 1024) (l' : Fin 1408), x = ix3 z r' l' := ix3_surj x
    refine (pay4_apply _ z r' l').trans (congrArg _ (funext fun a => Fin.ext ?_))
    have e0 : s.val = 1 + z.val := hx 0
    have e1 : r.val = 0 + r'.val := hx 1
    have e2 : l.val = 0 + l'.val := hx 2
    match a with
    | ⟨0, _⟩ => show 0 + 1 * r'.val = r.val; omega
    | ⟨1, _⟩ => show 1408 + 1 * l'.val = 1408 * s.val + l.val; omega
  · intro x hx
    obtain ⟨z, r', l', rfl⟩ : ∃ (z : Fin 1) (r' : Fin 1024) (l' : Fin 1408), x = ix3 z r' l' := ix3_surj x
    refine (pay3_apply _ z r' l').trans (congrArg _ (funext fun a => Fin.ext ?_))
    have e0 : s.val = 0 + z.val := hx 0
    have e1 : r.val = 0 + r'.val := hx 1
    have e2 : l.val = 0 + l'.val := hx 2
    match a with
    | ⟨0, _⟩ => show 0 + 1 * r'.val = r.val; omega
    | ⟨1, _⟩ => show 0 + 1 * l'.val = 1408 * s.val + l.val; omega

/-- Where the windows stand at point `t`: row tile `t % 8`, block of the model's features `t / 8 % 2`, column half `t / 16`. -/
theorem idx_facts : ∀ t : Fin cfg0.N, win0_0.index t (0 : Fin 2) = t.val % 8 ∧ win0_0.index t (1 : Fin 2) = t.val / 8 % 2
    ∧ win0_1.index t (0 : Fin 2) = t.val % 8 ∧ win0_1.index t (1 : Fin 2) = t.val / 16
    ∧ win0_2.index t (0 : Fin 3) = t.val / 16 ∧ win0_2.index t (1 : Fin 3) = t.val / 8 % 2 ∧ win0_2.index t (2 : Fin 3) = 0 :=
  (by decide +kernel : ∀ t : Fin grid0.N, _)

/-- The normalised rows the projection multiplied: what the host computed from the input and the norm's weights. -/
def H (c : Dev nD) : Tab 8192 2048 :=
  Cert.GradWInRefIdeal.Read.val_main_v12 (F := Ideal) (m ((c : Thread nD τ).loc main_arg0)) (m ((c : Thread nD τ).loc main_arg1))

/-- The region's first operand holds those rows. -/
theorem V_h (c : Dev nD) : (V m c main_v12 : S8192x2048.Idx → EReal) = H m c := by
  unfold V
  after_results
  rfl

theorem iblk0 (c : Dev nD) (t : Fin cfg0.N) (k r : Fin 1024) (h : 1024 * (t.val % 8) + k.val < 8192) (h'' : 1024 * (t.val / 8 % 2) + r.val < 2048) :
    (iblk m c 0 t : S1024x1024.Idx → EReal) (ix2 k r) = H m c (ix2 ⟨1024 * (t.val % 8) + k.val, h⟩ ⟨1024 * (t.val / 8 % 2) + r.val, h''⟩) := by
  unfold iblk
  rw [View.read_apply]
  refine (congrFun (V_h m c) _).trans (congrArg _ (funext fun a => Fin.ext ?_))
  obtain ⟨e0, e1, -⟩ := idx_facts t
  match a with
  | ⟨0, _⟩ => show win0_0.index t (0 : Fin 2) * 1024 + 1 * k.val = 1024 * (t.val % 8) + k.val; rw [e0]; omega
  | ⟨1, _⟩ => show win0_0.index t (1 : Fin 2) * 1024 + 1 * r.val = 1024 * (t.val / 8 % 2) + r.val; rw [e1]; omega

theorem iblk1 (c : Dev nD) (t : Fin cfg0.N) (k : Fin 1024) (l : Fin 2816) (h : 1024 * (t.val % 8) + k.val < 8192) (h' : 2816 * (t.val / 16) + l.val < 5632) :
    (iblk m c 1 t : S1024x2816.Idx → EReal) (ix2 k l) = (m ((c : Thread nD τ).loc main_arg2) : S8192x5632.Idx → EReal) (ix2 ⟨1024 * (t.val % 8) + k.val, h⟩ ⟨2816 * (t.val / 16) + l.val, h'⟩) := by
  unfold iblk
  rw [View.read_apply]
  refine (congrFun (V_main_arg2 m c) _).trans (congrArg _ (funext fun a => Fin.ext ?_))
  obtain ⟨-, -, e0, e1, -⟩ := idx_facts t
  match a with
  | ⟨0, _⟩ => show win0_1.index t (0 : Fin 2) * 1024 + 1 * k.val = 1024 * (t.val % 8) + k.val; rw [e0]; omega
  | ⟨1, _⟩ => show win0_1.index t (1 : Fin 2) * 2816 + 1 * l.val = 2816 * (t.val / 16) + l.val; rw [e1]; omega

/-- The contraction of one result element: row by row, the two arguments' products. -/
def line (a : Tab 8192 2048) (b : Tab 8192 5632) (r : Fin 2048) (q : Fin 5632) : Fin 8192 → EReal := fun k => a (ix2 k r) * b (ix2 k q)

/-- `line` of this device's two factors. -/
def dline (c : Dev nD) (r : Fin 2048) (q : Fin 5632) : Fin 8192 → EReal :=
  line (H m c) (m ((c : Thread nD τ).loc main_arg2)) r q

/-- A step at point `t` adds the summands of the rows of its tile. -/
theorem step (c : Dev nD) (t : Fin cfg0.N) (v : Vec Ideal S1024x2816 .f32) (r : Fin 1024) (l : Fin 2816) (h'' : 1024 * (t.val / 8 % 2) + r.val < 2048) (h' : 2816 * (t.val / 16) + l.val < 5632) :
    k0_pay2 v (iblk m c 0 t) (iblk m c 1 t) (ix2 r l)
      = v (ix2 r l) + ∑ s : Fin 1024, term (dline m c ⟨1024 * (t.val / 8 % 2) + r.val, h''⟩ ⟨2816 * (t.val / 16) + l.val, h'⟩) (1024 * (t.val % 8) + s.val) := by
  refine (pay2_apply _ _ _ r l).trans (congrArg _ (Finset.sum_congr rfl fun s _ => ?_))
  have h : 1024 * (t.val % 8) + s.val < 8192 := by have := Nat.mod_lt t.val (show 0 < 8 by decide); omega
  unfold term
  rw [dif_pos h]
  exact congrArg₂ _ (iblk0 m c t s r h h'') (iblk1 m c t s l h h')

/-- The accumulator after the first point of a block … -/
theorem acc_A (c : Dev nD) (t : Fin cfg0.N) (h0 : t.val % 8 = 0) :
    (outsAt0 m c t.val t.isLt).2 = k0_pay2 k0_pay1 (iblk m c 0 t) (iblk m c 1 t) := by
  rw [outsAt0_A m c t h0 (by omega), sout_A]

/-- … and after the others. -/
theorem acc_BC (c : Dev nD) (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1, sout_C]
  · rw [outsAt0_B m c t h0 h1, sout_B]

/-- The accumulator after point `t` holds the sum over the rows of the tiles so far. -/
theorem acc_eq (c : Dev nD) (r : Fin 1024) (l : Fin 2816) : ∀ (n : ℕ) (hn : n < cfg0.N) (h'' : 1024 * (n / 8 % 2) + r.val < 2048) (h' : 2816 * (n / 16) + l.val < 5632),
    (outsAt0 m c n hn).2 (ix2 r l) = ∑ k ∈ Finset.range (1024 * (n % 8 + 1)), term (dline m c ⟨1024 * (n / 8 % 2) + r.val, h''⟩ ⟨2816 * (n / 16) + l.val, h'⟩) k := by
  intro n
  induction n with
  | zero =>
    intro hn h'' h'
    rw [acc_A m c ⟨0, hn⟩ rfl, step m c ⟨0, hn⟩ _ r l h'' h', pay1_apply]
    rw [sum_tile _ 1024 (0 % 8) _ (fun s => rfl)]
    simp
  | succ n ih =>
    intro hn h'' h'
    by_cases h0 : (n + 1) % 8 = 0
    · rw [acc_A m c ⟨n + 1, hn⟩ h0, step m c ⟨n + 1, hn⟩ _ r l h'' h', pay1_apply]
      rw [sum_tile _ 1024 ((n + 1) % 8) _ (fun s => rfl), h0]
      simp
    · have e1 : (n + 1) % 8 = n % 8 + 1 := by omega
      have e2 : (n + 1) / 8 % 2 = n / 8 % 2 := by omega
      have e3 : (n + 1) / 16 = n / 16 := by omega
      rw [acc_BC m c ⟨n + 1, hn⟩ h0, step m c ⟨n + 1, hn⟩ _ r l h'' h']
      rw [sum_tile _ 1024 ((n + 1) % 8) _ (fun s => rfl)]
      refine congrArg₂ _ ((ih (Nat.lt_of_succ_lt hn) (by omega) (by omega)).trans ?_) rfl
      simp only [e1, e2, e3]

/-- The gradient in slabs of columns: columns of the normalised rows times columns of the incoming gradient. -/
def slabs (a : Tab 8192 2048) (b : Tab 8192 5632) : S4x2048x1408.Idx → EReal := fun i =>
  ∑ k : Fin 8192, line a b (i 1) ⟨1408 * (i 0).val + (i 2).val, by have h0 : (i 0).val < 4 := (i 0).isLt; have h2 : (i 2).val < 1408 := (i 2).isLt; omega⟩ k

/-- The result the claim names. -/
def G (c : Dev nD) : Buf (Elt Ideal) ((c : Thread nD τ).loc main_v14) := slabs (H m c) (m ((c : Thread nD τ).loc main_arg2))

/-- It at an index. -/
theorem G_apply (c : Dev nD) (p : Fin 4) (r : Fin 2048) (l : Fin 1408) (h : 1408 * p.val + l.val < 5632) :
    G m c (ix3 p r l) = ∑ k : Fin 8192, dline m c r ⟨1408 * p.val + l.val, h⟩ k := by
  unfold G slabs dline
  rfl

/-- What a flushing point writes back is its block of the gradient. -/
theorem flushed_eq (c : Dev nD) (t : Fin cfg0.N) (hf : (cfg0.win 2).flush t = true) :
    (dats m 0 c).flushed 2 t = ((cfg0.win 2).blk t).view.read (Elt Ideal) (G m c) := by
  have hm : t.val % 8 = 7 := (flush0_2 t).mp hf
  have h0 : ¬t.val % 8 = 0 := by omega
  have ht : t.val < 32 := lt_of_lt_of_eq t.isLt N_0
  rw [flushed2_C m c t h0 hm]
  obtain ⟨-, -, -, -, e0, e1, e2⟩ := idx_facts t
  funext y
  obtain ⟨s, r, l, rfl⟩ : ∃ (s : Fin 2) (r : Fin 1024) (l : Fin 1408), y = ix3 s r l := ix3_surj y
  have h'' : 1024 * (t.val / 8 % 2) + r.val < 2048 := by omega
  have hl : 1408 * s.val + l.val < 2816 := by omega
  have h' : 2816 * (t.val / 16) + (1408 * s.val + l.val) < 5632 := by omega
  have hp : 2 * (t.val / 16) + s.val < 4 := by omega
  have h5 : 1408 * (2 * (t.val / 16) + s.val) + l.val < 5632 := by omega
  have hb : ((cfg0.win 2).blk t).view.emb (ix3 s r l) = (ix3 ⟨2 * (t.val / 16) + s.val, hp⟩ ⟨1024 * (t.val / 8 % 2) + r.val, h''⟩ l : S4x2048x1408.Idx) := funext fun a => Fin.ext (by
    match a with
    | ⟨0, _⟩ => show win0_2.index t (0 : Fin 3) * 2 + 1 * s.val = 2 * (t.val / 16) + s.val; rw [e0]; omega
    | ⟨1, _⟩ => show win0_2.index t (1 : Fin 3) * 1024 + 1 * r.val = 1024 * (t.val / 8 % 2) + r.val; rw [e1]; omega
    | ⟨2, _⟩ => show win0_2.index t (2 : Fin 3) * 1408 + 1 * l.val = l.val; rw [e2]; omega)
  rw [View.read_apply, hb, cast_eq]
  refine (out_C _ _ _ _ _ _ _ _ _ _ _ _ _ _ _ s r l hl).trans ?_
  rw [← acc_BC m c t h0]
  refine (acc_eq m c r ⟨1408 * s.val + l.val, hl⟩ t.val t.isLt h'' h').trans ?_
  rw [show 1024 * (t.val % 8 + 1) = 8192 by omega]
  refine ((G_apply m c _ _ l h5).trans ((sum_term _).trans ?_)).symm
  have e : 1408 * (2 * (t.val / 16) + s.val) + l.val = 2816 * (t.val / 16) + (1408 * s.val + l.val) := by omega
  simp only [e]

/-- An index of the result lies in a point's block iff each coordinate lies in the block's range. -/
theorem mem_blk (t : Fin cfg0.N) (i : S4x2048x1408.Idx) :
    i ∈ ((cfg0.win 2).blk t).view.set ↔ ∀ a : Fin 3, win0_2.index t a * S2x1024x1408.size a ≤ (i a).val ∧ (i a).val < win0_2.index t a * S2x1024x1408.size a + S2x1024x1408.size a := by
  show i ∈ ((View.whole main_v14).slice (win0_2.rect t)).set ↔ _
  rw [View.set_slice_whole, Rect.mem_set_unit]
  exact Iff.rfl

/-- So the result array ends holding the gradient: the flushing points' blocks tile it. -/
theorem final (c : Dev nD) : (dats m 0 c).arrAt 2 cfg0.N = G m c :=
  (dats m 0 c).arrAt_eq_of_cover 2 _ (fun t hf => flushed_eq m c t hf) fun i => by
    have h0 : (i 0).val < 4 := (i 0).isLt
    have h1 : (i 1).val < 2048 := (i 1).isLt
    have h2 : (i 2).val < 1408 := (i 2).isLt
    have hn : 16 * ((i 0).val / 2) + 8 * ((i 1).val / 1024) + 7 < cfg0.N := lt_of_lt_of_eq (by omega) N_0.symm
    refine ⟨⟨_, hn⟩, (flush0_2 _).mpr (by dsimp only; omega), ?_⟩
    obtain ⟨-, -, -, -, e0, e1, e2⟩ := idx_facts ⟨_, hn⟩
    dsimp only at e0 e1 e2
    refine (mem_blk _ i).mpr fun a => ?_
    match a with
    | ⟨0, _⟩ => show win0_2.index ⟨_, hn⟩ (0 : Fin 3) * 2 ≤ (i 0).val ∧ (i 0).val < win0_2.index ⟨_, hn⟩ (0 : Fin 3) * 2 + 2; rw [e0]; omega
    | ⟨1, _⟩ => show win0_2.index ⟨_, hn⟩ (1 : Fin 3) * 1024 ≤ (i 1).val ∧ (i 1).val < win0_2.index ⟨_, hn⟩ (1 : Fin 3) * 1024 + 1024; rw [e1]; omega
    | ⟨2, _⟩ => show win0_2.index ⟨_, hn⟩ (2 : Fin 3) * 1408 ≤ (i 2).val ∧ (i 2).val < win0_2.index ⟨_, hn⟩ (2 : Fin 3) * 1408 + 1408; rw [e2]; omega

end Cert.GradWInIdeal.Own

namespace Cert.GradWInRefIdeal.Own

open Cert.GradWInRefIdeal Cert.GradWInRefIdeal.Gen Cert.GradWInRefIdeal.Read
open Cert.Common Idealize.ShloMosaic Idealize.ShloMosaic.TcCoe

/-- The reference at an index: the same columns, the factors in the other order. -/
theorem ref_apply (x : Vec Ideal S8192x2048 .f32) (g : Vec Ideal S1x2048 .f32) (b : Vec Ideal S8192x5632 .bf16) (i : S4x2048x1408.Idx) :
    val_main_v19 x g b i = Cert.GradWInIdeal.Own.slabs (val_main_v12 x g) b i := by
  unfold Cert.GradWInIdeal.Own.slabs Cert.GradWInIdeal.Own.line
  obtain ⟨p, r, l, rfl⟩ : ∃ (p : Fin 4) (r : Fin 2048) (l : Fin 1408), i = ix3 p r l := ix3_surj i
  pointwise [val_main_v19, val_main_v18, val_main_v17, val_main_v16, val_main_v15, val_main_v14]
  refine Finset.sum_congr rfl fun k _ => (mul_comm _ _).trans ?_
  have e : p.val * 1408 + l.val = 1408 * p.val + l.val := by omega
  simp only [e]

end Cert.GradWInRefIdeal.Own

namespace Cert.Values

open Idealize.ShloMosaic Idealize.ShloMosaic.TcCoe Idealize.SL.Sem

/-- The value claim: the call's result is the reference's, element by element. -/
theorem gradWIn : Cert.algebraic_GradWInIdeal_GradWInRefIdeal (hGradWInIdeal := Cert.GradWInIdeal.Gen.facts) (hGradWInRefIdeal := Cert.GradWInRefIdeal.Gen.facts) := by
  intro m g m' g' _ hm
  refine ⟨fun c => Cert.GradWInIdeal.Own.G m c, ?_, ?_⟩
  · refine (θ_run _ _ _).mono (fun r h c => ?_) (Cert.GradWInIdeal.Value.run_blocks m g)
    obtain ⟨h0, h1⟩ := h c
    exact ⟨h0.trans (Cert.GradWInIdeal.Own.final m c), h1⟩
  · refine (θ_run _ _ _).mono (fun r h c => ?_) (Cert.GradWInRefIdeal.Value.run m' g')
    obtain ⟨h0, h1⟩ := h c
    obtain ⟨e0, e1, e2⟩ := hm c
    refine ⟨h0.trans ?_, h1⟩
    rw [Cert.GradWInRefIdeal.Read.val_main_v19_eq, e0, e1, e2]
    funext i
    exact Cert.GradWInRefIdeal.Own.ref_apply _ _ _ i

end Cert.Values
-- ==== Proof.BwdOut.lean ====
module

public import proofs.«01_k».proof.Proof.Gen.BwdOutIdeal.Value
public import proofs.«01_k».proof.Proof.Gen.BwdOutRefIdeal.Read
public import proofs.«01_k».proof.Proof.Common
public import proofs.«01_k».proof.Defs

/-! The gradient that the output projection hands back to the mixing: a block of rows times the weights, transposed. -/

@[expose] public section

noncomputable section

namespace Cert.BwdOutIdeal.Own

open Cert.BwdOutIdeal Cert.BwdOutIdeal.Gen Cert.BwdOutIdeal.Value
open Cert.Common Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One block at an index: the row of `dy` times the row of the weights. -/
theorem pay_apply (x : Vec Ideal S512x2048 .f32) (w : Vec Ideal S2048x2048 .bf16) (r : Fin 512) (l : Fin 2048) :
    k0_pay1 x w (ix2 r l) = ∑ k : Fin 2048, x (ix2 r k) * w (ix2 l k) := by
  pointwise [k0_pay1]

/-- The weight array the region finds holds the argument's numbers. -/
theorem V_w (c : Dev nD) : (V m c main_v0 : S2048x2048.Idx → EReal) = m ((c : Thread nD τ).loc main_arg1) := by
  unfold V
  after_results
  rfl

/-- The gradient's rows, as contents of the result array. -/
def G (c : Dev nD) : Buf (Elt Ideal) ((c : Thread nD τ).loc main_v2) :=
  mmT (m ((c : Thread nD τ).loc main_arg0) : Tab 8192 2048) (m ((c : Thread nD τ).loc main_arg1) : Tab 2048 2048)

/-- Where the windows stand at point `t`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk0 (c : Dev nD) (t : Fin cfg0.N) (r : Fin 512) (k : Fin 2048) (h : 512 * t.val + r.val < 8192) :
    (iblk m c 0 t : S512x2048.Idx → EReal) (ix2 r k) = (m ((c : Thread nD τ).loc main_arg0) : S8192x2048.Idx → EReal) (ix2 ⟨512 * t.val + r.val, h⟩ k) := by
  unfold iblk
  rw [View.read_apply]
  refine (congrFun (V_main_arg0 m c) _).trans (congrArg _ (funext fun a => Fin.ext ?_))
  obtain ⟨e0, e1, -⟩ := idx_facts t
  match a with
  | ⟨0, _⟩ => show win0_0.index t (0 : Fin 2) * 512 + 1 * r.val = 512 * t.val + r.val; rw [e0]; omega
  | ⟨1, _⟩ => show win0_0.index t (1 : Fin 2) * 2048 + 1 * k.val = k.val; rw [e1]; omega

theorem iblk1 (c : Dev nD) (t : Fin cfg0.N) (k l : Fin 2048) :
    (iblk m c 1 t : S2048x2048.Idx → EReal) (ix2 k l) = (m ((c : Thread nD τ).loc main_arg1) : S2048x2048.Idx → EReal) (ix2 k l) := by
  unfold iblk
  rw [View.read_apply]
  refine (congrFun (V_w m c) _).trans (congrArg _ (funext fun a => Fin.ext ?_))
  obtain ⟨-, -, e0, e1, -⟩ := idx_facts t
  match a with
  | ⟨0, _⟩ => show win0_1.index t (0 : Fin 2) * 2048 + 1 * k.val = k.val; rw [e0]; omega
  | ⟨1, _⟩ => show win0_1.index t (1 : Fin 2) * 2048 + 1 * l.val = l.val; rw [e1]; omega

/-- What the body leaves in the output's buffer is its one payload over the whole input blocks. -/
theorem out_A (c i a1 h1 a2 h2 a4 h4) (x0 : Vec Ideal S512x2048 .f32) (x1 : Vec Ideal S2048x2048 .bf16) :
    out0_A_2 c i a1 h1 a2 h2 a4 h4 x0 x1 = k0_pay1 x0 x1 := by
  unfold out0_A_2
  rw [View.read_writes_eq_canon _ _ _ (cover0_A_2 c i a1 h1 a2 h2 a4 h4 x0 x1)]
  unfold kernelRun0_A
  dsimp only
  rw [View.canon_unit_zero Cert.Common.hz2]
  simp only [View.readAt_eq_ld, h1.read_unread, h2.read_unread, View.ld_unit_zero (S := S512x2048) Cert.Common.hz2, View.ld_unit_zero (S := S2048x2048) Cert.Common.hz2]

/-- What point `t` writes back is block `t` of the gradient's rows. -/
theorem flushed_eq (c : Dev nD) (t : Fin cfg0.N) : (dats m 0 c).flushed 2 t = ((cfg0.win 2).blk t).view.read (Elt Ideal) (G m c) := by
  rw [flushed2_A, out_A]
  obtain ⟨-, -, -, -, e0, e1⟩ := idx_facts t
  have ht : t.val < 16 := lt_of_lt_of_eq t.isLt N_0
  funext y
  obtain ⟨r, l, rfl⟩ : ∃ (r : Fin 512) (l : Fin 2048), y = ix2 r l := ix2_surj y
  have h : 512 * t.val + r.val < 8192 := by omega
  have hb : ((cfg0.win 2).blk t).view.emb (ix2 r l) = (ix2 ⟨512 * t.val + r.val, h⟩ l : S8192x2048.Idx) := funext fun a => Fin.ext (by
    match a with
    | ⟨0, _⟩ => show win0_2.index t (0 : Fin 2) * 512 + 1 * r.val = 512 * t.val + r.val; rw [e0]; omega
    | ⟨1, _⟩ => show win0_2.index t (1 : Fin 2) * 2048 + 1 * l.val = l.val; rw [e1]; omega)
  rw [View.read_apply, hb, cast_eq]
  refine (pay_apply _ _ r l).trans ?_
  show _ = mmT _ _ _
  unfold mmT
  refine Finset.sum_congr rfl fun k _ => ?_
  rw [iblk0 m c t r k h, iblk1]
  rfl

/-- So the result array ends holding the gradient: the blocks tile it. -/
theorem final (c : Dev nD) : (dats m 0 c).arrAt 2 cfg0.N = G m c :=
  (dats m 0 c).arrAt_eq_of_cover 2 _ (fun t _ => flushed_eq m c t) fun i => by
    have hi0 : (i 0 : Nat) < 8192 := (i 0).isLt
    have hi1 : (i 1 : Nat) < 2048 := (i 1).isLt
    let t : Fin cfg0.N := ⟨(i 0 : Nat) / 512, lt_of_lt_of_eq (by omega) N_0.symm⟩
    obtain ⟨-, -, -, -, e0, e1⟩ := idx_facts t
    refine ⟨t, flush0_2 t, ?_⟩
    show i ∈ ((View.whole main_v2).slice (win0_2.rect t)).set
    rw [View.set_slice_whole, Rect.mem_set_unit]
    intro a
    match a with
    | ⟨0, _⟩ => show win0_2.index t (0 : Fin 2) * 512 ≤ (i 0 : Nat) ∧ (i 0 : Nat) < win0_2.index t (0 : Fin 2) * 512 + 512
                rw [e0]; show (i 0 : Nat) / 512 * 512 ≤ _ ∧ _ < (i 0 : Nat) / 512 * 512 + 512; omega
    | ⟨1, _⟩ => show win0_2.index t (1 : Fin 2) * 2048 ≤ (i 1 : Nat) ∧ (i 1 : Nat) < win0_2.index t (1 : Fin 2) * 2048 + 2048
                rw [e1]; omega

end Cert.BwdOutIdeal.Own

namespace Cert.BwdOutRefIdeal.Own

open Cert.BwdOutRefIdeal Cert.BwdOutRefIdeal.Gen Cert.BwdOutRefIdeal.Read
open Cert.Common Idealize.ShloMosaic Idealize.ShloMosaic.TcCoe

/-- The reference at an index: the row of `dy` times the row of the weights. -/
theorem ref_apply (x : Vec Ideal S8192x2048 .f32) (w : Vec Ideal S2048x2048 .f32) (i : S8192x2048.Idx) :
    val_main_v2 x w i = mmT (x : Tab 8192 2048) (w : Tab 2048 2048) i := by
  unfold mmT
  obtain ⟨r, l, rfl⟩ : ∃ (r : Fin 8192) (l : Fin 2048), i = ix2 r l := ix2_surj i
  pointwise [val_main_v2,val_main_v1,val_main_v0,val_main_cst]

end Cert.BwdOutRefIdeal.Own

namespace Cert.Values

open Idealize.ShloMosaic Idealize.ShloMosaic.TcCoe Idealize.SL.Sem

/-- The value claim: the call's result is the reference's, element by element. -/
theorem bwdOut : Cert.algebraic_BwdOutIdeal_BwdOutRefIdeal (hBwdOutIdeal := Cert.BwdOutIdeal.Gen.facts) (hBwdOutRefIdeal := Cert.BwdOutRefIdeal.Gen.facts) := by
  intro m g m' g' _ hm
  refine ⟨fun c => Cert.BwdOutIdeal.Own.G m c, ?_, ?_⟩
  · refine (θ_run _ _ _).mono (fun r h c => ?_) (Cert.BwdOutIdeal.Value.run_blocks m g)
    obtain ⟨h0, h1⟩ := h c
    exact ⟨h0.trans (Cert.BwdOutIdeal.Own.final m c), h1⟩
  · refine (θ_run _ _ _).mono (fun r h c => ?_) (Cert.BwdOutRefIdeal.Value.run m' g')
    obtain ⟨h0, h1⟩ := h c
    obtain ⟨e0, e1⟩ := hm c
    refine ⟨h0.trans ?_, h1⟩
    rw [Cert.BwdOutRefIdeal.Read.val_main_v2_eq, e0, e1]
    funext i
    exact Cert.BwdOutRefIdeal.Own.ref_apply _ _ i

end Cert.Values
end
-- ==== Proof.BwdMixSum.lean ====
module

public import proofs.«01_k».proof.Proof.BwdMixBlocks
public import proofs.«01_k».proof.Proof.Gen.BwdMixRefIdeal.Read
public import Idealize.ShloMosaic.PureOps.Ideal.Laws
public import Idealize.ShloMosaic.Lib.Pipeline.Value

/-! The backward token mixer's arithmetic on extended reals: what a head's block gains from a block of rows, and the
reference's gradient of the spatial weights as a sum over chunks and channels. -/

@[expose] public section

set_option maxRecDepth 16384

noncomputable section

namespace Cert.BwdMixIdeal.Own

open Cert.BwdMixIdeal Cert.BwdMixIdeal.Gen
open Cert.Common Idealize.ShloMosaic Idealize.ShloMosaic.TcCoe

/-- The activation as the kernel writes it. -/
def gelu (v : EReal) : EReal := v * (Ideal.ofBits .f32 0x3F000000#32 * (1 + Ideal.erf (v * Ideal.ofBits .f32 0x3F3504F3#32)))

/-- The gate: the argument times its logistic. -/
def gate (g : EReal) : EReal := g * Ideal.div 1 (1 + Ideal.exp (-g))

theorem zRows_apply (b : Fin 2) (x1 : Vec Ideal S256x5632 .f32) (s : Fin 128) (l : Fin 1024) :
    zRows b x1 (ix2 s l) = gelu (cut (F := Ideal) b 3584 (by decide) x1 (ix2 s l)) := by
  unfold zRows gelu
  generalize cut (F := Ideal) b 3584 _ x1 = v
  pointwise [k0_pay21, k0_pay19, Ideal.erf_def]

theorem dRows_apply (b : Fin 2) (x1 : Vec Ideal S256x5632 .f32) (x3 : Vec Ideal S256x2048 .f32) (s : Fin 128) (l : Fin 1024) :
    dRows b x1 x3 (ix2 s l) = cut (F := Ideal) b 1024 (by decide) x3 (ix2 s l) * gelu (cut (F := Ideal) b 2560 (by decide) x1 (ix2 s l)) * gate (cut (F := Ideal) b 4608 (by decide) x1 (ix2 s l)) := by
  unfold dRows dOf gelu gate
  generalize cut (F := Ideal) b 4608 _ x1 = g
  generalize cut (F := Ideal) b 2560 _ x1 = u
  generalize cut (F := Ideal) b 1024 _ x3 = m
  pointwise [k0_pay40, k0_pay17, k0_pay14, k0_pay15, k0_pay34, k0_pay37, k0_pay35, k0_pay16, Ideal.erf_def]
  simp only [zero_sub]

theorem lt_word : ∀ k : Fin 128, IntOp.cmpi .slt (BitVec.ofNat 32 k.val) 64#32 = if k.val < 64 then 1#1 else 0#1 := by decide +kernel
theorem ge_word : ∀ t s : Fin 128, IntOp.cmpi .sge (BitVec.ofNat 32 t.val) (BitVec.ofNat 32 s.val) = if s.val ≤ t.val then 1#1 else 0#1 := by
  decide +kernel

theorem half_apply (e : Bool) (d : FVec Ideal S128x128 .bf16) (r k : Fin 128) :
    half e d (ix2 r k) = if decide (k.val < 64) = e then d (ix2 r k) else 0 := by
  unfold half
  cases e <;> pointwise [k0_pay13] <;> rw [lt_word] <;> by_cases h : k.val < 64 <;> simp [h, Scalar.select]

theorem addProd_apply (d z : FVec Ideal S128x128 .bf16) (a : Vec Ideal S1x128x128 .f32) (t s : Fin 128) :
    addProd d z a (ix3 0 t s) = a (ix3 0 t s) + ∑ k : Fin 128, d (ix2 t k) * z (ix2 s k) := by
  pointwise [addProd]

/-- A sum over a pair of heads' lanes, the other head's lanes zero, is the sum over the head's own channels. -/
theorem sum_half (h : Fin 16) (d z : Fin 1024 → EReal) :
    (∑ k : Fin 128, (if decide (k.val < 64) = (h.val % 2 == 0) then d ⟨128 * (h.val / 2) + k.val, by omega⟩ else 0) * z ⟨128 * (h.val / 2) + k.val, by omega⟩)
      = ∑ q : Fin 64, d ⟨64 * h.val + q.val, by omega⟩ * z ⟨64 * h.val + q.val, by omega⟩ := by
  refine (Fin.sum_univ_add (a := 64) (b := 64) _).trans ?_
  have hlt : ∀ q : Fin 64, (Fin.castAdd 64 q).val < 64 := fun q => q.isLt
  have hge : ∀ q : Fin 64, ¬(Fin.natAdd 64 q).val < 64 := fun q => by simp
  rcases Nat.mod_two_eq_zero_or_one h.val with e | e
  · refine Eq.trans (congrArg₂ _ (Finset.sum_congr rfl fun q _ => ?_) (Finset.sum_eq_zero fun q _ => ?_)) (add_zero _)
    · have hq : (⟨128 * (h.val / 2) + (Fin.castAdd 64 q).val, by have := hlt q; omega⟩ : Fin 1024) = ⟨64 * h.val + q.val, by omega⟩ :=
        Fin.ext (by show 128 * (h.val / 2) + q.val = 64 * h.val + q.val; omega)
      rw [if_pos (by simp [e]), hq]
    · rw [if_neg (by simp [e]), zero_mul]
  · refine Eq.trans (congrArg₂ _ (Finset.sum_eq_zero fun q _ => ?_) (Finset.sum_congr rfl fun q _ => ?_)) (zero_add _)
    · rw [if_neg (by simp [e]), zero_mul]
    · have hq : (⟨128 * (h.val / 2) + (Fin.natAdd 64 q).val, by have : (Fin.natAdd 64 q).val < 128 := (Fin.natAdd 64 q).isLt; omega⟩ : Fin 1024) = ⟨64 * h.val + q.val, by omega⟩ :=
        Fin.ext (by show 128 * (h.val / 2) + (64 + q.val) = 64 * h.val + q.val; omega)
      rw [if_pos (by simp [e]), hq]

theorem head_apply (d z : FVec Ideal S128x1024 .bf16) (h : Fin 16) (a : Vec Ideal S1x128x128 .f32) (t s : Fin 128) :
    head d z h a (ix3 0 t s) = a (ix3 0 t s) + ∑ q : Fin 64, d (ix2 t ⟨64 * h.val + q.val, by omega⟩) * z (ix2 s ⟨64 * h.val + q.val, by omega⟩) := by
  unfold head
  refine (addProd_apply _ _ a t s).trans (congrArg _ (Eq.trans (Finset.sum_congr rfl fun k _ => ?_) (sum_half h (fun l => d (ix2 t l)) fun l => z (ix2 s l))))
  refine congrArg₂ _ ((half_apply _ _ t k).trans ?_) ?_
  · rw [show extractStridedSlice S128x128 ![0, 128 * (h.val / 2)] d (tile_in h) (ix2 t k) = d (ix2 t ⟨128 * (h.val / 2) + k.val, by omega⟩) from by pointwise []]
  · pointwise []

theorem low_apply (h : Fin 16) (a : Vec Ideal S1x128x128 .f32) (t s : Fin 128) :
    low h a (ix3 0 t s) = if s.val ≤ t.val then a (ix3 0 t s) else 0 := by
  unfold low
  pointwise [k0_pay1003]
  rw [ge_word]
  by_cases e : s.val ≤ t.val <;> simp [e, Scalar.select]

end Cert.BwdMixIdeal.Own

namespace Cert.BwdMixRefIdeal.Own

open Cert.BwdMixRefIdeal Cert.BwdMixRefIdeal.Gen Cert.BwdMixRefIdeal.Read
open Cert.Common Idealize.ShloMosaic Idealize.ShloMosaic.TcCoe

/-- The activation as the reference writes it. -/
theorem gelu_eq (v : EReal) : Ideal.ofBits .f32 0x3F000000#32 * v * Ideal.erfc (-v * Ideal.ofBits .f32 0x3F3504F3#32) = Cert.BwdMixIdeal.Own.gelu v := by
  unfold Cert.BwdMixIdeal.Own.gelu
  rw [neg_mul, Ideal.erfc_neg, mul_comm (Ideal.ofBits .f32 0x3F000000#32) v, mul_assoc]

/-- The values mixed, by chunk, position, head and channel. -/
def zAt (p : Tab 8192 5632) (n : Fin 64) (s : Fin 128) (l : Fin 1024) : EReal :=
  Cert.BwdMixIdeal.Own.gelu (p (ix2 ⟨128 * n.val + s.val, by omega⟩ ⟨3584 + l.val, by omega⟩))

/-- The gradient that reaches the mixed values. -/
def dAt (p : Tab 8192 5632) (d : Tab 8192 2048) (n : Fin 64) (t : Fin 128) (l : Fin 1024) : EReal :=
  d (ix2 ⟨128 * n.val + t.val, by omega⟩ ⟨1024 + l.val, by omega⟩) * Cert.BwdMixIdeal.Own.gelu (p (ix2 ⟨128 * n.val + t.val, by omega⟩ ⟨2560 + l.val, by omega⟩))
    * Cert.BwdMixIdeal.Own.gate (p (ix2 ⟨128 * n.val + t.val, by omega⟩ ⟨4608 + l.val, by omega⟩))

theorem v24_apply (p : Vec Ideal S8192x5632 .f32) (z : Fin 1) (n : Fin 64) (s : Fin 128) (h : Fin 16) (q : Fin 64) :
    val_main_v24 p (ix5 z n s h q) = zAt p n s ⟨64 * h.val + q.val, by omega⟩ := by
  unfold zAt
  rw [← gelu_eq]
  pointwise [val_main_v24, val_main_v23, val_main_v22, val_main_v21, val_main_v20, val_main_v19, val_main_v18, val_main_v17, val_main_v16, val_main_v6, val_main_v0, val_main_cst_1, val_main_cst_2]
  have e1 : n.val * 128 + s.val = 128 * n.val + s.val := by omega
  have e2 : h.val * 64 + q.val = 64 * h.val + q.val := by omega
  simp only [e1, e2]

theorem v43_apply (p : Vec Ideal S8192x5632 .f32) (d : Vec Ideal S8192x2048 .f32) (z : Fin 1) (n : Fin 64) (t : Fin 128) (h : Fin 16) (q : Fin 64) :
    val_main_v43 p d (ix5 h z n q t) = dAt p d n t ⟨64 * h.val + q.val, by omega⟩ := by
  unfold dAt Cert.BwdMixIdeal.Own.gate
  rw [mul_comm (d _), mul_assoc, ← gelu_eq]
  pointwise [val_main_v43, val_main_v42, val_main_v41, val_main_v40, val_main_v39, val_main_v38, val_main_v37, val_main_v35, val_main_call1_v5, val_main_call1_v4, val_main_call1_cst_0, val_main_call1_v3, val_main_call1_v2, val_main_call1_cst, val_main_call1_v1, val_main_call1_v0, val_main_v15, val_main_v14, val_main_v13, val_main_v12, val_main_v11, val_main_v10, val_main_v9, val_main_v8, val_main_v7, val_main_v5, val_main_v0, val_main_cst, val_main_cst_0]
  have e1 : n.val * 128 + t.val = 128 * n.val + t.val := by omega
  have e2 : h.val * 64 + q.val = 64 * h.val + q.val := by omega
  simp only [e1, e2]

/-- The contraction's indices: a chunk and a channel, beside an axis of size one. -/
def pairs : Fin 64 × Fin 64 ≃ (dot_S16x1x64x64x128_S1x64x128x16x64_S16x128x128_123_014_4_2_0_3).contr.Idx where
  toFun k := fun a => match a with
    | ⟨0, _⟩ => (0 : Fin 1)
    | ⟨1, _⟩ => (k.1 : Fin 64)
    | ⟨2, _⟩ => (k.2 : Fin 64)
  invFun k := (k ⟨1, by decide⟩, k ⟨2, by decide⟩)
  left_inv _ := rfl
  right_inv k := funext fun a => match a with
    | ⟨0, h⟩ => Fin.ext (by have := (k ⟨0, h⟩).isLt; show 0 = (k ⟨0, h⟩).val; have h1 : (k ⟨0, h⟩).val < 1 := this; omega)
    | ⟨1, _⟩ => rfl
    | ⟨2, _⟩ => rfl

theorem v44_apply (p : Vec Ideal S8192x5632 .f32) (d : Vec Ideal S8192x2048 .f32) (h : Fin 16) (t s : Fin 128) :
    val_main_v44 p d (ix3 h t s) = ∑ n : Fin 64, ∑ q : Fin 64, dAt p d n t ⟨64 * h.val + q.val, by omega⟩ * zAt p n s ⟨64 * h.val + q.val, by omega⟩ := by
  unfold val_main_v44 Host.dotGeneral
  refine (Ideal.dotGeneral_apply _ _ _ _ _ _).trans ?_
  rw [← Equiv.sum_comp pairs, Fintype.sum_prod_type]
  refine Finset.sum_congr rfl fun n _ => Finset.sum_congr rfl fun q _ => congrArg₂ _ (Eq.trans (congrArg _ ?_) (v43_apply p d 0 n t h q)) (Eq.trans (congrArg _ ?_) (v24_apply p 0 n s h q))
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

theorem v45_apply (p : Vec Ideal S8192x5632 .f32) (d : Vec Ideal S8192x2048 .f32) (h : Fin 16) (t s : Fin 128) :
    val_main_v45 p d (ix3 h t s) = if s.val ≤ t.val then val_main_v44 p d (ix3 h t s) else 0 := by
  unfold val_main_v45
  generalize val_main_v44 p d = x
  pointwise [val_main_v25_1, val_main_call0_v4, val_main_call0_v2, val_main_call0_v0, val_main_call0_v1, val_main_call0_c, val_main_call0_v3, val_main_call2_v0, val_main_call2_cst]
  rw [show IntOp.addi (BitVec.ofNat 32 t.val) 0#32 = BitVec.ofNat 32 t.val from BitVec.add_zero _, Cert.BwdMixIdeal.Own.ge_word]
  by_cases e : s.val ≤ t.val <;> simp [e, Scalar.select]

end Cert.BwdMixRefIdeal.Own
end
-- ==== Proof.BwdMix.lean ====
module

public import proofs.«01_k».proof.Proof.BwdMixRun
public import proofs.«01_k».proof.Proof.BwdMixSum
public import proofs.«01_k».proof.Defs
public import Idealize.ShloMosaic.Lib.Pipeline.ValueKit.Tiles

/-! The gradient of the spatial weights: the points' chunks summed, the lower triangle kept. -/

@[expose] public section

set_option maxRecDepth 16384

noncomputable section

namespace Cert.BwdMixIdeal.Own

open Cert.BwdMixIdeal Cert.BwdMixIdeal.Gen
open Cert.Common Idealize.ShloMosaic Idealize.ShloMosaic.TcCoe Idealize.SL.Sem
open Idealize.ShloMosaic.Pipeline (Dat)
open Cert.BwdMixRefIdeal.Own (zAt dAt)

variable (m : (ℓ : Loc nD τ sig) → Buf (Elt Ideal) ℓ) (ρ : Dev nD → PrngReg)

theorem idx_facts : ∀ t : Fin cfg0.N, (t.val < 32 → win0_1.index t (0 : Fin 2) = t.val ∧ win0_3.index t (0 : Fin 2) = t.val)
    ∧ win0_1.index t (1 : Fin 2) = 0 ∧ win0_3.index t (1 : Fin 2) = 0
    ∧ win0_15.index t (0 : Fin 3) = 0 ∧ win0_15.index t (1 : Fin 3) = 0 ∧ win0_15.index t (2 : Fin 3) = 0 :=
  (by decide +kernel : ∀ t : Fin grid0.N, _)

/-- The projection and the gradient of the mixer's output, as tables. -/
abbrev tp (c : Dev nD) : Tab 8192 5632 := m ((c : Thread nD τ).loc main_arg0)
@[inherit_doc tp] abbrev td (c : Dev nD) : Tab 8192 2048 := m ((c : Thread nD τ).loc main_arg1)

theorem iblk1 (c : Dev nD) (t : Fin cfg0.N) (ht : t.val < 32) (r : Fin 256) (l : Fin 5632) :
    (iblk m c 1 t : S256x5632.Idx → EReal) (ix2 r l) = tp m c (ix2 ⟨256 * t.val + r.val, by omega⟩ l) := by
  unfold iblk
  rw [View.read_apply]
  refine (congrFun (V_main_arg0 m c) _).trans (congrArg _ (funext fun a => Fin.ext ?_))
  obtain ⟨e, e1, -⟩ := idx_facts t
  have e0 := (e ht).1
  match a with
  | ⟨0, _⟩ => show win0_1.index t (0 : Fin 2) * 256 + 1 * r.val = 256 * t.val + r.val; rw [e0]; omega
  | ⟨1, _⟩ => show win0_1.index t (1 : Fin 2) * 5632 + 1 * l.val = l.val; rw [e1]; omega

theorem iblk3 (c : Dev nD) (t : Fin cfg0.N) (ht : t.val < 32) (r : Fin 256) (l : Fin 2048) :
    (iblk m c 3 t : S256x2048.Idx → EReal) (ix2 r l) = td m c (ix2 ⟨256 * t.val + r.val, by omega⟩ l) := by
  unfold iblk
  rw [View.read_apply]
  refine (congrFun (V_main_arg1 m c) _).trans (congrArg _ (funext fun a => Fin.ext ?_))
  obtain ⟨e, -, e1, -⟩ := idx_facts t
  have e0 := (e ht).2
  match a with
  | ⟨0, _⟩ => show win0_3.index t (0 : Fin 2) * 256 + 1 * r.val = 256 * t.val + r.val; rw [e0]; omega
  | ⟨1, _⟩ => show win0_3.index t (1 : Fin 2) * 2048 + 1 * l.val = l.val; rw [e1]; omega

/-- A block of rows is a chunk of the sequence. -/
def chunk (t : Fin cfg0.N) (ht : t.val < 32) (b : Fin 2) : Fin 64 := ⟨2 * t.val + b.val, by omega⟩

theorem row_eq (t : Fin cfg0.N) (ht : t.val < 32) (b : Fin 2) (s : Fin 128) :
    256 * t.val + (128 * b.val + s.val) = 128 * (chunk t ht b).val + s.val := by
  show _ = 128 * (2 * t.val + b.val) + s.val
  omega

theorem z_eq (c : Dev nD) (t : Fin cfg0.N) (ht : t.val < 32) (b : Fin 2) (s : Fin 128) (l : Fin 1024) :
    zRows b (iblk m c 1 t) (ix2 s l) = zAt (tp m c) (chunk t ht b) s l := by
  refine (zRows_apply b _ s l).trans ?_
  unfold zAt
  exact congrArg _ ((iblk1 m c t ht _ _).trans (congrArg _ (congrArg₂ ix2 (Fin.ext (row_eq t ht b s)) rfl)))

theorem d_eq (c : Dev nD) (t : Fin cfg0.N) (ht : t.val < 32) (b : Fin 2) (s : Fin 128) (l : Fin 1024) :
    dRows b (iblk m c 1 t) (iblk m c 3 t) (ix2 s l) = dAt (tp m c) (td m c) (chunk t ht b) s l := by
  refine (dRows_apply b _ _ s l).trans ?_
  unfold dAt
  refine congrArg₂ _ (congrArg₂ _ ((iblk3 m c t ht _ _).trans ?_) (congrArg _ ((iblk1 m c t ht _ _).trans ?_))) (congrArg _ ((iblk1 m c t ht _ _).trans ?_))
  all_goals exact congrArg _ (congrArg₂ ix2 (Fin.ext (row_eq t ht b s)) rfl)

/-- One chunk's part of the gradient at head `h`, positions `r` and `s`. -/
def part (p : Tab 8192 5632) (d : Tab 8192 2048) (h : Fin 16) (r s : Fin 128) (n : Fin 64) : EReal :=
  ∑ q : Fin 64, dAt p d n r ⟨64 * h.val + q.val, by omega⟩ * zAt p n s ⟨64 * h.val + q.val, by omega⟩

theorem block_apply (c : Dev nD) (t : Fin cfg0.N) (ht : t.val < 32) (b : Fin 2) (X : Vec Ideal S16x128x128 .f32) (h : Fin 16) (r s : Fin 128) :
    each (head (dRows b (iblk m c 1 t) (iblk m c 3 t)) (zRows b (iblk m c 1 t))) X (ix3 h r s)
      = X (ix3 h r s) + term (part (tp m c) (td m c) h r s) (2 * t.val + b.val) := by
  refine (head_apply _ _ h (blk X h) r s).trans (congrArg _ ?_)
  unfold term part
  rw [dif_pos (by omega)]
  exact Finset.sum_congr rfl fun q _ => congrArg₂ _ (d_eq m c t ht b r _) (z_eq m c t ht b s _)

theorem two_apply (c : Dev nD) (t : Fin cfg0.N) (ht : t.val < 32) (X : Vec Ideal S16x128x128 .f32) (h : Fin 16) (r s : Fin 128) :
    two m c t X (ix3 h r s) = X (ix3 h r s) + term (part (tp m c) (td m c) h r s) (2 * t.val) + term (part (tp m c) (td m c) h r s) (2 * t.val + 1) := by
  unfold two
  rw [block_apply m c t ht 1, block_apply m c t ht 0]
  rfl

/-- Before the last point the blocks hold the sum over the chunks so far. -/
theorem outW_apply (c : Dev nD) (h : Fin 16) (r s : Fin 128) : ∀ (n : ℕ) (hn : n < cfg0.N), n < 32 →
    (outW m c n hn : S16x128x128.Idx → EReal) (ix3 h r s) = ∑ k ∈ Finset.range (2 * (n + 1)), term (part (tp m c) (td m c) h r s) k := by
  intro n
  induction n with
  | zero =>
    intro hn h32
    refine (two_apply m c ⟨0, hn⟩ h32 _ h r s).trans ?_
    rw [show (k0_pay6 (F := Ideal)) (ix3 h r s) = 0 from by pointwise [k0_pay6], Finset.sum_range_succ, Finset.sum_range_succ, Finset.sum_range_zero]
    rfl
  | succ n ih =>
    intro hn h32
    have e : outW m c (n + 1) hn = two m c ⟨n + 1, hn⟩ (outW m c n (Nat.lt_of_succ_lt hn)) := if_pos h32
    rw [e, two_apply m c ⟨n + 1, hn⟩ h32, ih _ (by omega), show 2 * (n + 1 + 1) = 2 * (n + 1) + 1 + 1 from rfl, Finset.sum_range_succ, Finset.sum_range_succ]

/-- The gradient as a table: the sum over the chunks, below the diagonal. -/
def tabW (p : Tab 8192 5632) (d : Tab 8192 2048) : (⟨3, ![16, 128, 128]⟩ : Shape).Idx → EReal := fun i =>
  if (i 2).val ≤ (i 1).val then ∑ n : Fin 64, part p d (i 0) (i 1) (i 2) n else 0

/-- The result the claim names. -/
def GW (c : Dev nD) : Buf (Elt Ideal) ((c : Thread nD τ).loc main_v41_4) := tabW (tp m c) (td m c)

theorem last_apply (c : Dev nD) (hn : 32 < cfg0.N) (h : Fin 16) (r s : Fin 128) :
    (outW m c 32 hn : S16x128x128.Idx → EReal) (ix3 h r s) = tabW (tp m c) (td m c) (ix3 h r s) := by
  have e : outW m c 32 hn = each low (outW m c 31 (Nat.lt_of_succ_lt hn)) := outW_last m c ⟨32, hn⟩ (Nat.succ_ne_zero 31) (Nat.lt_irrefl 32)
  rw [e]
  refine (low_apply h (blk (outW m c 31 (Nat.lt_of_succ_lt hn)) h) r s).trans ?_
  unfold tabW
  rw [sum_term]
  exact if_congr Iff.rfl (outW_apply m c h r s 31 (Nat.lt_of_succ_lt hn) (Nat.lt_succ_self 31)) rfl

theorem flushed15 (c : Dev nD) (t : Fin cfg0.N) (hf : (cfg0.win 15).flush t = true) :
    (dats m 0 c).flushed 15 t = ((cfg0.win 15).blk t).view.read (Elt Ideal) (GW m c) := by
  have e : (dats m 0 c).flushed 15 t = outW m c t.val t.isLt := by
    show (cfg0.win 15).cut (grid0.coords t) ((dats m 0 c).after 15 t) = _
    rw [after15]
    rfl
  rw [e]
  have hm : t.val % 33 = 32 := (flush0_15 t).mp hf
  have hN : t.val < 33 := lt_of_lt_of_eq t.isLt N_0
  obtain ⟨-, -, -, e0, e1, e2⟩ := idx_facts t
  obtain ⟨n, hn⟩ := t
  obtain rfl : n = 32 := by dsimp only at hm hN; omega
  funext y
  obtain ⟨h, r, s, rfl⟩ : ∃ (h : Fin 16) (r s : Fin 128), y = ix3 h r s := ix3_surj y
  have hb : ((cfg0.win 15).blk ⟨32, hn⟩).view.emb (ix3 h r s) = (ix3 h r s : S16x128x128.Idx) := funext fun a => Fin.ext (by
    match a with
    | ⟨0, _⟩ => show win0_15.index ⟨32, hn⟩ (0 : Fin 3) * 16 + 1 * h.val = h.val; rw [e0]; omega
    | ⟨1, _⟩ => show win0_15.index ⟨32, hn⟩ (1 : Fin 3) * 128 + 1 * r.val = r.val; rw [e1]; omega
    | ⟨2, _⟩ => show win0_15.index ⟨32, hn⟩ (2 : Fin 3) * 128 + 1 * s.val = s.val; rw [e2]; omega)
  rw [View.read_apply, hb, cast_eq]
  exact last_apply m c hn h r s

theorem mem_blk15 (t : Fin cfg0.N) (i : S16x128x128.Idx) :
    i ∈ ((cfg0.win 15).blk t).view.set ↔ ∀ a : Fin 3, win0_15.index t a * S16x128x128.size a ≤ (i a).val ∧ (i a).val < win0_15.index t a * S16x128x128.size a + S16x128x128.size a := by
  show i ∈ ((View.whole main_v41_4).slice (win0_15.rect t)).set ↔ _
  rw [View.set_slice_whole, Rect.mem_set_unit]
  exact Iff.rfl

/-- The gradient's array ends holding it: the last point writes the sixteen blocks. -/
theorem final15 (c : Dev nD) : (dats m 0 c).arrAt 15 cfg0.N = GW m c :=
  (dats m 0 c).arrAt_eq_of_cover 15 _ (fun t hf => flushed15 m c t hf) fun i => by
    have hn : 32 < cfg0.N := lt_of_lt_of_eq (by omega) N_0.symm
    refine ⟨⟨32, hn⟩, (flush0_15 _).mpr rfl, ?_⟩
    obtain ⟨-, -, -, e0, e1, e2⟩ := idx_facts ⟨32, hn⟩
    refine (mem_blk15 _ i).mpr fun a => ?_
    have ha : (i a).val < S16x128x128.size a := (i a).isLt
    have ea : win0_15.index ⟨32, hn⟩ a = 0 := match a with
      | ⟨0, _⟩ => e0
      | ⟨1, _⟩ => e1
      | ⟨2, _⟩ => e2
    rw [ea]
    omega

end Cert.BwdMixIdeal.Own

namespace Cert.Values

open Idealize.ShloMosaic Idealize.ShloMosaic.TcCoe Idealize.SL.Sem

/-- The value claim: the call's gradient of the spatial weights is the reference's, element by element. -/
theorem bwdMix : Cert.algebraic_BwdMixIdeal_BwdMixRefIdeal (hBwdMixIdeal := Cert.BwdMixIdeal.Gen.facts) (hBwdMixRefIdeal := Cert.BwdMixRefIdeal.Gen.facts) := by
  intro m g m' g' _ hm
  refine ⟨fun c => Cert.BwdMixIdeal.Own.GW m c, ?_, ?_⟩
  · refine (θ_run _ _ _).mono (fun r h c => ?_) (θ_run_and (Cert.BwdMixIdeal.Own.frame m g) (Cert.BwdMixIdeal.Own.run_all m g))
    exact ⟨(((Cert.BwdMixIdeal.Own.dats m 0 c).toRForget_arrAt_iff rfl _ _).mp ((h.2.1 c).1 15)).trans (Cert.BwdMixIdeal.Own.final15 m c), h.1.1 c⟩
  · refine (θ_run _ _ _).mono (fun r h c => ?_) (Cert.BwdMixRefIdeal.Value.run m' g')
    obtain ⟨h0, h2⟩ := h c
    obtain ⟨e0, e1, -⟩ := hm c
    refine ⟨h0.trans ?_, h2⟩
    rw [Cert.BwdMixRefIdeal.Read.val_main_v45_eq, e0, e1]
    funext i
    obtain ⟨h, t, s, rfl⟩ : ∃ (h : Fin 16) (t s : Fin 128), i = ix3 h t s := Cert.Common.ix3_surj i
    refine (Cert.BwdMixRefIdeal.Own.v45_apply _ _ h t s).trans ?_
    rw [Cert.BwdMixRefIdeal.Own.v44_apply]
    rfl

end Cert.Values
-- ==== Proof.FwdIn.lean ====
module

public import proofs.«01_k».proof.Proof.FwdInRun
public import proofs.«01_k».proof.Proof.Gen.FwdInRefIdeal.Read
public import proofs.«01_k».proof.Defs
public import Idealize.ShloMosaic.Lib.Pipeline.Value
public import Idealize.ShloMosaic.Lib.Pipeline.ValueKit.Tiles

/-! The forward input projection's two results: the projections of the normed rows, and the normed rows themselves. -/

@[expose] public section

set_option maxRecDepth 4096

noncomputable section

namespace Cert.FwdInIdeal.Own

open Cert.FwdInIdeal Cert.FwdInIdeal.Gen
open Cert.Common Idealize.ShloMosaic Idealize.ShloMosaic.TcCoe Idealize.SL.Sem
open Idealize.ShloMosaic.Pipeline (Dat)

/-- The width of a row, and the norm's small addend, as the program writes them. -/
abbrev width : EReal := Ideal.ofBits .f32 0x45000000#32
abbrev small : EReal := Ideal.ofBits .f32 0x358637BD#32

/-- A row's scale from its entries: one over the root of the mean square. -/
def scale (x : Fin 2048 → EReal) : EReal := Ideal.rsqrt (Ideal.div (∑ k : Fin 2048, x k * x k) width + small)

/-- The normed rows: every entry times its row's scale times its column's gain. -/
def normed {n : ℕ} (x : Tab n 2048) (g : Tab 1 2048) : Tab n 2048 := fun i =>
  x i * (scale fun k => x (ix2 (i 0) k)) * g (ix2 0 (i 1))

theorem pay1_apply (x : Vec Ideal S256x2048 .f32) (g : Vec Ideal S1x2048 .f32) (r : Fin 256) (l : Fin 2048) :
    k0_pay1 x g (ix2 r l) = normed x g (ix2 r l) := by
  unfold normed scale
  pointwise [k0_pay1]

theorem proj_apply (x : Vec Ideal S256x2048 .f32) (g : Vec Ideal S1x2048 .f32) (w : Vec Ideal S2048x5632 .bf16) (r : Fin 256) (q : Fin 5632) :
    proj x g w (ix2 r q) = ∑ k : Fin 2048, normed x g (ix2 r k) * w (ix2 k q) := by
  have e := pay1_apply x g r
  simp only [← e]
  unfold proj k0_pay2
  generalize k0_pay1 x g = a
  pointwise []

/-! ## The blocks -/

variable (m : (ℓ : Loc nD τ sig) → Buf (Elt Ideal) ℓ) (ρ : Dev nD → PrngReg)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The arguments as tables. -/
abbrev tx (c : Dev nD) : Tab 8192 2048 := m ((c : Thread nD τ).loc main_arg0)
@[inherit_doc tx] abbrev tg (c : Dev nD) : Tab 1 2048 := m ((c : Thread nD τ).loc main_arg1)
@[inherit_doc tx] abbrev tw (c : Dev nD) : Tab 2048 5632 := m ((c : Thread nD τ).loc main_arg2)

theorem iblk0 (c : Dev nD) (t : Fin cfg0.N) (r : Fin 256) (l : Fin 2048) (h : 256 * t.val + r.val < 8192) :
    (iblk m c 0 t : S256x2048.Idx → EReal) (ix2 r l) = tx m c (ix2 ⟨256 * t.val + r.val, h⟩ l) := by
  unfold iblk
  rw [View.read_apply]
  refine (congrFun (V_main_arg0 m c) _).trans (congrArg _ (funext fun a => Fin.ext ?_))
  obtain ⟨e0, e1, -⟩ := idx_facts t
  match a with
  | ⟨0, _⟩ => show win0_0.index t (0 : Fin 2) * 256 + 1 * r.val = 256 * t.val + r.val; rw [e0]; omega
  | ⟨1, _⟩ => show win0_0.index t (1 : Fin 2) * 2048 + 1 * l.val = l.val; rw [e1]; omega

theorem iblk1 (c : Dev nD) (t : Fin cfg0.N) (z : Fin 1) (l : Fin 2048) :
    (iblk m c 1 t : S1x2048.Idx → EReal) (ix2 z l) = tg m c (ix2 z l) := by
  unfold iblk
  rw [View.read_apply]
  refine (congrFun (V_main_arg1 m c) _).trans (congrArg _ (funext fun a => Fin.ext ?_))
  obtain ⟨-, -, e0, e1, -⟩ := idx_facts t
  match a with
  | ⟨0, _⟩ => show win0_1.index t (0 : Fin 2) * 1 + 1 * z.val = z.val; rw [e0]; omega
  | ⟨1, _⟩ => show win0_1.index t (1 : Fin 2) * 2048 + 1 * l.val = l.val; rw [e1]; omega

/-- The host's slabs hold the weight's columns. -/
theorem V_slab (c : Dev nD) (p : Fin 4) (r : Fin 2048) (l : Fin 1408) (h : 1408 * p.val + l.val < 5632) :
    (V m c main_v2 : S4x2048x1408.Idx → EReal) (ix3 p r l) = tw m c (ix2 r ⟨1408 * p.val + l.val, h⟩) := by
  have e : (V m c main_v2 : S4x2048x1408.Idx → EReal)
      = (truncf (F := Ideal) .bf16 (transpose S4x2048x1408 [1, 0, 2] (shapeCast S2048x4x1408 (tw m c : Vec Ideal S2048x5632 .f32) shapeCasts_S2048x5632_S2048x4x1408) transposes_S2048x4x1408_S4x2048x1408_1_0_2) bitsLt_bf16_f32 : S4x2048x1408.Idx → EReal) := by
    unfold V
    after_results
    rfl
  rw [e]
  pointwise []
  have e' : p.val * 1408 + l.val = 1408 * p.val + l.val := by omega
  simp only [e']

/-- So the packed weight is the weight. -/
theorem wt_apply (c : Dev nD) (r : Fin 2048) (q : Fin 5632) : (wt m c : S2048x5632.Idx → EReal) (ix2 r q) = tw m c (ix2 r q) := by
  unfold wt pack
  have hq := q.isLt
  refine (V_slab m c _ _ _ (by show 1408 * (q.val / 1408) + q.val % 1408 < 5632; omega)).trans (congrArg _ (funext fun a => Fin.ext ?_))
  match a with
  | ⟨0, _⟩ => rfl
  | ⟨1, _⟩ => show 1408 * (q.val / 1408) + q.val % 1408 = q.val; omega

/-! ## The two results -/

/-- The results the claim names: the projections of the normed rows, and the normed rows. -/
def GP (c : Dev nD) : Buf (Elt Ideal) ((c : Thread nD τ).loc main_v3_0) := (mm (normed (tx m c) (tg m c)) (tw m c) : Tab 8192 5632)
@[inherit_doc GP] def GH (c : Dev nD) : Buf (Elt Ideal) ((c : Thread nD τ).loc main_v3_1) := (normed (tx m c) (tg m c) : Tab 8192 2048)

/-- A block of rows is normed as in the whole table. -/
theorem normed_blk (c : Dev nD) (t : Fin cfg0.N) (r : Fin 256) (l : Fin 2048) (h : 256 * t.val + r.val < 8192) :
    normed (n := 256) (iblk m c 0 t : S256x2048.Idx → EReal) (iblk m c 1 t : S1x2048.Idx → EReal) (ix2 r l) = normed (tx m c) (tg m c) (ix2 ⟨256 * t.val + r.val, h⟩ l) := by
  unfold normed
  show (show EReal from (iblk m c 0 t : S256x2048.Idx → EReal) (ix2 r l)) * (scale fun k => (iblk m c 0 t : S256x2048.Idx → EReal) (ix2 r k)) * (iblk m c 1 t : S1x2048.Idx → EReal) (ix2 0 l) = _
  simp only [iblk0 m c t r _ h, iblk1 m c t]
  rfl

theorem outH_apply (c : Dev nD) (t : Fin cfg0.N) (r : Fin 256) (l : Fin 2048) (h : 256 * t.val + r.val < 8192) :
    (outH m c t : S256x2048.Idx → EReal) (ix2 r l) = normed (tx m c) (tg m c) (ix2 ⟨256 * t.val + r.val, h⟩ l) :=
  (pay1_apply _ _ r l).trans (normed_blk m c t r l h)

theorem outP_apply (c : Dev nD) (t : Fin cfg0.N) (r : Fin 256) (q : Fin 5632) (h : 256 * t.val + r.val < 8192) :
    (outP m c t : S256x5632.Idx → EReal) (ix2 r q) = mm (normed (tx m c) (tg m c)) (tw m c) (ix2 ⟨256 * t.val + r.val, h⟩ q) :=
  (proj_apply _ _ _ r q).trans (Finset.sum_congr rfl fun k _ => congrArg₂ _ (normed_blk m c t r k h) (wt_apply m c k q))

theorem flushed2 (c : Dev nD) (t : Fin cfg0.N) :
    (dats m 0 c).flushed 2 t = ((cfg0.win 2).blk t).view.read (Elt Ideal) (GP m c) := by
  have e : (dats m 0 c).flushed 2 t = outP m c t := by
    show (cfg0.win 2).cut (grid0.coords t) ((dats m 0 c).after 2 t) = _
    rw [after2]
    rfl
  rw [e]
  have ht : t.val < 32 := lt_of_lt_of_eq t.isLt N_0
  obtain ⟨-, -, -, -, e0, e1, -⟩ := idx_facts t
  funext y
  obtain ⟨r, l, rfl⟩ : ∃ (r : Fin 256) (l : Fin 5632), y = ix2 r l := ix2_surj y
  have h : 256 * t.val + r.val < 8192 := by omega
  have hb : ((cfg0.win 2).blk t).view.emb (ix2 r l) = (ix2 ⟨256 * t.val + r.val, h⟩ l : S8192x5632.Idx) := funext fun a => Fin.ext (by
    match a with
    | ⟨0, _⟩ => show win0_2.index t (0 : Fin 2) * 256 + 1 * r.val = 256 * t.val + r.val; rw [e0]; omega
    | ⟨1, _⟩ => show win0_2.index t (1 : Fin 2) * 5632 + 1 * l.val = l.val; rw [e1]; omega)
  rw [View.read_apply, hb, cast_eq]
  exact outP_apply m c t r l h

theorem mem_blk2 (t : Fin cfg0.N) (i : S8192x5632.Idx) :
    i ∈ ((cfg0.win 2).blk t).view.set ↔ ∀ a : Fin 2, win0_2.index t a * S256x5632.size a ≤ (i a).val ∧ (i a).val < win0_2.index t a * S256x5632.size a + S256x5632.size a := by
  show i ∈ ((View.whole main_v3_0).slice (win0_2.rect t)).set ↔ _
  rw [View.set_slice_whole, Rect.mem_set_unit]
  exact Iff.rfl

/-- The array ends holding the result: the points' blocks tile the rows. -/
theorem final2 (c : Dev nD) : (dats m 0 c).arrAt 2 cfg0.N = GP m c :=
  (dats m 0 c).arrAt_eq_of_cover 2 _ (fun t _ => flushed2 m c t) fun i => by
    have h0 : (i 0).val < 8192 := (i 0).isLt
    have h1 : (i 1).val < 5632 := (i 1).isLt
    have hn : (i 0).val / 256 < cfg0.N := lt_of_lt_of_eq (by omega) N_0.symm
    refine ⟨⟨_, hn⟩, flush0_2 _, ?_⟩
    obtain ⟨-, -, -, -, e0, e1, -⟩ := idx_facts ⟨_, hn⟩
    dsimp only at e0 e1
    refine (mem_blk2 _ i).mpr fun a => ?_
    match a with
    | ⟨0, _⟩ => show win0_2.index ⟨_, hn⟩ (0 : Fin 2) * 256 ≤ (i 0).val ∧ (i 0).val < win0_2.index ⟨_, hn⟩ (0 : Fin 2) * 256 + 256; rw [e0]; omega
    | ⟨1, _⟩ => show win0_2.index ⟨_, hn⟩ (1 : Fin 2) * 5632 ≤ (i 1).val ∧ (i 1).val < win0_2.index ⟨_, hn⟩ (1 : Fin 2) * 5632 + 5632; rw [e1]; omega

theorem flushed3 (c : Dev nD) (t : Fin cfg0.N) :
    (dats m 0 c).flushed 3 t = ((cfg0.win 3).blk t).view.read (Elt Ideal) (GH m c) := by
  have e : (dats m 0 c).flushed 3 t = outH m c t := by
    show (cfg0.win 3).cut (grid0.coords t) ((dats m 0 c).after 3 t) = _
    rw [after3]
    rfl
  rw [e]
  have ht : t.val < 32 := lt_of_lt_of_eq t.isLt N_0
  obtain ⟨-, -, -, -, -, -, e0, e1⟩ := idx_facts t
  funext y
  obtain ⟨r, l, rfl⟩ : ∃ (r : Fin 256) (l : Fin 2048), y = ix2 r l := ix2_surj y
  have h : 256 * t.val + r.val < 8192 := by omega
  have hb : ((cfg0.win 3).blk t).view.emb (ix2 r l) = (ix2 ⟨256 * t.val + r.val, h⟩ l : S8192x2048.Idx) := funext fun a => Fin.ext (by
    match a with
    | ⟨0, _⟩ => show win0_3.index t (0 : Fin 2) * 256 + 1 * r.val = 256 * t.val + r.val; rw [e0]; omega
    | ⟨1, _⟩ => show win0_3.index t (1 : Fin 2) * 2048 + 1 * l.val = l.val; rw [e1]; omega)
  rw [View.read_apply, hb, cast_eq]
  exact outH_apply m c t r l h

theorem mem_blk3 (t : Fin cfg0.N) (i : S8192x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v3_1).slice (win0_3.rect t)).set ↔ _
  rw [View.set_slice_whole, Rect.mem_set_unit]
  exact Iff.rfl

/-- The array ends holding the result: the points' blocks tile the rows. -/
theorem final3 (c : Dev nD) : (dats m 0 c).arrAt 3 cfg0.N = GH m c :=
  (dats m 0 c).arrAt_eq_of_cover 3 _ (fun t _ => flushed3 m c t) fun i => by
    have h0 : (i 0).val < 8192 := (i 0).isLt
    have h1 : (i 1).val < 2048 := (i 1).isLt
    have hn : (i 0).val / 256 < cfg0.N := lt_of_lt_of_eq (by omega) N_0.symm
    refine ⟨⟨_, hn⟩, flush0_3 _, ?_⟩
    obtain ⟨-, -, -, -, -, -, e0, e1⟩ := idx_facts ⟨_, hn⟩
    dsimp only at e0 e1
    refine (mem_blk3 _ i).mpr fun a => ?_
    match a with
    | ⟨0, _⟩ => show win0_3.index ⟨_, hn⟩ (0 : Fin 2) * 256 ≤ (i 0).val ∧ (i 0).val < win0_3.index ⟨_, hn⟩ (0 : Fin 2) * 256 + 256; rw [e0]; omega
    | ⟨1, _⟩ => show win0_3.index ⟨_, hn⟩ (1 : Fin 2) * 2048 ≤ (i 1).val ∧ (i 1).val < win0_3.index ⟨_, hn⟩ (1 : Fin 2) * 2048 + 2048; rw [e1]; omega

end Cert.FwdInIdeal.Own

namespace Cert.FwdInRefIdeal.Own

open Cert.FwdInRefIdeal Cert.FwdInRefIdeal.Gen Cert.FwdInRefIdeal.Read
open Cert.Common Idealize.ShloMosaic Idealize.ShloMosaic.TcCoe

/-- The reference's normed rows, before they are rounded. -/
theorem refN (x : Vec Ideal S8192x2048 .f32) (g : Vec Ideal S1x2048 .f32) (r : Fin 8192) (l : Fin 2048) :
    val_main_v11 x g (ix2 r l) = Cert.FwdInIdeal.Own.normed x g (ix2 r l) := by
  unfold Cert.FwdInIdeal.Own.normed Cert.FwdInIdeal.Own.scale
  pointwise [val_main_v11, val_main_v10, val_main_v9, val_main_v8, val_main_v7, val_main_v6, val_main_v5, val_main_v4, val_main_v3, val_main_v2, val_main_v1, val_main_v0, val_main_cst, val_main_cst_0, val_main_cst_1]

/-- The reference's rounded normed rows: over the extended reals rounding changes nothing. -/
theorem refH (x : Vec Ideal S8192x2048 .f32) (g : Vec Ideal S1x2048 .f32) (i : S8192x2048.Idx) :
    val_main_v13 x g i = Cert.FwdInIdeal.Own.normed x g i := by
  obtain ⟨r, l, rfl⟩ : ∃ (r : Fin 8192) (l : Fin 2048), i = ix2 r l := ix2_surj i
  rw [← refN]
  unfold val_main_v13
  generalize val_main_v11 x g = a
  pointwise []

/-- The reference's projections. -/
theorem refP (x : Vec Ideal S8192x2048 .f32) (g : Vec Ideal S1x2048 .f32) (w : Vec Ideal S2048x5632 .f32) (i : S8192x5632.Idx) :
    val_main_v12 x g w i = mm (Cert.FwdInIdeal.Own.normed x g) w i := by
  obtain ⟨r, q, rfl⟩ : ∃ (r : Fin 8192) (q : Fin 5632), i = ix2 r q := ix2_surj i
  unfold mm
  show _ = ∑ k : Fin 2048, Cert.FwdInIdeal.Own.normed x g (ix2 r k) * w (ix2 k q)
  simp only [← refN]
  unfold val_main_v12
  generalize val_main_v11 x g = a
  pointwise []

end Cert.FwdInRefIdeal.Own

namespace Cert.Values

open Idealize.ShloMosaic Idealize.ShloMosaic.TcCoe Idealize.SL.Sem

/-- The value claim: the call's two results are the reference's, element by element. -/
theorem fwdIn : Cert.algebraic_FwdInIdeal_FwdInRefIdeal (hFwdInIdeal := Cert.FwdInIdeal.Gen.facts) (hFwdInRefIdeal := Cert.FwdInRefIdeal.Gen.facts) := by
  intro m g m' g' _ hm
  refine ⟨fun c => Cert.FwdInIdeal.Own.GP m c, fun c => Cert.FwdInIdeal.Own.GH m c, ?_, ?_⟩
  · refine (θ_run _ _ _).mono (fun r h c => ?_) (θ_run_and (Cert.FwdInIdeal.Own.frame m g) (Cert.FwdInIdeal.Own.run_all m g))
    exact ⟨((h.2.1 c).1 2).trans (Cert.FwdInIdeal.Own.final2 m c), ((h.2.1 c).1 3).trans (Cert.FwdInIdeal.Own.final3 m c), h.1.1 c⟩
  · refine (θ_run _ _ _).mono (fun r h c => ?_) (Cert.FwdInRefIdeal.Value.run m' g')
    obtain ⟨h0, h1, h2⟩ := h c
    obtain ⟨e0, e1, e2⟩ := hm c
    refine ⟨h0.trans ?_, h1.trans ?_, h2⟩
    · rw [Cert.FwdInRefIdeal.Read.val_main_v12_eq, e0, e1, e2]
      funext i
      exact Cert.FwdInRefIdeal.Own.refP _ _ _ i
    · rw [Cert.FwdInRefIdeal.Read.val_main_v13_eq, e0, e1]
      funext i
      exact Cert.FwdInRefIdeal.Own.refH _ _ i

end Cert.Values
-- ==== Proof.FwdOutLoss.lean ====
module

public import proofs.«01_k».proof.Proof.Gen.FwdOutLossIdeal.Value
public import proofs.«01_k».proof.Proof.Gen.FwdOutLossRefIdeal.Read
public import proofs.«01_k».proof.Proof.FwdOut

/-! The output projection of the last layer with the loss: the rows' error, scaled, is the gradient at the output; the
squares of the error, scaled tile by tile, add up to the loss. -/

@[expose] public section

set_option maxRecDepth 16384

noncomputable section

namespace Cert.FwdOutLossIdeal.Own

open Cert.FwdOutLossIdeal Cert.FwdOutLossIdeal.Gen Cert.FwdOutLossIdeal.Value
open Cert.Common Idealize.ShloMosaic Idealize.ShloMosaic.TcCoe Idealize.SL.Sem
open Idealize.ShloMosaic.Pipeline (Dat)

/-- The two scales as the program writes them: one over the width, and half of that over the width's own count. -/
abbrev slope : EReal := Ideal.ofBits .f32 0x3A000000#32
@[inherit_doc slope] abbrev share : EReal := Ideal.ofBits .f32 0x39800000#32

/-- The error: what the projection gives minus the target. -/
def err (x a : Tab 8192 2048) (w : Tab 2048 2048) (t : Tab 8192 2048) : Tab 8192 2048 := fun i =>
  Cert.FwdOutIdeal.Own.projected x a w i - t i

/-- One row's squared error. -/
def rowSq (x a : Tab 8192 2048) (w : Tab 2048 2048) (t : Tab 8192 2048) (k : Fin 8192) : EReal :=
  ∑ l : Fin 2048, err x a w t (ix2 k l) * err x a w t (ix2 k l)

/-- The gradient at the output, and the loss. -/
def grad (x a : Tab 8192 2048) (w : Tab 2048 2048) (t : Tab 8192 2048) : Tab 8192 2048 := fun i => err x a w t i * slope
@[inherit_doc grad] def loss (x a : Tab 8192 2048) (w : Tab 2048 2048) (t : Tab 8192 2048) : Tab 1 1 := fun _ =>
  ∑ k : Fin 8192, share * rowSq x a w t k

theorem square_nonneg (a : EReal) : 0 ≤ a * a := by
  induction a with
  | bot => simp
  | top => simp
  | coe a => exact_mod_cast mul_self_nonneg a

theorem sq_nonneg' (x a : Tab 8192 2048) (w : Tab 2048 2048) (t : Tab 8192 2048) (k : Fin 8192) : 0 ≤ rowSq x a w t k :=
  Finset.sum_nonneg fun l _ => square_nonneg _

/-- A factor goes into a sum of terms none of which is negative. -/
theorem mul_sum {ι : Type} (s : Finset ι) (c : EReal) (f : ι → EReal) (hf : ∀ k, 0 ≤ f k) : c * ∑ k ∈ s, f k = ∑ k ∈ s, c * f k := by
  classical
  induction s using Finset.induction_on with
  | empty => simp
  | insert a s ha ih => rw [Finset.sum_insert ha, Finset.sum_insert ha, EReal.left_distrib_of_nonneg (hf a) (Finset.sum_nonneg fun k _ => hf k), ih]

theorem pay1_apply (z z' : Fin 1) : (k0_pay1 (F := Ideal)) (ix2 z z') = 0 := by
  pointwise [k0_pay1]

theorem pay2_apply (x0 : Vec Ideal S512x2048 .f32) (x1 : Vec Ideal S512x2048 .bf16) (x2 : Vec Ideal S2048x2048 .bf16) (x3 : Vec Ideal S512x2048 .f32) (r : Fin 512) (l : Fin 2048) :
    k0_pay2 x0 x1 x2 x3 (ix2 r l) = x0 (ix2 r l) + (∑ k : Fin 2048, x1 (ix2 r k) * x2 (ix2 k l)) - x3 (ix2 r l) := by
  pointwise [k0_pay2]

theorem pay3_apply (x0 : Vec Ideal S512x2048 .f32) (x1 : Vec Ideal S512x2048 .bf16) (x2 : Vec Ideal S2048x2048 .bf16) (x3 : Vec Ideal S512x2048 .f32) (r : Fin 512) (l : Fin 2048) :
    k0_pay3 x0 x1 x2 x3 (ix2 r l) = k0_pay2 x0 x1 x2 x3 (ix2 r l) * slope := by
  unfold k0_pay3
  generalize k0_pay2 x0 x1 x2 x3 = e
  pointwise []

theorem pay4_apply (x0 : Vec Ideal S512x2048 .f32) (x1 : Vec Ideal S512x2048 .bf16) (x2 : Vec Ideal S2048x2048 .bf16) (x3 : Vec Ideal S512x2048 .f32) (v : Vec Ideal S1x1 .f32) (z z' : Fin 1) :
    k0_pay4 x0 x1 x2 x3 v (ix2 z z') = v (ix2 z z') + share * ∑ s : Fin 512, ∑ l : Fin 2048, k0_pay2 x0 x1 x2 x3 (ix2 s l) * k0_pay2 x0 x1 x2 x3 (ix2 s l) := by
  unfold k0_pay4
  generalize k0_pay2 x0 x1 x2 x3 = e
  pointwise []

/-- What the first point leaves in the gradient's block … -/
theorem out_A4 (c i a1 h1 a2 h2 a3 h3 a4 h4 a5 h5 a6 h6 hc0) (x0 : Vec Ideal S512x2048 .f32) (x1 : Vec Ideal S512x2048 .bf16) (x2 : Vec Ideal S2048x2048 .bf16) (x3 : Vec Ideal S512x2048 .f32) :
    out0_A_4 c i a1 h1 a2 h2 a3 h3 a4 h4 a5 h5 a6 h6 hc0 x0 x1 x2 x3 = k0_pay3 x0 x1 x2 x3 := by
  unfold out0_A_4
  rw [View.read_writes_eq_canon _ _ _ (cover0_A_4 c i a1 h1 a2 h2 a3 h3 a4 h4 a5 h5 a6 h6 hc0 x0 x1 x2 x3)]
  unfold kernelRun0_A
  dsimp only
  sl_unfold_words
  rw [View.canon_unit_zero hz2]
  simp only [View.readAt_eq_ld, h1.read_unread, h2.read_unread, h3.read_unread, h4.read_unread, View.ld_unit_zero (S := S512x2048) hz2, View.ld_unit_zero (S := S2048x2048) hz2]

/-- … and in the loss: the tile's share over zero. -/
theorem out_A5 (c i a1 h1 a2 h2 a3 h3 a4 h4 a5 h5 a6 h6 hc0) (x0 : Vec Ideal S512x2048 .f32) (x1 : Vec Ideal S512x2048 .bf16) (x2 : Vec Ideal S2048x2048 .bf16) (x3 : Vec Ideal S512x2048 .f32) :
    out0_A_5 c i a1 h1 a2 h2 a3 h3 a4 h4 a5 h5 a6 h6 hc0 x0 x1 x2 x3 = k0_pay4 x0 x1 x2 x3 (k0_pay1 (F := Ideal)) := by
  unfold out0_A_5
  rw [View.read_writes_eq_canon _ _ _ (cover0_A_5 c i a1 h1 a2 h2 a3 h3 a4 h4 a5 h5 a6 h6 hc0 x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, View.ld_unit_zero (S := S512x2048) hz2, View.ld_unit_zero (S := S2048x2048) hz2]

/-- What a later point leaves in the gradient's block … -/
theorem out_B4 (c i a1 h1 a2 h2 a3 h3 a4 h4 a5 h5 a6 h6 hc0) (x0 : Vec Ideal S512x2048 .f32) (x1 : Vec Ideal S512x2048 .bf16) (x2 : Vec Ideal S2048x2048 .bf16) (x3 : Vec Ideal S512x2048 .f32) (v : Vec Ideal S1x1 .f32) :
    out0_B_4 c i a1 h1 a2 h2 a3 h3 a4 h4 a5 h5 a6 h6 hc0 x0 x1 x2 x3 v = k0_pay3 x0 x1 x2 x3 := by
  unfold out0_B_4
  rw [View.read_writes_eq_canon _ _ _ (cover0_B_4 c i a1 h1 a2 h2 a3 h3 a4 h4 a5 h5 a6 h6 hc0 x0 x1 x2 x3 v)]
  unfold kernelRun0_B
  dsimp only
  sl_unfold_words
  rw [View.canon_unit_zero hz2]
  simp only [View.readAt_eq_ld, h1.read_unread, h2.read_unread, h3.read_unread, h4.read_unread, View.ld_unit_zero (S := S512x2048) hz2, View.ld_unit_zero (S := S2048x2048) hz2]

/-- … and in the loss: the tile's share over what it held. -/
theorem out_B5 (c i a1 h1 a2 h2 a3 h3 a4 h4 a5 h5 a6 h6 hc0) (x0 : Vec Ideal S512x2048 .f32) (x1 : Vec Ideal S512x2048 .bf16) (x2 : Vec Ideal S2048x2048 .bf16) (x3 : Vec Ideal S512x2048 .f32) (v : Vec Ideal S1x1 .f32) :
    out0_B_5 c i a1 h1 a2 h2 a3 h3 a4 h4 a5 h5 a6 h6 hc0 x0 x1 x2 x3 v = k0_pay4 x0 x1 x2 x3 v := by
  unfold out0_B_5
  rw [View.read_writes_eq_canon _ _ _ (cover0_B_5 c i a1 h1 a2 h2 a3 h3 a4 h4 a5 h5 a6 h6 hc0 x0 x1 x2 x3 v)]
  unfold kernelRun0_B
  dsimp only
  sl_unfold_words
  rw [View.canon_unit_zero hz2]
  simp only [View.readAt_eq_ld, h1.read_unread, h2.read_unread, h3.read_unread, h4.read_unread, h6.read_unread, View.ld_unit_zero (S := S512x2048) hz2, View.ld_unit_zero (S := S2048x2048) hz2, View.ld_unit_zero (S := S1x1) hz2]

variable (m : (ℓ : Loc nD τ sig) → Buf (Elt Ideal) ℓ) (ρ : Dev nD → PrngReg)

/-- The weight array the region finds holds the argument's numbers. -/
theorem V_w (c : Dev nD) : (V m c main_v0 : S2048x2048.Idx → EReal) = m ((c : Thread nD τ).loc main_arg2) := by
  unfold V
  after_results
  rfl

/-- Where the windows stand at point `t`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- The arguments as tables. -/
abbrev tx (c : Dev nD) : Tab 8192 2048 := m ((c : Thread nD τ).loc main_arg0)
@[inherit_doc tx] abbrev ta (c : Dev nD) : Tab 8192 2048 := m ((c : Thread nD τ).loc main_arg1)
@[inherit_doc tx] abbrev tw (c : Dev nD) : Tab 2048 2048 := m ((c : Thread nD τ).loc main_arg2)
@[inherit_doc tx] abbrev tt (c : Dev nD) : Tab 8192 2048 := m ((c : Thread nD τ).loc main_arg3)

theorem iblk0 (c : Dev nD) (t : Fin cfg0.N) (r : Fin 512) (k : Fin 2048) (h : 512 * t.val + r.val < 8192) :
    (iblk m c 0 t : S512x2048.Idx → EReal) (ix2 r k) = tx m c (ix2 ⟨512 * t.val + r.val, h⟩ k) := by
  unfold iblk
  rw [View.read_apply]
  refine (congrFun (V_main_arg0 m c) _).trans (congrArg _ (funext fun a => Fin.ext ?_))
  obtain ⟨e0, e1, -⟩ := idx_facts t
  match a with
  | ⟨0, _⟩ => show win0_0.index t (0 : Fin 2) * 512 + 1 * r.val = 512 * t.val + r.val; rw [e0]; omega
  | ⟨1, _⟩ => show win0_0.index t (1 : Fin 2) * 2048 + 1 * k.val = k.val; rw [e1]; omega

theorem iblk1 (c : Dev nD) (t : Fin cfg0.N) (r : Fin 512) (k : Fin 2048) (h : 512 * t.val + r.val < 8192) :
    (iblk m c 1 t : S512x2048.Idx → EReal) (ix2 r k) = ta m c (ix2 ⟨512 * t.val + r.val, h⟩ k) := by
  unfold iblk
  rw [View.read_apply]
  refine (congrFun (V_main_arg1 m c) _).trans (congrArg _ (funext fun a => Fin.ext ?_))
  obtain ⟨-, -, e0, e1, -⟩ := idx_facts t
  match a with
  | ⟨0, _⟩ => show win0_1.index t (0 : Fin 2) * 512 + 1 * r.val = 512 * t.val + r.val; rw [e0]; omega
  | ⟨1, _⟩ => show win0_1.index t (1 : Fin 2) * 2048 + 1 * k.val = k.val; rw [e1]; omega

theorem iblk3 (c : Dev nD) (t : Fin cfg0.N) (r : Fin 512) (k : Fin 2048) (h : 512 * t.val + r.val < 8192) :
    (iblk m c 3 t : S512x2048.Idx → EReal) (ix2 r k) = tt m c (ix2 ⟨512 * t.val + r.val, h⟩ k) := by
  unfold iblk
  rw [View.read_apply]
  refine (congrFun (V_main_arg3 m c) _).trans (congrArg _ (funext fun a => Fin.ext ?_))
  obtain ⟨-, -, -, -, -, -, e0, e1, -⟩ := idx_facts t
  match a with
  | ⟨0, _⟩ => show win0_3.index t (0 : Fin 2) * 512 + 1 * r.val = 512 * t.val + r.val; rw [e0]; omega
  | ⟨1, _⟩ => show win0_3.index t (1 : Fin 2) * 2048 + 1 * k.val = k.val; rw [e1]; omega

theorem iblk2 (c : Dev nD) (t : Fin cfg0.N) (k l : Fin 2048) :
    (iblk m c 2 t : S2048x2048.Idx → EReal) (ix2 k l) = tw m c (ix2 k l) := by
  unfold iblk
  rw [View.read_apply]
  refine (congrFun (V_w m c) _).trans (congrArg _ (funext fun a => Fin.ext ?_))
  obtain ⟨-, -, -, -, e0, e1, -⟩ := idx_facts t
  match a with
  | ⟨0, _⟩ => show win0_2.index t (0 : Fin 2) * 2048 + 1 * k.val = k.val; rw [e0]; omega
  | ⟨1, _⟩ => show win0_2.index t (1 : Fin 2) * 2048 + 1 * l.val = l.val; rw [e1]; omega

/-- The results the claim names. -/
def GD (c : Dev nD) : Buf (Elt Ideal) ((c : Thread nD τ).loc main_v1_0) := grad (tx m c) (ta m c) (tw m c) (tt m c)
@[inherit_doc GD] def GLoss (c : Dev nD) : Buf (Elt Ideal) ((c : Thread nD τ).loc main_v1_1) := loss (tx m c) (ta m c) (tw m c) (tt m c)

/-- A tile's error is its rows of the whole error. -/
theorem err_blk (c : Dev nD) (t : Fin cfg0.N) (r : Fin 512) (l : Fin 2048) (h : 512 * t.val + r.val < 8192) :
    k0_pay2 (F := Ideal) (iblk m c 0 t) (iblk m c 1 t) (iblk m c 2 t) (iblk m c 3 t) (ix2 r l)
      = err (tx m c) (ta m c) (tw m c) (tt m c) (ix2 ⟨512 * t.val + r.val, h⟩ l) := by
  refine (pay2_apply _ _ _ _ r l).trans (congrArg₂ _ (congrArg₂ _ (iblk0 m c t r l h) ?_) (iblk3 m c t r l h))
  exact Finset.sum_congr rfl fun k _ => congrArg₂ _ (iblk1 m c t r k h) (iblk2 m c t k l)

theorem outD (c : Dev nD) (t : Fin cfg0.N) : (outsAt0 m c t.val t.isLt).1 = k0_pay3 (iblk m c 0 t) (iblk m c 1 t) (iblk m c 2 t) (iblk m c 3 t) := by
  by_cases h0 : t.val % 16 = 0
  · rw [outsAt0_A m c t h0, out_A4]
  · rw [outsAt0_B m c t h0, out_B4]

/-- The summands of the loss at one device, row by row. -/
abbrev line (c : Dev nD) : Fin 8192 → EReal := fun k => share * rowSq (tx m c) (ta m c) (tw m c) (tt m c) k

/-- A point adds the summands of its tile's rows. -/
theorem step (c : Dev nD) (t : Fin cfg0.N) (v : Vec Ideal S1x1 .f32) (z z' : Fin 1) :
    k0_pay4 (iblk m c 0 t) (iblk m c 1 t) (iblk m c 2 t) (iblk m c 3 t) v (ix2 z z')
      = v (ix2 z z') + ∑ s : Fin 512, term (line m c) (512 * t.val + s.val) := by
  have ht : t.val < 16 := lt_of_lt_of_eq t.isLt N_0
  refine (pay4_apply _ _ _ _ v z z').trans (congrArg _ ((mul_sum _ share _ fun s => Finset.sum_nonneg fun l _ => square_nonneg _).trans (Finset.sum_congr rfl fun s _ => ?_)))
  have h : 512 * t.val + s.val < 8192 := by omega
  unfold term
  rw [dif_pos h]
  refine congrArg _ (Finset.sum_congr rfl fun l _ => ?_)
  rw [err_blk m c t s l h]

/-- The loss after point `n` is the sum over the rows so far. -/
theorem acc_eq (c : Dev nD) (z z' : Fin 1) : ∀ (n : ℕ) (hn : n < cfg0.N),
    (outsAt0 m c n hn).2 (ix2 z z') = ∑ k ∈ Finset.range (512 * (n + 1)), term (line m c) k := by
  intro n
  induction n with
  | zero =>
    intro hn
    rw [outsAt0_A m c ⟨0, hn⟩ rfl, out_A5]
    refine (step m c ⟨0, hn⟩ _ z z').trans ?_
    rw [pay1_apply, sum_tile _ 512 0 _ (fun s => rfl)]
    simp
  | succ n ih =>
    intro hn
    have h16 : n + 1 < 16 := lt_of_lt_of_eq hn N_0
    rw [outsAt0_B m c ⟨n + 1, hn⟩ (by dsimp only; omega), out_B5]
    refine (step m c ⟨n + 1, hn⟩ _ z z').trans ?_
    refine (congrArg (· + _) (ih _)).trans ?_
    rw [sum_tile _ 512 (n + 1) _ (fun s => rfl)]

theorem flushed4' (c : Dev nD) (t : Fin cfg0.N) :
    (dats m 0 c).flushed 4 t = ((cfg0.win 4).blk t).view.read (Elt Ideal) (GD m c) := by
  have e : (dats m 0 c).flushed 4 t = k0_pay3 (iblk m c 0 t) (iblk m c 1 t) (iblk m c 2 t) (iblk m c 3 t) := by
    rw [flushed4, outD]
    rfl
  rw [e]
  have ht : t.val < 16 := lt_of_lt_of_eq t.isLt N_0
  obtain ⟨-, -, -, -, -, -, -, -, e0, e1, -⟩ := idx_facts t
  funext y
  obtain ⟨r, l, rfl⟩ : ∃ (r : Fin 512) (l : Fin 2048), y = ix2 r l := ix2_surj y
  have h : 512 * t.val + r.val < 8192 := by omega
  have hb : ((cfg0.win 4).blk t).view.emb (ix2 r l) = (ix2 ⟨512 * t.val + r.val, h⟩ l : S8192x2048.Idx) := funext fun a => Fin.ext (by
    match a with
    | ⟨0, _⟩ => show win0_4.index t (0 : Fin 2) * 512 + 1 * r.val = 512 * t.val + r.val; rw [e0]; omega
    | ⟨1, _⟩ => show win0_4.index t (1 : Fin 2) * 2048 + 1 * l.val = l.val; rw [e1]; omega)
  rw [View.read_apply, hb, cast_eq]
  exact (pay3_apply _ _ _ _ r l).trans (congrArg (· * slope) (err_blk m c t r l h))

theorem flushed5' (c : Dev nD) (t : Fin cfg0.N) (hf : (cfg0.win 5).flush t = true) :
    (dats m 0 c).flushed 5 t = ((cfg0.win 5).blk t).view.read (Elt Ideal) (GLoss m c) := by
  have e : (dats m 0 c).flushed 5 t = (outsAt0 m c t.val t.isLt).2 := by
    rw [flushed5]
    rfl
  rw [e]
  have ht : t.val < 16 := lt_of_lt_of_eq t.isLt N_0
  have hm : t.val % 16 = 15 := (flush0_5 t).mp hf
  obtain ⟨-, -, -, -, -, -, -, -, -, -, e0, e1⟩ := idx_facts t
  funext y
  obtain ⟨z, l, rfl⟩ : ∃ (z : Fin 1) (l : Fin 1), y = ix2 z l := ix2_surj y
  have hb : ((cfg0.win 5).blk t).view.emb (ix2 z l) = (ix2 z l : S1x1.Idx) := funext fun a => Fin.ext (by
    match a with
    | ⟨0, _⟩ => show win0_5.index t (0 : Fin 2) * 1 + 1 * z.val = z.val; rw [e0]; omega
    | ⟨1, _⟩ => show win0_5.index t (1 : Fin 2) * 1 + 1 * l.val = l.val; rw [e1]; omega)
  rw [View.read_apply, hb, cast_eq]
  refine (acc_eq m c z l t.val t.isLt).trans ?_
  rw [show 512 * (t.val + 1) = 8192 by omega]
  exact (sum_term _).symm

theorem mem_blk4 (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v1_0).slice (win0_4.rect t)).set ↔ _
  rw [View.set_slice_whole, Rect.mem_set_unit]
  exact Iff.rfl

theorem final4 (c : Dev nD) : (dats m 0 c).arrAt 4 cfg0.N = GD m c :=
  (dats m 0 c).arrAt_eq_of_cover 4 _ (fun t hf => flushed4' m c t) fun i => by
    have h0 : (i 0).val < 8192 := (i 0).isLt
    have h1 : (i 1).val < 2048 := (i 1).isLt
    have hn : (i 0).val / 512 < cfg0.N := lt_of_lt_of_eq (by omega) N_0.symm
    refine ⟨⟨(i 0).val / 512, hn⟩, flush0_4 _, ?_⟩
    obtain ⟨-, -, -, -, -, -, -, -, e0, e1, -⟩ := idx_facts ⟨(i 0).val / 512, hn⟩
    dsimp only at e0 e1
    refine (mem_blk4 _ i).mpr fun a => ?_
    match a with
    | ⟨0, _⟩ => show win0_4.index ⟨(i 0).val / 512, hn⟩ (0 : Fin 2) * 512 ≤ (i 0).val ∧ (i 0).val < win0_4.index ⟨(i 0).val / 512, hn⟩ (0 : Fin 2) * 512 + 512; rw [e0]; omega
    | ⟨1, _⟩ => show win0_4.index ⟨(i 0).val / 512, hn⟩ (1 : Fin 2) * 2048 ≤ (i 1).val ∧ (i 1).val < win0_4.index ⟨(i 0).val / 512, hn⟩ (1 : Fin 2) * 2048 + 2048; rw [e1]; omega

theorem mem_blk5 (t : Fin cfg0.N) (i : S1x1.Idx) :
    i ∈ ((cfg0.win 5).blk t).view.set ↔ ∀ a : Fin 2, win0_5.index t a * S1x1.size a ≤ (i a).val ∧ (i a).val < win0_5.index t a * S1x1.size a + S1x1.size a := by
  show i ∈ ((View.whole main_v1_1).slice (win0_5.rect t)).set ↔ _
  rw [View.set_slice_whole, Rect.mem_set_unit]
  exact Iff.rfl

theorem final5 (c : Dev nD) : (dats m 0 c).arrAt 5 cfg0.N = GLoss m c :=
  (dats m 0 c).arrAt_eq_of_cover 5 _ (fun t hf => flushed5' m c t hf) fun i => by
    have h0 : (i 0).val < 1 := (i 0).isLt
    have h1 : (i 1).val < 1 := (i 1).isLt
    have hn : 15 < cfg0.N := lt_of_lt_of_eq (by omega) N_0.symm
    refine ⟨⟨15, hn⟩, (flush0_5 _).mpr rfl, ?_⟩
    obtain ⟨-, -, -, -, -, -, -, -, -, -, e0, e1⟩ := idx_facts ⟨15, hn⟩
    refine (mem_blk5 _ i).mpr fun a => ?_
    match a with
    | ⟨0, _⟩ => show win0_5.index ⟨15, hn⟩ (0 : Fin 2) * 1 ≤ (i 0).val ∧ (i 0).val < win0_5.index ⟨15, hn⟩ (0 : Fin 2) * 1 + 1; rw [e0]; omega
    | ⟨1, _⟩ => show win0_5.index ⟨15, hn⟩ (1 : Fin 2) * 1 ≤ (i 1).val ∧ (i 1).val < win0_5.index ⟨15, hn⟩ (1 : Fin 2) * 1 + 1; rw [e1]; omega

/-! ## The numbers of the scales -/

theorem half_eq : Ideal.ofBits .f32 0x3F000000#32 = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem width_eq : Ideal.ofBits .f32 0x45000000#32 = ((2048 : ℝ) : EReal) := by
  simp [Ideal.ofBits, Ideal.ieee, -EReal.coe_mul]; norm_num
theorem slope_eq : slope = ((1 / 2048 : ℝ) : EReal) := by
  simp [slope, Ideal.ofBits, Ideal.ieee, -EReal.coe_mul]; norm_num
theorem share_eq : share = ((1 / 4096 : ℝ) : EReal) := by
  simp [share, Ideal.ofBits, Ideal.ieee, -EReal.coe_mul]; norm_num

/-- Half of one, over the width, times twice the error, is the error over the width. -/
theorem slope_mul (e : EReal) :
    Ideal.div (Ideal.ofBits .f32 0x3F000000#32 * Ideal.ofBits .f32 0x3F800000#32) (Ideal.ofBits .f32 0x45000000#32) * (Ideal.ofBits .f32 0x40000000#32 * e) = e * slope := by
  rw [half_eq, one_eq, two_eq, width_eq, slope_eq, Ideal.div_coe (by norm_num), ← mul_assoc, ← EReal.coe_mul, ← EReal.coe_mul, ← EReal.coe_mul, mul_comm]
  refine congrArg _ (congrArg _ ?_)
  norm_num

/-- Half of a mean is half the scaled sum. -/
theorem share_mul (f : Fin 8192 → EReal) (hf : ∀ k, 0 ≤ f k) :
    Ideal.ofBits .f32 0x3F000000#32 * ∑ k : Fin 8192, Ideal.div (f k) (Ideal.ofBits .f32 0x45000000#32) = ∑ k : Fin 8192, share * f k := by
  have e : ∀ k, Ideal.div (f k) (Ideal.ofBits .f32 0x45000000#32) = f k * ((1 / 2048 : ℝ) : EReal) := fun k => by
    rw [width_eq, Ideal.div_coe (by norm_num)]
  simp only [e]
  rw [mul_sum _ _ _ fun k => mul_nonneg (hf k) (by exact_mod_cast (by norm_num : (0 : ℝ) ≤ 1 / 2048))]
  refine Finset.sum_congr rfl fun k _ => ?_
  rw [half_eq, share_eq, mul_left_comm, ← EReal.coe_mul, mul_comm]
  refine congrArg (· * _) (congrArg _ ?_)
  norm_num

end Cert.FwdOutLossIdeal.Own

namespace Cert.FwdOutLossRefIdeal.Own

open Cert.FwdOutLossRefIdeal Cert.FwdOutLossRefIdeal.Gen Cert.FwdOutLossRefIdeal.Read
open Cert.Common Idealize.ShloMosaic Idealize.ShloMosaic.TcCoe
open Cert.FwdOutLossIdeal.Own (err rowSq grad loss slope share slope_mul share_mul sq_nonneg')

/-- The reference's error. -/
theorem refE (x : Vec Ideal S8192x2048 .f32) (a : Vec Ideal S8192x2048 .bf16) (w : Vec Ideal S2048x2048 .f32) (t : Vec Ideal S8192x2048 .f32) (r : Fin 8192) (l : Fin 2048) :
    val_main_v3 x a w t (ix2 r l) = err x a w t (ix2 r l) := by
  unfold err Cert.FwdOutIdeal.Own.projected mm
  pointwise [val_main_v3, val_main_v2, val_main_v1, val_main_v0]

/-- The reference's gradient at the output. -/
theorem refD (x : Vec Ideal S8192x2048 .f32) (a : Vec Ideal S8192x2048 .bf16) (w : Vec Ideal S2048x2048 .f32) (t : Vec Ideal S8192x2048 .f32) (i : S8192x2048.Idx) :
    val_main_v17 x a w t i = grad x a w t i := by
  obtain ⟨r, l, rfl⟩ : ∃ (r : Fin 8192) (l : Fin 2048), i = ix2 r l := ix2_surj i
  unfold grad
  rw [← refE, ← slope_mul]
  unfold val_main_v17 val_main_v6
  generalize val_main_v3 x a w t = e
  pointwise [val_main_v16, val_main_v15, val_main_v14, val_main_v13, val_main_v12, val_main_v5, val_main_cst, val_main_cst_4, val_main_cst_5, val_main_cst_6]

/-- One row's mean squared error in the reference. -/
theorem refR (x : Vec Ideal S8192x2048 .f32) (a : Vec Ideal S8192x2048 .bf16) (w : Vec Ideal S2048x2048 .f32) (t : Vec Ideal S8192x2048 .f32) (r : Fin 8192) :
    val_main_v9 x a w t (ValueIdx.ix1 r) = Ideal.div (rowSq x a w t r) (Ideal.ofBits .f32 0x45000000#32) := by
  unfold rowSq
  simp only [← refE]
  unfold val_main_v9 val_main_v7 val_main_v4
  generalize val_main_v3 x a w t = e
  pointwise [val_main_v8, val_main_cst_0, val_main_cst_1]

/-- A sum over a row of indices is a sum over the numbers below its length. -/
theorem sum_row (f : S8192.Idx → EReal) : ∑ j : S8192.Idx, f j = ∑ k : Fin 8192, f (ValueIdx.ix1 k) :=
  Fintype.sum_equiv ⟨fun j => j 0, ValueIdx.ix1, fun j => funext fun a => by match a with | ⟨0, _⟩ => rfl, fun k => rfl⟩ _ _ fun j =>
    congrArg f (funext fun a => by match a with | ⟨0, _⟩ => rfl)

/-- The reference's loss. -/
theorem refL (x : Vec Ideal S8192x2048 .f32) (a : Vec Ideal S8192x2048 .bf16) (w : Vec Ideal S2048x2048 .f32) (t : Vec Ideal S8192x2048 .f32) (i : S1x1.Idx) :
    val_main_v18 x a w t i = loss x a w t i := by
  unfold loss
  rw [← share_mul _ (sq_nonneg' x a w t)]
  simp only [← refR]
  show val_main_v11 x a w t _ = _
  rw [val_main_v11_apply, val_main_v10_apply]
  rw [sum_row]
  show Ideal.ofBits .f32 0x3F000000#32 * (Ideal.ofBits .f32 0x00000000#32 + _) = _
  rw [show Ideal.ofBits .f32 0x00000000#32 = 0 by simp [Ideal.ofBits, Ideal.ieee], zero_add]

end Cert.FwdOutLossRefIdeal.Own

namespace Cert.Values

open Idealize.ShloMosaic Idealize.ShloMosaic.TcCoe Idealize.SL.Sem

/-- The value claim: the call's two results are the reference's, element by element. -/
theorem fwdOutLoss : Cert.algebraic_FwdOutLossIdeal_FwdOutLossRefIdeal (hFwdOutLossIdeal := Cert.FwdOutLossIdeal.Gen.facts) (hFwdOutLossRefIdeal := Cert.FwdOutLossRefIdeal.Gen.facts) := by
  intro m g m' g' _ hm
  refine ⟨fun c => Cert.FwdOutLossIdeal.Own.GD m c, fun c => Cert.FwdOutLossIdeal.Own.GLoss m c, ?_, ?_⟩
  · refine (θ_run _ _ _).mono (fun r h c => ?_) (Cert.FwdOutLossIdeal.Value.run_blocks m g)
    obtain ⟨h0, h1, h2⟩ := h c
    exact ⟨h0.trans (Cert.FwdOutLossIdeal.Own.final4 m c), h1.trans (Cert.FwdOutLossIdeal.Own.final5 m c), h2⟩
  · refine (θ_run _ _ _).mono (fun r h c => ?_) (Cert.FwdOutLossRefIdeal.Value.run m' g')
    obtain ⟨h0, h1, h2⟩ := h c
    obtain ⟨e0, e1, e2, e3⟩ := hm c
    refine ⟨h0.trans ?_, h1.trans ?_, h2⟩
    · rw [Cert.FwdOutLossRefIdeal.Read.val_main_v17_eq, e0, e1, e2, e3]
      funext i
      exact Cert.FwdOutLossRefIdeal.Own.refD _ _ _ _ i
    · rw [Cert.FwdOutLossRefIdeal.Read.val_main_v18_eq, e0, e1, e2, e3]
      funext i
      exact Cert.FwdOutLossRefIdeal.Own.refL _ _ _ _ i

end Cert.Values
-- ==== Proof.Adam.lean ====
module

public import proofs.«01_k».proof.Proof.Common

/-! One AdamW step on one number, and on tables of numbers: what the optimiser calls and their references both compute. -/

@[expose] public section

noncomputable section

namespace Cert.Adam

open Idealize.ShloMosaic Cert.Common

/-- The number that a single-precision word denotes. -/
abbrev lit (b : BitVec 32) : EReal := Ideal.ofBits .f32 b

/-- The new first moment: `0.9 m + 0.1 g`. -/
def mom (g m : EReal) : EReal := lit 0x3F666666#32 * m + lit 0x3DCCCCCD#32 * g

/-- The new second moment: `0.999 v + 0.001 g²`. -/
def var (g v : EReal) : EReal := lit 0x3F7FBE77#32 * v + lit 0x3A83126F#32 * (g * g)

/-- The step: `-lr (m̂ / (√v̂ + ε) + wd · w)` with the bias-corrected moments `m̂`, `v̂`. -/
def delta (w g m v : EReal) : EReal :=
  lit 0xBA83126F#32 * (Ideal.div (Ideal.div (mom g m) (lit 0x3F26BD02#32)) (Ideal.sqrt (Ideal.div (var g v) (lit 0x3C231ACC#32)) + lit 0x322BCC77#32) + lit 0x3C23D70A#32 * w)

variable {M N : Nat}

/-- The gradient of a table that arrives in two halves: their sum. -/
def gradT (a b : Tab M N) : Tab M N := fun i => a i + b i

/-- The three new tables of a step, element by element. -/
def momT (g m : Tab M N) : Tab M N := fun i => mom (g i) (m i)
@[inherit_doc momT] def varT (g v : Tab M N) : Tab M N := fun i => var (g i) (v i)
@[inherit_doc momT] def deltaT (w g m v : Tab M N) : Tab M N := fun i => delta (w i) (g i) (m i) (v i)

end Cert.Adam
end
-- ==== Proof.AdamWIn.lean ====
module

public import proofs.«01_k».proof.Proof.Gen.AdamWInIdeal.Value
public import proofs.«01_k».proof.Proof.Gen.AdamWInRefIdeal.Read
public import proofs.«01_k».proof.Proof.Adam
public import proofs.«01_k».proof.Defs

/-! The optimiser step of the input projection. -/

@[expose] public section

noncomputable section

namespace Cert.AdamWInIdeal.Own

open Cert.AdamWInIdeal Cert.AdamWInIdeal.Gen Cert.AdamWInIdeal.Value
open Cert.Common Cert.Adam Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every window stands at block `t` of its rows. -/
theorem idx_facts : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = t.val ∧ win0_2.index t (1 : Fin 2) = 0) ∧ (win0_3.index t (0 : Fin 2) = t.val ∧ win0_3.index t (1 : Fin 2) = 0) ∧ (win0_4.index t (0 : Fin 2) = t.val ∧ win0_4.index t (1 : Fin 2) = 0) ∧ (win0_5.index t (0 : Fin 2) = t.val ∧ win0_5.index t (1 : Fin 2) = 0) ∧ (win0_6.index t (0 : Fin 2) = t.val ∧ win0_6.index t (1 : Fin 2) = 0) ∧ (win0_7.index t (0 : Fin 2) = t.val ∧ win0_7.index t (1 : Fin 2) = 0) ∧ (win0_8.index t (0 : Fin 2) = t.val ∧ win0_8.index t (1 : Fin 2) = 0) :=
  (by decide +kernel : ∀ t : Fin grid0.N, _)

theorem iblk0 (c : Dev nD) (t : Fin cfg0.N) (r : Fin 128) (l : Fin 1408) (h : 128 * t.val + r.val < 8192) :
    (iblk m c 0 t : S128x1408.Idx → EReal) (ix2 r l) = (m ((c : Thread nD τ).loc main_arg0) : S8192x1408.Idx → EReal) (ix2 ⟨128 * t.val + r.val, h⟩ l) := by
  unfold iblk
  rw [View.read_apply]
  refine (congrFun (V_main_arg0 m c) _).trans (congrArg _ (funext fun a => Fin.ext ?_))
  obtain ⟨⟨e0, e1⟩, -⟩ := idx_facts t
  match a with
  | ⟨0, _⟩ => show win0_0.index t (0 : Fin 2) * 128 + 1 * r.val = 128 * t.val + r.val; rw [e0]; omega
  | ⟨1, _⟩ => show win0_0.index t (1 : Fin 2) * 1408 + 1 * l.val = l.val; rw [e1]; omega

theorem iblk1 (c : Dev nD) (t : Fin cfg0.N) (r : Fin 128) (l : Fin 1408) (h : 128 * t.val + r.val < 8192) :
    (iblk m c 1 t : S128x1408.Idx → EReal) (ix2 r l) = (m ((c : Thread nD τ).loc main_arg1) : S8192x1408.Idx → EReal) (ix2 ⟨128 * t.val + r.val, h⟩ l) := by
  unfold iblk
  rw [View.read_apply]
  refine (congrFun (V_main_arg1 m c) _).trans (congrArg _ (funext fun a => Fin.ext ?_))
  obtain ⟨-, ⟨e0, e1⟩, -⟩ := idx_facts t
  match a with
  | ⟨0, _⟩ => show win0_1.index t (0 : Fin 2) * 128 + 1 * r.val = 128 * t.val + r.val; rw [e0]; omega
  | ⟨1, _⟩ => show win0_1.index t (1 : Fin 2) * 1408 + 1 * l.val = l.val; rw [e1]; omega

theorem iblk2 (c : Dev nD) (t : Fin cfg0.N) (r : Fin 128) (l : Fin 1408) (h : 128 * t.val + r.val < 8192) :
    (iblk m c 2 t : S128x1408.Idx → EReal) (ix2 r l) = (m ((c : Thread nD τ).loc main_arg2) : S8192x1408.Idx → EReal) (ix2 ⟨128 * t.val + r.val, h⟩ l) := by
  unfold iblk
  rw [View.read_apply]
  refine (congrFun (V_main_arg2 m c) _).trans (congrArg _ (funext fun a => Fin.ext ?_))
  obtain ⟨-, -, ⟨e0, e1⟩, -⟩ := idx_facts t
  match a with
  | ⟨0, _⟩ => show win0_2.index t (0 : Fin 2) * 128 + 1 * r.val = 128 * t.val + r.val; rw [e0]; omega
  | ⟨1, _⟩ => show win0_2.index t (1 : Fin 2) * 1408 + 1 * l.val = l.val; rw [e1]; omega

theorem iblk3 (c : Dev nD) (t : Fin cfg0.N) (r : Fin 128) (l : Fin 1408) (h : 128 * t.val + r.val < 8192) :
    (iblk m c 3 t : S128x1408.Idx → EReal) (ix2 r l) = (m ((c : Thread nD τ).loc main_arg3) : S8192x1408.Idx → EReal) (ix2 ⟨128 * t.val + r.val, h⟩ l) := by
  unfold iblk
  rw [View.read_apply]
  refine (congrFun (V_main_arg3 m c) _).trans (congrArg _ (funext fun a => Fin.ext ?_))
  obtain ⟨-, -, -, ⟨e0, e1⟩, -⟩ := idx_facts t
  match a with
  | ⟨0, _⟩ => show win0_3.index t (0 : Fin 2) * 128 + 1 * r.val = 128 * t.val + r.val; rw [e0]; omega
  | ⟨1, _⟩ => show win0_3.index t (1 : Fin 2) * 1408 + 1 * l.val = l.val; rw [e1]; omega

theorem iblk4 (c : Dev nD) (t : Fin cfg0.N) (r : Fin 128) (l : Fin 1408) (h : 128 * t.val + r.val < 8192) :
    (iblk m c 4 t : S128x1408.Idx → EReal) (ix2 r l) = (m ((c : Thread nD τ).loc main_arg4) : S8192x1408.Idx → EReal) (ix2 ⟨128 * t.val + r.val, h⟩ l) := by
  unfold iblk
  rw [View.read_apply]
  refine (congrFun (V_main_arg4 m c) _).trans (congrArg _ (funext fun a => Fin.ext ?_))
  obtain ⟨-, -, -, -, ⟨e0, e1⟩, -⟩ := idx_facts t
  match a with
  | ⟨0, _⟩ => show win0_4.index t (0 : Fin 2) * 128 + 1 * r.val = 128 * t.val + r.val; rw [e0]; omega
  | ⟨1, _⟩ => show win0_4.index t (1 : Fin 2) * 1408 + 1 * l.val = l.val; rw [e1]; omega

/-- What the body leaves in the buffer of the gradient, at an index. -/
theorem out_grad (x0 : Vec Ideal S128x1408 .f32) (x1 : Vec Ideal S128x1408 .bf16) (x2 : Vec Ideal S128x1408 .bf16) (x3 : Vec Ideal S128x1408 .f32) (x4 : Vec Ideal S128x1408 .f32) (r : Fin 128) (l : Fin 1408) : out0_5 x0 x1 x2 x3 x4 (ix2 r l) = (x1 (ix2 r l) + x2 (ix2 r l)) := by
  unfold out0_5
  rw [View.canon_unit_zero Cert.Common.hz2]
  simp only [View.ld_unit_zero (S := S128x1408) Cert.Common.hz2]
  pointwise [k0_pay2]

/-- The array of the gradient, as the reference's function of the arguments. -/
def G_grad (c : Dev nD) : Buf (Elt Ideal) ((c : Thread nD τ).loc main_v0_0) := (gradT (m ((c : Thread nD τ).loc main_arg1)) (m ((c : Thread nD τ).loc main_arg2)))

theorem flushed_grad (c : Dev nD) (t : Fin cfg0.N) : (dats m 0 c).flushed 5 t = ((cfg0.win 5).blk t).view.read (Elt Ideal) (G_grad m c) := by
  rw [flushed5]
  obtain ⟨-, -, -, -, -, ⟨e0, e1⟩, -⟩ := idx_facts t
  have ht : t.val < 64 := lt_of_lt_of_eq t.isLt N_0
  funext y
  obtain ⟨r, l, rfl⟩ : ∃ (r : Fin 128) (l : Fin 1408), y = ix2 r l := ix2_surj y
  have h : 128 * t.val + r.val < 8192 := by omega
  have hb : ((cfg0.win 5).blk t).view.emb (ix2 r l) = (ix2 ⟨128 * t.val + r.val, h⟩ l : S8192x1408.Idx) := funext fun a => Fin.ext (by
    match a with
    | ⟨0, _⟩ => show win0_5.index t (0 : Fin 2) * 128 + 1 * r.val = 128 * t.val + r.val; rw [e0]; omega
    | ⟨1, _⟩ => show win0_5.index t (1 : Fin 2) * 1408 + 1 * l.val = l.val; rw [e1]; omega)
  rw [View.read_apply, hb, cast_eq]
  refine (out_grad _ _ _ _ _ r l).trans ?_
  rw [iblk1 m c t r l h, iblk2 m c t r l h]
  rfl

theorem final_grad (c : Dev nD) : (dats m 0 c).arrAt 5 cfg0.N = G_grad m c :=
  (dats m 0 c).arrAt_eq_of_cover 5 _ (fun t _ => flushed_grad m c t) fun i => by
    have hi0 : (i 0 : Nat) < 8192 := (i 0).isLt
    have hi1 : (i 1 : Nat) < 1408 := (i 1).isLt
    let t : Fin cfg0.N := ⟨(i 0 : Nat) / 128, lt_of_lt_of_eq (by omega) N_0.symm⟩
    obtain ⟨-, -, -, -, -, ⟨e0, e1⟩, -⟩ := idx_facts t
    refine ⟨t, flush0_5 t, ?_⟩
    show i ∈ ((View.whole main_v0_0).slice (win0_5.rect t)).set
    rw [View.set_slice_whole, Rect.mem_set_unit]
    intro a
    match a with
    | ⟨0, _⟩ => show win0_5.index t (0 : Fin 2) * 128 ≤ (i 0 : Nat) ∧ (i 0 : Nat) < win0_5.index t (0 : Fin 2) * 128 + 128
                rw [e0]; show (i 0 : Nat) / 128 * 128 ≤ _ ∧ _ < (i 0 : Nat) / 128 * 128 + 128; omega
    | ⟨1, _⟩ => show win0_5.index t (1 : Fin 2) * 1408 ≤ (i 1 : Nat) ∧ (i 1 : Nat) < win0_5.index t (1 : Fin 2) * 1408 + 1408
                rw [e1]; omega

/-- What the body leaves in the buffer of the step, at an index. -/
theorem out_delta (x0 : Vec Ideal S128x1408 .f32) (x1 : Vec Ideal S128x1408 .bf16) (x2 : Vec Ideal S128x1408 .bf16) (x3 : Vec Ideal S128x1408 .f32) (x4 : Vec Ideal S128x1408 .f32) (r : Fin 128) (l : Fin 1408) : out0_6 x0 x1 x2 x3 x4 (ix2 r l) = delta (x0 (ix2 r l)) (x1 (ix2 r l) + x2 (ix2 r l)) (x3 (ix2 r l)) (x4 (ix2 r l)) := by
  unfold out0_6
  rw [View.canon_unit_zero Cert.Common.hz2]
  simp only [View.ld_unit_zero (S := S128x1408) Cert.Common.hz2]
  pointwise [k0_pay1, k0_pay5, k0_pay6, k0_pay3, k0_pay4, k0_pay2]
  all_goals rfl

/-- The array of the step, as the reference's function of the arguments. -/
def G_delta (c : Dev nD) : Buf (Elt Ideal) ((c : Thread nD τ).loc main_v0_1) := deltaT (m ((c : Thread nD τ).loc main_arg0)) (gradT (m ((c : Thread nD τ).loc main_arg1)) (m ((c : Thread nD τ).loc main_arg2))) (m ((c : Thread nD τ).loc main_arg3)) (m ((c : Thread nD τ).loc main_arg4))

theorem flushed_delta (c : Dev nD) (t : Fin cfg0.N) : (dats m 0 c).flushed 6 t = ((cfg0.win 6).blk t).view.read (Elt Ideal) (G_delta m c) := by
  rw [flushed6]
  obtain ⟨-, -, -, -, -, -, ⟨e0, e1⟩, -⟩ := idx_facts t
  have ht : t.val < 64 := lt_of_lt_of_eq t.isLt N_0
  funext y
  obtain ⟨r, l, rfl⟩ : ∃ (r : Fin 128) (l : Fin 1408), y = ix2 r l := ix2_surj y
  have h : 128 * t.val + r.val < 8192 := by omega
  have hb : ((cfg0.win 6).blk t).view.emb (ix2 r l) = (ix2 ⟨128 * t.val + r.val, h⟩ l : S8192x1408.Idx) := funext fun a => Fin.ext (by
    match a with
    | ⟨0, _⟩ => show win0_6.index t (0 : Fin 2) * 128 + 1 * r.val = 128 * t.val + r.val; rw [e0]; omega
    | ⟨1, _⟩ => show win0_6.index t (1 : Fin 2) * 1408 + 1 * l.val = l.val; rw [e1]; omega)
  rw [View.read_apply, hb, cast_eq]
  refine (out_delta _ _ _ _ _ r l).trans ?_
  rw [iblk1 m c t r l h, iblk2 m c t r l h, iblk0 m c t r l h, iblk3 m c t r l h, iblk4 m c t r l h]
  rfl

theorem final_delta (c : Dev nD) : (dats m 0 c).arrAt 6 cfg0.N = G_delta m c :=
  (dats m 0 c).arrAt_eq_of_cover 6 _ (fun t _ => flushed_delta m c t) fun i => by
    have hi0 : (i 0 : Nat) < 8192 := (i 0).isLt
    have hi1 : (i 1 : Nat) < 1408 := (i 1).isLt
    let t : Fin cfg0.N := ⟨(i 0 : Nat) / 128, lt_of_lt_of_eq (by omega) N_0.symm⟩
    obtain ⟨-, -, -, -, -, -, ⟨e0, e1⟩, -⟩ := idx_facts t
    refine ⟨t, flush0_6 t, ?_⟩
    show i ∈ ((View.whole main_v0_1).slice (win0_6.rect t)).set
    rw [View.set_slice_whole, Rect.mem_set_unit]
    intro a
    match a with
    | ⟨0, _⟩ => show win0_6.index t (0 : Fin 2) * 128 ≤ (i 0 : Nat) ∧ (i 0 : Nat) < win0_6.index t (0 : Fin 2) * 128 + 128
                rw [e0]; show (i 0 : Nat) / 128 * 128 ≤ _ ∧ _ < (i 0 : Nat) / 128 * 128 + 128; omega
    | ⟨1, _⟩ => show win0_6.index t (1 : Fin 2) * 1408 ≤ (i 1 : Nat) ∧ (i 1 : Nat) < win0_6.index t (1 : Fin 2) * 1408 + 1408
                rw [e1]; omega

/-- What the body leaves in the buffer of the new first moment, at an index. -/
theorem out_mom (x0 : Vec Ideal S128x1408 .f32) (x1 : Vec Ideal S128x1408 .bf16) (x2 : Vec Ideal S128x1408 .bf16) (x3 : Vec Ideal S128x1408 .f32) (x4 : Vec Ideal S128x1408 .f32) (r : Fin 128) (l : Fin 1408) : out0_7 x0 x1 x2 x3 x4 (ix2 r l) = mom (x1 (ix2 r l) + x2 (ix2 r l)) (x3 (ix2 r l)) := by
  unfold out0_7
  rw [View.canon_unit_zero Cert.Common.hz2]
  simp only [View.ld_unit_zero (S := S128x1408) Cert.Common.hz2]
  pointwise [k0_pay3, k0_pay2]
  all_goals rfl

/-- The array of the new first moment, as the reference's function of the arguments. -/
def G_mom (c : Dev nD) : Buf (Elt Ideal) ((c : Thread nD τ).loc main_v0_2) := momT (gradT (m ((c : Thread nD τ).loc main_arg1)) (m ((c : Thread nD τ).loc main_arg2))) (m ((c : Thread nD τ).loc main_arg3))

theorem flushed_mom (c : Dev nD) (t : Fin cfg0.N) : (dats m 0 c).flushed 7 t = ((cfg0.win 7).blk t).view.read (Elt Ideal) (G_mom m c) := by
  rw [flushed7]
  obtain ⟨-, -, -, -, -, -, -, ⟨e0, e1⟩, -⟩ := idx_facts t
  have ht : t.val < 64 := lt_of_lt_of_eq t.isLt N_0
  funext y
  obtain ⟨r, l, rfl⟩ : ∃ (r : Fin 128) (l : Fin 1408), y = ix2 r l := ix2_surj y
  have h : 128 * t.val + r.val < 8192 := by omega
  have hb : ((cfg0.win 7).blk t).view.emb (ix2 r l) = (ix2 ⟨128 * t.val + r.val, h⟩ l : S8192x1408.Idx) := funext fun a => Fin.ext (by
    match a with
    | ⟨0, _⟩ => show win0_7.index t (0 : Fin 2) * 128 + 1 * r.val = 128 * t.val + r.val; rw [e0]; omega
    | ⟨1, _⟩ => show win0_7.index t (1 : Fin 2) * 1408 + 1 * l.val = l.val; rw [e1]; omega)
  rw [View.read_apply, hb, cast_eq]
  refine (out_mom _ _ _ _ _ r l).trans ?_
  rw [iblk1 m c t r l h, iblk2 m c t r l h, iblk3 m c t r l h]
  rfl

theorem final_mom (c : Dev nD) : (dats m 0 c).arrAt 7 cfg0.N = G_mom m c :=
  (dats m 0 c).arrAt_eq_of_cover 7 _ (fun t _ => flushed_mom m c t) fun i => by
    have hi0 : (i 0 : Nat) < 8192 := (i 0).isLt
    have hi1 : (i 1 : Nat) < 1408 := (i 1).isLt
    let t : Fin cfg0.N := ⟨(i 0 : Nat) / 128, lt_of_lt_of_eq (by omega) N_0.symm⟩
    obtain ⟨-, -, -, -, -, -, -, ⟨e0, e1⟩, -⟩ := idx_facts t
    refine ⟨t, flush0_7 t, ?_⟩
    show i ∈ ((View.whole main_v0_2).slice (win0_7.rect t)).set
    rw [View.set_slice_whole, Rect.mem_set_unit]
    intro a
    match a with
    | ⟨0, _⟩ => show win0_7.index t (0 : Fin 2) * 128 ≤ (i 0 : Nat) ∧ (i 0 : Nat) < win0_7.index t (0 : Fin 2) * 128 + 128
                rw [e0]; show (i 0 : Nat) / 128 * 128 ≤ _ ∧ _ < (i 0 : Nat) / 128 * 128 + 128; omega
    | ⟨1, _⟩ => show win0_7.index t (1 : Fin 2) * 1408 ≤ (i 1 : Nat) ∧ (i 1 : Nat) < win0_7.index t (1 : Fin 2) * 1408 + 1408
                rw [e1]; omega

/-- What the body leaves in the buffer of the new second moment, at an index. -/
theorem out_var (x0 : Vec Ideal S128x1408 .f32) (x1 : Vec Ideal S128x1408 .bf16) (x2 : Vec Ideal S128x1408 .bf16) (x3 : Vec Ideal S128x1408 .f32) (x4 : Vec Ideal S128x1408 .f32) (r : Fin 128) (l : Fin 1408) : out0_8 x0 x1 x2 x3 x4 (ix2 r l) = var (x1 (ix2 r l) + x2 (ix2 r l)) (x4 (ix2 r l)) := by
  unfold out0_8
  rw [View.canon_unit_zero Cert.Common.hz2]
  simp only [View.ld_unit_zero (S := S128x1408) Cert.Common.hz2]
  pointwise [k0_pay4, k0_pay2]
  all_goals rfl

/-- The array of the new second moment, as the reference's function of the arguments. -/
def G_var (c : Dev nD) : Buf (Elt Ideal) ((c : Thread nD τ).loc main_v0_3) := varT (gradT (m ((c : Thread nD τ).loc main_arg1)) (m ((c : Thread nD τ).loc main_arg2))) (m ((c : Thread nD τ).loc main_arg4))

theorem flushed_var (c : Dev nD) (t : Fin cfg0.N) : (dats m 0 c).flushed 8 t = ((cfg0.win 8).blk t).view.read (Elt Ideal) (G_var m c) := by
  rw [flushed8]
  obtain ⟨-, -, -, -, -, -, -, -, ⟨e0, e1⟩⟩ := idx_facts t
  have ht : t.val < 64 := lt_of_lt_of_eq t.isLt N_0
  funext y
  obtain ⟨r, l, rfl⟩ : ∃ (r : Fin 128) (l : Fin 1408), y = ix2 r l := ix2_surj y
  have h : 128 * t.val + r.val < 8192 := by omega
  have hb : ((cfg0.win 8).blk t).view.emb (ix2 r l) = (ix2 ⟨128 * t.val + r.val, h⟩ l : S8192x1408.Idx) := funext fun a => Fin.ext (by
    match a with
    | ⟨0, _⟩ => show win0_8.index t (0 : Fin 2) * 128 + 1 * r.val = 128 * t.val + r.val; rw [e0]; omega
    | ⟨1, _⟩ => show win0_8.index t (1 : Fin 2) * 1408 + 1 * l.val = l.val; rw [e1]; omega)
  rw [View.read_apply, hb, cast_eq]
  refine (out_var _ _ _ _ _ r l).trans ?_
  rw [iblk1 m c t r l h, iblk2 m c t r l h, iblk4 m c t r l h]
  rfl

theorem final_var (c : Dev nD) : (dats m 0 c).arrAt 8 cfg0.N = G_var m c :=
  (dats m 0 c).arrAt_eq_of_cover 8 _ (fun t _ => flushed_var m c t) fun i => by
    have hi0 : (i 0 : Nat) < 8192 := (i 0).isLt
    have hi1 : (i 1 : Nat) < 1408 := (i 1).isLt
    let t : Fin cfg0.N := ⟨(i 0 : Nat) / 128, lt_of_lt_of_eq (by omega) N_0.symm⟩
    obtain ⟨-, -, -, -, -, -, -, -, ⟨e0, e1⟩⟩ := idx_facts t
    refine ⟨t, flush0_8 t, ?_⟩
    show i ∈ ((View.whole main_v0_3).slice (win0_8.rect t)).set
    rw [View.set_slice_whole, Rect.mem_set_unit]
    intro a
    match a with
    | ⟨0, _⟩ => show win0_8.index t (0 : Fin 2) * 128 ≤ (i 0 : Nat) ∧ (i 0 : Nat) < win0_8.index t (0 : Fin 2) * 128 + 128
                rw [e0]; show (i 0 : Nat) / 128 * 128 ≤ _ ∧ _ < (i 0 : Nat) / 128 * 128 + 128; omega
    | ⟨1, _⟩ => show win0_8.index t (1 : Fin 2) * 1408 ≤ (i 1 : Nat) ∧ (i 1 : Nat) < win0_8.index t (1 : Fin 2) * 1408 + 1408
                rw [e1]; omega

end Cert.AdamWInIdeal.Own

namespace Cert.AdamWInRefIdeal.Own

open Cert.AdamWInRefIdeal Cert.AdamWInRefIdeal.Gen Cert.AdamWInRefIdeal.Read
open Cert.Common Cert.Adam Idealize.ShloMosaic Idealize.ShloMosaic.TcCoe

/-- The reference's array of the gradient. -/
theorem ref_grad (x1 : Vec Ideal S8192x1408 .bf16) (x2 : Vec Ideal S8192x1408 .bf16) : (val_main_v2 x1 x2 : S8192x1408.Idx → EReal) = (gradT x1 x2) := by
  funext i
  obtain ⟨r, l, rfl⟩ : ∃ (r : Fin 8192) (l : Fin 1408), i = ix2 r l := ix2_surj i
  pointwise [val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  all_goals rfl

/-- The reference's array of the step. -/
theorem ref_delta (x0 : Vec Ideal S8192x1408 .f32) (x1 : Vec Ideal S8192x1408 .bf16) (x2 : Vec Ideal S8192x1408 .bf16) (x3 : Vec Ideal S8192x1408 .f32) (x4 : Vec Ideal S8192x1408 .f32) : (val_main_v26 x0 x1 x2 x3 x4 : S8192x1408.Idx → EReal) = deltaT x0 (gradT x1 x2) x3 x4 := by
  funext i
  obtain ⟨r, l, rfl⟩ : ∃ (r : Fin 8192) (l : Fin 1408), i = ix2 r l := ix2_surj i
  pointwise [val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  all_goals rfl

/-- The reference's array of the new first moment. -/
theorem ref_mom (x1 : Vec Ideal S8192x1408 .bf16) (x2 : Vec Ideal S8192x1408 .bf16) (x3 : Vec Ideal S8192x1408 .f32) : (val_main_v7 x1 x2 x3 : S8192x1408.Idx → EReal) = momT (gradT x1 x2) x3 := by
  funext i
  obtain ⟨r, l, rfl⟩ : ∃ (r : Fin 8192) (l : Fin 1408), i = ix2 r l := ix2_surj i
  pointwise [val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  all_goals rfl

/-- The reference's array of the new second moment. -/
theorem ref_var (x1 : Vec Ideal S8192x1408 .bf16) (x2 : Vec Ideal S8192x1408 .bf16) (x4 : Vec Ideal S8192x1408 .f32) : (val_main_v13 x1 x2 x4 : S8192x1408.Idx → EReal) = varT (gradT x1 x2) x4 := by
  funext i
  obtain ⟨r, l, rfl⟩ : ∃ (r : Fin 8192) (l : Fin 1408), i = ix2 r l := ix2_surj i
  pointwise [val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  all_goals rfl

end Cert.AdamWInRefIdeal.Own

namespace Cert.Values

open Idealize.ShloMosaic Idealize.ShloMosaic.TcCoe Idealize.SL.Sem

/-- The value claim: all four results of the call are the reference's, element by element. -/
theorem adamWIn : Cert.algebraic_AdamWInIdeal_AdamWInRefIdeal (hAdamWInIdeal := Cert.AdamWInIdeal.Gen.facts) (hAdamWInRefIdeal := Cert.AdamWInRefIdeal.Gen.facts) := by
  intro m g m' g' _ hm
  refine ⟨fun c => Cert.AdamWInIdeal.Own.G_grad m c, fun c => Cert.AdamWInIdeal.Own.G_delta m c, fun c => Cert.AdamWInIdeal.Own.G_mom m c, fun c => Cert.AdamWInIdeal.Own.G_var m c, ?_, ?_⟩
  · refine (θ_run _ _ _).mono (fun r h c => ?_) (Cert.AdamWInIdeal.Value.run_blocks m g)
    obtain ⟨h0, h1, h2, h3, h4⟩ := h c
    exact ⟨h0.trans (Cert.AdamWInIdeal.Own.final_grad m c), h1.trans (Cert.AdamWInIdeal.Own.final_delta m c), h2.trans (Cert.AdamWInIdeal.Own.final_mom m c), h3.trans (Cert.AdamWInIdeal.Own.final_var m c), h4⟩
  · refine (θ_run _ _ _).mono (fun r h c => ?_) (Cert.AdamWInRefIdeal.Value.run m' g')
    obtain ⟨h0, h1, h2, h3, h4⟩ := h c
    obtain ⟨e0, e1, e2, e3, e4⟩ := hm c
    refine ⟨h0.trans ?_, h1.trans ?_, h2.trans ?_, h3.trans ?_, h4⟩
    · rw [Cert.AdamWInRefIdeal.Read.val_main_v2_eq, e1, e2]
      exact Cert.AdamWInRefIdeal.Own.ref_grad _ _
    · rw [Cert.AdamWInRefIdeal.Read.val_main_v26_eq, e0, e1, e2, e3, e4]
      exact Cert.AdamWInRefIdeal.Own.ref_delta _ _ _ _ _
    · rw [Cert.AdamWInRefIdeal.Read.val_main_v7_eq, e1, e2, e3]
      exact Cert.AdamWInRefIdeal.Own.ref_mom _ _ _
    · rw [Cert.AdamWInRefIdeal.Read.val_main_v13_eq, e1, e2, e4]
      exact Cert.AdamWInRefIdeal.Own.ref_var _ _ _

end Cert.Values
end
-- ==== Proof.AdamWOut.lean ====
module

public import proofs.«01_k».proof.Proof.Gen.AdamWOutIdeal.Value
public import proofs.«01_k».proof.Proof.Gen.AdamWOutRefIdeal.Read
public import proofs.«01_k».proof.Proof.Adam
public import proofs.«01_k».proof.Defs

/-! The optimiser step of the output projection. -/

@[expose] public section

noncomputable section

namespace Cert.AdamWOutIdeal.Own

open Cert.AdamWOutIdeal Cert.AdamWOutIdeal.Gen Cert.AdamWOutIdeal.Value
open Cert.Common Cert.Adam Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every window stands at block `t` of its rows. -/
theorem idx_facts : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = t.val ∧ win0_2.index t (1 : Fin 2) = 0) ∧ (win0_3.index t (0 : Fin 2) = t.val ∧ win0_3.index t (1 : Fin 2) = 0) ∧ (win0_4.index t (0 : Fin 2) = t.val ∧ win0_4.index t (1 : Fin 2) = 0) ∧ (win0_5.index t (0 : Fin 2) = t.val ∧ win0_5.index t (1 : Fin 2) = 0) ∧ (win0_6.index t (0 : Fin 2) = t.val ∧ win0_6.index t (1 : Fin 2) = 0) ∧ (win0_7.index t (0 : Fin 2) = t.val ∧ win0_7.index t (1 : Fin 2) = 0) ∧ (win0_8.index t (0 : Fin 2) = t.val ∧ win0_8.index t (1 : Fin 2) = 0) :=
  (by decide +kernel : ∀ t : Fin grid0.N, _)

theorem iblk0 (c : Dev nD) (t : Fin cfg0.N) (r : Fin 128) (l : Fin 2048) (h : 128 * t.val + r.val < 2048) :
    (iblk m c 0 t : S128x2048.Idx → EReal) (ix2 r l) = (m ((c : Thread nD τ).loc main_arg0) : S2048x2048.Idx → EReal) (ix2 ⟨128 * t.val + r.val, h⟩ l) := by
  unfold iblk
  rw [View.read_apply]
  refine (congrFun (V_main_arg0 m c) _).trans (congrArg _ (funext fun a => Fin.ext ?_))
  obtain ⟨⟨e0, e1⟩, -⟩ := idx_facts t
  match a with
  | ⟨0, _⟩ => show win0_0.index t (0 : Fin 2) * 128 + 1 * r.val = 128 * t.val + r.val; rw [e0]; omega
  | ⟨1, _⟩ => show win0_0.index t (1 : Fin 2) * 2048 + 1 * l.val = l.val; rw [e1]; omega

theorem iblk1 (c : Dev nD) (t : Fin cfg0.N) (r : Fin 128) (l : Fin 2048) (h : 128 * t.val + r.val < 2048) :
    (iblk m c 1 t : S128x2048.Idx → EReal) (ix2 r l) = (m ((c : Thread nD τ).loc main_arg1) : S2048x2048.Idx → EReal) (ix2 ⟨128 * t.val + r.val, h⟩ l) := by
  unfold iblk
  rw [View.read_apply]
  refine (congrFun (V_main_arg1 m c) _).trans (congrArg _ (funext fun a => Fin.ext ?_))
  obtain ⟨-, ⟨e0, e1⟩, -⟩ := idx_facts t
  match a with
  | ⟨0, _⟩ => show win0_1.index t (0 : Fin 2) * 128 + 1 * r.val = 128 * t.val + r.val; rw [e0]; omega
  | ⟨1, _⟩ => show win0_1.index t (1 : Fin 2) * 2048 + 1 * l.val = l.val; rw [e1]; omega

theorem iblk2 (c : Dev nD) (t : Fin cfg0.N) (r : Fin 128) (l : Fin 2048) (h : 128 * t.val + r.val < 2048) :
    (iblk m c 2 t : S128x2048.Idx → EReal) (ix2 r l) = (m ((c : Thread nD τ).loc main_arg2) : S2048x2048.Idx → EReal) (ix2 ⟨128 * t.val + r.val, h⟩ l) := by
  unfold iblk
  rw [View.read_apply]
  refine (congrFun (V_main_arg2 m c) _).trans (congrArg _ (funext fun a => Fin.ext ?_))
  obtain ⟨-, -, ⟨e0, e1⟩, -⟩ := idx_facts t
  match a with
  | ⟨0, _⟩ => show win0_2.index t (0 : Fin 2) * 128 + 1 * r.val = 128 * t.val + r.val; rw [e0]; omega
  | ⟨1, _⟩ => show win0_2.index t (1 : Fin 2) * 2048 + 1 * l.val = l.val; rw [e1]; omega

theorem iblk3 (c : Dev nD) (t : Fin cfg0.N) (r : Fin 128) (l : Fin 2048) (h : 128 * t.val + r.val < 2048) :
    (iblk m c 3 t : S128x2048.Idx → EReal) (ix2 r l) = (m ((c : Thread nD τ).loc main_arg3) : S2048x2048.Idx → EReal) (ix2 ⟨128 * t.val + r.val, h⟩ l) := by
  unfold iblk
  rw [View.read_apply]
  refine (congrFun (V_main_arg3 m c) _).trans (congrArg _ (funext fun a => Fin.ext ?_))
  obtain ⟨-, -, -, ⟨e0, e1⟩, -⟩ := idx_facts t
  match a with
  | ⟨0, _⟩ => show win0_3.index t (0 : Fin 2) * 128 + 1 * r.val = 128 * t.val + r.val; rw [e0]; omega
  | ⟨1, _⟩ => show win0_3.index t (1 : Fin 2) * 2048 + 1 * l.val = l.val; rw [e1]; omega

theorem iblk4 (c : Dev nD) (t : Fin cfg0.N) (r : Fin 128) (l : Fin 2048) (h : 128 * t.val + r.val < 2048) :
    (iblk m c 4 t : S128x2048.Idx → EReal) (ix2 r l) = (m ((c : Thread nD τ).loc main_arg4) : S2048x2048.Idx → EReal) (ix2 ⟨128 * t.val + r.val, h⟩ l) := by
  unfold iblk
  rw [View.read_apply]
  refine (congrFun (V_main_arg4 m c) _).trans (congrArg _ (funext fun a => Fin.ext ?_))
  obtain ⟨-, -, -, -, ⟨e0, e1⟩, -⟩ := idx_facts t
  match a with
  | ⟨0, _⟩ => show win0_4.index t (0 : Fin 2) * 128 + 1 * r.val = 128 * t.val + r.val; rw [e0]; omega
  | ⟨1, _⟩ => show win0_4.index t (1 : Fin 2) * 2048 + 1 * l.val = l.val; rw [e1]; omega

/-- What the body leaves in the buffer of the gradient, at an index. -/
theorem out_grad (x0 : Vec Ideal S128x2048 .f32) (x1 : Vec Ideal S128x2048 .bf16) (x2 : Vec Ideal S128x2048 .bf16) (x3 : Vec Ideal S128x2048 .f32) (x4 : Vec Ideal S128x2048 .f32) (r : Fin 128) (l : Fin 2048) : out0_5 x0 x1 x2 x3 x4 (ix2 r l) = (x1 (ix2 r l) + x2 (ix2 r l)) := by
  unfold out0_5
  rw [View.canon_unit_zero Cert.Common.hz2]
  simp only [View.ld_unit_zero (S := S128x2048) Cert.Common.hz2]
  pointwise [k0_pay2]

/-- The array of the gradient, as the reference's function of the arguments. -/
def G_grad (c : Dev nD) : Buf (Elt Ideal) ((c : Thread nD τ).loc main_v0_0) := (gradT (m ((c : Thread nD τ).loc main_arg1)) (m ((c : Thread nD τ).loc main_arg2)))

theorem flushed_grad (c : Dev nD) (t : Fin cfg0.N) : (dats m 0 c).flushed 5 t = ((cfg0.win 5).blk t).view.read (Elt Ideal) (G_grad m c) := by
  rw [flushed5]
  obtain ⟨-, -, -, -, -, ⟨e0, e1⟩, -⟩ := idx_facts t
  have ht : t.val < 16 := lt_of_lt_of_eq t.isLt N_0
  funext y
  obtain ⟨r, l, rfl⟩ : ∃ (r : Fin 128) (l : Fin 2048), y = ix2 r l := ix2_surj y
  have h : 128 * t.val + r.val < 2048 := by omega
  have hb : ((cfg0.win 5).blk t).view.emb (ix2 r l) = (ix2 ⟨128 * t.val + r.val, h⟩ l : S2048x2048.Idx) := funext fun a => Fin.ext (by
    match a with
    | ⟨0, _⟩ => show win0_5.index t (0 : Fin 2) * 128 + 1 * r.val = 128 * t.val + r.val; rw [e0]; omega
    | ⟨1, _⟩ => show win0_5.index t (1 : Fin 2) * 2048 + 1 * l.val = l.val; rw [e1]; omega)
  rw [View.read_apply, hb, cast_eq]
  refine (out_grad _ _ _ _ _ r l).trans ?_
  rw [iblk1 m c t r l h, iblk2 m c t r l h]
  rfl

theorem final_grad (c : Dev nD) : (dats m 0 c).arrAt 5 cfg0.N = G_grad m c :=
  (dats m 0 c).arrAt_eq_of_cover 5 _ (fun t _ => flushed_grad m c t) fun i => by
    have hi0 : (i 0 : Nat) < 2048 := (i 0).isLt
    have hi1 : (i 1 : Nat) < 2048 := (i 1).isLt
    let t : Fin cfg0.N := ⟨(i 0 : Nat) / 128, lt_of_lt_of_eq (by omega) N_0.symm⟩
    obtain ⟨-, -, -, -, -, ⟨e0, e1⟩, -⟩ := idx_facts t
    refine ⟨t, flush0_5 t, ?_⟩
    show i ∈ ((View.whole main_v0_0).slice (win0_5.rect t)).set
    rw [View.set_slice_whole, Rect.mem_set_unit]
    intro a
    match a with
    | ⟨0, _⟩ => show win0_5.index t (0 : Fin 2) * 128 ≤ (i 0 : Nat) ∧ (i 0 : Nat) < win0_5.index t (0 : Fin 2) * 128 + 128
                rw [e0]; show (i 0 : Nat) / 128 * 128 ≤ _ ∧ _ < (i 0 : Nat) / 128 * 128 + 128; omega
    | ⟨1, _⟩ => show win0_5.index t (1 : Fin 2) * 2048 ≤ (i 1 : Nat) ∧ (i 1 : Nat) < win0_5.index t (1 : Fin 2) * 2048 + 2048
                rw [e1]; omega

/-- What the body leaves in the buffer of the step, at an index. -/
theorem out_delta (x0 : Vec Ideal S128x2048 .f32) (x1 : Vec Ideal S128x2048 .bf16) (x2 : Vec Ideal S128x2048 .bf16) (x3 : Vec Ideal S128x2048 .f32) (x4 : Vec Ideal S128x2048 .f32) (r : Fin 128) (l : Fin 2048) : out0_6 x0 x1 x2 x3 x4 (ix2 r l) = delta (x0 (ix2 r l)) (x1 (ix2 r l) + x2 (ix2 r l)) (x3 (ix2 r l)) (x4 (ix2 r l)) := by
  unfold out0_6
  rw [View.canon_unit_zero Cert.Common.hz2]
  simp only [View.ld_unit_zero (S := S128x2048) Cert.Common.hz2]
  pointwise [k0_pay1, k0_pay5, k0_pay6, k0_pay3, k0_pay4, k0_pay2]
  all_goals rfl

/-- The array of the step, as the reference's function of the arguments. -/
def G_delta (c : Dev nD) : Buf (Elt Ideal) ((c : Thread nD τ).loc main_v0_1) := deltaT (m ((c : Thread nD τ).loc main_arg0)) (gradT (m ((c : Thread nD τ).loc main_arg1)) (m ((c : Thread nD τ).loc main_arg2))) (m ((c : Thread nD τ).loc main_arg3)) (m ((c : Thread nD τ).loc main_arg4))

theorem flushed_delta (c : Dev nD) (t : Fin cfg0.N) : (dats m 0 c).flushed 6 t = ((cfg0.win 6).blk t).view.read (Elt Ideal) (G_delta m c) := by
  rw [flushed6]
  obtain ⟨-, -, -, -, -, -, ⟨e0, e1⟩, -⟩ := idx_facts t
  have ht : t.val < 16 := lt_of_lt_of_eq t.isLt N_0
  funext y
  obtain ⟨r, l, rfl⟩ : ∃ (r : Fin 128) (l : Fin 2048), y = ix2 r l := ix2_surj y
  have h : 128 * t.val + r.val < 2048 := by omega
  have hb : ((cfg0.win 6).blk t).view.emb (ix2 r l) = (ix2 ⟨128 * t.val + r.val, h⟩ l : S2048x2048.Idx) := funext fun a => Fin.ext (by
    match a with
    | ⟨0, _⟩ => show win0_6.index t (0 : Fin 2) * 128 + 1 * r.val = 128 * t.val + r.val; rw [e0]; omega
    | ⟨1, _⟩ => show win0_6.index t (1 : Fin 2) * 2048 + 1 * l.val = l.val; rw [e1]; omega)
  rw [View.read_apply, hb, cast_eq]
  refine (out_delta _ _ _ _ _ r l).trans ?_
  rw [iblk1 m c t r l h, iblk2 m c t r l h, iblk0 m c t r l h, iblk3 m c t r l h, iblk4 m c t r l h]
  rfl

theorem final_delta (c : Dev nD) : (dats m 0 c).arrAt 6 cfg0.N = G_delta m c :=
  (dats m 0 c).arrAt_eq_of_cover 6 _ (fun t _ => flushed_delta m c t) fun i => by
    have hi0 : (i 0 : Nat) < 2048 := (i 0).isLt
    have hi1 : (i 1 : Nat) < 2048 := (i 1).isLt
    let t : Fin cfg0.N := ⟨(i 0 : Nat) / 128, lt_of_lt_of_eq (by omega) N_0.symm⟩
    obtain ⟨-, -, -, -, -, -, ⟨e0, e1⟩, -⟩ := idx_facts t
    refine ⟨t, flush0_6 t, ?_⟩
    show i ∈ ((View.whole main_v0_1).slice (win0_6.rect t)).set
    rw [View.set_slice_whole, Rect.mem_set_unit]
    intro a
    match a with
    | ⟨0, _⟩ => show win0_6.index t (0 : Fin 2) * 128 ≤ (i 0 : Nat) ∧ (i 0 : Nat) < win0_6.index t (0 : Fin 2) * 128 + 128
                rw [e0]; show (i 0 : Nat) / 128 * 128 ≤ _ ∧ _ < (i 0 : Nat) / 128 * 128 + 128; omega
    | ⟨1, _⟩ => show win0_6.index t (1 : Fin 2) * 2048 ≤ (i 1 : Nat) ∧ (i 1 : Nat) < win0_6.index t (1 : Fin 2) * 2048 + 2048
                rw [e1]; omega

/-- What the body leaves in the buffer of the new first moment, at an index. -/
theorem out_mom (x0 : Vec Ideal S128x2048 .f32) (x1 : Vec Ideal S128x2048 .bf16) (x2 : Vec Ideal S128x2048 .bf16) (x3 : Vec Ideal S128x2048 .f32) (x4 : Vec Ideal S128x2048 .f32) (r : Fin 128) (l : Fin 2048) : out0_7 x0 x1 x2 x3 x4 (ix2 r l) = mom (x1 (ix2 r l) + x2 (ix2 r l)) (x3 (ix2 r l)) := by
  unfold out0_7
  rw [View.canon_unit_zero Cert.Common.hz2]
  simp only [View.ld_unit_zero (S := S128x2048) Cert.Common.hz2]
  pointwise [k0_pay3, k0_pay2]
  all_goals rfl

/-- The array of the new first moment, as the reference's function of the arguments. -/
def G_mom (c : Dev nD) : Buf (Elt Ideal) ((c : Thread nD τ).loc main_v0_2) := momT (gradT (m ((c : Thread nD τ).loc main_arg1)) (m ((c : Thread nD τ).loc main_arg2))) (m ((c : Thread nD τ).loc main_arg3))

theorem flushed_mom (c : Dev nD) (t : Fin cfg0.N) : (dats m 0 c).flushed 7 t = ((cfg0.win 7).blk t).view.read (Elt Ideal) (G_mom m c) := by
  rw [flushed7]
  obtain ⟨-, -, -, -, -, -, -, ⟨e0, e1⟩, -⟩ := idx_facts t
  have ht : t.val < 16 := lt_of_lt_of_eq t.isLt N_0
  funext y
  obtain ⟨r, l, rfl⟩ : ∃ (r : Fin 128) (l : Fin 2048), y = ix2 r l := ix2_surj y
  have h : 128 * t.val + r.val < 2048 := by omega
  have hb : ((cfg0.win 7).blk t).view.emb (ix2 r l) = (ix2 ⟨128 * t.val + r.val, h⟩ l : S2048x2048.Idx) := funext fun a => Fin.ext (by
    match a with
    | ⟨0, _⟩ => show win0_7.index t (0 : Fin 2) * 128 + 1 * r.val = 128 * t.val + r.val; rw [e0]; omega
    | ⟨1, _⟩ => show win0_7.index t (1 : Fin 2) * 2048 + 1 * l.val = l.val; rw [e1]; omega)
  rw [View.read_apply, hb, cast_eq]
  refine (out_mom _ _ _ _ _ r l).trans ?_
  rw [iblk1 m c t r l h, iblk2 m c t r l h, iblk3 m c t r l h]
  rfl

theorem final_mom (c : Dev nD) : (dats m 0 c).arrAt 7 cfg0.N = G_mom m c :=
  (dats m 0 c).arrAt_eq_of_cover 7 _ (fun t _ => flushed_mom m c t) fun i => by
    have hi0 : (i 0 : Nat) < 2048 := (i 0).isLt
    have hi1 : (i 1 : Nat) < 2048 := (i 1).isLt
    let t : Fin cfg0.N := ⟨(i 0 : Nat) / 128, lt_of_lt_of_eq (by omega) N_0.symm⟩
    obtain ⟨-, -, -, -, -, -, -, ⟨e0, e1⟩, -⟩ := idx_facts t
    refine ⟨t, flush0_7 t, ?_⟩
    show i ∈ ((View.whole main_v0_2).slice (win0_7.rect t)).set
    rw [View.set_slice_whole, Rect.mem_set_unit]
    intro a
    match a with
    | ⟨0, _⟩ => show win0_7.index t (0 : Fin 2) * 128 ≤ (i 0 : Nat) ∧ (i 0 : Nat) < win0_7.index t (0 : Fin 2) * 128 + 128
                rw [e0]; show (i 0 : Nat) / 128 * 128 ≤ _ ∧ _ < (i 0 : Nat) / 128 * 128 + 128; omega
    | ⟨1, _⟩ => show win0_7.index t (1 : Fin 2) * 2048 ≤ (i 1 : Nat) ∧ (i 1 : Nat) < win0_7.index t (1 : Fin 2) * 2048 + 2048
                rw [e1]; omega

/-- What the body leaves in the buffer of the new second moment, at an index. -/
theorem out_var (x0 : Vec Ideal S128x2048 .f32) (x1 : Vec Ideal S128x2048 .bf16) (x2 : Vec Ideal S128x2048 .bf16) (x3 : Vec Ideal S128x2048 .f32) (x4 : Vec Ideal S128x2048 .f32) (r : Fin 128) (l : Fin 2048) : out0_8 x0 x1 x2 x3 x4 (ix2 r l) = var (x1 (ix2 r l) + x2 (ix2 r l)) (x4 (ix2 r l)) := by
  unfold out0_8
  rw [View.canon_unit_zero Cert.Common.hz2]
  simp only [View.ld_unit_zero (S := S128x2048) Cert.Common.hz2]
  pointwise [k0_pay4, k0_pay2]
  all_goals rfl

/-- The array of the new second moment, as the reference's function of the arguments. -/
def G_var (c : Dev nD) : Buf (Elt Ideal) ((c : Thread nD τ).loc main_v0_3) := varT (gradT (m ((c : Thread nD τ).loc main_arg1)) (m ((c : Thread nD τ).loc main_arg2))) (m ((c : Thread nD τ).loc main_arg4))

theorem flushed_var (c : Dev nD) (t : Fin cfg0.N) : (dats m 0 c).flushed 8 t = ((cfg0.win 8).blk t).view.read (Elt Ideal) (G_var m c) := by
  rw [flushed8]
  obtain ⟨-, -, -, -, -, -, -, -, ⟨e0, e1⟩⟩ := idx_facts t
  have ht : t.val < 16 := lt_of_lt_of_eq t.isLt N_0
  funext y
  obtain ⟨r, l, rfl⟩ : ∃ (r : Fin 128) (l : Fin 2048), y = ix2 r l := ix2_surj y
  have h : 128 * t.val + r.val < 2048 := by omega
  have hb : ((cfg0.win 8).blk t).view.emb (ix2 r l) = (ix2 ⟨128 * t.val + r.val, h⟩ l : S2048x2048.Idx) := funext fun a => Fin.ext (by
    match a with
    | ⟨0, _⟩ => show win0_8.index t (0 : Fin 2) * 128 + 1 * r.val = 128 * t.val + r.val; rw [e0]; omega
    | ⟨1, _⟩ => show win0_8.index t (1 : Fin 2) * 2048 + 1 * l.val = l.val; rw [e1]; omega)
  rw [View.read_apply, hb, cast_eq]
  refine (out_var _ _ _ _ _ r l).trans ?_
  rw [iblk1 m c t r l h, iblk2 m c t r l h, iblk4 m c t r l h]
  rfl

theorem final_var (c : Dev nD) : (dats m 0 c).arrAt 8 cfg0.N = G_var m c :=
  (dats m 0 c).arrAt_eq_of_cover 8 _ (fun t _ => flushed_var m c t) fun i => by
    have hi0 : (i 0 : Nat) < 2048 := (i 0).isLt
    have hi1 : (i 1 : Nat) < 2048 := (i 1).isLt
    let t : Fin cfg0.N := ⟨(i 0 : Nat) / 128, lt_of_lt_of_eq (by omega) N_0.symm⟩
    obtain ⟨-, -, -, -, -, -, -, -, ⟨e0, e1⟩⟩ := idx_facts t
    refine ⟨t, flush0_8 t, ?_⟩
    show i ∈ ((View.whole main_v0_3).slice (win0_8.rect t)).set
    rw [View.set_slice_whole, Rect.mem_set_unit]
    intro a
    match a with
    | ⟨0, _⟩ => show win0_8.index t (0 : Fin 2) * 128 ≤ (i 0 : Nat) ∧ (i 0 : Nat) < win0_8.index t (0 : Fin 2) * 128 + 128
                rw [e0]; show (i 0 : Nat) / 128 * 128 ≤ _ ∧ _ < (i 0 : Nat) / 128 * 128 + 128; omega
    | ⟨1, _⟩ => show win0_8.index t (1 : Fin 2) * 2048 ≤ (i 1 : Nat) ∧ (i 1 : Nat) < win0_8.index t (1 : Fin 2) * 2048 + 2048
                rw [e1]; omega

end Cert.AdamWOutIdeal.Own

namespace Cert.AdamWOutRefIdeal.Own

open Cert.AdamWOutRefIdeal Cert.AdamWOutRefIdeal.Gen Cert.AdamWOutRefIdeal.Read
open Cert.Common Cert.Adam Idealize.ShloMosaic Idealize.ShloMosaic.TcCoe

/-- The reference's array of the gradient. -/
theorem ref_grad (x1 : Vec Ideal S2048x2048 .bf16) (x2 : Vec Ideal S2048x2048 .bf16) : (val_main_v2 x1 x2 : S2048x2048.Idx → EReal) = (gradT x1 x2) := by
  funext i
  obtain ⟨r, l, rfl⟩ : ∃ (r : Fin 2048) (l : Fin 2048), i = ix2 r l := ix2_surj i
  pointwise [val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  all_goals rfl

/-- The reference's array of the step. -/
theorem ref_delta (x0 : Vec Ideal S2048x2048 .f32) (x1 : Vec Ideal S2048x2048 .bf16) (x2 : Vec Ideal S2048x2048 .bf16) (x3 : Vec Ideal S2048x2048 .f32) (x4 : Vec Ideal S2048x2048 .f32) : (val_main_v26 x0 x1 x2 x3 x4 : S2048x2048.Idx → EReal) = deltaT x0 (gradT x1 x2) x3 x4 := by
  funext i
  obtain ⟨r, l, rfl⟩ : ∃ (r : Fin 2048) (l : Fin 2048), i = ix2 r l := ix2_surj i
  pointwise [val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  all_goals rfl

/-- The reference's array of the new first moment. -/
theorem ref_mom (x1 : Vec Ideal S2048x2048 .bf16) (x2 : Vec Ideal S2048x2048 .bf16) (x3 : Vec Ideal S2048x2048 .f32) : (val_main_v7 x1 x2 x3 : S2048x2048.Idx → EReal) = momT (gradT x1 x2) x3 := by
  funext i
  obtain ⟨r, l, rfl⟩ : ∃ (r : Fin 2048) (l : Fin 2048), i = ix2 r l := ix2_surj i
  pointwise [val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  all_goals rfl

/-- The reference's array of the new second moment. -/
theorem ref_var (x1 : Vec Ideal S2048x2048 .bf16) (x2 : Vec Ideal S2048x2048 .bf16) (x4 : Vec Ideal S2048x2048 .f32) : (val_main_v13 x1 x2 x4 : S2048x2048.Idx → EReal) = varT (gradT x1 x2) x4 := by
  funext i
  obtain ⟨r, l, rfl⟩ : ∃ (r : Fin 2048) (l : Fin 2048), i = ix2 r l := ix2_surj i
  pointwise [val_main_v26, val_main_v25, val_main_cst_7, val_main_v24, val_main_v23, val_main_v22, val_main_cst_6, val_main_v21, val_main_v20, val_main_v19, val_main_cst_5, val_main_v18, val_main_v17, val_main_v16, val_main_cst_4, val_main_v15, val_main_v14, val_main_cst_3, val_main_v13, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  all_goals rfl

end Cert.AdamWOutRefIdeal.Own

namespace Cert.Values

open Idealize.ShloMosaic Idealize.ShloMosaic.TcCoe Idealize.SL.Sem

/-- The value claim: all four results of the call are the reference's, element by element. -/
theorem adamWOut : Cert.algebraic_AdamWOutIdeal_AdamWOutRefIdeal (hAdamWOutIdeal := Cert.AdamWOutIdeal.Gen.facts) (hAdamWOutRefIdeal := Cert.AdamWOutRefIdeal.Gen.facts) := by
  intro m g m' g' _ hm
  refine ⟨fun c => Cert.AdamWOutIdeal.Own.G_grad m c, fun c => Cert.AdamWOutIdeal.Own.G_delta m c, fun c => Cert.AdamWOutIdeal.Own.G_mom m c, fun c => Cert.AdamWOutIdeal.Own.G_var m c, ?_, ?_⟩
  · refine (θ_run _ _ _).mono (fun r h c => ?_) (Cert.AdamWOutIdeal.Value.run_blocks m g)
    obtain ⟨h0, h1, h2, h3, h4⟩ := h c
    exact ⟨h0.trans (Cert.AdamWOutIdeal.Own.final_grad m c), h1.trans (Cert.AdamWOutIdeal.Own.final_delta m c), h2.trans (Cert.AdamWOutIdeal.Own.final_mom m c), h3.trans (Cert.AdamWOutIdeal.Own.final_var m c), h4⟩
  · refine (θ_run _ _ _).mono (fun r h c => ?_) (Cert.AdamWOutRefIdeal.Value.run m' g')
    obtain ⟨h0, h1, h2, h3, h4⟩ := h c
    obtain ⟨e0, e1, e2, e3, e4⟩ := hm c
    refine ⟨h0.trans ?_, h1.trans ?_, h2.trans ?_, h3.trans ?_, h4⟩
    · rw [Cert.AdamWOutRefIdeal.Read.val_main_v2_eq, e1, e2]
      exact Cert.AdamWOutRefIdeal.Own.ref_grad _ _
    · rw [Cert.AdamWOutRefIdeal.Read.val_main_v26_eq, e0, e1, e2, e3, e4]
      exact Cert.AdamWOutRefIdeal.Own.ref_delta _ _ _ _ _
    · rw [Cert.AdamWOutRefIdeal.Read.val_main_v7_eq, e1, e2, e3]
      exact Cert.AdamWOutRefIdeal.Own.ref_mom _ _ _
    · rw [Cert.AdamWOutRefIdeal.Read.val_main_v13_eq, e1, e2, e4]
      exact Cert.AdamWOutRefIdeal.Own.ref_var _ _ _

end Cert.Values
end
-- ==== Proof.AdamWS.lean ====
module

public import proofs.«01_k».proof.Proof.Gen.AdamWSIdeal.Value
public import proofs.«01_k».proof.Proof.Gen.AdamWSRefIdeal.Read
public import proofs.«01_k».proof.Proof.Adam
public import proofs.«01_k».proof.Defs

/-! The optimiser step of the mixing weights. -/

@[expose] public section

noncomputable section

namespace Cert.AdamWSIdeal.Own

open Cert.AdamWSIdeal Cert.AdamWSIdeal.Gen Cert.AdamWSIdeal.Value
open Cert.Common Cert.Adam Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every window stands at block `t` of its rows. -/
theorem idx_facts : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = t.val ∧ win0_2.index t (1 : Fin 2) = 0) ∧ (win0_3.index t (0 : Fin 2) = t.val ∧ win0_3.index t (1 : Fin 2) = 0) ∧ (win0_4.index t (0 : Fin 2) = t.val ∧ win0_4.index t (1 : Fin 2) = 0) ∧ (win0_5.index t (0 : Fin 2) = t.val ∧ win0_5.index t (1 : Fin 2) = 0) ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)

theorem iblk0 (c : Dev nD) (t : Fin cfg0.N) (r : Fin 512) (l : Fin 128) (h : 512 * t.val + r.val < 8192) :
    (iblk m c 0 t : S512x128.Idx → EReal) (ix2 r l) = (m ((c : Thread nD τ).loc main_arg0) : S8192x128.Idx → EReal) (ix2 ⟨512 * t.val + r.val, h⟩ l) := by
  unfold iblk
  rw [View.read_apply]
  refine (congrFun (V_main_arg0 m c) _).trans (congrArg _ (funext fun a => Fin.ext ?_))
  obtain ⟨⟨e0, e1⟩, -⟩ := idx_facts t
  match a with
  | ⟨0, _⟩ => show win0_0.index t (0 : Fin 2) * 512 + 1 * r.val = 512 * t.val + r.val; rw [e0]; omega
  | ⟨1, _⟩ => show win0_0.index t (1 : Fin 2) * 128 + 1 * l.val = l.val; rw [e1]; omega

theorem iblk1 (c : Dev nD) (t : Fin cfg0.N) (r : Fin 512) (l : Fin 128) (h : 512 * t.val + r.val < 8192) :
    (iblk m c 1 t : S512x128.Idx → EReal) (ix2 r l) = (m ((c : Thread nD τ).loc main_arg1) : S8192x128.Idx → EReal) (ix2 ⟨512 * t.val + r.val, h⟩ l) := by
  unfold iblk
  rw [View.read_apply]
  refine (congrFun (V_main_arg1 m c) _).trans (congrArg _ (funext fun a => Fin.ext ?_))
  obtain ⟨-, ⟨e0, e1⟩, -⟩ := idx_facts t
  match a with
  | ⟨0, _⟩ => show win0_1.index t (0 : Fin 2) * 512 + 1 * r.val = 512 * t.val + r.val; rw [e0]; omega
  | ⟨1, _⟩ => show win0_1.index t (1 : Fin 2) * 128 + 1 * l.val = l.val; rw [e1]; omega

theorem iblk2 (c : Dev nD) (t : Fin cfg0.N) (r : Fin 512) (l : Fin 128) (h : 512 * t.val + r.val < 8192) :
    (iblk m c 2 t : S512x128.Idx → EReal) (ix2 r l) = (m ((c : Thread nD τ).loc main_arg2) : S8192x128.Idx → EReal) (ix2 ⟨512 * t.val + r.val, h⟩ l) := by
  unfold iblk
  rw [View.read_apply]
  refine (congrFun (V_main_arg2 m c) _).trans (congrArg _ (funext fun a => Fin.ext ?_))
  obtain ⟨-, -, ⟨e0, e1⟩, -⟩ := idx_facts t
  match a with
  | ⟨0, _⟩ => show win0_2.index t (0 : Fin 2) * 512 + 1 * r.val = 512 * t.val + r.val; rw [e0]; omega
  | ⟨1, _⟩ => show win0_2.index t (1 : Fin 2) * 128 + 1 * l.val = l.val; rw [e1]; omega

theorem iblk3 (c : Dev nD) (t : Fin cfg0.N) (r : Fin 512) (l : Fin 128) (h : 512 * t.val + r.val < 8192) :
    (iblk m c 3 t : S512x128.Idx → EReal) (ix2 r l) = (m ((c : Thread nD τ).loc main_arg3) : S8192x128.Idx → EReal) (ix2 ⟨512 * t.val + r.val, h⟩ l) := by
  unfold iblk
  rw [View.read_apply]
  refine (congrFun (V_main_arg3 m c) _).trans (congrArg _ (funext fun a => Fin.ext ?_))
  obtain ⟨-, -, -, ⟨e0, e1⟩, -⟩ := idx_facts t
  match a with
  | ⟨0, _⟩ => show win0_3.index t (0 : Fin 2) * 512 + 1 * r.val = 512 * t.val + r.val; rw [e0]; omega
  | ⟨1, _⟩ => show win0_3.index t (1 : Fin 2) * 128 + 1 * l.val = l.val; rw [e1]; omega

/-- What the body leaves in the buffer of the gradient, at an index. -/
theorem out_grad (x0 : Vec Ideal S512x128 .f32) (x1 : Vec Ideal S512x128 .f32) (x2 : Vec Ideal S512x128 .f32) (x3 : Vec Ideal S512x128 .f32) (r : Fin 512) (l : Fin 128) : out0_4 x0 x1 x2 x3 (ix2 r l) = (x1 (ix2 r l)) := by
  unfold out0_4
  rw [View.canon_unit_zero Cert.Common.hz2]
  exact congrFun (View.ld_unit_zero (S := S512x128) Cert.Common.hz2 _ _) _

/-- The array of the gradient, as the reference's function of the arguments. -/
def G_grad (c : Dev nD) : Buf (Elt Ideal) ((c : Thread nD τ).loc main_v0_0) := (m ((c : Thread nD τ).loc main_arg1))

theorem flushed_grad (c : Dev nD) (t : Fin cfg0.N) : (dats m 0 c).flushed 4 t = ((cfg0.win 4).blk t).view.read (Elt Ideal) (G_grad m c) := by
  rw [flushed4]
  obtain ⟨-, -, -, -, ⟨e0, e1⟩, -⟩ := idx_facts t
  have ht : t.val < 16 := lt_of_lt_of_eq t.isLt N_0
  funext y
  obtain ⟨r, l, rfl⟩ : ∃ (r : Fin 512) (l : Fin 128), y = ix2 r l := ix2_surj y
  have h : 512 * t.val + r.val < 8192 := by omega
  have hb : ((cfg0.win 4).blk t).view.emb (ix2 r l) = (ix2 ⟨512 * t.val + r.val, h⟩ l : S8192x128.Idx) := funext fun a => Fin.ext (by
    match a with
    | ⟨0, _⟩ => show win0_4.index t (0 : Fin 2) * 512 + 1 * r.val = 512 * t.val + r.val; rw [e0]; omega
    | ⟨1, _⟩ => show win0_4.index t (1 : Fin 2) * 128 + 1 * l.val = l.val; rw [e1]; omega)
  rw [View.read_apply, hb, cast_eq]
  refine (out_grad _ _ _ _ r l).trans ?_
  rw [iblk1 m c t r l h]
  rfl

theorem final_grad (c : Dev nD) : (dats m 0 c).arrAt 4 cfg0.N = G_grad m c :=
  (dats m 0 c).arrAt_eq_of_cover 4 _ (fun t _ => flushed_grad m c t) fun i => by
    have hi0 : (i 0 : Nat) < 8192 := (i 0).isLt
    have hi1 : (i 1 : Nat) < 128 := (i 1).isLt
    let t : Fin cfg0.N := ⟨(i 0 : Nat) / 512, lt_of_lt_of_eq (by omega) N_0.symm⟩
    obtain ⟨-, -, -, -, ⟨e0, e1⟩, -⟩ := idx_facts t
    refine ⟨t, flush0_4 t, ?_⟩
    show i ∈ ((View.whole main_v0_0).slice (win0_4.rect t)).set
    rw [View.set_slice_whole, Rect.mem_set_unit]
    intro a
    match a with
    | ⟨0, _⟩ => show win0_4.index t (0 : Fin 2) * 512 ≤ (i 0 : Nat) ∧ (i 0 : Nat) < win0_4.index t (0 : Fin 2) * 512 + 512
                rw [e0]; show (i 0 : Nat) / 512 * 512 ≤ _ ∧ _ < (i 0 : Nat) / 512 * 512 + 512; omega
    | ⟨1, _⟩ => show win0_4.index t (1 : Fin 2) * 128 ≤ (i 1 : Nat) ∧ (i 1 : Nat) < win0_4.index t (1 : Fin 2) * 128 + 128
                rw [e1]; omega

/-- What the body leaves in the buffer of the step, at an index. -/
theorem out_delta (x0 : Vec Ideal S512x128 .f32) (x1 : Vec Ideal S512x128 .f32) (x2 : Vec Ideal S512x128 .f32) (x3 : Vec Ideal S512x128 .f32) (r : Fin 512) (l : Fin 128) : out0_5 x0 x1 x2 x3 (ix2 r l) = delta (x0 (ix2 r l)) (x1 (ix2 r l)) (x2 (ix2 r l)) (x3 (ix2 r l)) := by
  unfold out0_5
  rw [View.canon_unit_zero Cert.Common.hz2]
  simp only [View.ld_unit_zero (S := S512x128) Cert.Common.hz2]
  pointwise [k0_pay3, k0_pay1, k0_pay2]
  all_goals rfl

/-- The array of the step, as the reference's function of the arguments. -/
def G_delta (c : Dev nD) : Buf (Elt Ideal) ((c : Thread nD τ).loc main_v0_1) := deltaT (m ((c : Thread nD τ).loc main_arg0)) (m ((c : Thread nD τ).loc main_arg1)) (m ((c : Thread nD τ).loc main_arg2)) (m ((c : Thread nD τ).loc main_arg3))

theorem flushed_delta (c : Dev nD) (t : Fin cfg0.N) : (dats m 0 c).flushed 5 t = ((cfg0.win 5).blk t).view.read (Elt Ideal) (G_delta m c) := by
  rw [flushed5]
  obtain ⟨-, -, -, -, -, ⟨e0, e1⟩, -⟩ := idx_facts t
  have ht : t.val < 16 := lt_of_lt_of_eq t.isLt N_0
  funext y
  obtain ⟨r, l, rfl⟩ : ∃ (r : Fin 512) (l : Fin 128), y = ix2 r l := ix2_surj y
  have h : 512 * t.val + r.val < 8192 := by omega
  have hb : ((cfg0.win 5).blk t).view.emb (ix2 r l) = (ix2 ⟨512 * t.val + r.val, h⟩ l : S8192x128.Idx) := funext fun a => Fin.ext (by
    match a with
    | ⟨0, _⟩ => show win0_5.index t (0 : Fin 2) * 512 + 1 * r.val = 512 * t.val + r.val; rw [e0]; omega
    | ⟨1, _⟩ => show win0_5.index t (1 : Fin 2) * 128 + 1 * l.val = l.val; rw [e1]; omega)
  rw [View.read_apply, hb, cast_eq]
  refine (out_delta _ _ _ _ r l).trans ?_
  rw [iblk1 m c t r l h, iblk0 m c t r l h, iblk2 m c t r l h, iblk3 m c t r l h]
  rfl

theorem final_delta (c : Dev nD) : (dats m 0 c).arrAt 5 cfg0.N = G_delta m c :=
  (dats m 0 c).arrAt_eq_of_cover 5 _ (fun t _ => flushed_delta m c t) fun i => by
    have hi0 : (i 0 : Nat) < 8192 := (i 0).isLt
    have hi1 : (i 1 : Nat) < 128 := (i 1).isLt
    let t : Fin cfg0.N := ⟨(i 0 : Nat) / 512, lt_of_lt_of_eq (by omega) N_0.symm⟩
    obtain ⟨-, -, -, -, -, ⟨e0, e1⟩, -⟩ := idx_facts t
    refine ⟨t, flush0_5 t, ?_⟩
    show i ∈ ((View.whole main_v0_1).slice (win0_5.rect t)).set
    rw [View.set_slice_whole, Rect.mem_set_unit]
    intro a
    match a with
    | ⟨0, _⟩ => show win0_5.index t (0 : Fin 2) * 512 ≤ (i 0 : Nat) ∧ (i 0 : Nat) < win0_5.index t (0 : Fin 2) * 512 + 512
                rw [e0]; show (i 0 : Nat) / 512 * 512 ≤ _ ∧ _ < (i 0 : Nat) / 512 * 512 + 512; omega
    | ⟨1, _⟩ => show win0_5.index t (1 : Fin 2) * 128 ≤ (i 1 : Nat) ∧ (i 1 : Nat) < win0_5.index t (1 : Fin 2) * 128 + 128
                rw [e1]; omega

/-- What the body leaves in the buffer of the new first moment, at an index. -/
theorem out_mom (x0 : Vec Ideal S512x128 .f32) (x1 : Vec Ideal S512x128 .f32) (x2 : Vec Ideal S512x128 .f32) (x3 : Vec Ideal S512x128 .f32) (r : Fin 512) (l : Fin 128) : out0_6 x0 x1 x2 x3 (ix2 r l) = mom (x1 (ix2 r l)) (x2 (ix2 r l)) := by
  unfold out0_6
  rw [View.canon_unit_zero Cert.Common.hz2]
  simp only [View.ld_unit_zero (S := S512x128) Cert.Common.hz2]
  pointwise [k0_pay1]
  all_goals rfl

/-- The array of the new first moment, as the reference's function of the arguments. -/
def G_mom (c : Dev nD) : Buf (Elt Ideal) ((c : Thread nD τ).loc main_v0_2) := momT (m ((c : Thread nD τ).loc main_arg1)) (m ((c : Thread nD τ).loc main_arg2))

theorem flushed_mom (c : Dev nD) (t : Fin cfg0.N) : (dats m 0 c).flushed 6 t = ((cfg0.win 6).blk t).view.read (Elt Ideal) (G_mom m c) := by
  rw [flushed6]
  obtain ⟨-, -, -, -, -, -, ⟨e0, e1⟩, -⟩ := idx_facts t
  have ht : t.val < 16 := lt_of_lt_of_eq t.isLt N_0
  funext y
  obtain ⟨r, l, rfl⟩ : ∃ (r : Fin 512) (l : Fin 128), y = ix2 r l := ix2_surj y
  have h : 512 * t.val + r.val < 8192 := by omega
  have hb : ((cfg0.win 6).blk t).view.emb (ix2 r l) = (ix2 ⟨512 * t.val + r.val, h⟩ l : S8192x128.Idx) := funext fun a => Fin.ext (by
    match a with
    | ⟨0, _⟩ => show win0_6.index t (0 : Fin 2) * 512 + 1 * r.val = 512 * t.val + r.val; rw [e0]; omega
    | ⟨1, _⟩ => show win0_6.index t (1 : Fin 2) * 128 + 1 * l.val = l.val; rw [e1]; omega)
  rw [View.read_apply, hb, cast_eq]
  refine (out_mom _ _ _ _ r l).trans ?_
  rw [iblk1 m c t r l h, iblk2 m c t r l h]
  rfl

theorem final_mom (c : Dev nD) : (dats m 0 c).arrAt 6 cfg0.N = G_mom m c :=
  (dats m 0 c).arrAt_eq_of_cover 6 _ (fun t _ => flushed_mom m c t) fun i => by
    have hi0 : (i 0 : Nat) < 8192 := (i 0).isLt
    have hi1 : (i 1 : Nat) < 128 := (i 1).isLt
    let t : Fin cfg0.N := ⟨(i 0 : Nat) / 512, lt_of_lt_of_eq (by omega) N_0.symm⟩
    obtain ⟨-, -, -, -, -, -, ⟨e0, e1⟩, -⟩ := idx_facts t
    refine ⟨t, flush0_6 t, ?_⟩
    show i ∈ ((View.whole main_v0_2).slice (win0_6.rect t)).set
    rw [View.set_slice_whole, Rect.mem_set_unit]
    intro a
    match a with
    | ⟨0, _⟩ => show win0_6.index t (0 : Fin 2) * 512 ≤ (i 0 : Nat) ∧ (i 0 : Nat) < win0_6.index t (0 : Fin 2) * 512 + 512
                rw [e0]; show (i 0 : Nat) / 512 * 512 ≤ _ ∧ _ < (i 0 : Nat) / 512 * 512 + 512; omega
    | ⟨1, _⟩ => show win0_6.index t (1 : Fin 2) * 128 ≤ (i 1 : Nat) ∧ (i 1 : Nat) < win0_6.index t (1 : Fin 2) * 128 + 128
                rw [e1]; omega

/-- What the body leaves in the buffer of the new second moment, at an index. -/
theorem out_var (x0 : Vec Ideal S512x128 .f32) (x1 : Vec Ideal S512x128 .f32) (x2 : Vec Ideal S512x128 .f32) (x3 : Vec Ideal S512x128 .f32) (r : Fin 512) (l : Fin 128) : out0_7 x0 x1 x2 x3 (ix2 r l) = var (x1 (ix2 r l)) (x3 (ix2 r l)) := by
  unfold out0_7
  rw [View.canon_unit_zero Cert.Common.hz2]
  simp only [View.ld_unit_zero (S := S512x128) Cert.Common.hz2]
  pointwise [k0_pay2]
  all_goals rfl

/-- The array of the new second moment, as the reference's function of the arguments. -/
def G_var (c : Dev nD) : Buf (Elt Ideal) ((c : Thread nD τ).loc main_v0_3) := varT (m ((c : Thread nD τ).loc main_arg1)) (m ((c : Thread nD τ).loc main_arg3))

theorem flushed_var (c : Dev nD) (t : Fin cfg0.N) : (dats m 0 c).flushed 7 t = ((cfg0.win 7).blk t).view.read (Elt Ideal) (G_var m c) := by
  rw [flushed7]
  obtain ⟨-, -, -, -, -, -, -, ⟨e0, e1⟩⟩ := idx_facts t
  have ht : t.val < 16 := lt_of_lt_of_eq t.isLt N_0
  funext y
  obtain ⟨r, l, rfl⟩ : ∃ (r : Fin 512) (l : Fin 128), y = ix2 r l := ix2_surj y
  have h : 512 * t.val + r.val < 8192 := by omega
  have hb : ((cfg0.win 7).blk t).view.emb (ix2 r l) = (ix2 ⟨512 * t.val + r.val, h⟩ l : S8192x128.Idx) := funext fun a => Fin.ext (by
    match a with
    | ⟨0, _⟩ => show win0_7.index t (0 : Fin 2) * 512 + 1 * r.val = 512 * t.val + r.val; rw [e0]; omega
    | ⟨1, _⟩ => show win0_7.index t (1 : Fin 2) * 128 + 1 * l.val = l.val; rw [e1]; omega)
  rw [View.read_apply, hb, cast_eq]
  refine (out_var _ _ _ _ r l).trans ?_
  rw [iblk1 m c t r l h, iblk3 m c t r l h]
  rfl

theorem final_var (c : Dev nD) : (dats m 0 c).arrAt 7 cfg0.N = G_var m c :=
  (dats m 0 c).arrAt_eq_of_cover 7 _ (fun t _ => flushed_var m c t) fun i => by
    have hi0 : (i 0 : Nat) < 8192 := (i 0).isLt
    have hi1 : (i 1 : Nat) < 128 := (i 1).isLt
    let t : Fin cfg0.N := ⟨(i 0 : Nat) / 512, lt_of_lt_of_eq (by omega) N_0.symm⟩
    obtain ⟨-, -, -, -, -, -, -, ⟨e0, e1⟩⟩ := idx_facts t
    refine ⟨t, flush0_7 t, ?_⟩
    show i ∈ ((View.whole main_v0_3).slice (win0_7.rect t)).set
    rw [View.set_slice_whole, Rect.mem_set_unit]
    intro a
    match a with
    | ⟨0, _⟩ => show win0_7.index t (0 : Fin 2) * 512 ≤ (i 0 : Nat) ∧ (i 0 : Nat) < win0_7.index t (0 : Fin 2) * 512 + 512
                rw [e0]; show (i 0 : Nat) / 512 * 512 ≤ _ ∧ _ < (i 0 : Nat) / 512 * 512 + 512; omega
    | ⟨1, _⟩ => show win0_7.index t (1 : Fin 2) * 128 ≤ (i 1 : Nat) ∧ (i 1 : Nat) < win0_7.index t (1 : Fin 2) * 128 + 128
                rw [e1]; omega

end Cert.AdamWSIdeal.Own

namespace Cert.AdamWSRefIdeal.Own

open Cert.AdamWSRefIdeal Cert.AdamWSRefIdeal.Gen Cert.AdamWSRefIdeal.Read
open Cert.Common Cert.Adam Idealize.ShloMosaic Idealize.ShloMosaic.TcCoe

/-- The reference's array of the step. -/
theorem ref_delta (x0 : Vec Ideal S8192x128 .f32) (x1 : Vec Ideal S8192x128 .f32) (x2 : Vec Ideal S8192x128 .f32) (x3 : Vec Ideal S8192x128 .f32) : (val_main_v23 x0 x1 x2 x3 : S8192x128.Idx → EReal) = deltaT x0 x1 x2 x3 := by
  funext i
  obtain ⟨r, l, rfl⟩ : ∃ (r : Fin 8192) (l : Fin 128), i = ix2 r l := ix2_surj i
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  all_goals rfl

/-- The reference's array of the new first moment. -/
theorem ref_mom (x1 : Vec Ideal S8192x128 .f32) (x2 : Vec Ideal S8192x128 .f32) : (val_main_v4 x1 x2 : S8192x128.Idx → EReal) = momT x1 x2 := by
  funext i
  obtain ⟨r, l, rfl⟩ : ∃ (r : Fin 8192) (l : Fin 128), i = ix2 r l := ix2_surj i
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  all_goals rfl

/-- The reference's array of the new second moment. -/
theorem ref_var (x1 : Vec Ideal S8192x128 .f32) (x3 : Vec Ideal S8192x128 .f32) : (val_main_v10 x1 x3 : S8192x128.Idx → EReal) = varT x1 x3 := by
  funext i
  obtain ⟨r, l, rfl⟩ : ∃ (r : Fin 8192) (l : Fin 128), i = ix2 r l := ix2_surj i
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  all_goals rfl

end Cert.AdamWSRefIdeal.Own

namespace Cert.Values

open Idealize.ShloMosaic Idealize.ShloMosaic.TcCoe Idealize.SL.Sem

/-- The value claim: all four results of the call are the reference's, element by element. -/
theorem adamWS : Cert.algebraic_AdamWSIdeal_AdamWSRefIdeal (hAdamWSIdeal := Cert.AdamWSIdeal.Gen.facts) (hAdamWSRefIdeal := Cert.AdamWSRefIdeal.Gen.facts) := by
  intro m g m' g' _ hm
  refine ⟨fun c => Cert.AdamWSIdeal.Own.G_grad m c, fun c => Cert.AdamWSIdeal.Own.G_delta m c, fun c => Cert.AdamWSIdeal.Own.G_mom m c, fun c => Cert.AdamWSIdeal.Own.G_var m c, ?_, ?_⟩
  · refine (θ_run _ _ _).mono (fun r h c => ?_) (Cert.AdamWSIdeal.Value.run_blocks m g)
    obtain ⟨h0, h1, h2, h3, h4⟩ := h c
    exact ⟨h0.trans (Cert.AdamWSIdeal.Own.final_grad m c), h1.trans (Cert.AdamWSIdeal.Own.final_delta m c), h2.trans (Cert.AdamWSIdeal.Own.final_mom m c), h3.trans (Cert.AdamWSIdeal.Own.final_var m c), h4⟩
  · refine (θ_run _ _ _).mono (fun r h c => ?_) (Cert.AdamWSRefIdeal.Value.run m' g')
    obtain ⟨h0, h1, h2, h3, h4⟩ := h c
    obtain ⟨e0, e1, e2, e3⟩ := hm c
    refine ⟨h0.trans ?_, h1.trans ?_, h2.trans ?_, h3.trans ?_, h4⟩
    · exact e1
    · rw [Cert.AdamWSRefIdeal.Read.val_main_v23_eq, e0, e1, e2, e3]
      exact Cert.AdamWSRefIdeal.Own.ref_delta _ _ _ _
    · rw [Cert.AdamWSRefIdeal.Read.val_main_v4_eq, e1, e2]
      exact Cert.AdamWSRefIdeal.Own.ref_mom _ _
    · rw [Cert.AdamWSRefIdeal.Read.val_main_v10_eq, e1, e3]
      exact Cert.AdamWSRefIdeal.Own.ref_var _ _

end Cert.Values
end
-- ==== Proof.AdamTiny.lean ====
module

public import proofs.«01_k».proof.Proof.Gen.AdamTinyIdeal.Value
public import proofs.«01_k».proof.Proof.Gen.AdamTinyRefIdeal.Read
public import proofs.«01_k».proof.Proof.Adam
public import proofs.«01_k».proof.Defs

/-! The optimiser step of the packed small parameters. -/

@[expose] public section

noncomputable section

namespace Cert.AdamTinyIdeal.Own

open Cert.AdamTinyIdeal Cert.AdamTinyIdeal.Gen Cert.AdamTinyIdeal.Value
open Cert.Common Cert.Adam Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every window stands at block `t` of its rows. -/
theorem idx_facts : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = t.val ∧ win0_2.index t (1 : Fin 2) = 0) ∧ (win0_3.index t (0 : Fin 2) = t.val ∧ win0_3.index t (1 : Fin 2) = 0) ∧ (win0_4.index t (0 : Fin 2) = t.val ∧ win0_4.index t (1 : Fin 2) = 0) ∧ (win0_5.index t (0 : Fin 2) = t.val ∧ win0_5.index t (1 : Fin 2) = 0) ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)

theorem iblk0 (c : Dev nD) (t : Fin cfg0.N) (r : Fin 512) (l : Fin 128) (h : 512 * t.val + r.val < 512) :
    (iblk m c 0 t : S512x128.Idx → EReal) (ix2 r l) = (m ((c : Thread nD τ).loc main_arg0) : S512x128.Idx → EReal) (ix2 ⟨512 * t.val + r.val, h⟩ l) := by
  unfold iblk
  rw [View.read_apply]
  refine (congrFun (V_main_arg0 m c) _).trans (congrArg _ (funext fun a => Fin.ext ?_))
  obtain ⟨⟨e0, e1⟩, -⟩ := idx_facts t
  match a with
  | ⟨0, _⟩ => show win0_0.index t (0 : Fin 2) * 512 + 1 * r.val = 512 * t.val + r.val; rw [e0]; omega
  | ⟨1, _⟩ => show win0_0.index t (1 : Fin 2) * 128 + 1 * l.val = l.val; rw [e1]; omega

theorem iblk1 (c : Dev nD) (t : Fin cfg0.N) (r : Fin 512) (l : Fin 128) (h : 512 * t.val + r.val < 512) :
    (iblk m c 1 t : S512x128.Idx → EReal) (ix2 r l) = (m ((c : Thread nD τ).loc main_arg1) : S512x128.Idx → EReal) (ix2 ⟨512 * t.val + r.val, h⟩ l) := by
  unfold iblk
  rw [View.read_apply]
  refine (congrFun (V_main_arg1 m c) _).trans (congrArg _ (funext fun a => Fin.ext ?_))
  obtain ⟨-, ⟨e0, e1⟩, -⟩ := idx_facts t
  match a with
  | ⟨0, _⟩ => show win0_1.index t (0 : Fin 2) * 512 + 1 * r.val = 512 * t.val + r.val; rw [e0]; omega
  | ⟨1, _⟩ => show win0_1.index t (1 : Fin 2) * 128 + 1 * l.val = l.val; rw [e1]; omega

theorem iblk2 (c : Dev nD) (t : Fin cfg0.N) (r : Fin 512) (l : Fin 128) (h : 512 * t.val + r.val < 512) :
    (iblk m c 2 t : S512x128.Idx → EReal) (ix2 r l) = (m ((c : Thread nD τ).loc main_arg2) : S512x128.Idx → EReal) (ix2 ⟨512 * t.val + r.val, h⟩ l) := by
  unfold iblk
  rw [View.read_apply]
  refine (congrFun (V_main_arg2 m c) _).trans (congrArg _ (funext fun a => Fin.ext ?_))
  obtain ⟨-, -, ⟨e0, e1⟩, -⟩ := idx_facts t
  match a with
  | ⟨0, _⟩ => show win0_2.index t (0 : Fin 2) * 512 + 1 * r.val = 512 * t.val + r.val; rw [e0]; omega
  | ⟨1, _⟩ => show win0_2.index t (1 : Fin 2) * 128 + 1 * l.val = l.val; rw [e1]; omega

theorem iblk3 (c : Dev nD) (t : Fin cfg0.N) (r : Fin 512) (l : Fin 128) (h : 512 * t.val + r.val < 512) :
    (iblk m c 3 t : S512x128.Idx → EReal) (ix2 r l) = (m ((c : Thread nD τ).loc main_arg3) : S512x128.Idx → EReal) (ix2 ⟨512 * t.val + r.val, h⟩ l) := by
  unfold iblk
  rw [View.read_apply]
  refine (congrFun (V_main_arg3 m c) _).trans (congrArg _ (funext fun a => Fin.ext ?_))
  obtain ⟨-, -, -, ⟨e0, e1⟩, -⟩ := idx_facts t
  match a with
  | ⟨0, _⟩ => show win0_3.index t (0 : Fin 2) * 512 + 1 * r.val = 512 * t.val + r.val; rw [e0]; omega
  | ⟨1, _⟩ => show win0_3.index t (1 : Fin 2) * 128 + 1 * l.val = l.val; rw [e1]; omega

/-- What the body leaves in the buffer of the gradient, at an index. -/
theorem out_grad (x0 : Vec Ideal S512x128 .f32) (x1 : Vec Ideal S512x128 .f32) (x2 : Vec Ideal S512x128 .f32) (x3 : Vec Ideal S512x128 .f32) (r : Fin 512) (l : Fin 128) : out0_4 x0 x1 x2 x3 (ix2 r l) = (x1 (ix2 r l)) := by
  unfold out0_4
  rw [View.canon_unit_zero Cert.Common.hz2]
  exact congrFun (View.ld_unit_zero (S := S512x128) Cert.Common.hz2 _ _) _

/-- The array of the gradient, as the reference's function of the arguments. -/
def G_grad (c : Dev nD) : Buf (Elt Ideal) ((c : Thread nD τ).loc main_v0_0) := (m ((c : Thread nD τ).loc main_arg1))

theorem flushed_grad (c : Dev nD) (t : Fin cfg0.N) : (dats m 0 c).flushed 4 t = ((cfg0.win 4).blk t).view.read (Elt Ideal) (G_grad m c) := by
  rw [flushed4]
  obtain ⟨-, -, -, -, ⟨e0, e1⟩, -⟩ := idx_facts t
  have ht : t.val < 1 := lt_of_lt_of_eq t.isLt N_0
  funext y
  obtain ⟨r, l, rfl⟩ : ∃ (r : Fin 512) (l : Fin 128), y = ix2 r l := ix2_surj y
  have h : 512 * t.val + r.val < 512 := by omega
  have hb : ((cfg0.win 4).blk t).view.emb (ix2 r l) = (ix2 ⟨512 * t.val + r.val, h⟩ l : S512x128.Idx) := funext fun a => Fin.ext (by
    match a with
    | ⟨0, _⟩ => show win0_4.index t (0 : Fin 2) * 512 + 1 * r.val = 512 * t.val + r.val; rw [e0]; omega
    | ⟨1, _⟩ => show win0_4.index t (1 : Fin 2) * 128 + 1 * l.val = l.val; rw [e1]; omega)
  rw [View.read_apply, hb, cast_eq]
  refine (out_grad _ _ _ _ r l).trans ?_
  rw [iblk1 m c t r l h]
  rfl

theorem final_grad (c : Dev nD) : (dats m 0 c).arrAt 4 cfg0.N = G_grad m c :=
  (dats m 0 c).arrAt_eq_of_cover 4 _ (fun t _ => flushed_grad m c t) fun i => by
    have hi0 : (i 0 : Nat) < 512 := (i 0).isLt
    have hi1 : (i 1 : Nat) < 128 := (i 1).isLt
    let t : Fin cfg0.N := ⟨(i 0 : Nat) / 512, lt_of_lt_of_eq (by omega) N_0.symm⟩
    obtain ⟨-, -, -, -, ⟨e0, e1⟩, -⟩ := idx_facts t
    refine ⟨t, flush0_4 t, ?_⟩
    show i ∈ ((View.whole main_v0_0).slice (win0_4.rect t)).set
    rw [View.set_slice_whole, Rect.mem_set_unit]
    intro a
    match a with
    | ⟨0, _⟩ => show win0_4.index t (0 : Fin 2) * 512 ≤ (i 0 : Nat) ∧ (i 0 : Nat) < win0_4.index t (0 : Fin 2) * 512 + 512
                rw [e0]; show (i 0 : Nat) / 512 * 512 ≤ _ ∧ _ < (i 0 : Nat) / 512 * 512 + 512; omega
    | ⟨1, _⟩ => show win0_4.index t (1 : Fin 2) * 128 ≤ (i 1 : Nat) ∧ (i 1 : Nat) < win0_4.index t (1 : Fin 2) * 128 + 128
                rw [e1]; omega

/-- What the body leaves in the buffer of the step, at an index. -/
theorem out_delta (x0 : Vec Ideal S512x128 .f32) (x1 : Vec Ideal S512x128 .f32) (x2 : Vec Ideal S512x128 .f32) (x3 : Vec Ideal S512x128 .f32) (r : Fin 512) (l : Fin 128) : out0_5 x0 x1 x2 x3 (ix2 r l) = delta (x0 (ix2 r l)) (x1 (ix2 r l)) (x2 (ix2 r l)) (x3 (ix2 r l)) := by
  unfold out0_5
  rw [View.canon_unit_zero Cert.Common.hz2]
  simp only [View.ld_unit_zero (S := S512x128) Cert.Common.hz2]
  pointwise [k0_pay3, k0_pay1, k0_pay2]
  all_goals rfl

/-- The array of the step, as the reference's function of the arguments. -/
def G_delta (c : Dev nD) : Buf (Elt Ideal) ((c : Thread nD τ).loc main_v0_1) := deltaT (m ((c : Thread nD τ).loc main_arg0)) (m ((c : Thread nD τ).loc main_arg1)) (m ((c : Thread nD τ).loc main_arg2)) (m ((c : Thread nD τ).loc main_arg3))

theorem flushed_delta (c : Dev nD) (t : Fin cfg0.N) : (dats m 0 c).flushed 5 t = ((cfg0.win 5).blk t).view.read (Elt Ideal) (G_delta m c) := by
  rw [flushed5]
  obtain ⟨-, -, -, -, -, ⟨e0, e1⟩, -⟩ := idx_facts t
  have ht : t.val < 1 := lt_of_lt_of_eq t.isLt N_0
  funext y
  obtain ⟨r, l, rfl⟩ : ∃ (r : Fin 512) (l : Fin 128), y = ix2 r l := ix2_surj y
  have h : 512 * t.val + r.val < 512 := by omega
  have hb : ((cfg0.win 5).blk t).view.emb (ix2 r l) = (ix2 ⟨512 * t.val + r.val, h⟩ l : S512x128.Idx) := funext fun a => Fin.ext (by
    match a with
    | ⟨0, _⟩ => show win0_5.index t (0 : Fin 2) * 512 + 1 * r.val = 512 * t.val + r.val; rw [e0]; omega
    | ⟨1, _⟩ => show win0_5.index t (1 : Fin 2) * 128 + 1 * l.val = l.val; rw [e1]; omega)
  rw [View.read_apply, hb, cast_eq]
  refine (out_delta _ _ _ _ r l).trans ?_
  rw [iblk1 m c t r l h, iblk0 m c t r l h, iblk2 m c t r l h, iblk3 m c t r l h]
  rfl

theorem final_delta (c : Dev nD) : (dats m 0 c).arrAt 5 cfg0.N = G_delta m c :=
  (dats m 0 c).arrAt_eq_of_cover 5 _ (fun t _ => flushed_delta m c t) fun i => by
    have hi0 : (i 0 : Nat) < 512 := (i 0).isLt
    have hi1 : (i 1 : Nat) < 128 := (i 1).isLt
    let t : Fin cfg0.N := ⟨(i 0 : Nat) / 512, lt_of_lt_of_eq (by omega) N_0.symm⟩
    obtain ⟨-, -, -, -, -, ⟨e0, e1⟩, -⟩ := idx_facts t
    refine ⟨t, flush0_5 t, ?_⟩
    show i ∈ ((View.whole main_v0_1).slice (win0_5.rect t)).set
    rw [View.set_slice_whole, Rect.mem_set_unit]
    intro a
    match a with
    | ⟨0, _⟩ => show win0_5.index t (0 : Fin 2) * 512 ≤ (i 0 : Nat) ∧ (i 0 : Nat) < win0_5.index t (0 : Fin 2) * 512 + 512
                rw [e0]; show (i 0 : Nat) / 512 * 512 ≤ _ ∧ _ < (i 0 : Nat) / 512 * 512 + 512; omega
    | ⟨1, _⟩ => show win0_5.index t (1 : Fin 2) * 128 ≤ (i 1 : Nat) ∧ (i 1 : Nat) < win0_5.index t (1 : Fin 2) * 128 + 128
                rw [e1]; omega

/-- What the body leaves in the buffer of the new first moment, at an index. -/
theorem out_mom (x0 : Vec Ideal S512x128 .f32) (x1 : Vec Ideal S512x128 .f32) (x2 : Vec Ideal S512x128 .f32) (x3 : Vec Ideal S512x128 .f32) (r : Fin 512) (l : Fin 128) : out0_6 x0 x1 x2 x3 (ix2 r l) = mom (x1 (ix2 r l)) (x2 (ix2 r l)) := by
  unfold out0_6
  rw [View.canon_unit_zero Cert.Common.hz2]
  simp only [View.ld_unit_zero (S := S512x128) Cert.Common.hz2]
  pointwise [k0_pay1]
  all_goals rfl

/-- The array of the new first moment, as the reference's function of the arguments. -/
def G_mom (c : Dev nD) : Buf (Elt Ideal) ((c : Thread nD τ).loc main_v0_2) := momT (m ((c : Thread nD τ).loc main_arg1)) (m ((c : Thread nD τ).loc main_arg2))

theorem flushed_mom (c : Dev nD) (t : Fin cfg0.N) : (dats m 0 c).flushed 6 t = ((cfg0.win 6).blk t).view.read (Elt Ideal) (G_mom m c) := by
  rw [flushed6]
  obtain ⟨-, -, -, -, -, -, ⟨e0, e1⟩, -⟩ := idx_facts t
  have ht : t.val < 1 := lt_of_lt_of_eq t.isLt N_0
  funext y
  obtain ⟨r, l, rfl⟩ : ∃ (r : Fin 512) (l : Fin 128), y = ix2 r l := ix2_surj y
  have h : 512 * t.val + r.val < 512 := by omega
  have hb : ((cfg0.win 6).blk t).view.emb (ix2 r l) = (ix2 ⟨512 * t.val + r.val, h⟩ l : S512x128.Idx) := funext fun a => Fin.ext (by
    match a with
    | ⟨0, _⟩ => show win0_6.index t (0 : Fin 2) * 512 + 1 * r.val = 512 * t.val + r.val; rw [e0]; omega
    | ⟨1, _⟩ => show win0_6.index t (1 : Fin 2) * 128 + 1 * l.val = l.val; rw [e1]; omega)
  rw [View.read_apply, hb, cast_eq]
  refine (out_mom _ _ _ _ r l).trans ?_
  rw [iblk1 m c t r l h, iblk2 m c t r l h]
  rfl

theorem final_mom (c : Dev nD) : (dats m 0 c).arrAt 6 cfg0.N = G_mom m c :=
  (dats m 0 c).arrAt_eq_of_cover 6 _ (fun t _ => flushed_mom m c t) fun i => by
    have hi0 : (i 0 : Nat) < 512 := (i 0).isLt
    have hi1 : (i 1 : Nat) < 128 := (i 1).isLt
    let t : Fin cfg0.N := ⟨(i 0 : Nat) / 512, lt_of_lt_of_eq (by omega) N_0.symm⟩
    obtain ⟨-, -, -, -, -, -, ⟨e0, e1⟩, -⟩ := idx_facts t
    refine ⟨t, flush0_6 t, ?_⟩
    show i ∈ ((View.whole main_v0_2).slice (win0_6.rect t)).set
    rw [View.set_slice_whole, Rect.mem_set_unit]
    intro a
    match a with
    | ⟨0, _⟩ => show win0_6.index t (0 : Fin 2) * 512 ≤ (i 0 : Nat) ∧ (i 0 : Nat) < win0_6.index t (0 : Fin 2) * 512 + 512
                rw [e0]; show (i 0 : Nat) / 512 * 512 ≤ _ ∧ _ < (i 0 : Nat) / 512 * 512 + 512; omega
    | ⟨1, _⟩ => show win0_6.index t (1 : Fin 2) * 128 ≤ (i 1 : Nat) ∧ (i 1 : Nat) < win0_6.index t (1 : Fin 2) * 128 + 128
                rw [e1]; omega

/-- What the body leaves in the buffer of the new second moment, at an index. -/
theorem out_var (x0 : Vec Ideal S512x128 .f32) (x1 : Vec Ideal S512x128 .f32) (x2 : Vec Ideal S512x128 .f32) (x3 : Vec Ideal S512x128 .f32) (r : Fin 512) (l : Fin 128) : out0_7 x0 x1 x2 x3 (ix2 r l) = var (x1 (ix2 r l)) (x3 (ix2 r l)) := by
  unfold out0_7
  rw [View.canon_unit_zero Cert.Common.hz2]
  simp only [View.ld_unit_zero (S := S512x128) Cert.Common.hz2]
  pointwise [k0_pay2]
  all_goals rfl

/-- The array of the new second moment, as the reference's function of the arguments. -/
def G_var (c : Dev nD) : Buf (Elt Ideal) ((c : Thread nD τ).loc main_v0_3) := varT (m ((c : Thread nD τ).loc main_arg1)) (m ((c : Thread nD τ).loc main_arg3))

theorem flushed_var (c : Dev nD) (t : Fin cfg0.N) : (dats m 0 c).flushed 7 t = ((cfg0.win 7).blk t).view.read (Elt Ideal) (G_var m c) := by
  rw [flushed7]
  obtain ⟨-, -, -, -, -, -, -, ⟨e0, e1⟩⟩ := idx_facts t
  have ht : t.val < 1 := lt_of_lt_of_eq t.isLt N_0
  funext y
  obtain ⟨r, l, rfl⟩ : ∃ (r : Fin 512) (l : Fin 128), y = ix2 r l := ix2_surj y
  have h : 512 * t.val + r.val < 512 := by omega
  have hb : ((cfg0.win 7).blk t).view.emb (ix2 r l) = (ix2 ⟨512 * t.val + r.val, h⟩ l : S512x128.Idx) := funext fun a => Fin.ext (by
    match a with
    | ⟨0, _⟩ => show win0_7.index t (0 : Fin 2) * 512 + 1 * r.val = 512 * t.val + r.val; rw [e0]; omega
    | ⟨1, _⟩ => show win0_7.index t (1 : Fin 2) * 128 + 1 * l.val = l.val; rw [e1]; omega)
  rw [View.read_apply, hb, cast_eq]
  refine (out_var _ _ _ _ r l).trans ?_
  rw [iblk1 m c t r l h, iblk3 m c t r l h]
  rfl

theorem final_var (c : Dev nD) : (dats m 0 c).arrAt 7 cfg0.N = G_var m c :=
  (dats m 0 c).arrAt_eq_of_cover 7 _ (fun t _ => flushed_var m c t) fun i => by
    have hi0 : (i 0 : Nat) < 512 := (i 0).isLt
    have hi1 : (i 1 : Nat) < 128 := (i 1).isLt
    let t : Fin cfg0.N := ⟨(i 0 : Nat) / 512, lt_of_lt_of_eq (by omega) N_0.symm⟩
    obtain ⟨-, -, -, -, -, -, -, ⟨e0, e1⟩⟩ := idx_facts t
    refine ⟨t, flush0_7 t, ?_⟩
    show i ∈ ((View.whole main_v0_3).slice (win0_7.rect t)).set
    rw [View.set_slice_whole, Rect.mem_set_unit]
    intro a
    match a with
    | ⟨0, _⟩ => show win0_7.index t (0 : Fin 2) * 512 ≤ (i 0 : Nat) ∧ (i 0 : Nat) < win0_7.index t (0 : Fin 2) * 512 + 512
                rw [e0]; show (i 0 : Nat) / 512 * 512 ≤ _ ∧ _ < (i 0 : Nat) / 512 * 512 + 512; omega
    | ⟨1, _⟩ => show win0_7.index t (1 : Fin 2) * 128 ≤ (i 1 : Nat) ∧ (i 1 : Nat) < win0_7.index t (1 : Fin 2) * 128 + 128
                rw [e1]; omega

end Cert.AdamTinyIdeal.Own

namespace Cert.AdamTinyRefIdeal.Own

open Cert.AdamTinyRefIdeal Cert.AdamTinyRefIdeal.Gen Cert.AdamTinyRefIdeal.Read
open Cert.Common Cert.Adam Idealize.ShloMosaic Idealize.ShloMosaic.TcCoe

/-- The reference's array of the step. -/
theorem ref_delta (x0 : Vec Ideal S512x128 .f32) (x1 : Vec Ideal S512x128 .f32) (x2 : Vec Ideal S512x128 .f32) (x3 : Vec Ideal S512x128 .f32) : (val_main_v23 x0 x1 x2 x3 : S512x128.Idx → EReal) = deltaT x0 x1 x2 x3 := by
  funext i
  obtain ⟨r, l, rfl⟩ : ∃ (r : Fin 512) (l : Fin 128), i = ix2 r l := ix2_surj i
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  all_goals rfl

/-- The reference's array of the new first moment. -/
theorem ref_mom (x1 : Vec Ideal S512x128 .f32) (x2 : Vec Ideal S512x128 .f32) : (val_main_v4 x1 x2 : S512x128.Idx → EReal) = momT x1 x2 := by
  funext i
  obtain ⟨r, l, rfl⟩ : ∃ (r : Fin 512) (l : Fin 128), i = ix2 r l := ix2_surj i
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  all_goals rfl

/-- The reference's array of the new second moment. -/
theorem ref_var (x1 : Vec Ideal S512x128 .f32) (x3 : Vec Ideal S512x128 .f32) : (val_main_v10 x1 x3 : S512x128.Idx → EReal) = varT x1 x3 := by
  funext i
  obtain ⟨r, l, rfl⟩ : ∃ (r : Fin 512) (l : Fin 128), i = ix2 r l := ix2_surj i
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  all_goals rfl

end Cert.AdamTinyRefIdeal.Own

namespace Cert.Values

open Idealize.ShloMosaic Idealize.ShloMosaic.TcCoe Idealize.SL.Sem

/-- The value claim: all four results of the call are the reference's, element by element. -/
theorem adamTiny : Cert.algebraic_AdamTinyIdeal_AdamTinyRefIdeal (hAdamTinyIdeal := Cert.AdamTinyIdeal.Gen.facts) (hAdamTinyRefIdeal := Cert.AdamTinyRefIdeal.Gen.facts) := by
  intro m g m' g' _ hm
  refine ⟨fun c => Cert.AdamTinyIdeal.Own.G_grad m c, fun c => Cert.AdamTinyIdeal.Own.G_delta m c, fun c => Cert.AdamTinyIdeal.Own.G_mom m c, fun c => Cert.AdamTinyIdeal.Own.G_var m c, ?_, ?_⟩
  · refine (θ_run _ _ _).mono (fun r h c => ?_) (Cert.AdamTinyIdeal.Value.run_blocks m g)
    obtain ⟨h0, h1, h2, h3, h4⟩ := h c
    exact ⟨h0.trans (Cert.AdamTinyIdeal.Own.final_grad m c), h1.trans (Cert.AdamTinyIdeal.Own.final_delta m c), h2.trans (Cert.AdamTinyIdeal.Own.final_mom m c), h3.trans (Cert.AdamTinyIdeal.Own.final_var m c), h4⟩
  · refine (θ_run _ _ _).mono (fun r h c => ?_) (Cert.AdamTinyRefIdeal.Value.run m' g')
    obtain ⟨h0, h1, h2, h3, h4⟩ := h c
    obtain ⟨e0, e1, e2, e3⟩ := hm c
    refine ⟨h0.trans ?_, h1.trans ?_, h2.trans ?_, h3.trans ?_, h4⟩
    · exact e1
    · rw [Cert.AdamTinyRefIdeal.Read.val_main_v23_eq, e0, e1, e2, e3]
      exact Cert.AdamTinyRefIdeal.Own.ref_delta _ _ _ _
    · rw [Cert.AdamTinyRefIdeal.Read.val_main_v4_eq, e1, e2]
      exact Cert.AdamTinyRefIdeal.Own.ref_mom _ _
    · rw [Cert.AdamTinyRefIdeal.Read.val_main_v10_eq, e1, e3]
      exact Cert.AdamTinyRefIdeal.Own.ref_var _ _

end Cert.Values
end
-- ==== Proof.AdamNormG.lean ====
module

public import proofs.«01_k».proof.Proof.Gen.AdamNormGIdeal.Value
public import proofs.«01_k».proof.Proof.Gen.AdamNormGRefIdeal.Read
public import proofs.«01_k».proof.Proof.Adam
public import proofs.«01_k».proof.Defs

/-! The optimiser step of the norm weights. -/

@[expose] public section

noncomputable section

namespace Cert.AdamNormGIdeal.Own

open Cert.AdamNormGIdeal Cert.AdamNormGIdeal.Gen Cert.AdamNormGIdeal.Value
open Cert.Common Cert.Adam Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every window stands at block `t` of its rows. -/
theorem idx_facts : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = t.val ∧ win0_2.index t (1 : Fin 2) = 0) ∧ (win0_3.index t (0 : Fin 2) = t.val ∧ win0_3.index t (1 : Fin 2) = 0) ∧ (win0_4.index t (0 : Fin 2) = t.val ∧ win0_4.index t (1 : Fin 2) = 0) ∧ (win0_5.index t (0 : Fin 2) = t.val ∧ win0_5.index t (1 : Fin 2) = 0) ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)

theorem iblk0 (c : Dev nD) (t : Fin cfg0.N) (r : Fin 4) (l : Fin 2048) (h : 4 * t.val + r.val < 4) :
    (iblk m c 0 t : S4x2048.Idx → EReal) (ix2 r l) = (m ((c : Thread nD τ).loc main_arg0) : S4x2048.Idx → EReal) (ix2 ⟨4 * t.val + r.val, h⟩ l) := by
  unfold iblk
  rw [View.read_apply]
  refine (congrFun (V_main_arg0 m c) _).trans (congrArg _ (funext fun a => Fin.ext ?_))
  obtain ⟨⟨e0, e1⟩, -⟩ := idx_facts t
  match a with
  | ⟨0, _⟩ => show win0_0.index t (0 : Fin 2) * 4 + 1 * r.val = 4 * t.val + r.val; rw [e0]; omega
  | ⟨1, _⟩ => show win0_0.index t (1 : Fin 2) * 2048 + 1 * l.val = l.val; rw [e1]; omega

theorem iblk1 (c : Dev nD) (t : Fin cfg0.N) (r : Fin 4) (l : Fin 2048) (h : 4 * t.val + r.val < 4) :
    (iblk m c 1 t : S4x2048.Idx → EReal) (ix2 r l) = (m ((c : Thread nD τ).loc main_arg1) : S4x2048.Idx → EReal) (ix2 ⟨4 * t.val + r.val, h⟩ l) := by
  unfold iblk
  rw [View.read_apply]
  refine (congrFun (V_main_arg1 m c) _).trans (congrArg _ (funext fun a => Fin.ext ?_))
  obtain ⟨-, ⟨e0, e1⟩, -⟩ := idx_facts t
  match a with
  | ⟨0, _⟩ => show win0_1.index t (0 : Fin 2) * 4 + 1 * r.val = 4 * t.val + r.val; rw [e0]; omega
  | ⟨1, _⟩ => show win0_1.index t (1 : Fin 2) * 2048 + 1 * l.val = l.val; rw [e1]; omega

theorem iblk2 (c : Dev nD) (t : Fin cfg0.N) (r : Fin 4) (l : Fin 2048) (h : 4 * t.val + r.val < 4) :
    (iblk m c 2 t : S4x2048.Idx → EReal) (ix2 r l) = (m ((c : Thread nD τ).loc main_arg2) : S4x2048.Idx → EReal) (ix2 ⟨4 * t.val + r.val, h⟩ l) := by
  unfold iblk
  rw [View.read_apply]
  refine (congrFun (V_main_arg2 m c) _).trans (congrArg _ (funext fun a => Fin.ext ?_))
  obtain ⟨-, -, ⟨e0, e1⟩, -⟩ := idx_facts t
  match a with
  | ⟨0, _⟩ => show win0_2.index t (0 : Fin 2) * 4 + 1 * r.val = 4 * t.val + r.val; rw [e0]; omega
  | ⟨1, _⟩ => show win0_2.index t (1 : Fin 2) * 2048 + 1 * l.val = l.val; rw [e1]; omega

theorem iblk3 (c : Dev nD) (t : Fin cfg0.N) (r : Fin 4) (l : Fin 2048) (h : 4 * t.val + r.val < 4) :
    (iblk m c 3 t : S4x2048.Idx → EReal) (ix2 r l) = (m ((c : Thread nD τ).loc main_arg3) : S4x2048.Idx → EReal) (ix2 ⟨4 * t.val + r.val, h⟩ l) := by
  unfold iblk
  rw [View.read_apply]
  refine (congrFun (V_main_arg3 m c) _).trans (congrArg _ (funext fun a => Fin.ext ?_))
  obtain ⟨-, -, -, ⟨e0, e1⟩, -⟩ := idx_facts t
  match a with
  | ⟨0, _⟩ => show win0_3.index t (0 : Fin 2) * 4 + 1 * r.val = 4 * t.val + r.val; rw [e0]; omega
  | ⟨1, _⟩ => show win0_3.index t (1 : Fin 2) * 2048 + 1 * l.val = l.val; rw [e1]; omega

/-- What the body leaves in the buffer of the gradient, at an index. -/
theorem out_grad (x0 : Vec Ideal S4x2048 .f32) (x1 : Vec Ideal S4x2048 .f32) (x2 : Vec Ideal S4x2048 .f32) (x3 : Vec Ideal S4x2048 .f32) (r : Fin 4) (l : Fin 2048) : out0_4 x0 x1 x2 x3 (ix2 r l) = (x1 (ix2 r l)) := by
  unfold out0_4
  rw [View.canon_unit_zero Cert.Common.hz2]
  exact congrFun (View.ld_unit_zero (S := S4x2048) Cert.Common.hz2 _ _) _

/-- The array of the gradient, as the reference's function of the arguments. -/
def G_grad (c : Dev nD) : Buf (Elt Ideal) ((c : Thread nD τ).loc main_v0_0) := (m ((c : Thread nD τ).loc main_arg1))

theorem flushed_grad (c : Dev nD) (t : Fin cfg0.N) : (dats m 0 c).flushed 4 t = ((cfg0.win 4).blk t).view.read (Elt Ideal) (G_grad m c) := by
  rw [flushed4]
  obtain ⟨-, -, -, -, ⟨e0, e1⟩, -⟩ := idx_facts t
  have ht : t.val < 1 := lt_of_lt_of_eq t.isLt N_0
  funext y
  obtain ⟨r, l, rfl⟩ : ∃ (r : Fin 4) (l : Fin 2048), y = ix2 r l := ix2_surj y
  have h : 4 * t.val + r.val < 4 := by omega
  have hb : ((cfg0.win 4).blk t).view.emb (ix2 r l) = (ix2 ⟨4 * t.val + r.val, h⟩ l : S4x2048.Idx) := funext fun a => Fin.ext (by
    match a with
    | ⟨0, _⟩ => show win0_4.index t (0 : Fin 2) * 4 + 1 * r.val = 4 * t.val + r.val; rw [e0]; omega
    | ⟨1, _⟩ => show win0_4.index t (1 : Fin 2) * 2048 + 1 * l.val = l.val; rw [e1]; omega)
  rw [View.read_apply, hb, cast_eq]
  refine (out_grad _ _ _ _ r l).trans ?_
  rw [iblk1 m c t r l h]
  rfl

theorem final_grad (c : Dev nD) : (dats m 0 c).arrAt 4 cfg0.N = G_grad m c :=
  (dats m 0 c).arrAt_eq_of_cover 4 _ (fun t _ => flushed_grad m c t) fun i => by
    have hi0 : (i 0 : Nat) < 4 := (i 0).isLt
    have hi1 : (i 1 : Nat) < 2048 := (i 1).isLt
    let t : Fin cfg0.N := ⟨(i 0 : Nat) / 4, lt_of_lt_of_eq (by omega) N_0.symm⟩
    obtain ⟨-, -, -, -, ⟨e0, e1⟩, -⟩ := idx_facts t
    refine ⟨t, flush0_4 t, ?_⟩
    show i ∈ ((View.whole main_v0_0).slice (win0_4.rect t)).set
    rw [View.set_slice_whole, Rect.mem_set_unit]
    intro a
    match a with
    | ⟨0, _⟩ => show win0_4.index t (0 : Fin 2) * 4 ≤ (i 0 : Nat) ∧ (i 0 : Nat) < win0_4.index t (0 : Fin 2) * 4 + 4
                rw [e0]; show (i 0 : Nat) / 4 * 4 ≤ _ ∧ _ < (i 0 : Nat) / 4 * 4 + 4; omega
    | ⟨1, _⟩ => show win0_4.index t (1 : Fin 2) * 2048 ≤ (i 1 : Nat) ∧ (i 1 : Nat) < win0_4.index t (1 : Fin 2) * 2048 + 2048
                rw [e1]; omega

/-- What the body leaves in the buffer of the step, at an index. -/
theorem out_delta (x0 : Vec Ideal S4x2048 .f32) (x1 : Vec Ideal S4x2048 .f32) (x2 : Vec Ideal S4x2048 .f32) (x3 : Vec Ideal S4x2048 .f32) (r : Fin 4) (l : Fin 2048) : out0_5 x0 x1 x2 x3 (ix2 r l) = delta (x0 (ix2 r l)) (x1 (ix2 r l)) (x2 (ix2 r l)) (x3 (ix2 r l)) := by
  unfold out0_5
  rw [View.canon_unit_zero Cert.Common.hz2]
  simp only [View.ld_unit_zero (S := S4x2048) Cert.Common.hz2]
  pointwise [k0_pay3, k0_pay1, k0_pay2]
  all_goals rfl

/-- The array of the step, as the reference's function of the arguments. -/
def G_delta (c : Dev nD) : Buf (Elt Ideal) ((c : Thread nD τ).loc main_v0_1) := deltaT (m ((c : Thread nD τ).loc main_arg0)) (m ((c : Thread nD τ).loc main_arg1)) (m ((c : Thread nD τ).loc main_arg2)) (m ((c : Thread nD τ).loc main_arg3))

theorem flushed_delta (c : Dev nD) (t : Fin cfg0.N) : (dats m 0 c).flushed 5 t = ((cfg0.win 5).blk t).view.read (Elt Ideal) (G_delta m c) := by
  rw [flushed5]
  obtain ⟨-, -, -, -, -, ⟨e0, e1⟩, -⟩ := idx_facts t
  have ht : t.val < 1 := lt_of_lt_of_eq t.isLt N_0
  funext y
  obtain ⟨r, l, rfl⟩ : ∃ (r : Fin 4) (l : Fin 2048), y = ix2 r l := ix2_surj y
  have h : 4 * t.val + r.val < 4 := by omega
  have hb : ((cfg0.win 5).blk t).view.emb (ix2 r l) = (ix2 ⟨4 * t.val + r.val, h⟩ l : S4x2048.Idx) := funext fun a => Fin.ext (by
    match a with
    | ⟨0, _⟩ => show win0_5.index t (0 : Fin 2) * 4 + 1 * r.val = 4 * t.val + r.val; rw [e0]; omega
    | ⟨1, _⟩ => show win0_5.index t (1 : Fin 2) * 2048 + 1 * l.val = l.val; rw [e1]; omega)
  rw [View.read_apply, hb, cast_eq]
  refine (out_delta _ _ _ _ r l).trans ?_
  rw [iblk1 m c t r l h, iblk0 m c t r l h, iblk2 m c t r l h, iblk3 m c t r l h]
  rfl

theorem final_delta (c : Dev nD) : (dats m 0 c).arrAt 5 cfg0.N = G_delta m c :=
  (dats m 0 c).arrAt_eq_of_cover 5 _ (fun t _ => flushed_delta m c t) fun i => by
    have hi0 : (i 0 : Nat) < 4 := (i 0).isLt
    have hi1 : (i 1 : Nat) < 2048 := (i 1).isLt
    let t : Fin cfg0.N := ⟨(i 0 : Nat) / 4, lt_of_lt_of_eq (by omega) N_0.symm⟩
    obtain ⟨-, -, -, -, -, ⟨e0, e1⟩, -⟩ := idx_facts t
    refine ⟨t, flush0_5 t, ?_⟩
    show i ∈ ((View.whole main_v0_1).slice (win0_5.rect t)).set
    rw [View.set_slice_whole, Rect.mem_set_unit]
    intro a
    match a with
    | ⟨0, _⟩ => show win0_5.index t (0 : Fin 2) * 4 ≤ (i 0 : Nat) ∧ (i 0 : Nat) < win0_5.index t (0 : Fin 2) * 4 + 4
                rw [e0]; show (i 0 : Nat) / 4 * 4 ≤ _ ∧ _ < (i 0 : Nat) / 4 * 4 + 4; omega
    | ⟨1, _⟩ => show win0_5.index t (1 : Fin 2) * 2048 ≤ (i 1 : Nat) ∧ (i 1 : Nat) < win0_5.index t (1 : Fin 2) * 2048 + 2048
                rw [e1]; omega

/-- What the body leaves in the buffer of the new first moment, at an index. -/
theorem out_mom (x0 : Vec Ideal S4x2048 .f32) (x1 : Vec Ideal S4x2048 .f32) (x2 : Vec Ideal S4x2048 .f32) (x3 : Vec Ideal S4x2048 .f32) (r : Fin 4) (l : Fin 2048) : out0_6 x0 x1 x2 x3 (ix2 r l) = mom (x1 (ix2 r l)) (x2 (ix2 r l)) := by
  unfold out0_6
  rw [View.canon_unit_zero Cert.Common.hz2]
  simp only [View.ld_unit_zero (S := S4x2048) Cert.Common.hz2]
  pointwise [k0_pay1]
  all_goals rfl

/-- The array of the new first moment, as the reference's function of the arguments. -/
def G_mom (c : Dev nD) : Buf (Elt Ideal) ((c : Thread nD τ).loc main_v0_2) := momT (m ((c : Thread nD τ).loc main_arg1)) (m ((c : Thread nD τ).loc main_arg2))

theorem flushed_mom (c : Dev nD) (t : Fin cfg0.N) : (dats m 0 c).flushed 6 t = ((cfg0.win 6).blk t).view.read (Elt Ideal) (G_mom m c) := by
  rw [flushed6]
  obtain ⟨-, -, -, -, -, -, ⟨e0, e1⟩, -⟩ := idx_facts t
  have ht : t.val < 1 := lt_of_lt_of_eq t.isLt N_0
  funext y
  obtain ⟨r, l, rfl⟩ : ∃ (r : Fin 4) (l : Fin 2048), y = ix2 r l := ix2_surj y
  have h : 4 * t.val + r.val < 4 := by omega
  have hb : ((cfg0.win 6).blk t).view.emb (ix2 r l) = (ix2 ⟨4 * t.val + r.val, h⟩ l : S4x2048.Idx) := funext fun a => Fin.ext (by
    match a with
    | ⟨0, _⟩ => show win0_6.index t (0 : Fin 2) * 4 + 1 * r.val = 4 * t.val + r.val; rw [e0]; omega
    | ⟨1, _⟩ => show win0_6.index t (1 : Fin 2) * 2048 + 1 * l.val = l.val; rw [e1]; omega)
  rw [View.read_apply, hb, cast_eq]
  refine (out_mom _ _ _ _ r l).trans ?_
  rw [iblk1 m c t r l h, iblk2 m c t r l h]
  rfl

theorem final_mom (c : Dev nD) : (dats m 0 c).arrAt 6 cfg0.N = G_mom m c :=
  (dats m 0 c).arrAt_eq_of_cover 6 _ (fun t _ => flushed_mom m c t) fun i => by
    have hi0 : (i 0 : Nat) < 4 := (i 0).isLt
    have hi1 : (i 1 : Nat) < 2048 := (i 1).isLt
    let t : Fin cfg0.N := ⟨(i 0 : Nat) / 4, lt_of_lt_of_eq (by omega) N_0.symm⟩
    obtain ⟨-, -, -, -, -, -, ⟨e0, e1⟩, -⟩ := idx_facts t
    refine ⟨t, flush0_6 t, ?_⟩
    show i ∈ ((View.whole main_v0_2).slice (win0_6.rect t)).set
    rw [View.set_slice_whole, Rect.mem_set_unit]
    intro a
    match a with
    | ⟨0, _⟩ => show win0_6.index t (0 : Fin 2) * 4 ≤ (i 0 : Nat) ∧ (i 0 : Nat) < win0_6.index t (0 : Fin 2) * 4 + 4
                rw [e0]; show (i 0 : Nat) / 4 * 4 ≤ _ ∧ _ < (i 0 : Nat) / 4 * 4 + 4; omega
    | ⟨1, _⟩ => show win0_6.index t (1 : Fin 2) * 2048 ≤ (i 1 : Nat) ∧ (i 1 : Nat) < win0_6.index t (1 : Fin 2) * 2048 + 2048
                rw [e1]; omega

/-- What the body leaves in the buffer of the new second moment, at an index. -/
theorem out_var (x0 : Vec Ideal S4x2048 .f32) (x1 : Vec Ideal S4x2048 .f32) (x2 : Vec Ideal S4x2048 .f32) (x3 : Vec Ideal S4x2048 .f32) (r : Fin 4) (l : Fin 2048) : out0_7 x0 x1 x2 x3 (ix2 r l) = var (x1 (ix2 r l)) (x3 (ix2 r l)) := by
  unfold out0_7
  rw [View.canon_unit_zero Cert.Common.hz2]
  simp only [View.ld_unit_zero (S := S4x2048) Cert.Common.hz2]
  pointwise [k0_pay2]
  all_goals rfl

/-- The array of the new second moment, as the reference's function of the arguments. -/
def G_var (c : Dev nD) : Buf (Elt Ideal) ((c : Thread nD τ).loc main_v0_3) := varT (m ((c : Thread nD τ).loc main_arg1)) (m ((c : Thread nD τ).loc main_arg3))

theorem flushed_var (c : Dev nD) (t : Fin cfg0.N) : (dats m 0 c).flushed 7 t = ((cfg0.win 7).blk t).view.read (Elt Ideal) (G_var m c) := by
  rw [flushed7]
  obtain ⟨-, -, -, -, -, -, -, ⟨e0, e1⟩⟩ := idx_facts t
  have ht : t.val < 1 := lt_of_lt_of_eq t.isLt N_0
  funext y
  obtain ⟨r, l, rfl⟩ : ∃ (r : Fin 4) (l : Fin 2048), y = ix2 r l := ix2_surj y
  have h : 4 * t.val + r.val < 4 := by omega
  have hb : ((cfg0.win 7).blk t).view.emb (ix2 r l) = (ix2 ⟨4 * t.val + r.val, h⟩ l : S4x2048.Idx) := funext fun a => Fin.ext (by
    match a with
    | ⟨0, _⟩ => show win0_7.index t (0 : Fin 2) * 4 + 1 * r.val = 4 * t.val + r.val; rw [e0]; omega
    | ⟨1, _⟩ => show win0_7.index t (1 : Fin 2) * 2048 + 1 * l.val = l.val; rw [e1]; omega)
  rw [View.read_apply, hb, cast_eq]
  refine (out_var _ _ _ _ r l).trans ?_
  rw [iblk1 m c t r l h, iblk3 m c t r l h]
  rfl

theorem final_var (c : Dev nD) : (dats m 0 c).arrAt 7 cfg0.N = G_var m c :=
  (dats m 0 c).arrAt_eq_of_cover 7 _ (fun t _ => flushed_var m c t) fun i => by
    have hi0 : (i 0 : Nat) < 4 := (i 0).isLt
    have hi1 : (i 1 : Nat) < 2048 := (i 1).isLt
    let t : Fin cfg0.N := ⟨(i 0 : Nat) / 4, lt_of_lt_of_eq (by omega) N_0.symm⟩
    obtain ⟨-, -, -, -, -, -, -, ⟨e0, e1⟩⟩ := idx_facts t
    refine ⟨t, flush0_7 t, ?_⟩
    show i ∈ ((View.whole main_v0_3).slice (win0_7.rect t)).set
    rw [View.set_slice_whole, Rect.mem_set_unit]
    intro a
    match a with
    | ⟨0, _⟩ => show win0_7.index t (0 : Fin 2) * 4 ≤ (i 0 : Nat) ∧ (i 0 : Nat) < win0_7.index t (0 : Fin 2) * 4 + 4
                rw [e0]; show (i 0 : Nat) / 4 * 4 ≤ _ ∧ _ < (i 0 : Nat) / 4 * 4 + 4; omega
    | ⟨1, _⟩ => show win0_7.index t (1 : Fin 2) * 2048 ≤ (i 1 : Nat) ∧ (i 1 : Nat) < win0_7.index t (1 : Fin 2) * 2048 + 2048
                rw [e1]; omega

end Cert.AdamNormGIdeal.Own

namespace Cert.AdamNormGRefIdeal.Own

open Cert.AdamNormGRefIdeal Cert.AdamNormGRefIdeal.Gen Cert.AdamNormGRefIdeal.Read
open Cert.Common Cert.Adam Idealize.ShloMosaic Idealize.ShloMosaic.TcCoe

/-- The reference's array of the step. -/
theorem ref_delta (x0 : Vec Ideal S4x2048 .f32) (x1 : Vec Ideal S4x2048 .f32) (x2 : Vec Ideal S4x2048 .f32) (x3 : Vec Ideal S4x2048 .f32) : (val_main_v23 x0 x1 x2 x3 : S4x2048.Idx → EReal) = deltaT x0 x1 x2 x3 := by
  funext i
  obtain ⟨r, l, rfl⟩ : ∃ (r : Fin 4) (l : Fin 2048), i = ix2 r l := ix2_surj i
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  all_goals rfl

/-- The reference's array of the new first moment. -/
theorem ref_mom (x1 : Vec Ideal S4x2048 .f32) (x2 : Vec Ideal S4x2048 .f32) : (val_main_v4 x1 x2 : S4x2048.Idx → EReal) = momT x1 x2 := by
  funext i
  obtain ⟨r, l, rfl⟩ : ∃ (r : Fin 4) (l : Fin 2048), i = ix2 r l := ix2_surj i
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  all_goals rfl

/-- The reference's array of the new second moment. -/
theorem ref_var (x1 : Vec Ideal S4x2048 .f32) (x3 : Vec Ideal S4x2048 .f32) : (val_main_v10 x1 x3 : S4x2048.Idx → EReal) = varT x1 x3 := by
  funext i
  obtain ⟨r, l, rfl⟩ : ∃ (r : Fin 4) (l : Fin 2048), i = ix2 r l := ix2_surj i
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  all_goals rfl

end Cert.AdamNormGRefIdeal.Own

namespace Cert.Values

open Idealize.ShloMosaic Idealize.ShloMosaic.TcCoe Idealize.SL.Sem

/-- The value claim: all four results of the call are the reference's, element by element. -/
theorem adamNormG : Cert.algebraic_AdamNormGIdeal_AdamNormGRefIdeal (hAdamNormGIdeal := Cert.AdamNormGIdeal.Gen.facts) (hAdamNormGRefIdeal := Cert.AdamNormGRefIdeal.Gen.facts) := by
  intro m g m' g' _ hm
  refine ⟨fun c => Cert.AdamNormGIdeal.Own.G_grad m c, fun c => Cert.AdamNormGIdeal.Own.G_delta m c, fun c => Cert.AdamNormGIdeal.Own.G_mom m c, fun c => Cert.AdamNormGIdeal.Own.G_var m c, ?_, ?_⟩
  · refine (θ_run _ _ _).mono (fun r h c => ?_) (Cert.AdamNormGIdeal.Value.run_blocks m g)
    obtain ⟨h0, h1, h2, h3, h4⟩ := h c
    exact ⟨h0.trans (Cert.AdamNormGIdeal.Own.final_grad m c), h1.trans (Cert.AdamNormGIdeal.Own.final_delta m c), h2.trans (Cert.AdamNormGIdeal.Own.final_mom m c), h3.trans (Cert.AdamNormGIdeal.Own.final_var m c), h4⟩
  · refine (θ_run _ _ _).mono (fun r h c => ?_) (Cert.AdamNormGRefIdeal.Value.run m' g')
    obtain ⟨h0, h1, h2, h3, h4⟩ := h c
    obtain ⟨e0, e1, e2, e3⟩ := hm c
    refine ⟨h0.trans ?_, h1.trans ?_, h2.trans ?_, h3.trans ?_, h4⟩
    · exact e1
    · rw [Cert.AdamNormGRefIdeal.Read.val_main_v23_eq, e0, e1, e2, e3]
      exact Cert.AdamNormGRefIdeal.Own.ref_delta _ _ _ _
    · rw [Cert.AdamNormGRefIdeal.Read.val_main_v4_eq, e1, e2]
      exact Cert.AdamNormGRefIdeal.Own.ref_mom _ _
    · rw [Cert.AdamNormGRefIdeal.Read.val_main_v10_eq, e1, e3]
      exact Cert.AdamNormGRefIdeal.Own.ref_var _ _

end Cert.Values
end
-- ==== Proof.lean ====
module

public import proofs.«01_k».proof.Defs
public import proofs.«01_k».proof.Proof.Frames
public import proofs.«01_k».proof.Proof.Gen.BwdIn
public import proofs.«01_k».proof.Proof.BwdInRun
public import proofs.«01_k».proof.Proof.Gen.BwdInRefIdeal.Read
public import proofs.«01_k».proof.Proof.BwdIn
public import proofs.«01_k».proof.Proof.Gen.GradWIn.Frame
public import proofs.«01_k».proof.Proof.Gen.GradWInRefIdeal.Read
public import proofs.«01_k».proof.Proof.GradWIn
public import proofs.«01_k».proof.Proof.Gen.GradWOut.Frame
public import proofs.«01_k».proof.Proof.Gen.GradWOutRefIdeal.Read
public import proofs.«01_k».proof.Proof.GradWOut
public import proofs.«01_k».proof.Proof.Gen.BwdOut.Frame
public import proofs.«01_k».proof.Proof.Gen.BwdOutRefIdeal.Read
public import proofs.«01_k».proof.Proof.BwdOut
public import proofs.«01_k».proof.Proof.Gen.BwdMix
public import proofs.«01_k».proof.Proof.BwdMixRun
public import proofs.«01_k».proof.Proof.Gen.BwdMixRefIdeal.Read
public import proofs.«01_k».proof.Proof.BwdMix
public import proofs.«01_k».proof.Proof.Gen.FwdIn
public import proofs.«01_k».proof.Proof.FwdInRun
public import proofs.«01_k».proof.Proof.Gen.FwdInRefIdeal.Read
public import proofs.«01_k».proof.Proof.FwdIn
public import proofs.«01_k».proof.Proof.Gen.FwdOut.Frame
public import proofs.«01_k».proof.Proof.Gen.FwdOutRefIdeal.Read
public import proofs.«01_k».proof.Proof.FwdOut
public import proofs.«01_k».proof.Proof.Gen.FwdOutLoss.Frame
public import proofs.«01_k».proof.Proof.Gen.FwdOutLossRefIdeal.Read
public import proofs.«01_k».proof.Proof.FwdOutLoss
public import proofs.«01_k».proof.Proof.Gen.AdamWIn.Frame
public import proofs.«01_k».proof.Proof.Gen.AdamWInRefIdeal.Read
public import proofs.«01_k».proof.Proof.AdamWIn
public import proofs.«01_k».proof.Proof.Gen.AdamWOut.Frame
public import proofs.«01_k».proof.Proof.Gen.AdamWOutRefIdeal.Read
public import proofs.«01_k».proof.Proof.AdamWOut
public import proofs.«01_k».proof.Proof.Gen.AdamWS.Frame
public import proofs.«01_k».proof.Proof.Gen.AdamWSRefIdeal.Read
public import proofs.«01_k».proof.Proof.AdamWS
public import proofs.«01_k».proof.Proof.Gen.AdamTiny.Frame
public import proofs.«01_k».proof.Proof.Gen.AdamTinyRefIdeal.Read
public import proofs.«01_k».proof.Proof.AdamTiny
public import proofs.«01_k».proof.Proof.Gen.AdamNormG.Frame
public import proofs.«01_k».proof.Proof.Gen.AdamNormGRefIdeal.Read
public import proofs.«01_k».proof.Proof.AdamNormG

@[expose] public section

noncomputable section

namespace Cert.Proof

open Idealize.ShloMosaic Idealize.ShloMosaic.TcCoe Idealize.SL.Sem

/-- All the claims: the programs' facts, their frames, and per call the rewriting claim and the value claim. -/
theorem claim : Cert.Claim :=
  ⟨Cert.BwdIn.Gen.facts, Cert.BwdInIdeal.Gen.facts, Cert.BwdInRefIdeal.Gen.facts, Cert.GradWIn.Gen.facts, Cert.GradWInIdeal.Gen.facts, Cert.GradWInRefIdeal.Gen.facts, Cert.GradWOut.Gen.facts, Cert.GradWOutIdeal.Gen.facts, Cert.GradWOutRefIdeal.Gen.facts, Cert.BwdOut.Gen.facts, Cert.BwdOutIdeal.Gen.facts, Cert.BwdOutRefIdeal.Gen.facts, Cert.BwdMix.Gen.facts, Cert.BwdMixIdeal.Gen.facts, Cert.BwdMixRefIdeal.Gen.facts, Cert.FwdIn.Gen.facts, Cert.FwdInIdeal.Gen.facts, Cert.FwdInRefIdeal.Gen.facts, Cert.FwdOut.Gen.facts, Cert.FwdOutIdeal.Gen.facts, Cert.FwdOutRefIdeal.Gen.facts, Cert.FwdOutLoss.Gen.facts, Cert.FwdOutLossIdeal.Gen.facts, Cert.FwdOutLossRefIdeal.Gen.facts, Cert.AdamWIn.Gen.facts, Cert.AdamWInIdeal.Gen.facts, Cert.AdamWInRefIdeal.Gen.facts, Cert.AdamWOut.Gen.facts, Cert.AdamWOutIdeal.Gen.facts, Cert.AdamWOutRefIdeal.Gen.facts, Cert.AdamWS.Gen.facts, Cert.AdamWSIdeal.Gen.facts, Cert.AdamWSRefIdeal.Gen.facts, Cert.AdamTiny.Gen.facts, Cert.AdamTinyIdeal.Gen.facts, Cert.AdamTinyRefIdeal.Gen.facts, Cert.AdamNormG.Gen.facts, Cert.AdamNormGIdeal.Gen.facts, Cert.AdamNormGRefIdeal.Gen.facts,
    Cert.Frames.bwdIn,
    fun m ρ _ => Cert.BwdInIdeal.Own.frame (F := Ideal) m ρ,
    fun m ρ _ => (θ_run Cert.BwdInRefIdeal.defs _ _).mono (fun r h => ⟨fun c => (h c).2.2, sem_eq_zero_of_no_sems (by decide) r.2⟩) (Cert.BwdInRefIdeal.Value.run (F := Ideal) m ρ),
    fun m ρ _ => Cert.GradWIn.Gen.frame m ρ,
    fun m ρ _ => Cert.GradWInIdeal.Gen.frame m ρ,
    fun m ρ _ => (θ_run Cert.GradWInRefIdeal.defs _ _).mono (fun r h => ⟨fun c => (h c).2, sem_eq_zero_of_no_sems (by decide) r.2⟩) (Cert.GradWInRefIdeal.Value.run (F := Ideal) m ρ),
    fun m ρ _ => Cert.GradWOut.Gen.frame m ρ,
    fun m ρ _ => Cert.GradWOutIdeal.Gen.frame m ρ,
    fun m ρ _ => (θ_run Cert.GradWOutRefIdeal.defs _ _).mono (fun r h => ⟨fun c => (h c).2, sem_eq_zero_of_no_sems (by decide) r.2⟩) (Cert.GradWOutRefIdeal.Value.run (F := Ideal) m ρ),
    fun m ρ _ => Cert.BwdOut.Gen.frame m ρ,
    fun m ρ _ => Cert.BwdOutIdeal.Gen.frame m ρ,
    fun m ρ _ => (θ_run Cert.BwdOutRefIdeal.defs _ _).mono (fun r h => ⟨fun c => (h c).2, sem_eq_zero_of_no_sems (by decide) r.2⟩) (Cert.BwdOutRefIdeal.Value.run (F := Ideal) m ρ),
    Cert.Frames.bwdMix,
    fun m ρ _ => Cert.BwdMixIdeal.Own.frame (F := Ideal) m ρ,
    fun m ρ _ => (θ_run Cert.BwdMixRefIdeal.defs _ _).mono (fun r h => ⟨fun c => (h c).2, sem_eq_zero_of_no_sems (by decide) r.2⟩) (Cert.BwdMixRefIdeal.Value.run (F := Ideal) m ρ),
    Cert.Frames.fwdIn,
    fun m ρ _ => Cert.FwdInIdeal.Own.frame (F := Ideal) m ρ,
    fun m ρ _ => (θ_run Cert.FwdInRefIdeal.defs _ _).mono (fun r h => ⟨fun c => (h c).2.2, sem_eq_zero_of_no_sems (by decide) r.2⟩) (Cert.FwdInRefIdeal.Value.run (F := Ideal) m ρ),
    fun m ρ _ => Cert.FwdOut.Gen.frame m ρ,
    fun m ρ _ => Cert.FwdOutIdeal.Gen.frame m ρ,
    fun m ρ _ => (θ_run Cert.FwdOutRefIdeal.defs _ _).mono (fun r h => ⟨fun c => (h c).2, sem_eq_zero_of_no_sems (by decide) r.2⟩) (Cert.FwdOutRefIdeal.Value.run (F := Ideal) m ρ),
    fun m ρ _ => Cert.FwdOutLoss.Gen.frame m ρ,
    fun m ρ _ => Cert.FwdOutLossIdeal.Gen.frame m ρ,
    fun m ρ _ => (θ_run Cert.FwdOutLossRefIdeal.defs _ _).mono (fun r h => ⟨fun c => (h c).2.2, sem_eq_zero_of_no_sems (by decide) r.2⟩) (Cert.FwdOutLossRefIdeal.Value.run (F := Ideal) m ρ),
    fun m ρ _ => Cert.AdamWIn.Gen.frame m ρ,
    fun m ρ _ => Cert.AdamWInIdeal.Gen.frame m ρ,
    fun m ρ _ => (θ_run Cert.AdamWInRefIdeal.defs _ _).mono (fun r h => ⟨fun c => (h c).2.2.2.2, sem_eq_zero_of_no_sems (by decide) r.2⟩) (Cert.AdamWInRefIdeal.Value.run (F := Ideal) m ρ),
    fun m ρ _ => Cert.AdamWOut.Gen.frame m ρ,
    fun m ρ _ => Cert.AdamWOutIdeal.Gen.frame m ρ,
    fun m ρ _ => (θ_run Cert.AdamWOutRefIdeal.defs _ _).mono (fun r h => ⟨fun c => (h c).2.2.2.2, sem_eq_zero_of_no_sems (by decide) r.2⟩) (Cert.AdamWOutRefIdeal.Value.run (F := Ideal) m ρ),
    fun m ρ _ => Cert.AdamWS.Gen.frame m ρ,
    fun m ρ _ => Cert.AdamWSIdeal.Gen.frame m ρ,
    fun m ρ _ => (θ_run Cert.AdamWSRefIdeal.defs _ _).mono (fun r h => ⟨fun c => (h c).2.2.2.2, sem_eq_zero_of_no_sems (by decide) r.2⟩) (Cert.AdamWSRefIdeal.Value.run (F := Ideal) m ρ),
    fun m ρ _ => Cert.AdamTiny.Gen.frame m ρ,
    fun m ρ _ => Cert.AdamTinyIdeal.Gen.frame m ρ,
    fun m ρ _ => (θ_run Cert.AdamTinyRefIdeal.defs _ _).mono (fun r h => ⟨fun c => (h c).2.2.2.2, sem_eq_zero_of_no_sems (by decide) r.2⟩) (Cert.AdamTinyRefIdeal.Value.run (F := Ideal) m ρ),
    fun m ρ _ => Cert.AdamNormG.Gen.frame m ρ,
    fun m ρ _ => Cert.AdamNormGIdeal.Gen.frame m ρ,
    fun m ρ _ => (θ_run Cert.AdamNormGRefIdeal.defs _ _).mono (fun r h => ⟨fun c => (h c).2.2.2.2, sem_eq_zero_of_no_sems (by decide) r.2⟩) (Cert.AdamNormGRefIdeal.Value.run (F := Ideal) m ρ),
    trivial,
    Cert.Values.bwdIn,
    trivial,
    Cert.Values.gradWIn,
    trivial,
    Cert.Values.gradWOut,
    trivial,
    Cert.Values.bwdOut,
    trivial,
    Cert.Values.bwdMix,
    trivial,
    Cert.Values.fwdIn,
    trivial,
    Cert.Values.fwdOut,
    trivial,
    Cert.Values.fwdOutLoss,
    trivial,
    Cert.Values.adamWIn,
    trivial,
    Cert.Values.adamWOut,
    trivial,
    Cert.Values.adamWS,
    trivial,
    Cert.Values.adamTiny,
    trivial,
    Cert.Values.adamNormG⟩

end Cert.Proof

end
